-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_weights [hPre_finite_weights : Cert.Pre_finite_weights.Facts] (m : (ℓ : Loc Cert.InprojIdeal.nD Cert.InprojIdeal.τ Cert.InprojIdeal.sig) → Buf (Elt Ideal) ℓ) : Prop :=
  ∀ c : Dev Cert.InprojIdeal.nD,
    (Cert.Pre_finite_weights.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_weights [hPre_finite_weights : Cert.Pre_finite_weights.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_weights.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite_weights [hInprojIdeal : Cert.InprojIdeal.Facts] [hPre_finite_weights : Cert.Pre_finite_weights.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_weights m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_finite_weights [hInprojRefIdeal : Cert.InprojRefIdeal.Facts] [hPre_finite_weights : Cert.Pre_finite_weights.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_weights m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def preserves_Kernel_KernelIdeal : Prop :=
  IdealRules.named_const.Statement Cert.KernelIdeal.κ "masked" .f32 0x7149F2CA#32 ⊤
  ∧ IdealRules.named_const.Statement Cert.KernelIdeal.κ "neg_log2e" .f32 0xBFB8AA3B#32 ((-((Real.log 2)⁻¹) : ℝ) : EReal)
  ∧ IdealRules.named_const.Statement Cert.KernelIdeal.κ "skip" .f32 0xC2F00000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Inproj_InprojIdeal : Prop :=
  True

def algebraic_InprojIdeal_InprojRefIdeal_pre_finite_weights [hInprojIdeal : Cert.InprojIdeal.Facts] [hInprojRefIdeal : Cert.InprojRefIdeal.Facts] [hPre_finite_weights : Cert.Pre_finite_weights.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_weights m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v39)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v39) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v111) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_finite_scores : Cert.Pre_finite_scores.Facts) (hPre_finite_weights : Cert.Pre_finite_weights.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojIdeal_pre_finite_weights (hInprojIdeal := hInprojIdeal) (hPre_finite_weights := hPre_finite_weights)
    ∧ quiescent_InprojRefIdeal (hInprojRefIdeal := hInprojRefIdeal)
    ∧ quiescent_InprojRefIdeal_pre_finite_weights (hInprojRefIdeal := hInprojRefIdeal) (hPre_finite_weights := hPre_finite_weights)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal_pre_finite_weights (hInprojIdeal := hInprojIdeal) (hInprojRefIdeal := hInprojRefIdeal) (hPre_finite_weights := hPre_finite_weights)
-- ==== Pre_finite_scores.lean ====
abbrev S8x4096x512 : Shape := ⟨3, ![8, 4096, 512]⟩
abbrev S8x4096x128 : Shape := ⟨3, ![8, 4096, 128]⟩
abbrev S8 : Shape := ⟨1, ![8]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8 .f32) (main_v13 : IVec S_ 1) (main_v16 : IVec S8x4096x128 1) : IVec S_ 1 :=
  let main_c_5 : IVec S_ 1 := constantI S_ 1 1#1
  let main_v17 : IVec S_ 1 := (fun x v => Host.reduce IntOp.andi x v reducesTo_S8x4096x128_S_d0_1_2 h_S_) main_v16 main_c_5
  let main_v18 : IVec S_ 1 := andi main_v13 main_v17
  let main_cst_6 : FVec F S_ .f32 := constant S_ .f32 0x7F800000#32
  let main_v19 : FVec F S8 .f32 := broadcastInDim S8 ![] bcast_S_S8 main_cst_6
  let main_v20 : IVec S8 1 := cmpf .olt main_arg6 main_v19
  let main_c_7 : IVec S_ 1 := constantI S_ 1 1#1
  let main_v21 : IVec S_ 1 := (fun x v => Host.reduce IntOp.andi x v reducesTo_S8_S_d0 h_S_) main_v20 main_c_7
  let main_v22 : IVec S_ 1 := andi main_v18 main_v21
  main_v22

def fn {F : FTy → Type} [FloatOps F] (main_arg0 : FVec F S8x4096x512 .f32) (main_arg1 : FVec F S8x4096x512 .f32) (main_arg2 : FVec F S8x4096x512 .f32) (main_arg3 : FVec F S8x4096x512 .f32) (main_arg4 : FVec F S8x4096x128 .f32) (main_arg5 : FVec F S8x4096x128 .f32) (main_arg6 : FVec F S8 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x512 .f32 := Host.absf main_arg3
  let main_cst_2 : FVec F S_ .f32 := constant S_ .f32 0x7F800000#32
  let main_v10 : FVec F S8x4096x512 .f32 := broadcastInDim S8x4096x512 ![] bcast_S_S8x4096x512 main_cst_2
  let main_v11 : IVec S8x4096x512 1 := cmpf .olt main_v9 main_v10
  let main_c_3 : IVec S_ 1 := constantI S_ 1 1#1
  let main_v12 : IVec S_ 1 := (fun x v => Host.reduce IntOp.andi x v reducesTo_S8x4096x512_S_d0_1_2 h_S_) main_v11 main_c_3
  let main_v13 : IVec S_ 1 := andi main_v8 main_v12
  let main_v14 : FVec F S8x4096x128 .f32 := Host.absf main_arg4
  let main_cst_4 : FVec F S_ .f32 := constant S_ .f32 0x7F800000#32
  let main_v15 : FVec F S8x4096x128 .f32 := broadcastInDim S8x4096x128 ![] bcast_S_S8x4096x128 main_cst_4
  let main_v16 : IVec S8x4096x128 1 := cmpf .olt main_v14 main_v15
  fn_part1 (F := F) main_arg6 main_v13 main_v16
-- ==== Pre_finite_weights.lean ====
abbrev S8x4096x1024 : Shape := ⟨3, ![8, 4096, 1024]⟩
abbrev S1024 : Shape := ⟨1, ![1024]⟩
abbrev S1024x2304 : Shape := ⟨2, ![1024, 2304]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2304 : S_.BroadcastsInDim S1024x2304 (![] : Fin 0 → Fin S1024x2304.rank)
  reducesTo_S1024x2304_S_d0_1 : S1024x2304.ReducesTo [0, 1] S_

variable [Facts]

def fn {F : FTy → Type} [FloatOps F] (main_arg0 : FVec F S8x4096x1024 .f32) (main_arg1 : FVec F S1024 .f32) (main_arg2 : FVec F S1024x2304 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2304 .f32 := Host.absf main_arg2
  let main_cst_0 : FVec F S_ .f32 := constant S_ .f32 0x7F800000#32
  let main_v5 : FVec F S1024x2304 .f32 := broadcastInDim S1024x2304 ![] bcast_S_S1024x2304 main_cst_0
  let main_v6 : IVec S1024x2304 1 := cmpf .olt main_v4 main_v5
  let main_c_1 : IVec S_ 1 := constantI S_ 1 1#1
  let main_v7 : IVec S_ 1 := (fun x v => Host.reduce IntOp.andi x v reducesTo_S1024x2304_S_d0_1 h_S_) main_v6 main_c_1
  let main_v8 : IVec S_ 1 := andi main_v3 main_v7
  main_v8
-- ==== Kernel.lean ====
abbrev S8x4096x512 : Shape := ⟨3, ![8, 4096, 512]⟩
abbrev S8x4096x128 : Shape := ⟨3, ![8, 4096, 128]⟩
abbrev S8 : Shape := ⟨1, ![8]⟩
abbrev S128x256 : Shape := ⟨2, ![128, 256]⟩
abbrev S_ : Shape := ⟨0, ![]⟩
abbrev S8x4096x2x1x64 : Shape := ⟨5, ![8, 4096, 2, 1, 64]⟩
abbrev S8x4096x2x2x64 : Shape := ⟨5, ![8, 4096, 2, 2, 64]⟩
abbrev S8x4096x256 : Shape := ⟨3, ![8, 4096, 256]⟩
abbrev S8x4096x2560 : Shape := ⟨3, ![8, 4096, 2560]⟩
abbrev S1x128x512 : Shape := ⟨3, ![1, 128, 512]⟩
abbrev S1x4096x512 : Shape := ⟨3, ![1, 4096, 512]⟩
abbrev S1x128x256 : Shape := ⟨3, ![1, 128, 256]⟩
abbrev S4x256x128 : Shape := ⟨3, ![4, 256, 128]⟩
abbrev S1 : Shape := ⟨1, ![1]⟩
abbrev S128x128 : Shape := ⟨2, ![128, 128]⟩
abbrev S256x128 : Shape := ⟨2, ![256, 128]⟩
abbrev S1x512x128 : Shape := ⟨3, ![1, 512, 128]⟩
abbrev S512x128 : Shape := ⟨2, ![512, 128]⟩
abbrev S1x128x128 : Shape := ⟨3, ![1, 128, 128]⟩
abbrev S256x512 : Shape := ⟨2, ![256, 512]⟩
abbrev S256x256 : Shape := ⟨2, ![256, 256]⟩
abbrev S1x256x128 : Shape := ⟨3, ![1, 256, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S1x8x128 : Shape := ⟨3, ![1, 8, 128]⟩
abbrev S1x1x1 : Shape := ⟨3, ![1, 1, 1]⟩
abbrev S128 : Shape := ⟨1, ![128]⟩
abbrev S128x1 : Shape := ⟨2, ![128, 1]⟩

abbrev nBuf : Space → Nat
  | .hbm => 24
  | .vmem => 23
  | .smem => 2
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x128, .f32⟩
  | .hbm, ⟨5, _⟩ => ⟨S8x4096x128, .f32⟩
  | .hbm, ⟨6, _⟩ => ⟨S8, .f32⟩
  | .hbm, ⟨7, _⟩ => ⟨S128x256, .bf16⟩
  | .hbm, ⟨8, _⟩ => ⟨S_, .f32⟩
  | .hbm, ⟨9, _⟩ => ⟨S8x4096x512, .f32⟩
  | .hbm, ⟨10, _⟩ => ⟨S8x4096x512, .f32⟩
  | .hbm, ⟨11, _⟩ => ⟨S_, .f32⟩
  | .hbm, ⟨12, _⟩ => ⟨S8x4096x512, .f32⟩
  | .hbm, ⟨13, _⟩ => ⟨S8x4096x512, .f32⟩
  | .hbm, ⟨14, _⟩ => ⟨S8x4096x2x1x64, .f32⟩
  | .hbm, ⟨15, _⟩ => ⟨S8x4096x2x2x64, .f32⟩
  | .hbm, ⟨16, _⟩ => ⟨S8x4096x256, .f32⟩
  | .hbm, ⟨17, _⟩ => ⟨S8x4096x2x1x64, .f32⟩
  | .hbm, ⟨18, _⟩ => ⟨S8x4096x2x2x64, .f32⟩
  | .hbm, ⟨19, _⟩ => ⟨S8x4096x256, .f32⟩
  | .hbm, ⟨20, _⟩ => ⟨S8x4096x2560, .f32⟩
  | .hbm, ⟨21, _⟩ => ⟨S8x4096x2560, .bf16⟩
  | .hbm, ⟨22, _⟩ => ⟨S8x4096x512, .bf16⟩
  | .hbm, ⟨23, _⟩ => ⟨S8x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S128x256, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x512, .bf16⟩
  | .local _ .vmem, ⟨18, _⟩ => ⟨S1x128x512, .bf16⟩
  | .local _ .vmem, ⟨19, _⟩ => ⟨S1x128x512, .bf16⟩
  | .local _ .vmem, ⟨20, _⟩ => ⟨S1x128x512, .bf16⟩
  | .local _ .vmem, ⟨21, _⟩ => ⟨S4x256x128, .f32⟩
  | .local _ .vmem, ⟨22, _⟩ => ⟨S4x256x128, .f32⟩
  | .local _ .smem, ⟨0, _⟩ => ⟨S8, .f32⟩
  | .local _ .smem, ⟨1, _⟩ => ⟨S1, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_stg0_0 : Ref sig .tc := ⟨.smem, 0, rfl⟩
abbrev cc0_scratch2 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c3_i32 : BitVec 32 := 3#32
  let v22 : BitVec 1 := Scalar.cmpi .sge arg1 c3_i32
  let v23 : BitVec 32 := Scalar.extui v22
  let c0_i32_3 : BitVec 32 := 0#32
  let v24 : BitVec 1 := Scalar.cmpi .ne v23 c0_i32_3
  v24

def k0_mult1 (i : grid0.Coords) : BitVec 32 :=
  let arg1 : BitVec 32 := BitVec.ofNat 32 (i 1).val
  let c3_i32_25 : BitVec 32 := 3#32
  let v69 : BitVec 32 := Scalar.subi arg1 c3_i32_25
  let c128_i32_26 : BitVec 32 := 128#32
  let v70 : BitVec 32 := Scalar.muli v69 c128_i32_26
  v70
def k0_off1 (i : grid0.Coords) : Fin 3 → Nat :=
  let c0_27 : Index := 0#32
  let arg1 : BitVec 32 := BitVec.ofNat 32 (i 1).val
  let c3_i32_25 : BitVec 32 := 3#32
  let v69 : BitVec 32 := Scalar.subi arg1 c3_i32_25
  let c128_i32_26 : BitVec 32 := 128#32
  let v70 : BitVec 32 := Scalar.muli v69 c128_i32_26
  let v71 : BitVec 32 := v70
  let v72 : Index := Scalar.indexCast v71
  let c0_28 : Index := 0#32
  ![0, v72.toNat, 0]
def k0_off2 (i : grid0.Coords) : Fin 3 → Nat :=
  let c0_33 : Index := 0#32
  let arg1 : BitVec 32 := BitVec.ofNat 32 (i 1).val
  let c3_i32_25 : BitVec 32 := 3#32
  let v69 : BitVec 32 := Scalar.subi arg1 c3_i32_25
  let c128_i32_26 : BitVec 32 := 128#32
  let v70 : BitVec 32 := Scalar.muli v69 c128_i32_26
  let v71 : BitVec 32 := v70
  let v82 : Index := Scalar.indexCast v71
  let c128_34 : Index := 128#32
  ![0, v82.toNat, 128]
def k0_off3 (i : grid0.Coords) : Fin 3 → Nat :=
  let c0_40 : Index := 0#32
  let arg1 : BitVec 32 := BitVec.ofNat 32 (i 1).val
  let c3_i32_25 : BitVec 32 := 3#32
  let v69 : BitVec 32 := Scalar.subi arg1 c3_i32_25
  let c128_i32_26 : BitVec 32 := 128#32
  let v70 : BitVec 32 := Scalar.muli v69 c128_i32_26
  let v71 : BitVec 32 := v70
  let v92 : Index := Scalar.indexCast v71
  let c256_41 : Index := 256#32
  ![0, v92.toNat, 256]
def k0_off4 (i : grid0.Coords) : Fin 3 → Nat :=
  let c0_47 : Index := 0#32
  let arg1 : BitVec 32 := BitVec.ofNat 32 (i 1).val
  let c3_i32_25 : BitVec 32 := 3#32
  let v69 : BitVec 32 := Scalar.subi arg1 c3_i32_25
  let c128_i32_26 : BitVec 32 := 128#32
  let v70 : BitVec 32 := Scalar.muli v69 c128_i32_26
  let v71 : BitVec 32 := v70
  let v102 : Index := Scalar.indexCast v71
  let c384_48 : Index := 384#32
  ![0, v102.toNat, 384]
def k0_cond2 (i : grid0.Coords) : BitVec 1 :=
  let arg1 : BitVec 32 := BitVec.ofNat 32 (i 1).val
  let c3_i32_4 : BitVec 32 := 3#32
  let v25 : BitVec 1 := Scalar.cmpi .slt arg1 c3_i32_4
  let v26 : BitVec 32 := Scalar.extui v25
  let c0_i32_5 : BitVec 32 := 0#32
  let v27 : BitVec 1 := Scalar.cmpi .ne v26 c0_i32_5
  v27

def k0_mult2 (i : grid0.Coords) : BitVec 32 :=
  let arg1 : BitVec 32 := BitVec.ofNat 32 (i 1).val
  let c128_i32_25 : BitVec 32 := 128#32
  let v69 : BitVec 32 := Scalar.muli arg1 c128_i32_25
  v69
def k0_off5 (i : grid0.Coords) : Fin 3 → Nat :=
  let c0_26 : Index := 0#32
  let arg1 : BitVec 32 := BitVec.ofNat 32 (i 1).val
  let c128_i32_25 : BitVec 32 := 128#32
  let v69 : BitVec 32 := Scalar.muli arg1 c128_i32_25
  let v70 : BitVec 32 := v69
  let v71 : Index := Scalar.indexCast v70
  let c0_27 : Index := 0#32
  ![0, v71.toNat, 0]
def k0_off6 (i : grid0.Coords) : Fin 3 → Nat :=
  let c0_48 : Index := 0#32
  let arg1 : BitVec 32 := BitVec.ofNat 32 (i 1).val
  let c128_i32_25 : BitVec 32 := 128#32
  let v69 : BitVec 32 := Scalar.muli arg1 c128_i32_25
  let v70 : BitVec 32 := v69
  let v111 : Index := Scalar.indexCast v70
  let c128_49 : Index := 128#32
  ![0, v111.toNat, 128]
def k0_off7 (i : grid0.Coords) : Fin 3 → Nat :=
  let c0_71 : Index := 0#32
  let arg1 : BitVec 32 := BitVec.ofNat 32 (i 1).val
  let c128_i32_25 : BitVec 32 := 128#32
  let v69 : BitVec 32 := Scalar.muli arg1 c128_i32_25
  let v70 : BitVec 32 := v69
  let v151 : Index := Scalar.indexCast v70
  let c256_72 : Index := 256#32
  ![0, v151.toNat, 256]
def k0_off8 (i : grid0.Coords) : Fin 3 → Nat :=
  let c0_94 : Index := 0#32
  let arg1 : BitVec 32 := BitVec.ofNat 32 (i 1).val
  let c128_i32_25 : BitVec 32 := 128#32
  let v69 : BitVec 32 := Scalar.muli arg1 c128_i32_25
  let v70 : BitVec 32 := v69
  let v191 : Index := Scalar.indexCast v70
  let c384_95 : Index := 384#32
  ![0, v191.toNat, 384]
def k0_mult3 (arg17 : BitVec 32) : BitVec 32 :=
  let c128_i32_25 : BitVec 32 := 128#32
  let v69 : BitVec 32 := Scalar.muli arg17 c128_i32_25
  v69

def k0_off9 (arg17 : BitVec 32) : Fin 3 → Nat :=
  let c0_26 : Index := 0#32
  let c128_i32_25 : BitVec 32 := 128#32
  let v69 : BitVec 32 := Scalar.muli arg17 c128_i32_25
  let v70 : BitVec 32 := v69
  let v71 : Index := Scalar.indexCast v70
  let c0_27 : Index := 0#32
  ![0, v71.toNat, 0]
def k0_off10 (arg17 : BitVec 32) : Fin 3 → Nat :=
  let c0_56 : Index := 0#32
  let c128_i32_25 : BitVec 32 := 128#32
  let v69 : BitVec 32 := Scalar.muli arg17 c128_i32_25
  let v70 : BitVec 32 := v69
  let v118 : Index := Scalar.indexCast v70
  let c128_57 : Index := 128#32
  ![0, v118.toNat, 128]
def k0_off11 (arg17 : BitVec 32) : Fin 3 → Nat :=
  let c0_87 : Index := 0#32
  let c128_i32_25 : BitVec 32 := 128#32
  let v69 : BitVec 32 := Scalar.muli arg17 c128_i32_25
  let v70 : BitVec 32 := v69
  let v165 : Index := Scalar.indexCast v70
  let c256_88 : Index := 256#32
  ![0, v165.toNat, 256]
def k0_off12 (arg17 : BitVec 32) : Fin 3 → Nat :=
  let c0_118 : Index := 0#32
  let c128_i32_25 : BitVec 32 := 128#32
  let v69 : BitVec 32 := Scalar.muli arg17 c128_i32_25
  let v70 : BitVec 32 := v69
  let v212 : Index := Scalar.indexCast v70
  let c384_119 : Index := 384#32
  ![0, v212.toNat, 384]

def k0_chk1 (arg17 : BitVec 32) : Prop :=
  (128 ∣ (k0_mult3 arg17).toNat) ∧
  (∀ a, (k0_off9 arg17) a + S1x128x128.size a ≤ S1x4096x512.size a) ∧
  (∀ a, (k0_off10 arg17) a + S1x128x128.size a ≤ S1x4096x512.size a) ∧
  (∀ a, (k0_off11 arg17) a + S1x128x128.size a ≤ S1x4096x512.size a) ∧
  (∀ a, (k0_off12 arg17) a + S1x128x128.size a ≤ S1x4096x512.size a)
theorem k0_mult3_dvd : ∀ (arg17 : BitVec 32) (k0_hw1 : k0_chk1 arg17), 128 ∣ (k0_mult3 arg17).toNat := fun arg17 k0_hw1 => k0_hw1.1
theorem k0_off9_inb : ∀ (arg17 : BitVec 32) (k0_hw1 : k0_chk1 arg17), ∀ a, (k0_off9 arg17) a + S1x128x128.size a ≤ S1x4096x512.size a := fun arg17 k0_hw1 => k0_hw1.2.1
theorem k0_off10_inb : ∀ (arg17 : BitVec 32) (k0_hw1 : k0_chk1 arg17), ∀ a, (k0_off10 arg17) a + S1x128x128.size a ≤ S1x4096x512.size a := fun arg17 k0_hw1 => k0_hw1.2.2.1
theorem k0_off11_inb : ∀ (arg17 : BitVec 32) (k0_hw1 : k0_chk1 arg17), ∀ a, (k0_off11 arg17) a + S1x128x128.size a ≤ S1x4096x512.size a := fun arg17 k0_hw1 => k0_hw1.2.2.2.1
theorem k0_off12_inb : ∀ (arg17 : BitVec 32) (k0_hw1 : k0_chk1 arg17), ∀ a, (k0_off12 arg17) a + S1x128x128.size a ≤ S1x4096x512.size a := fun arg17 k0_hw1 => k0_hw1.2.2.2.2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let c0_i32_0 : BitVec 32 := 0#32
  ![arg0.toNat, v1.toNat, c8_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let c0_i32_0 : BitVec 32 := 0#32
  ![arg0.toNat, v1.toNat, c9_i32.toNat]

def cc0_transform_9 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "masked" => some ⊤
  | "neg_log2e" => some ((-((Real.log 2)⁻¹) : ℝ) : EReal)
  | "skip" => some ⊥
  | _ => none
-- ==== ReferenceIdeal.lean ====
abbrev S8x4096x512 : Shape := ⟨3, ![8, 4096, 512]⟩
abbrev S8x4096x128 : Shape := ⟨3, ![8, 4096, 128]⟩
abbrev S8 : Shape := ⟨1, ![8]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x8x64x4096 : Shape := ⟨4, ![8, 8, 64, 4096]⟩
abbrev S8x4096x2x64 : Shape := ⟨4, ![8, 4096, 2, 64]⟩
abbrev S8x4096x2x4x64 : Shape := ⟨5, ![8, 4096, 2, 4, 64]⟩
abbrev S8x2x4096x4096x4 : Shape := ⟨5, ![8, 2, 4096, 4096, 4]⟩
abbrev S8x2x4x4096x4096 : Shape := ⟨5, ![8, 2, 4, 4096, 4096]⟩
abbrev S1x2x4x1x1 : Shape := ⟨5, ![1, 2, 4, 1, 1]⟩
abbrev S8x2x4x4096x1 : Shape := ⟨5, ![8, 2, 4, 4096, 1]⟩
abbrev S8x2x4x4096x4097 : Shape := ⟨5, ![8, 2, 4, 4096, 4097]⟩
abbrev S8x2x4x4096 : Shape := ⟨4, ![8, 2, 4, 4096]⟩
abbrev S8x2x64x4x4096 : Shape := ⟨5, ![8, 2, 64, 4, 4096]⟩

abbrev nBuf : Space → Nat
  | .hbm => 122
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x128, .f32⟩
  | .hbm, ⟨5, _⟩ => ⟨S8x4096x128, .f32⟩
  | .hbm, ⟨6, _⟩ => ⟨S8, .f32⟩
  | .hbm, ⟨7, _⟩ => ⟨S8x4096x8x64, .f32⟩
  | .hbm, ⟨8, _⟩ => ⟨S8x4096x8x64, .f32⟩
  | .hbm, ⟨9, _⟩ => ⟨S8x4096x8x64, .f32⟩
  | .hbm, ⟨10, _⟩ => ⟨S8x8x4096x4096, .f32⟩
  | .hbm, ⟨11, _⟩ => ⟨S_, .f32⟩
  | .hbm, ⟨12, _⟩ => ⟨S8x8x4096x4096, .f32⟩
  | .hbm, ⟨13, _⟩ => ⟨S8x8x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .i1⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S_, .f32⟩
  | .hbm, ⟨37, _⟩ => ⟨S_, .f32⟩
  | .hbm, ⟨38, _⟩ => ⟨S8x8x4096x4096, .i1⟩
  | .hbm, ⟨39, _⟩ => ⟨S8x8x4096x4096, .f32⟩
  | .hbm, ⟨40, _⟩ => ⟨S8x8x4096x4096, .f32⟩
  | .hbm, ⟨41, _⟩ => ⟨S_, .f32⟩
  | .hbm, ⟨42, _⟩ => ⟨S_, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S_, .f32⟩
  | .hbm, ⟨47, _⟩ => ⟨S8x8x4096x4096, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .i1⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S_, .f32⟩
  | .hbm, ⟨64, _⟩ => ⟨S_, .f32⟩
  | .hbm, ⟨65, _⟩ => ⟨S8x8x4096x4096, .i1⟩
  | .hbm, ⟨66, _⟩ => ⟨S8x8x4096x4096, .f32⟩
  | .hbm, ⟨67, _⟩ => ⟨S8x8x4096x4096, .f32⟩
  | .hbm, ⟨68, _⟩ => ⟨S8x8x64x4096, .f32⟩
  | .hbm, ⟨69, _⟩ => ⟨S8x4096x8x64, .f32⟩
  | .hbm, ⟨70, _⟩ => ⟨S8x4096x8x64, .f32⟩
  | .hbm, ⟨71, _⟩ => ⟨S8x4096x2x64, .f32⟩
  | .hbm, ⟨72, _⟩ => ⟨S8x4096x2x64, .f32⟩
  | .hbm, ⟨73, _⟩ => ⟨S8x4096x2x4x64, .f32⟩
  | .hbm, ⟨74, _⟩ => ⟨S8x2x4096x4096x4, .f32⟩
  | .hbm, ⟨75, _⟩ => ⟨S8x2x4x4096x4096, .f32⟩
  | .hbm, ⟨76, _⟩ => ⟨S_, .f32⟩
  | .hbm, ⟨77, _⟩ => ⟨S8x2x4x4096x4096, .f32⟩
  | .hbm, ⟨78, _⟩ => ⟨S8x2x4x4096x4096, .f32⟩
  | .hbm, ⟨79, _⟩ => ⟨S4096, .i32⟩
  | .hbm, ⟨80, _⟩ => ⟨S1x4096, .i32⟩
  | .hbm, ⟨81, _⟩ => ⟨S4096, .i32⟩
  | .hbm, ⟨82, _⟩ => ⟨S4096x1, .i32⟩
  | .hbm, ⟨83, _⟩ => ⟨S4096x4096, .i32⟩
  | .hbm, ⟨84, _⟩ => ⟨S4096x4096, .i32⟩
  | .hbm, ⟨85, _⟩ => ⟨S4096x4096, .i32⟩
  | .hbm, ⟨86, _⟩ => ⟨S_, .i32⟩
  | .hbm, ⟨87, _⟩ => ⟨S4096x4096, .i32⟩
  | .hbm, ⟨88, _⟩ => ⟨S4096x4096, .i1⟩
  | .hbm, ⟨89, _⟩ => ⟨S_, .i32⟩
  | .hbm, ⟨90, _⟩ => ⟨S4096x4096, .i32⟩
  | .hbm, ⟨91, _⟩ => ⟨S4096x4096, .i1⟩
  | .hbm, ⟨92, _⟩ => ⟨S4096x4096, .i1⟩
  | .hbm, ⟨93, _⟩ => ⟨S_, .f32⟩
  | .hbm, ⟨94, _⟩ => ⟨S_, .f32⟩
  | .hbm, ⟨95, _⟩ => ⟨S8x2x4x4096x4096, .i1⟩
  | .hbm, ⟨96, _⟩ => ⟨S8x2x4x4096x4096, .f32⟩
  | .hbm, ⟨97, _⟩ => ⟨S8x2x4x4096x4096, .f32⟩
  | .hbm, ⟨98, _⟩ => ⟨S1x2x4x1x1, .f32⟩
  | .hbm, ⟨99, _⟩ => ⟨S8x2x4x4096x1, .f32⟩
  | .hbm, ⟨100, _⟩ => ⟨S8x2x4x4096x4097, .f32⟩
  | .hbm, ⟨101, _⟩ => ⟨S_, .f32⟩
  | .hbm, ⟨102, _⟩ => ⟨S8x2x4x4096, .f32⟩
  | .hbm, ⟨103, _⟩ => ⟨S_, .f32⟩
  | .hbm, ⟨104, _⟩ => ⟨S8x2x4x4096, .f32⟩
  | .hbm, ⟨105, _⟩ => ⟨S8x2x4x4096, .f32⟩
  | .hbm, ⟨106, _⟩ => ⟨S8x2x4x4096x1, .f32⟩
  | .hbm, ⟨107, _⟩ => ⟨S8x2x4x4096x4097, .f32⟩
  | .hbm, ⟨108, _⟩ => ⟨S8x2x4x4096x4097, .f32⟩
  | .hbm, ⟨109, _⟩ => ⟨S8x2x4x4096x4097, .f32⟩
  | .hbm, ⟨110, _⟩ => ⟨S_, .f32⟩
  | .hbm, ⟨111, _⟩ => ⟨S8x2x4x4096, .f32⟩
  | .hbm, ⟨112, _⟩ => ⟨S8x2x4x4096x1, .f32⟩
  | .hbm, ⟨113, _⟩ => ⟨S8x2x4x4096x4097, .f32⟩
  | .hbm, ⟨114, _⟩ => ⟨S8x2x4x4096x4097, .f32⟩
  | .hbm, ⟨115, _⟩ => ⟨S8x2x4x4096x4096, .f32⟩
  | .hbm, ⟨116, _⟩ => ⟨S8x2x64x4x4096, .f32⟩
  | .hbm, ⟨117, _⟩ => ⟨S8x4096x2x4x64, .f32⟩
  | .hbm, ⟨118, _⟩ => ⟨S8x4096x512, .f32⟩
  | .hbm, ⟨119, _⟩ => ⟨S8x4096x512, .f32⟩
  | .hbm, ⟨120, _⟩ => ⟨S8x4096x512, .bf16⟩
  | .hbm, ⟨121, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v15 : Ref sig .tc := ⟨.hbm, 40, rfl⟩
abbrev main_call2_cst : Ref sig .tc := ⟨.hbm, 41, rfl⟩
abbrev main_call2_v0 : Ref sig .tc := ⟨.hbm, 42, rfl⟩
abbrev main_v16 : Ref sig .tc := ⟨.hbm, 43, rfl⟩
abbrev main_v17 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_2 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_c : Ref sig .tc := ⟨.hbm, 86, rfl⟩
abbrev main_v39 : Ref sig .tc := ⟨.hbm, 87, rfl⟩
abbrev main_v40 : Ref sig .tc := ⟨.hbm, 88, rfl⟩
abbrev main_c_3 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_4 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_5 : Ref sig .tc := ⟨.hbm, 101, rfl⟩
abbrev main_v48 : Ref sig .tc := ⟨.hbm, 102, rfl⟩
abbrev main_cst_6 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_7 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩

abbrev nD : Nat := 1
abbrev τ : Topo := Topo.v7x

variable {F : FTy → Type} [FloatOps F]
-- ==== Mlp.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x4096, .f32⟩
  | .hbm, ⟨21, _⟩ => ⟨S_, .f32⟩
  | .hbm, ⟨22, _⟩ => ⟨S32768x4096, .f32⟩
  | .hbm, ⟨23, _⟩ => ⟨S32768x4096, .f32⟩
  | .hbm, ⟨24, _⟩ => ⟨S32768x4096, .f32⟩
  | .hbm, ⟨25, _⟩ => ⟨S32768x1024, .f32⟩
  | .hbm, ⟨26, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S1024 : Shape := ⟨1, ![1024]⟩
abbrev S1024x2048 : Shape := ⟨2, ![1024, 2048]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1024x1 : Shape := ⟨2, ![1024, 1]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024, .f32⟩
  | .hbm, ⟨4, _⟩ => ⟨S1024x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S32768x512, .bf16⟩
  | .hbm, ⟨9, _⟩ => ⟨S32768x512, .bf16⟩
  | .hbm, ⟨10, _⟩ => ⟨S1x1024, .f32⟩
  | .hbm, ⟨11, _⟩ => ⟨S1024x2048, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x1024 : Shape := ⟨2, ![32768, 1024]⟩
abbrev S32768x512 : Shape := ⟨2, ![32768, 512]⟩
abbrev S1024 : Shape := ⟨1, ![1024]⟩
abbrev S1024x2048 : Shape := ⟨2, ![1024, 2048]⟩
abbrev S512x1024 : Shape := ⟨2, ![512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S32768x2x1024 : Shape := ⟨3, ![32768, 2, 1024]⟩
abbrev S32768x1x1024 : Shape := ⟨3, ![32768, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024, .f32⟩
  | .hbm, ⟨4, _⟩ => ⟨S1024x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x2x1024, .f32⟩
  | .hbm, ⟨34, _⟩ => ⟨S32768x1x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Inproj.lean ====
abbrev S8x4096x1024 : Shape := ⟨3, ![8, 4096, 1024]⟩
abbrev S1024 : Shape := ⟨1, ![1024]⟩
abbrev S1024x2304 : Shape := ⟨2, ![1024, 2304]⟩
abbrev S64 : Shape := ⟨1, ![64]⟩
abbrev S256x128 : Shape := ⟨2, ![256, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x1024 : Shape := ⟨2, ![32768, 1024]⟩
abbrev S1x1024 : Shape := ⟨2, ![1, 1024]⟩
abbrev S32768x2560 : Shape := ⟨2, ![32768, 2560]⟩
abbrev S1024x1024 : Shape := ⟨2, ![1024, 1024]⟩
abbrev S1024x128 : Shape := ⟨2, ![1024, 128]⟩
abbrev S1024x2560 : Shape := ⟨2, ![1024, 2560]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 51
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S256x128, .bf16⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x64, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S4096x32, .f32⟩
  | .hbm, ⟨35, _⟩ => ⟨S4096x64, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S1x128, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S32768x1024, .f32⟩
  | .hbm, ⟨48, _⟩ => ⟨S1x1024, .f32⟩
  | .hbm, ⟨49, _⟩ => ⟨S1024x2304, .bf16⟩
  | .hbm, ⟨50, _⟩ => ⟨S32768x2560, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2304, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S256x128, .bf16⟩
  | .local _ .vmem, ⟨11, _⟩ => ⟨S1024x2560, .bf16⟩
  | .local _ .vmem, ⟨12, _⟩ => ⟨S1024x2560, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S8x4096x1024 : Shape := ⟨3, ![8, 4096, 1024]⟩
abbrev S1024 : Shape := ⟨1, ![1024]⟩
abbrev S1024x2304 : Shape := ⟨2, ![1024, 2304]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2304 : Shape := ⟨3, ![8, 4096, 2304]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S1x4096x1x32 : Shape := ⟨4, ![1, 4096, 1, 32]⟩
abbrev S8x4096x8x32 : Shape := ⟨4, ![8, 4096, 8, 32]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x4096x2x1x64 : Shape := ⟨5, ![8, 4096, 2, 1, 64]⟩
abbrev S8x4096x2x2x64 : Shape := ⟨5, ![8, 4096, 2, 2, 64]⟩
abbrev S8x4096x256 : Shape := ⟨3, ![8, 4096, 256]⟩
abbrev S8x4096x2560 : Shape := ⟨3, ![8, 4096, 2560]⟩
abbrev S32768x2560 : Shape := ⟨2, ![32768, 2560]⟩

abbrev nBuf : Space → Nat
  | .hbm => 133
  | .vmem => 0
  | .smem => 0
  | _ => 0

abbrev hbmTy0_0 (i : Nat) : BufTy := match i % 128 with
  | 0 => ⟨S8x4096x1024, .f32⟩
  | 1 => ⟨S1024, .f32⟩
  | 2 => ⟨S1024x2304, .f32⟩
  | 3 => ⟨S64, .f32⟩
  | 4 => ⟨S64, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S4096, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S4096x32, .f32⟩
  | 28 => ⟨S4096x32, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S8x4096x2304, .f32⟩
  | 46 => ⟨S8x4096x512, .f32⟩
  | 47 => ⟨S8x4096x512, .f32⟩
  | 48 => ⟨S8x4096x512, .f32⟩
  | 49 => ⟨S8x4096x512, .f32⟩
  | 50 => ⟨S8x4096x128, .f32⟩
  | 51 => ⟨S8x4096x128, .f32⟩
  | 52 => ⟨S8x4096x8x64, .f32⟩
  | 53 => ⟨S8x4096x8x64, .f32⟩
  | 54 => ⟨S_, .f32⟩
  | 55 => ⟨S8x4096x8, .f32⟩
  | 56 => ⟨S8x4096x8x1, .f32⟩
  | 57 => ⟨S_, .f32⟩
  | 58 => ⟨S8x4096x8x1, .f32⟩
  | 59 => ⟨S8x4096x8x1, .f32⟩
  | 60 => ⟨S_, .f32⟩
  | 61 => ⟨S8x4096x8x1, .f32⟩
  | 62 => ⟨S8x4096x8x1, .f32⟩
  | 63 => ⟨S8x4096x8x1, .f32⟩
  | 64 => ⟨S8x4096x8x64, .f32⟩
  | 65 => ⟨S8x4096x8x64, .f32⟩
  | 66 => ⟨S1x1x1x64, .f32⟩
  | 67 => ⟨S8x4096x8x64, .f32⟩
  | 68 => ⟨S8x4096x8x64, .f32⟩
  | 69 => ⟨S1x4096x1x32, .f32⟩
  | 70 => ⟨S1x4096x1x32, .f32⟩
  | 71 => ⟨S8x4096x8x32, .f32⟩
  | 72 => ⟨S8x4096x8x32, .f32⟩
  | 73 => ⟨S8x4096x8x32, .f32⟩
  | 74 => ⟨S8x4096x8x32, .f32⟩
  | 75 => ⟨S8x4096x8x32, .f32⟩
  | 76 => ⟨S8x4096x8x32, .f32⟩
  | 77 => ⟨S8x4096x8x32, .f32⟩
  | 78 => ⟨S8x4096x8x32, .f32⟩
  | 79 => ⟨S8x4096x8x32, .f32⟩
  | 80 => ⟨S8x4096x8x32, .f32⟩
  | 81 => ⟨S8x4096x8x32, .f32⟩
  | 82 => ⟨S8x4096x8x32, .f32⟩
  | 83 => ⟨S8x4096x8x64, .f32⟩
  | 84 => ⟨S8x4096x2x64, .f32⟩
  | 85 => ⟨S8x4096x2x64, .f32⟩
  | 86 => ⟨S_, .f32⟩
  | 87 => ⟨S8x4096x2, .f32⟩
  | 88 => ⟨S8x4096x2x1, .f32⟩
  | 89 => ⟨S_, .f32⟩
  | 90 => ⟨S8x4096x2x1, .f32⟩
  | 91 => ⟨S8x4096x2x1, .f32⟩
  | 92 => ⟨S_, .f32⟩
  | 93 => ⟨S8x4096x2x1, .f32⟩
  | 94 => ⟨S8x4096x2x1, .f32⟩
  | 95 => ⟨S8x4096x2x1, .f32⟩
  | 96 => ⟨S8x4096x2x64, .f32⟩
  | 97 => ⟨S8x4096x2x64, .f32⟩
  | 98 => ⟨S1x1x1x64, .f32⟩
  | 99 => ⟨S8x4096x2x64, .f32⟩
  | 100 => ⟨S8x4096x2x64, .f32⟩
  | 101 => ⟨S1x4096x1x32, .f32⟩
  | 102 => ⟨S1x4096x1x32, .f32⟩
  | 103 => ⟨S8x4096x2x32, .f32⟩
  | 104 => ⟨S8x4096x2x32, .f32⟩
  | 105 => ⟨S8x4096x2x32, .f32⟩
  | 106 => ⟨S8x4096x2x32, .f32⟩
  | 107 => ⟨S8x4096x2x32, .f32⟩
  | 108 => ⟨S8x4096x2x32, .f32⟩
  | 109 => ⟨S8x4096x2x32, .f32⟩
  | 110 => ⟨S8x4096x2x32, .f32⟩
  | 111 => ⟨S8x4096x2x32, .f32⟩
  | 112 => ⟨S8x4096x2x32, .f32⟩
  | 113 => ⟨S8x4096x2x32, .f32⟩
  | 114 => ⟨S8x4096x2x32, .f32⟩
  | 115 => ⟨S8x4096x2x64, .f32⟩
  | 116 => ⟨S8x4096x2x64, .f32⟩
  | 117 => ⟨S_, .f32⟩
  | 118 => ⟨S8x4096x512, .f32⟩
  | 119 => ⟨S8x4096x512, .f32⟩
  | 120 => ⟨S8x4096x512, .f32⟩
  | 121 => ⟨S_, .f32⟩
  | 122 => ⟨S8x4096x512, .f32⟩
  | 123 => ⟨S8x4096x512, .f32⟩
  | 124 => ⟨S8x4096x2x1x64, .f32⟩
  | 125 => ⟨S8x4096x2x2x64, .f32⟩
  | 126 => ⟨S8x4096x256, .f32⟩
  | 127 => ⟨S8x4096x2x1x64, .f32⟩
  | _ => ⟨S8x4096x1024, .f32⟩

abbrev hbmTy0_1 (i : Nat) : BufTy := match i % 128 with
  | 0 => ⟨S8x4096x2x2x64, .f32⟩
  | 1 => ⟨S8x4096x256, .f32⟩
  | 2 => ⟨S8x4096x2560, .f32⟩
  | 3 => ⟨S8x4096x2560, .bf16⟩
  | 4 => ⟨S32768x2560, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_v71 : Ref sig .tc := ⟨.hbm, 88, rfl⟩
abbrev main_cst_11 : Ref sig .tc := ⟨.hbm, 89, rfl⟩
abbrev main_v72 : Ref sig .tc := ⟨.hbm, 90, rfl⟩
abbrev main_v73 : Ref sig .tc := ⟨.hbm, 91, rfl⟩
abbrev main_cst_12 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_13 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_14 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩

abbrev nD : Nat := 1
abbrev τ : Topo := Topo.v7x

variable {F : FTy → Type} [FloatOps F]
-- ==== Proof.Finite.lean ====
/- What the precondition says of the arguments: the queries and keys of both mixers are real numbers, and no sink is
   plus infinity. -/
module

public import proofs.«01_k».proof.Proof.Gen.Pre_finite_scores
public import Idealize.ShloMosaic.Lib.ReduceAll
public import Idealize.ShloMosaic.Lib.KernelVsHost

@[expose] public section

noncomputable section

namespace Cert.Pre_finite_scores.Hand

open Idealize.ShloMosaic Cert.Pre_finite_scores Cert.Pre_finite_scores.Gen

theorem inf_word : (Ideal.ofBits .f32 0x7F800000#32 : EReal) = ⊤ := by simp [Ideal.ofBits, Ideal.ieee]

/-- A comparison that says less than infinity. -/
theorem below (x : EReal) (e : Ideal.cmp .olt x (Ideal.ofBits .f32 0x7F800000#32) = 1#1) : x ≠ ⊤ := fun hx => by
  rw [inf_word, hx] at e
  revert e
  simp [Ideal.cmp]

/-- A magnitude less than infinity is a real's. -/
theorem finite (x : EReal) (e : Ideal.cmp .olt (max x (-x)) (Ideal.ofBits .f32 0x7F800000#32) = 1#1) : x ≠ ⊤ ∧ x ≠ ⊥ :=
  ⟨fun hx => below _ e (by rw [hx]; rfl), fun hx => below _ e (by rw [hx]; rfl)⟩

instance : Subsingleton S_.Idx := ⟨fun a b => funext fun i => i.elim0⟩

/-- The precondition, read back. -/
theorem finite_args (x0 x1 x2 x3 : FVec Ideal S8x4096x512 .f32) (x4 x5 : FVec Ideal S8x4096x128 .f32) (x6 : FVec Ideal S8 .f32)
    (e : fn (F := Ideal) x0 x1 x2 x3 x4 x5 x6 = fun _ => 1#1) :
    (∀ i, (x0 i : EReal) ≠ ⊤ ∧ (x0 i : EReal) ≠ ⊥) ∧ (∀ i, (x1 i : EReal) ≠ ⊤ ∧ (x1 i : EReal) ≠ ⊥) ∧ (∀ i, (x3 i : EReal) ≠ ⊤ ∧ (x3 i : EReal) ≠ ⊥)
      ∧ (∀ i, (x4 i : EReal) ≠ ⊤ ∧ (x4 i : EReal) ≠ ⊥) ∧ ∀ i, (x6 i : EReal) ≠ ⊤ := by
  have j : S_.Idx := fun i => i.elim0
  have h := congrFun e j
  unfold fn fn_part1 at h
  have a1 := IntOp.andi_eq_one.1 h
  have a2 := IntOp.andi_eq_one.1 a1.1
  have a3 := IntOp.andi_eq_one.1 a2.1
  have a4 := IntOp.andi_eq_one.1 a3.1
  exact ⟨fun i => finite _ (Host.reduce_andi_all _ _ _ _ j a4.1 i), fun i => finite _ (Host.reduce_andi_all _ _ _ _ j a4.2 i),
    fun i => finite _ (Host.reduce_andi_all _ _ _ _ j a3.2 i), fun i => finite _ (Host.reduce_andi_all _ _ _ _ j a2.2 i),
    fun i => below _ (Host.reduce_andi_all _ _ _ _ j a1.2 i)⟩

end Cert.Pre_finite_scores.Hand

end
-- ==== Proof.Ref.lean ====
module

public import proofs.«01_k».proof.Proof.Gen.ReferenceIdeal.Read
public import proofs.«01_k».proof.Proof.Gen.Pre_finite_scores

@[expose] public section
end
-- ==== Proof.Rules.lean ====
module

public import Idealize.ShloMosaic.Lib.VecWindow
public import Idealize.ShloMosaic.Lib.Tactic

/-! Loads and stores of a memref owned at a value: a load at a unit-stride rectangle continues at a window of
the value, a store leaves the value with the payload put over that window. -/

@[expose] public section

noncomputable section

namespace Cert.Rules

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels} [Preorder Lvl] {defs : Defs nD τ sig Val Λ}
variable (𝒱 : Variants) (c : Thread nD τ) (bd : Option 𝒱.V) (E : Set Name)
variable {s : Shape} {e : EltTy} {α : Type} {Q : α → sProp (MT nD τ sig Ix Val Name U Lvl)}

/-- A load at a unit-stride rectangle of a memref owned at `X` continues at that window of `X`. -/
theorem ld {cs : CoreSpace} {M : Memref sig c.2.kind cs s e} {q : PosShare TreeShare} {X : s.Idx → Val e}
    {off size : Fin s.rank → ℕ} {inb : ∀ a, off a + size a ≤ s.size a} {hl : M.view.LoadsAt (Rect.unit off size inb).toLoadRect}
    {k : ((Rect.unit off size inb).shape.Idx → Val e) → Prog (TpuEff nD τ sig Val Λ c.2) α} :
    owns c M q X ⊢ iprop((owns c M q X -∗ wp frame (wpE defs 𝒱 c bd) E (k (VecWindow.window X off size inb)) Q)
      -∗ wp frame (wpE defs 𝒱 c bd) E (.op (.load M (Rect.unit off size inb).toLoadRect hl) k) Q) := by
  unfold owns
  iintro ⟨%f, %hf, H⟩ Hk
  subst hf
  iapply (wp_load 𝒱 c bd E (m := M) (r := (Rect.unit off size inb).toLoadRect) (S := M.view.set) (View.setOn_subset_set ..)) $$ H
  iintro H
  iapply Hk
  iexists f
  isplitr
  · ipureintro; rfl
  iexact H

/-- The same for a word of scalar memory. -/
theorem ldS {M : Memref sig c.2.kind .smem s e} {q : PosShare TreeShare} {X : s.Idx → Val e}
    {off size : Fin s.rank → ℕ} {inb : ∀ a, off a + size a ≤ s.size a} {hl : (M.access (Rect.unit off size inb)).Loads}
    {x : (Rect.unit off size inb).shape.Idx}
    {k : Val e → Prog (TpuEff nD τ sig Val Λ c.2) α} :
    owns c M q X ⊢ iprop((owns c M q X -∗ wp frame (wpE defs 𝒱 c bd) E (k (VecWindow.window X off size inb x)) Q)
      -∗ wp frame (wpE defs 𝒱 c bd) E (smemLoadElt M (Rect.unit off size inb) hl x k) Q) :=
  ld 𝒱 c bd E (k := fun f => k (f x))

/-- An unmasked store at a unit-stride rectangle of a memref owned at `X` leaves it owned at `X` with the payload
put over the window. -/
theorem st {cs : CoreSpace} {M : Memref sig c.2.kind cs s e} {X : s.Idx → Val e}
    {off size : Fin s.rank → ℕ} {inb : ∀ a, off a + size a ≤ s.size a} {w : (Rect.unit off size inb).shape.Idx → Val e}
    {hx : (M.access (Rect.unit off size inb)).Stores Finset.univ} {hm : (Finset.univ : Finset (Rect.unit off size inb).shape.Idx) = Finset.univ ∨ ∀ a, (Rect.unit off size inb).stride a = 1}
    {k : PUnit → Prog (TpuEff nD τ sig Val Λ c.2) α} :
    owns c M fullShare X ⊢ iprop((owns c M fullShare (VecWindow.put X off size w) -∗ wp frame (wpE defs 𝒱 c bd) E (k ⟨⟩) Q)
      -∗ wp frame (wpE defs 𝒱 c bd) E (.op (.store M (Rect.unit off size inb) w Finset.univ hx hm) k) Q) := by
  unfold owns
  iintro ⟨%f, %hf, H⟩ Hk
  subst hf
  iapply (wp_store 𝒱 c bd E (m := M) (r := Rect.unit off size inb) (Mk := Finset.univ) (S := M.view.set) (View.set_slice_subset ..)) $$ H
  iintro H
  iapply Hk
  iexists _
  isplitr; swap
  · iexact H
  ipureintro
  exact View.read_writes_cons_put M.view f inb w [] rfl

end Cert.Rules

end
-- ==== Proof.KI.Values.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Rules

@[expose] public section

set_option maxRecDepth 65536

noncomputable section

namespace Cert.KernelIdeal.Hand

open Cert.KernelIdeal Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-! What one grid point of the mixers' kernel computes, as values of its input blocks. -/

/-- The input blocks of a grid point. -/
structure Ins (F : FTy → Type) where
  x2 : Vec F S8 .f32
  x3 : Vec F S1x128x512 .bf16
  x4 : Vec F S1x4096x512 .bf16
  x5 : Vec F S1x4096x512 .bf16
  x6 : Vec F S128x256 .bf16
  x7 : Vec F S1x128x512 .bf16
  x8 : Vec F S1x128x256 .bf16
  x9 : Vec F S1x128x256 .bf16
  x10 : Vec F S1x128x256 .bf16
  x11 : Vec F S1x128x256 .bf16

/-- The state a point carries from key block to key block: the running log of the unbroken stick, the accumulated
output, and the largest entry of the first. -/
structure St (F : FTy → Type) where
  carry : Vec F S4x256x128 .f32
  acc : Vec F S4x256x128 .f32
  live : F .f32

/-- The word of the sinks at an offset. -/
def word (x : Vec F S8 .f32) (off : Fin 1 → ℕ) (inb : ∀ a, off a + S1.size a ≤ S8.size a) : F .f32 :=
  VecWindow.window x off S1.size inb (Shape.Idx.first (numel1_S1.symm ▸ Nat.one_pos))

/-- Some contents of the scratch, all of it overwritten. -/
def base : Vec F S4x256x128 .f32 := fun _ => FloatOps.ofBits .f32 0x00000000#32
/-- Some contents of an output block, all of it overwritten. -/
def baseO : Vec F S1x128x512 .bf16 := fun _ => FloatOps.ofBits .bf16 0x0000#16

/-- One trip of the loop, at key block `j`. -/
def tripStep (X : Ins F) (v2 : IVec S128x128 1) (j : BitVec 32) (hj : k0_chk1 j) (s : St F) : St F :=
  let carry0 := s.carry
  let acc0 := s.acc
  let v72 := VecWindow.window X.x4 (k0_off9 j) S1x128x128.size (k0_off9_inb j hj)
  let v74 := VecWindow.window X.x3 ![0, 0, 0] S1x128x128.size inb_S1x128x512_S1x128x128_0_0_0
  let v81 := VecWindow.window carry0 ![0, 0, 0] S1x256x128.size inb_S4x256x128_S1x256x128_0_0_0
  let v94 := VecWindow.window X.x6 ![0, 0] S128x256.size inb_S128x256_S128x256_0_0
  let v103 := VecWindow.window X.x5 (k0_off9 j) S1x128x128.size (k0_off9_inb j hj)
  let v101 := k0_pay183 v2 v72 v74 v94
  let v105 := k0_pay184 v2 v72 v74 v81 v94 v103
  let v106 := VecWindow.window acc0 ![0, 0, 0] S1x256x128.size inb_S4x256x128_S1x256x128_0_0_0
  let acc1 := VecWindow.put acc0 ![0, 0, 0] S1x256x128.size (k0_pay185 v105 v106)
  let v112 := VecWindow.window carry0 ![0, 0, 0] S1x256x128.size inb_S4x256x128_S1x256x128_0_0_0
  let carry1 := VecWindow.put carry0 ![0, 0, 0] S1x256x128.size (k0_pay187 v101 v112)
  let v119 := VecWindow.window X.x4 (k0_off10 j) S1x128x128.size (k0_off10_inb j hj)
  let v121 := VecWindow.window X.x3 ![0, 0, 128] S1x128x128.size inb_S1x128x512_S1x128x128_0_0_128
  let v128 := VecWindow.window carry1 ![1, 0, 0] S1x256x128.size inb_S4x256x128_S1x256x128_1_0_0
  let v114 := k0_pay186 v101 v112
  let v127 := k0_pay188 v2 v119 v121
  let v129 := k0_pay189 v128
  let v140 := k0_pay190 v2 v119 v121
  let v141 := VecWindow.window X.x6 ![0, 0] S128x256.size inb_S128x256_S128x256_0_0
  let v150 := VecWindow.window X.x5 (k0_off10 j) S1x128x128.size (k0_off10_inb j hj)
  let v153 := VecWindow.window acc1 ![1, 0, 0] S1x256x128.size inb_S4x256x128_S1x256x128_1_0_0
  let acc2 := VecWindow.put acc1 ![1, 0, 0] S1x256x128.size (k0_pay192 v127 v129 v140 v141 v150 v153)
  let v159 := VecWindow.window carry1 ![1, 0, 0] S1x256x128.size inb_S4x256x128_S1x256x128_1_0_0
  let carry2 := VecWindow.put carry1 ![1, 0, 0] S1x256x128.size (k0_pay194 v140 v141 v159)
  let v166 := VecWindow.window X.x4 (k0_off11 j) S1x128x128.size (k0_off11_inb j hj)
  let v168 := VecWindow.window X.x3 ![0, 0, 256] S1x128x128.size inb_S1x128x512_S1x128x128_0_0_256
  let cst_93 := constant S256x128 .f32 0x00000000#32
  let v161 := k0_pay193 v140 v141 v159
  let v167 := k0_pay195 v166
  let v173 := k0_pay196 v2 v168
  let v175 := VecWindow.window carry2 ![2, 0, 0] S1x256x128.size inb_S4x256x128_S1x256x128_2_0_0
  let v188 := VecWindow.window X.x6 ![0, 0] S128x256.size inb_S128x256_S128x256_0_0
  let v197 := VecWindow.window X.x5 (k0_off11 j) S1x128x128.size (k0_off11_inb j hj)
  let v200 := VecWindow.window acc2 ![2, 0, 0] S1x256x128.size inb_S4x256x128_S1x256x128_2_0_0
  let acc3 := VecWindow.put acc2 ![2, 0, 0] S1x256x128.size (k0_pay199 v167 v173 cst_93 v175 v188 v197 v200)
  let v206 := VecWindow.window carry2 ![2, 0, 0] S1x256x128.size inb_S4x256x128_S1x256x128_2_0_0
  let v208 := (k0_pay200 v167 v173 cst_93 v188 v206)
  let carry3 := VecWindow.put carry2 ![2, 0, 0] S1x256x128.size (k0_pay201 v208)
  let v213 := VecWindow.window X.x4 (k0_off12 j) S1x128x128.size (k0_off12_inb j hj)
  let v215 := VecWindow.window X.x3 ![0, 0, 384] S1x128x128.size inb_S1x128x512_S1x128x128_0_0_384
  let v222 := VecWindow.window carry3 ![3, 0, 0] S1x256x128.size inb_S4x256x128_S1x256x128_3_0_0
  let v235 := VecWindow.window X.x6 ![0, 0] S128x256.size inb_S128x256_S128x256_0_0
  let v244 := VecWindow.window X.x5 (k0_off12 j) S1x128x128.size (k0_off12_inb j hj)
  let v242 := k0_pay204 v2 v213 v215 v235
  let v246 := k0_pay205 v2 v213 v215 v222 v235 v244
  let v247 := VecWindow.window acc3 ![3, 0, 0] S1x256x128.size inb_S4x256x128_S1x256x128_3_0_0
  let acc4 := VecWindow.put acc3 ![3, 0, 0] S1x256x128.size (k0_pay206 v246 v247)
  let v253 := VecWindow.window carry3 ![3, 0, 0] S1x256x128.size inb_S4x256x128_S1x256x128_3_0_0
  let carry4 := VecWindow.put carry3 ![3, 0, 0] S1x256x128.size (k0_pay208 v242 v253)
  let v255 := k0_pay207 v242 v253
  let v273 := k0_pay209 v114
  let v288 := k0_pay210 v161
  let v294 := k0_pay211 v208
  let live1 := k0_pay5 v255 v273 v288 v294
  ⟨carry4, acc4, live1⟩

/-- The first blocks of a point with three blocks before its own, from any earlier contents of the scratch and of the
sliding window's output. -/
def bandFrom (X : Ins F) (i : grid0.Coords) (hi : k0_cond1 i = 1#1) (carry0 acc0 : Vec F S4x256x128 .f32)
    (osw0 : Vec F S1x128x512 .bf16) : St F × Vec F S1x128x512 .bf16 :=
  let v73 := VecWindow.window X.x4 (k0_off1 i) S1x512x128.size (k0_off1_inb i hi)
  let v75 := VecWindow.window X.x3 ![0, 0, 0] S1x128x128.size inb_S1x128x512_S1x128x128_0_0_0
  let v83 := VecWindow.window X.x4 (k0_off2 i) S1x512x128.size (k0_off2_inb i hi)
  let v85 := VecWindow.window X.x3 ![0, 0, 128] S1x128x128.size inb_S1x128x512_S1x128x128_0_0_128
  let v93 := VecWindow.window X.x4 (k0_off3 i) S1x512x128.size (k0_off3_inb i hi)
  let v95 := VecWindow.window X.x3 ![0, 0, 256] S1x128x128.size inb_S1x128x512_S1x128x128_0_0_256
  let v103 := VecWindow.window X.x4 (k0_off4 i) S1x512x128.size (k0_off4_inb i hi)
  let v81 := k0_pay6 k0_pay176 v73 v75
  let v91 := k0_pay7 k0_pay176 v83 v85
  let v101 := k0_pay8 k0_pay176 v93 v95
  let v105 := VecWindow.window X.x3 ![0, 0, 384] S1x128x128.size inb_S1x128x512_S1x128x128_0_0_384
  let v126 := VecWindow.window X.x6 ![0, 0] S128x256.size inb_S128x256_S128x256_0_0
  let v111 := k0_pay9 k0_pay176 v103 v105
  let v131 := k0_pay12 k0_pay177 v81 v126
  let v132 := k0_pay13 k0_pay177 v81 v126
  let v135 := k0_pay14 k0_pay177 v91
  let v146 := k0_pay15 k0_pay177 v91
  let v147 := VecWindow.window X.x6 ![0, 0] S128x256.size inb_S128x256_S128x256_0_0
  let v168 := VecWindow.window X.x6 ![0, 0] S128x256.size inb_S128x256_S128x256_0_0
  let v189 := VecWindow.window X.x6 ![0, 0] S128x256.size inb_S128x256_S128x256_0_0
  let v152 := k0_pay17 v135 v146 v147
  let v153 := k0_pay18 v146 v147
  let v173 := k0_pay21 k0_pay177 v101 v168
  let v174 := k0_pay22 k0_pay177 v101 v168
  let v177 := k0_pay23 k0_pay177 v111
  let v190 := k0_pay24 k0_pay177 v111 v189
  let v208 := VecWindow.window X.x6 ![0, 0] S128x256.size inb_S128x256_S128x256_0_0
  let v229 := VecWindow.window X.x6 ![0, 0] S128x256.size inb_S128x256_S128x256_0_0
  let v194 := k0_pay25 v177 v190
  let v195 := k0_pay26 v190
  let v214 := k0_pay29 v81 v132 v208
  let v216 := k0_pay30 v81 v132 v208
  let v235 := k0_pay33 v91 v153 v229
  let v237 := k0_pay34 v91 v153 v229
  let v238 := k0_pay35 v101
  let v250 := VecWindow.window X.x6 ![0, 0] S128x256.size inb_S128x256_S128x256_0_0
  let v271 := VecWindow.window X.x6 ![0, 0] S128x256.size inb_S128x256_S128x256_0_0
  let v256 := k0_pay37 v174 v238 v250
  let v258 := k0_pay38 v174 v238 v250
  let v277 := k0_pay41 v111 v195 v271
  let v279 := k0_pay42 v111 v195 v271
  let v280 := k0_pay43 v81
  let v282 := k0_pay44 v81
  let v283 := k0_pay45 v81
  let v284 := k0_pay46 (F := F)
  let v292 := VecWindow.window X.x6 ![0, 0] S128x256.size inb_S128x256_S128x256_0_0
  let v313 := VecWindow.window X.x6 ![0, 0] S128x256.size inb_S128x256_S128x256_0_0
  let v298 := k0_pay48 v216 v280 v282 v283 v284 v292
  let v300 := k0_pay49 v216 v282 v283 v284 v292
  let v319 := k0_pay52 v91 v237 v313
  let v321 := k0_pay53 v91 v237 v313
  let v322 := k0_pay54 v101
  let v324 := k0_pay55 v101
  let v331 := k0_pay56 v101
  let v334 := VecWindow.window X.x6 ![0, 0] S128x256.size inb_S128x256_S128x256_0_0
  let v355 := VecWindow.window X.x6 ![0, 0] S128x256.size inb_S128x256_S128x256_0_0
  let v376 := VecWindow.window X.x6 ![0, 0] S128x256.size inb_S128x256_S128x256_0_0
  let cst_135 := constant S256x256 .f32 0x00000000#32
  let v340 := k0_pay58 v258 v322 v324 v331 v334
  let v342 := k0_pay59 v258 v324 v331 v334
  let v361 := k0_pay62 v111 v279 v355
  let v363 := k0_pay63 v111 v279 v355
  let v364 := k0_pay64 v81
  let v375 := k0_pay65 v81
  let v397 := VecWindow.window X.x6 ![0, 0] S128x256.size inb_S128x256_S128x256_0_0
  let v418 := VecWindow.window X.x6 ![0, 0] S128x256.size inb_S128x256_S128x256_0_0
  let v382 := k0_pay67 v300 v364 v375 v376 cst_135
  let v384 := k0_pay68 v300 v375 v376 cst_135
  let v403 := k0_pay71 v91 v321 v397
  let v405 := k0_pay72 v91 v321 v397
  let v419 := k0_pay74 v101 v418
  let v424 := k0_pay75 v101 v342 v418
  let v439 := VecWindow.window X.x6 ![0, 0] S128x256.size inb_S128x256_S128x256_0_0
  let v450 := VecWindow.window X.x5 (k0_off1 i) S1x512x128.size (k0_off1_inb i hi)
  let acc1 := VecWindow.put acc0 ![0, 0, 0] S1x256x128.size (k0_pay81 v131 v214 v298 v382 v450)
  let carry1 := VecWindow.put carry0 ![0, 0, 0] S1x256x128.size (k0_pay82 v384)
  let v461 := VecWindow.window X.x5 (k0_off2 i) S1x512x128.size (k0_off2_inb i hi)
  let v426 := k0_pay76 v342 v419
  let v445 := k0_pay79 v111 v363 v439
  let v447 := k0_pay80 v111 v363 v439
  let v463 := k0_pay83 v152 v235 v319 v403 v461
  let acc2 := VecWindow.put acc1 ![1, 0, 0] S1x256x128.size (k0_pay84 v463)
  let carry2 := VecWindow.put carry1 ![1, 0, 0] S1x256x128.size (k0_pay85 v405)
  let v472 := VecWindow.window X.x5 (k0_off3 i) S1x512x128.size (k0_off3_inb i hi)
  let acc3 := VecWindow.put acc2 ![2, 0, 0] S1x256x128.size (k0_pay86 v173 v256 v340 v424 v472)
  let carry3 := VecWindow.put carry2 ![2, 0, 0] S1x256x128.size (k0_pay87 v426)
  let v483 := VecWindow.window X.x5 (k0_off4 i) S1x512x128.size (k0_off4_inb i hi)
  let acc4 := VecWindow.put acc3 ![3, 0, 0] S1x256x128.size (k0_pay88 v194 v277 v361 v445 v483)
  let carry4 := VecWindow.put carry3 ![3, 0, 0] S1x256x128.size (k0_pay89 v447)
  let v494 := (k0_pay90 v384)
  let v554 := (k0_pay91 v405 v426 v447 v494)
  let live1 := k0_pay92 v554
  let v578 := VecWindow.window X.x8 ![0, 0, 0] S1x128x128.size inb_S1x128x256_S1x128x128_0_0_0
  let v580 := VecWindow.window X.x9 ![0, 0, 0] S1x128x128.size inb_S1x128x256_S1x128x128_0_0_0
  let v583 := VecWindow.window X.x10 ![0, 0, 0] S1x128x128.size inb_S1x128x256_S1x128x128_0_0_0
  let v585 := VecWindow.window X.x11 ![0, 0, 0] S1x128x128.size inb_S1x128x256_S1x128x128_0_0_0
  let v588 := VecWindow.window X.x7 ![0, 0, 0] S1x128x128.size inb_S1x128x512_S1x128x128_0_0_0
  let cst_212 := Scalar.ofBits .bf16 0x0000#16
  let v562 := k0_pay93
  let v577 := k0_pay94 (BitVec.ofNat 32 (i 1).val)
  let v582 := k0_pay95 v578 v580
  let v587 := k0_pay96 v583 v585
  let v589 := k0_pay97 v588
  let v595 := word X.x2 ![0] inb_S8_S1_0
  let v618 := word X.x2 ![1] inb_S8_S1_1
  let v636 := (k0_pay98 v562 v577 v582 v587 v589 cst_212 v595 v618)
  let osw1 := VecWindow.put osw0 ![0, 0, 0] S1x128x128.size (k0_pay99 v636)
  let v641 := VecWindow.window X.x7 ![0, 0, 128] S1x128x128.size inb_S1x128x512_S1x128x128_0_0_128
  let v648 := word X.x2 ![2] inb_S8_S1_2
  let v671 := word X.x2 ![3] inb_S8_S1_3
  let v665 := k0_pay102 v562 v577 v582 v587 v641 v648
  let v675 := k0_pay104 v562 v577 v582 v641 v671
  let v677 := k0_pay105 v562 v577 v582 v641 v671
  let osw2 := VecWindow.put osw1 ![0, 0, 128] S1x128x128.size (k0_pay106 v562 v587 v665 v671 v675 v677)
  let v694 := VecWindow.window X.x8 ![0, 0, 128] S1x128x128.size inb_S1x128x256_S1x128x128_0_0_128
  let v696 := VecWindow.window X.x9 ![0, 0, 128] S1x128x128.size inb_S1x128x256_S1x128x128_0_0_128
  let v699 := VecWindow.window X.x10 ![0, 0, 128] S1x128x128.size inb_S1x128x256_S1x128x128_0_0_128
  let v701 := VecWindow.window X.x11 ![0, 0, 128] S1x128x128.size inb_S1x128x256_S1x128x128_0_0_128
  let v704 := VecWindow.window X.x7 ![0, 0, 256] S1x128x128.size inb_S1x128x512_S1x128x128_0_0_256
  let v711 := word X.x2 ![4] inb_S8_S1_4
  let v698 := k0_pay107 v694 v696
  let v703 := k0_pay108 v699 v701
  let v705 := k0_pay109 v704
  let v706 := k0_pay110 (F := F)
  let v710 := k0_pay111 v562 v577 v694 v696 v704
  let v734 := word X.x2 ![5] inb_S8_S1_5
  let osw3 := VecWindow.put osw2 ![0, 0, 256] S1x128x128.size (k0_pay112 v562 v577 v698 v703 v705 v706 v710 v711 v734)
  let v757 := VecWindow.window X.x7 ![0, 0, 384] S1x128x128.size inb_S1x128x512_S1x128x128_0_0_384
  let v764 := word X.x2 ![6] inb_S8_S1_6
  let v787 := word X.x2 ![7] inb_S8_S1_7
  let cst_293 := constant S128x128 .f32 0x00000000#32
  let v781 := k0_pay115 v562 v577 v698 v703 v757 v764
  let v800 := k0_pay119 v562 v577 v698 v757 v787
  let v801 := k0_pay120 v562 v577 v698 v757 v787
  let osw4 := VecWindow.put osw3 ![0, 0, 384] S1x128x128.size (k0_pay178 v562 v703 v781 v800 v801 cst_293)
  (⟨carry4, acc4, live1⟩, osw4)

/-- The first block of a point with fewer than three blocks before its own. -/
def edgeFrom (X : Ins F) (i : grid0.Coords) (hi : k0_cond2 i = 1#1) (carry0 acc0 : Vec F S4x256x128 .f32)
    (osw0 : Vec F S1x128x512 .bf16) : St F × Vec F S1x128x512 .bf16 :=
  let v72 := VecWindow.window X.x4 (k0_off5 i) S1x128x128.size (k0_off5_inb i hi)
  let v74 := VecWindow.window X.x3 ![0, 0, 0] S1x128x128.size inb_S1x128x512_S1x128x128_0_0_0
  let v94 := VecWindow.window X.x6 ![0, 0] S128x256.size inb_S128x256_S128x256_0_0
  let v102 := VecWindow.window X.x5 (k0_off5 i) S1x128x128.size (k0_off5_inb i hi)
  let v100 := k0_pay123 k0_pay176 k0_pay177 v72 v74 v94
  let v107 := k0_pay124 k0_pay176 k0_pay177 v72 v74 v94 v102
  let acc1 := VecWindow.put acc0 ![0, 0, 0] S1x256x128.size v107
  let carry1 := VecWindow.put carry0 ![0, 0, 0] S1x256x128.size (k0_pay125 v100)
  let v112 := VecWindow.window X.x4 (k0_off6 i) S1x128x128.size (k0_off6_inb i hi)
  let v114 := VecWindow.window X.x3 ![0, 0, 128] S1x128x128.size inb_S1x128x512_S1x128x128_0_0_128
  let v134 := VecWindow.window X.x6 ![0, 0] S128x256.size inb_S128x256_S128x256_0_0
  let v142 := VecWindow.window X.x5 (k0_off6 i) S1x128x128.size (k0_off6_inb i hi)
  let v140 := k0_pay128 k0_pay176 k0_pay177 v112 v114 v134
  let v144 := k0_pay129 k0_pay176 k0_pay177 v112 v114 v134 v142
  let acc2 := VecWindow.put acc1 ![1, 0, 0] S1x256x128.size (k0_pay130 v144)
  let carry2 := VecWindow.put carry1 ![1, 0, 0] S1x256x128.size (k0_pay131 v140)
  let v152 := VecWindow.window X.x4 (k0_off7 i) S1x128x128.size (k0_off7_inb i hi)
  let v154 := VecWindow.window X.x3 ![0, 0, 256] S1x128x128.size inb_S1x128x512_S1x128x128_0_0_256
  let v174 := VecWindow.window X.x6 ![0, 0] S128x256.size inb_S128x256_S128x256_0_0
  let v179 := k0_pay134 k0_pay176 k0_pay177 v152 v154 v174
  let v180 := k0_pay135 k0_pay176 k0_pay177 v152 v154 v174
  let v182 := VecWindow.window X.x5 (k0_off7 i) S1x128x128.size (k0_off7_inb i hi)
  let acc3 := VecWindow.put acc2 ![2, 0, 0] S1x256x128.size (k0_pay136 v179 v182)
  let carry3 := VecWindow.put carry2 ![2, 0, 0] S1x256x128.size (k0_pay137 v180)
  let v192 := VecWindow.window X.x4 (k0_off8 i) S1x128x128.size (k0_off8_inb i hi)
  let v194 := VecWindow.window X.x3 ![0, 0, 384] S1x128x128.size inb_S1x128x512_S1x128x128_0_0_384
  let v214 := VecWindow.window X.x6 ![0, 0] S128x256.size inb_S128x256_S128x256_0_0
  let v215 := k0_pay139 k0_pay176 k0_pay177 v192 v194 v214
  let v218 := k0_pay140 k0_pay176 k0_pay177 v192 v194 v214
  let v222 := VecWindow.window X.x5 (k0_off8 i) S1x128x128.size (k0_off8_inb i hi)
  let acc4 := VecWindow.put acc3 ![3, 0, 0] S1x256x128.size (k0_pay142 v218 v222)
  let carry4 := VecWindow.put carry3 ![3, 0, 0] S1x256x128.size (k0_pay143 v215)
  let v220 := k0_pay141 v215
  let v245 := k0_pay144 v100
  let v260 := k0_pay145 v140
  let v266 := k0_pay146 v180
  let v267 := k0_pay147 v180
  let live1 := k0_pay148 v220 v245 v260 v266 v267
  let v301 := k0_pay149
  let v316 := k0_pay150 (BitVec.ofNat 32 (i 1).val)
  let v317 := VecWindow.window X.x8 ![0, 0, 0] S1x128x128.size inb_S1x128x256_S1x128x128_0_0_0
  let v319 := VecWindow.window X.x9 ![0, 0, 0] S1x128x128.size inb_S1x128x256_S1x128x128_0_0_0
  let v322 := VecWindow.window X.x10 ![0, 0, 0] S1x128x128.size inb_S1x128x256_S1x128x128_0_0_0
  let v324 := VecWindow.window X.x11 ![0, 0, 0] S1x128x128.size inb_S1x128x256_S1x128x128_0_0_0
  let v327 := VecWindow.window X.x7 ![0, 0, 0] S1x128x128.size inb_S1x128x512_S1x128x128_0_0_0
  let v334 := word X.x2 ![0] inb_S8_S1_0
  let v321 := k0_pay151 v317 v319
  let v326 := k0_pay152 v322 v324
  let v351 := k0_pay155 v301 v316 v317 v319 v322 v324 v327 v334
  let v354 := k0_pay156 v301 v317 v319 v327
  let v357 := word X.x2 ![1] inb_S8_S1_1
  let osw1 := VecWindow.put osw0 ![0, 0, 0] S1x128x128.size (k0_pay157 v301 v316 v326 v351 v354 v357)
  let v380 := VecWindow.window X.x7 ![0, 0, 128] S1x128x128.size inb_S1x128x512_S1x128x128_0_0_128
  let v387 := word X.x2 ![2] inb_S8_S1_2
  let v381 := k0_pay158 v380
  let v382 := k0_pay159 (F := F)
  let v391 := k0_pay161 v301 v316 v321 v380 v387
  let v394 := k0_pay162 v301 v316 v321 v380 v387
  let v396 := k0_pay163 v301 v316 v321 v380 v387
  let v410 := word X.x2 ![3] inb_S8_S1_3
  let osw2 := VecWindow.put osw1 ![0, 0, 128] S1x128x128.size (k0_pay164 v301 v316 v321 v326 v381 v382 v387 v391 v394 v396 v410)
  let v433 := VecWindow.window X.x8 ![0, 0, 128] S1x128x128.size inb_S1x128x256_S1x128x128_0_0_128
  let v435 := VecWindow.window X.x9 ![0, 0, 128] S1x128x128.size inb_S1x128x256_S1x128x128_0_0_128
  let v437 := (k0_pay165 v433 v435)
  let v438 := VecWindow.window X.x10 ![0, 0, 128] S1x128x128.size inb_S1x128x256_S1x128x128_0_0_128
  let v440 := VecWindow.window X.x11 ![0, 0, 128] S1x128x128.size inb_S1x128x256_S1x128x128_0_0_128
  let v443 := VecWindow.window X.x7 ![0, 0, 256] S1x128x128.size inb_S1x128x512_S1x128x128_0_0_256
  let v450 := word X.x2 ![4] inb_S8_S1_4
  let v473 := word X.x2 ![5] inb_S8_S1_5
  let v442 := k0_pay166 v438 v440
  let v467 := k0_pay169 v301 v316 v437 v438 v440 v443 v450
  let v472 := k0_pay170 v301 v316 v437 v443
  let v477 := k0_pay171 v301 v316 v437 v443 v473
  let osw3 := VecWindow.put osw2 ![0, 0, 256] S1x128x128.size (k0_pay172 v301 v442 v467 v472 v473 v477)
  let v496 := VecWindow.window X.x7 ![0, 0, 384] S1x128x128.size inb_S1x128x512_S1x128x128_0_0_384
  let v503 := word X.x2 ![6] inb_S8_S1_6
  let cst_215 := constantI S128x128 1 1#1
  let v497 := k0_pay173 v496
  let v498 := k0_pay174 (F := F)
  let v520 := k0_pay175 v301 v316 v437 v442 v496 v503
  let v526 := word X.x2 ![7] inb_S8_S1_7
  let osw4 := VecWindow.put osw3 ![0, 0, 384] S1x128x128.size (k0_pay179 v301 v316 v437 v442 v497 v498 v520 cst_215 v526)
  (⟨carry4, acc4, live1⟩, osw4)

/-- The key block of a trip with `n` blocks to go. -/
def jw (n : ℕ) : BitVec 32 := Scalar.subi (BitVec.ofNat 32 n) 1#32

/-- The loop's test: some entry of the running log is still above the cut. -/
def goes (l : F .f32) : BitVec 1 := Scalar.cmpf .ogt l (Named.named κ "skip" 0xC2F00000#32)

/-- The loop from a state with `n` blocks to go. -/
def run (X : Ins F) (v2 : IVec S128x128 1) : ℕ → St F → St F
  | 0, s => s
  | n + 1, s => if goes s.live = 1#1 then (if h : k0_chk1 (jw (n + 1)) then run X v2 n (tripStep X v2 (jw (n + 1)) h s) else s) else s

/-- The blocks left to the loop at query block `b`. -/
def left (b : ℕ) : ℕ := if 3 ≤ b then b - 3 else b

/-- A point's state before its loop, and its block of the sliding window's output. -/
def start (X : Ins F) (i : grid0.Coords) : St F × Vec F S1x128x512 .bf16 :=
  if h : k0_cond1 i = 1#1 then bandFrom X i h base base baseO
  else if h : k0_cond2 i = 1#1 then edgeFrom X i h base base baseO else (⟨base, base, FloatOps.ofBits .f32 0x00000000#32⟩, baseO)

/-- The stick-breaking output block, from the accumulated output. -/
def outFrom (acc : Vec F S4x256x128 .f32) (o : Vec F S1x128x512 .bf16) : Vec F S1x128x512 .bf16 :=
  VecWindow.put (VecWindow.put (VecWindow.put (VecWindow.put o
    ![0, 0, 0] S1x128x128.size (k0_pay1 (k0_pay180 (VecWindow.window acc ![0, 0, 0] S1x256x128.size inb_S4x256x128_S1x256x128_0_0_0))))
    ![0, 0, 128] S1x128x128.size (k0_pay2 k0_pay176 (VecWindow.window acc ![1, 0, 0] S1x256x128.size inb_S4x256x128_S1x256x128_1_0_0)))
    ![0, 0, 256] S1x128x128.size (k0_pay3 k0_pay176 (VecWindow.window acc ![2, 0, 0] S1x256x128.size inb_S4x256x128_S1x256x128_2_0_0)))
    ![0, 0, 384] S1x128x128.size (k0_pay4 k0_pay176 (VecWindow.window acc ![3, 0, 0] S1x256x128.size inb_S4x256x128_S1x256x128_3_0_0))

/-- A point's block of the stick-breaking output. -/
def outSb (X : Ins F) (i : grid0.Coords) : Vec F S1x128x512 .bf16 :=
  outFrom (run X k0_pay176 (left (i 1).val) (start X i).1).acc baseO

/-- A point's block of the sliding window's output. -/
def outSw (X : Ins F) (i : grid0.Coords) : Vec F S1x128x512 .bf16 := (start X i).2

end Cert.KernelIdeal.Hand

end
-- ==== Proof.KI.Blocks.lean ====
module

public import proofs.«01_k».proof.Proof.KI.Values

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

/-! The stick-breaking half of a grid point, slab by slab: what the printed steps compose to. -/

/-- A slab put apart from the one read changes nothing there. -/
theorem slab_put_ne {e : EltTy} (x : Vec F S4x256x128 e) (m n : ℕ) (h : m ≠ n) (inb : ∀ a, ![n, 0, 0] a + ![1, 256, 128] a ≤ S4x256x128.size a)
    (w : Vec F S1x256x128 e) :
    VecWindow.window (VecWindow.put x ![m, 0, 0] ![1, 256, 128] w) ![n, 0, 0] ![1, 256, 128] inb
      = VecWindow.window x ![n, 0, 0] ![1, 256, 128] inb :=
  VecWindow.window_put_of_disjoint x ![m, 0, 0] ![1, 256, 128] ![n, 0, 0] ![1, 256, 128] inb w (0 : Fin 3)
    (by show n + 1 ≤ m ∨ m + 1 ≤ n; omega)

/-- The slab just put is what was put. -/
theorem slab_put_eq {e : EltTy} (x : Vec F S4x256x128 e) (n : ℕ) (inb : ∀ a, ![n, 0, 0] a + ![1, 256, 128] a ≤ S4x256x128.size a)
    (w : Vec F S1x256x128 e) :
    VecWindow.window (VecWindow.put x ![n, 0, 0] ![1, 256, 128] w) ![n, 0, 0] ![1, 256, 128] inb = w :=
  VecWindow.window_put_same x ![n, 0, 0] ![1, 256, 128] inb w

/-- The negated, scaled scores of two heads' queries against a block of keys. -/
def zNeg (k q : Vec F S1x128x128 .bf16) : FVec F S256x128 .f32 := k0_pay188 k0_pay176 k q

/-- The log of what the stick keeps at each key. -/
def lkOf (z : FVec F S256x128 .f32) : FVec F S256x128 .bf16 :=
  truncf .bf16 (subf (minimumf z (broadcast S256x128 (Scalar.ofBits .f32 0x00000000#32)))
    (log (addf (broadcast S256x128 (Scalar.ofBits .f32 0x3F800000#32))
      (exp2 (mulf (absf z) (broadcast S256x128 (Named.named κ "neg_log2e" 0xBFB8AA3B#32))))))) bitsLt_bf16_f32

/-- Its sums from each key to the block's end. -/
def sufOf (z : FVec F S256x128 .f32) (cum : Vec F S128x256 .bf16) : FVec F S256x128 .f32 :=
  extractStridedSlice S256x128 ![0, 0] (k0_pay191 (lkOf z) cum) slices_S256x256_o0_0_S256x128

/-- Its sum over the block. -/
def totOf (z : FVec F S256x128 .f32) (cum : Vec F S128x256 .bf16) : FVec F S256x128 .f32 :=
  extractStridedSlice S256x128 ![0, 128] (k0_pay191 (lkOf z) cum) slices_S256x256_o0_128_S256x128

/-- The weights of the block that ends the keys. -/
def wFirst (z : FVec F S256x128 .f32) (cum : Vec F S128x256 .bf16) : FVec F S256x128 .bf16 :=
  truncf .bf16 (exp (subf (sufOf z cum) z)) bitsLt_bf16_f32

/-- The weights of an earlier block, from the log of the stick left. -/
def wOf (z : FVec F S256x128 .f32) (cum : Vec F S128x256 .bf16) (c : FVec F S256x128 .f32) : FVec F S256x128 .bf16 :=
  truncf .bf16 (exp (addf (subf (sufOf z cum) z) c)) bitsLt_bf16_f32

/-- A block's weights against its values. -/
def pv (w : FVec F S256x128 .bf16) (v : Vec F S1x128x128 .bf16) : FVec F S256x128 .f32 :=
  matmul dot_S256x128_S128x128_S256x128_1_0_0_1_n_n none w (shapeCast S128x128 v shapeCasts_S1x128x128_S128x128)
    (constant S256x128 .f32 0x00000000#32)

/-- Slab to matrix. -/
abbrev down (x : Vec F S1x256x128 .f32) : FVec F S256x128 .f32 := shapeCast S256x128 x shapeCasts_S1x256x128_S256x128
/-- Matrix to slab. -/
abbrev up (x : FVec F S256x128 .f32) : FVec F S1x256x128 .f32 := shapeCast S1x256x128 x shapeCasts_S256x128_S1x256x128

/-- Four blocks' scores, the last with its own keys masked. -/
def zDiag (z : FVec F S256x512 .f32) : FVec F S256x128 .f32 := k0_pay10 k0_pay177 z
/-- One block's scores, its own keys masked. -/
def zDiag1 (k q : Vec F S1x128x128 .bf16) : FVec F S256x128 .f32 := k0_pay121 k0_pay176 k0_pay177 k q
def zB2 (z : FVec F S256x512 .f32) : FVec F S256x128 .f32 := extractStridedSlice S256x128 ![0, 256] z slices_S256x512_o0_256_S256x128
def zB1 (z : FVec F S256x512 .f32) : FVec F S256x128 .f32 := extractStridedSlice S256x128 ![0, 128] z slices_S256x512_o0_128_S256x128
def zB0 (z : FVec F S256x512 .f32) : FVec F S256x128 .f32 := extractStridedSlice S256x128 ![0, 0] z slices_S256x512_o0_0_S256x128
/-- The log of the stick left before the last one, two, three and four blocks. -/
def bc1 (z : FVec F S256x512 .f32) (cum : Vec F S128x256 .bf16) : FVec F S256x128 .f32 := totOf (zDiag z) cum
def bc2 (z : FVec F S256x512 .f32) (cum : Vec F S128x256 .bf16) : FVec F S256x128 .f32 := addf (bc1 z cum) (totOf (zB2 z) cum)
def bc3 (z : FVec F S256x512 .f32) (cum : Vec F S128x256 .bf16) : FVec F S256x128 .f32 := addf (bc2 z cum) (totOf (zB1 z) cum)
def bc4 (z : FVec F S256x512 .f32) (cum : Vec F S128x256 .bf16) : FVec F S256x128 .f32 := addf (bc3 z cum) (totOf (zB0 z) cum)
/-- Four blocks' weights side by side. -/
def wBand (z : FVec F S256x512 .f32) (cum : Vec F S128x256 .bf16) : FVec F S256x512 .bf16 :=
  concatenate S256x512 1 [⟨S256x128, wOf (zB0 z) cum (bc3 z cum)⟩, ⟨S256x128, wOf (zB1 z) cum (bc2 z cum)⟩,
    ⟨S256x128, wOf (zB2 z) cum (bc1 z cum)⟩, ⟨S256x128, wFirst (zDiag z) cum⟩]
    concatenates_S256x128_S256x128_S256x128_S256x128_S256x512_d1
/-- Four blocks' weights against their values. -/
def pvBand (w : FVec F S256x512 .bf16) (v : Vec F S1x512x128 .bf16) : FVec F S256x128 .f32 :=
  matmul dot_S256x512_S512x128_S256x128_1_0_0_1_n_n none w (shapeCast S512x128 v shapeCasts_S1x512x128_S512x128)
    (constant S256x128 .f32 0x00000000#32)

/-- The block of running sums' coefficients. -/
abbrev cumW (X : Ins F) : Vec F S128x256 .bf16 := VecWindow.window X.x6 ![0, 0] S128x256.size inb_S128x256_S128x256_0_0

section Trip
variable (X : Ins F) (j : BitVec 32) (hj : k0_chk1 j) (s : St F)

/-- A trip adds the block's sum to slab 0 of the running log … -/
theorem trip_carry0 : VecWindow.window (tripStep X k0_pay176 j hj s).carry ![0, 0, 0] S1x256x128.size inb_S4x256x128_S1x256x128_0_0_0
    = up (addf (down (VecWindow.window s.carry ![0, 0, 0] S1x256x128.size inb_S4x256x128_S1x256x128_0_0_0)) (totOf (zNeg (VecWindow.window X.x4 (k0_off9 j) S1x128x128.size (k0_off9_inb j hj)) (VecWindow.window X.x3 ![0, 0, 0] S1x128x128.size inb_S1x128x512_S1x128x128_0_0_0)) (cumW X))) := by
  simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 0 _ _).trans rfl

/-- … and the block's weighted values to slab 0 of the output. -/
theorem trip_acc0 : VecWindow.window (tripStep X k0_pay176 j hj s).acc ![0, 0, 0] S1x256x128.size inb_S4x256x128_S1x256x128_0_0_0
    = up (addf (down (VecWindow.window s.acc ![0, 0, 0] S1x256x128.size inb_S4x256x128_S1x256x128_0_0_0)) (pv (wOf (zNeg (VecWindow.window X.x4 (k0_off9 j) S1x128x128.size (k0_off9_inb j hj)) (VecWindow.window X.x3 ![0, 0, 0] S1x128x128.size inb_S1x128x512_S1x128x128_0_0_0)) (cumW X) (down (VecWindow.window s.carry ![0, 0, 0] S1x256x128.size inb_S4x256x128_S1x256x128_0_0_0))) (VecWindow.window X.x5 (k0_off9 j) S1x128x128.size (k0_off9_inb j hj)))) := by
  simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 0 _ _).trans rfl

/-- A trip adds the block's sum to slab 1 of the running log … -/
theorem trip_carry1 : VecWindow.window (tripStep X k0_pay176 j hj s).carry ![1, 0, 0] S1x256x128.size inb_S4x256x128_S1x256x128_1_0_0
    = up (addf (down (VecWindow.window s.carry ![1, 0, 0] S1x256x128.size inb_S4x256x128_S1x256x128_1_0_0)) (totOf (zNeg (VecWindow.window X.x4 (k0_off10 j) S1x128x128.size (k0_off10_inb j hj)) (VecWindow.window X.x3 ![0, 0, 128] S1x128x128.size inb_S1x128x512_S1x128x128_0_0_128)) (cumW X))) := by
  simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 1 _ _).trans rfl

/-- … and the block's weighted values to slab 1 of the output. -/
theorem trip_acc1 : VecWindow.window (tripStep X k0_pay176 j hj s).acc ![1, 0, 0] S1x256x128.size inb_S4x256x128_S1x256x128_1_0_0
    = up (addf (down (VecWindow.window s.acc ![1, 0, 0] S1x256x128.size inb_S4x256x128_S1x256x128_1_0_0)) (pv (wOf (zNeg (VecWindow.window X.x4 (k0_off10 j) S1x128x128.size (k0_off10_inb j hj)) (VecWindow.window X.x3 ![0, 0, 128] S1x128x128.size inb_S1x128x512_S1x128x128_0_0_128)) (cumW X) (down (VecWindow.window s.carry ![1, 0, 0] S1x256x128.size inb_S4x256x128_S1x256x128_1_0_0))) (VecWindow.window X.x5 (k0_off10 j) S1x128x128.size (k0_off10_inb j hj)))) := by
  simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 1 _ _).trans rfl

/-- A trip adds the block's sum to slab 2 of the running log … -/
theorem trip_carry2 : VecWindow.window (tripStep X k0_pay176 j hj s).carry ![2, 0, 0] S1x256x128.size inb_S4x256x128_S1x256x128_2_0_0
    = up (addf (down (VecWindow.window s.carry ![2, 0, 0] S1x256x128.size inb_S4x256x128_S1x256x128_2_0_0)) (totOf (zNeg (VecWindow.window X.x4 (k0_off11 j) S1x128x128.size (k0_off11_inb j hj)) (VecWindow.window X.x3 ![0, 0, 256] S1x128x128.size inb_S1x128x512_S1x128x128_0_0_256)) (cumW X))) := by
  simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 2 _ _).trans rfl

/-- … and the block's weighted values to slab 2 of the output. -/
theorem trip_acc2 : VecWindow.window (tripStep X k0_pay176 j hj s).acc ![2, 0, 0] S1x256x128.size inb_S4x256x128_S1x256x128_2_0_0
    = up (addf (down (VecWindow.window s.acc ![2, 0, 0] S1x256x128.size inb_S4x256x128_S1x256x128_2_0_0)) (pv (wOf (zNeg (VecWindow.window X.x4 (k0_off11 j) S1x128x128.size (k0_off11_inb j hj)) (VecWindow.window X.x3 ![0, 0, 256] S1x128x128.size inb_S1x128x512_S1x128x128_0_0_256)) (cumW X) (down (VecWindow.window s.carry ![2, 0, 0] S1x256x128.size inb_S4x256x128_S1x256x128_2_0_0))) (VecWindow.window X.x5 (k0_off11 j) S1x128x128.size (k0_off11_inb j hj)))) := by
  simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 2 _ _).trans rfl

/-- A trip adds the block's sum to slab 3 of the running log … -/
theorem trip_carry3 : VecWindow.window (tripStep X k0_pay176 j hj s).carry ![3, 0, 0] S1x256x128.size inb_S4x256x128_S1x256x128_3_0_0
    = up (addf (down (VecWindow.window s.carry ![3, 0, 0] S1x256x128.size inb_S4x256x128_S1x256x128_3_0_0)) (totOf (zNeg (VecWindow.window X.x4 (k0_off12 j) S1x128x128.size (k0_off12_inb j hj)) (VecWindow.window X.x3 ![0, 0, 384] S1x128x128.size inb_S1x128x512_S1x128x128_0_0_384)) (cumW X))) := by
  simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 3 _ _).trans rfl

/-- … and the block's weighted values to slab 3 of the output. -/
theorem trip_acc3 : VecWindow.window (tripStep X k0_pay176 j hj s).acc ![3, 0, 0] S1x256x128.size inb_S4x256x128_S1x256x128_3_0_0
    = up (addf (down (VecWindow.window s.acc ![3, 0, 0] S1x256x128.size inb_S4x256x128_S1x256x128_3_0_0)) (pv (wOf (zNeg (VecWindow.window X.x4 (k0_off12 j) S1x128x128.size (k0_off12_inb j hj)) (VecWindow.window X.x3 ![0, 0, 384] S1x128x128.size inb_S1x128x512_S1x128x128_0_0_384)) (cumW X) (down (VecWindow.window s.carry ![3, 0, 0] S1x256x128.size inb_S4x256x128_S1x256x128_3_0_0))) (VecWindow.window X.x5 (k0_off12 j) S1x128x128.size (k0_off12_inb j hj)))) := by
  simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 3 _ _).trans rfl

/-- A trip's test value is a maximum over, among others, the last slab of the running log it leaves. -/
theorem trip_live : ∃ b c d, (tripStep X k0_pay176 j hj s).live
    = k0_pay5 (addf (down (VecWindow.window s.carry ![3, 0, 0] S1x256x128.size inb_S4x256x128_S1x256x128_3_0_0))
      (totOf (zNeg (VecWindow.window X.x4 (k0_off12 j) S1x128x128.size (k0_off12_inb j hj))
        (VecWindow.window X.x3 ![0, 0, 384] S1x128x128.size inb_S1x128x512_S1x128x128_0_0_384)) (cumW X))) b c d := by
  refine ⟨?_, ?_, ?_, ?_⟩
  rotate_left 3
  · simp only [tripStep, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 2), slab_put_ne _ _ _ (by decide : (1:ℕ) ≠ 3), slab_put_ne _ _ _ (by decide : (2:ℕ) ≠ 3)]
    rfl

end Trip

section Band
variable (X : Ins F) (i : grid0.Coords) (hi : k0_cond1 i = 1#1) (c0 a0 : Vec F S4x256x128 .f32) (o0 : Vec F S1x128x512 .bf16)

/-- Slab 0 of the running log after the first four blocks … -/
theorem band_carry0 : VecWindow.window (bandFrom X i hi c0 a0 o0).1.carry ![0, 0, 0] S1x256x128.size inb_S4x256x128_S1x256x128_0_0_0
    = up (bc4 (k0_pay6 k0_pay176 (VecWindow.window X.x4 (k0_off1 i) S1x512x128.size (k0_off1_inb i hi)) (VecWindow.window X.x3 ![0, 0, 0] S1x128x128.size inb_S1x128x512_S1x128x128_0_0_0)) (cumW X)) := by
  simp only [bandFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 0 _ _).trans rfl

/-- … and slab 0 of the output. -/
theorem band_acc0 : VecWindow.window (bandFrom X i hi c0 a0 o0).1.acc ![0, 0, 0] S1x256x128.size inb_S4x256x128_S1x256x128_0_0_0
    = up (pvBand (wBand (k0_pay6 k0_pay176 (VecWindow.window X.x4 (k0_off1 i) S1x512x128.size (k0_off1_inb i hi)) (VecWindow.window X.x3 ![0, 0, 0] S1x128x128.size inb_S1x128x512_S1x128x128_0_0_0)) (cumW X)) (VecWindow.window X.x5 (k0_off1 i) S1x512x128.size (k0_off1_inb i hi))) := by
  simp only [bandFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 0 _ _).trans rfl

/-- Slab 1 of the running log after the first four blocks … -/
theorem band_carry1 : VecWindow.window (bandFrom X i hi c0 a0 o0).1.carry ![1, 0, 0] S1x256x128.size inb_S4x256x128_S1x256x128_1_0_0
    = up (bc4 (k0_pay6 k0_pay176 (VecWindow.window X.x4 (k0_off2 i) S1x512x128.size (k0_off2_inb i hi)) (VecWindow.window X.x3 ![0, 0, 128] S1x128x128.size inb_S1x128x512_S1x128x128_0_0_128)) (cumW X)) := by
  simp only [bandFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 1 _ _).trans rfl

/-- … and slab 1 of the output. -/
theorem band_acc1 : VecWindow.window (bandFrom X i hi c0 a0 o0).1.acc ![1, 0, 0] S1x256x128.size inb_S4x256x128_S1x256x128_1_0_0
    = up (pvBand (wBand (k0_pay6 k0_pay176 (VecWindow.window X.x4 (k0_off2 i) S1x512x128.size (k0_off2_inb i hi)) (VecWindow.window X.x3 ![0, 0, 128] S1x128x128.size inb_S1x128x512_S1x128x128_0_0_128)) (cumW X)) (VecWindow.window X.x5 (k0_off2 i) S1x512x128.size (k0_off2_inb i hi))) := by
  simp only [bandFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 1 _ _).trans rfl

/-- Slab 2 of the running log after the first four blocks … -/
theorem band_carry2 : VecWindow.window (bandFrom X i hi c0 a0 o0).1.carry ![2, 0, 0] S1x256x128.size inb_S4x256x128_S1x256x128_2_0_0
    = up (bc4 (k0_pay6 k0_pay176 (VecWindow.window X.x4 (k0_off3 i) S1x512x128.size (k0_off3_inb i hi)) (VecWindow.window X.x3 ![0, 0, 256] S1x128x128.size inb_S1x128x512_S1x128x128_0_0_256)) (cumW X)) := by
  simp only [bandFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 2 _ _).trans rfl

/-- … and slab 2 of the output. -/
theorem band_acc2 : VecWindow.window (bandFrom X i hi c0 a0 o0).1.acc ![2, 0, 0] S1x256x128.size inb_S4x256x128_S1x256x128_2_0_0
    = up (pvBand (wBand (k0_pay6 k0_pay176 (VecWindow.window X.x4 (k0_off3 i) S1x512x128.size (k0_off3_inb i hi)) (VecWindow.window X.x3 ![0, 0, 256] S1x128x128.size inb_S1x128x512_S1x128x128_0_0_256)) (cumW X)) (VecWindow.window X.x5 (k0_off3 i) S1x512x128.size (k0_off3_inb i hi))) := by
  simp only [bandFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 2 _ _).trans rfl

/-- Slab 3 of the running log after the first four blocks … -/
theorem band_carry3 : VecWindow.window (bandFrom X i hi c0 a0 o0).1.carry ![3, 0, 0] S1x256x128.size inb_S4x256x128_S1x256x128_3_0_0
    = up (bc4 (k0_pay6 k0_pay176 (VecWindow.window X.x4 (k0_off4 i) S1x512x128.size (k0_off4_inb i hi)) (VecWindow.window X.x3 ![0, 0, 384] S1x128x128.size inb_S1x128x512_S1x128x128_0_0_384)) (cumW X)) := by
  simp only [bandFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 3 _ _).trans rfl

/-- … and slab 3 of the output. -/
theorem band_acc3 : VecWindow.window (bandFrom X i hi c0 a0 o0).1.acc ![3, 0, 0] S1x256x128.size inb_S4x256x128_S1x256x128_3_0_0
    = up (pvBand (wBand (k0_pay6 k0_pay176 (VecWindow.window X.x4 (k0_off4 i) S1x512x128.size (k0_off4_inb i hi)) (VecWindow.window X.x3 ![0, 0, 384] S1x128x128.size inb_S1x128x512_S1x128x128_0_0_384)) (cumW X)) (VecWindow.window X.x5 (k0_off4 i) S1x512x128.size (k0_off4_inb i hi))) := by
  simp only [bandFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 3 _ _).trans rfl

/-- The test value after the first four blocks is a maximum over, among others, the last slab of the running log. -/
theorem band_live : ∃ a b c, (bandFrom X i hi c0 a0 o0).1.live = k0_pay92 (k0_pay91 a b (bc4 (k0_pay6 k0_pay176 (VecWindow.window X.x4 (k0_off4 i) S1x512x128.size (k0_off4_inb i hi)) (VecWindow.window X.x3 ![0, 0, 384] S1x128x128.size inb_S1x128x512_S1x128x128_0_0_384)) (cumW X)) c) := by
  refine ⟨?_, ?_, ?_, ?_⟩
  rotate_left 3
  · simp only [bandFrom]
    rfl

end Band

section Edge
variable (X : Ins F) (i : grid0.Coords) (hi : k0_cond2 i = 1#1) (c0 a0 : Vec F S4x256x128 .f32) (o0 : Vec F S1x128x512 .bf16)

/-- Slab 0 of the running log after the first block … -/
theorem edge_carry0 : VecWindow.window (edgeFrom X i hi c0 a0 o0).1.carry ![0, 0, 0] S1x256x128.size inb_S4x256x128_S1x256x128_0_0_0
    = up (totOf (zDiag1 (VecWindow.window X.x4 (k0_off5 i) S1x128x128.size (k0_off5_inb i hi)) (VecWindow.window X.x3 ![0, 0, 0] S1x128x128.size inb_S1x128x512_S1x128x128_0_0_0)) (cumW X)) := by
  simp only [edgeFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 0 _ _).trans rfl

/-- … and slab 0 of the output. -/
theorem edge_acc0 : VecWindow.window (edgeFrom X i hi c0 a0 o0).1.acc ![0, 0, 0] S1x256x128.size inb_S4x256x128_S1x256x128_0_0_0
    = up (pv (wFirst (zDiag1 (VecWindow.window X.x4 (k0_off5 i) S1x128x128.size (k0_off5_inb i hi)) (VecWindow.window X.x3 ![0, 0, 0] S1x128x128.size inb_S1x128x512_S1x128x128_0_0_0)) (cumW X)) (VecWindow.window X.x5 (k0_off5 i) S1x128x128.size (k0_off5_inb i hi))) := by
  simp only [edgeFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 0 _ _).trans rfl

/-- Slab 1 of the running log after the first block … -/
theorem edge_carry1 : VecWindow.window (edgeFrom X i hi c0 a0 o0).1.carry ![1, 0, 0] S1x256x128.size inb_S4x256x128_S1x256x128_1_0_0
    = up (totOf (zDiag1 (VecWindow.window X.x4 (k0_off6 i) S1x128x128.size (k0_off6_inb i hi)) (VecWindow.window X.x3 ![0, 0, 128] S1x128x128.size inb_S1x128x512_S1x128x128_0_0_128)) (cumW X)) := by
  simp only [edgeFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 1 _ _).trans rfl

/-- … and slab 1 of the output. -/
theorem edge_acc1 : VecWindow.window (edgeFrom X i hi c0 a0 o0).1.acc ![1, 0, 0] S1x256x128.size inb_S4x256x128_S1x256x128_1_0_0
    = up (pv (wFirst (zDiag1 (VecWindow.window X.x4 (k0_off6 i) S1x128x128.size (k0_off6_inb i hi)) (VecWindow.window X.x3 ![0, 0, 128] S1x128x128.size inb_S1x128x512_S1x128x128_0_0_128)) (cumW X)) (VecWindow.window X.x5 (k0_off6 i) S1x128x128.size (k0_off6_inb i hi))) := by
  simp only [edgeFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 1 _ _).trans rfl

/-- Slab 2 of the running log after the first block … -/
theorem edge_carry2 : VecWindow.window (edgeFrom X i hi c0 a0 o0).1.carry ![2, 0, 0] S1x256x128.size inb_S4x256x128_S1x256x128_2_0_0
    = up (totOf (zDiag1 (VecWindow.window X.x4 (k0_off7 i) S1x128x128.size (k0_off7_inb i hi)) (VecWindow.window X.x3 ![0, 0, 256] S1x128x128.size inb_S1x128x512_S1x128x128_0_0_256)) (cumW X)) := by
  simp only [edgeFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 2 _ _).trans rfl

/-- … and slab 2 of the output. -/
theorem edge_acc2 : VecWindow.window (edgeFrom X i hi c0 a0 o0).1.acc ![2, 0, 0] S1x256x128.size inb_S4x256x128_S1x256x128_2_0_0
    = up (pv (wFirst (zDiag1 (VecWindow.window X.x4 (k0_off7 i) S1x128x128.size (k0_off7_inb i hi)) (VecWindow.window X.x3 ![0, 0, 256] S1x128x128.size inb_S1x128x512_S1x128x128_0_0_256)) (cumW X)) (VecWindow.window X.x5 (k0_off7 i) S1x128x128.size (k0_off7_inb i hi))) := by
  simp only [edgeFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 2 _ _).trans rfl

/-- Slab 3 of the running log after the first block … -/
theorem edge_carry3 : VecWindow.window (edgeFrom X i hi c0 a0 o0).1.carry ![3, 0, 0] S1x256x128.size inb_S4x256x128_S1x256x128_3_0_0
    = up (totOf (zDiag1 (VecWindow.window X.x4 (k0_off8 i) S1x128x128.size (k0_off8_inb i hi)) (VecWindow.window X.x3 ![0, 0, 384] S1x128x128.size inb_S1x128x512_S1x128x128_0_0_384)) (cumW X)) := by
  simp only [edgeFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 3 _ _).trans rfl

/-- … and slab 3 of the output. -/
theorem edge_acc3 : VecWindow.window (edgeFrom X i hi c0 a0 o0).1.acc ![3, 0, 0] S1x256x128.size inb_S4x256x128_S1x256x128_3_0_0
    = up (pv (wFirst (zDiag1 (VecWindow.window X.x4 (k0_off8 i) S1x128x128.size (k0_off8_inb i hi)) (VecWindow.window X.x3 ![0, 0, 384] S1x128x128.size inb_S1x128x512_S1x128x128_0_0_384)) (cumW X)) (VecWindow.window X.x5 (k0_off8 i) S1x128x128.size (k0_off8_inb i hi))) := by
  simp only [edgeFrom, slab_put_ne _ _ _ (by decide : (0:ℕ) ≠ 1), slab_put_ne _ _ _ (by decide : (0:ℕ) ≠ 2), slab_put_ne _ _ _ (by decide : (0:ℕ) ≠ 3), slab_put_ne _ _ _ (by decide : (1:ℕ) ≠ 0), slab_put_ne _ _ _ (by decide : (1:ℕ) ≠ 2), slab_put_ne _ _ _ (by decide : (1:ℕ) ≠ 3), slab_put_ne _ _ _ (by decide : (2:ℕ) ≠ 0), slab_put_ne _ _ _ (by decide : (2:ℕ) ≠ 1), slab_put_ne _ _ _ (by decide : (2:ℕ) ≠ 3), slab_put_ne _ _ _ (by decide : (3:ℕ) ≠ 0), slab_put_ne _ _ _ (by decide : (3:ℕ) ≠ 1), slab_put_ne _ _ _ (by decide : (3:ℕ) ≠ 2)]
  exact (slab_put_eq _ 3 _ _).trans rfl

/-- The test value after the first block is a maximum over, among others, the last slab of the running log. -/
theorem edge_live : ∃ a b c d, (edgeFrom X i hi c0 a0 o0).1.live = k0_pay148 (totOf (zDiag1 (VecWindow.window X.x4 (k0_off8 i) S1x128x128.size (k0_off8_inb i hi)) (VecWindow.window X.x3 ![0, 0, 384] S1x128x128.size inb_S1x128x512_S1x128x128_0_0_384)) (cumW X)) a b c d := by
  refine ⟨?_, ?_, ?_, ?_, ?_⟩
  rotate_left 4
  · simp only [edgeFrom]
    rfl

end Edge

end Cert.KernelIdeal.Hand

end
-- ==== Proof.KI.Read.lean ====
module

public import proofs.«01_k».proof.Proof.KI.Blocks
public import Idealize.ShloMosaic.Lib.MatmulPlain
public import Idealize.ShloMosaic.Lib.IdealHost
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.TcCoe Idealize.ShloMosaic.ValueIdx

/-! The stick-breaking half of a grid point over the extended reals: each composed step read at an index. -/

/-- A finite sum of reals is their sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Masks -/

theorem low_apply (r l : Fin 128) : k0_pay176 (ix2 r l) = if l.val < 64 then 1#1 else 0#1 := by
  have h : ∀ l : Fin 128, Scalar.cmpi .slt (BitVec.ofNat 32 (0 * 128 + l.val)) 64#32 = if l.val < 64 then 1#1 else 0#1 := by decide
  show Scalar.cmpi .slt (BitVec.ofNat 32 (0 * 128 + l.val)) 64#32 = _
  exact h l

/-- A row's number within its head, as the program computes it. -/
def rowOf (n : ℕ) : BitVec 32 :=
  let v7 := Scalar.remsi (BitVec.ofNat 32 (0 * 256 + n)) 128#32
  Scalar.select (Scalar.andi (Scalar.xori (Scalar.cmpi .slt v7 0#32) (Scalar.cmpi .slt 128#32 0#32)) (Scalar.cmpi .ne v7 0#32)) (Scalar.addi v7 128#32) v7

theorem rowOf_eq : ∀ n : Fin 256, rowOf n.val = BitVec.ofNat 32 (n.val % 128) := by decide

theorem slt_small : ∀ a b : Fin 128, Scalar.cmpi .slt (BitVec.ofNat 32 (0 * 128 + a.val)) (BitVec.ofNat 32 b.val) = if a.val < b.val then 1#1 else 0#1 := by
  decide +kernel

theorem strict_apply (ρ : Fin 256) (c : Fin 128) : k0_pay177 (ix2 ρ c) = if c.val < ρ.val % 128 then 1#1 else 0#1 := by
  have e : k0_pay177 (ix2 ρ c) = Scalar.cmpi .slt (BitVec.ofNat 32 (0 * 128 + c.val)) (rowOf ρ.val) := rfl
  rw [e, rowOf_eq]
  exact slt_small c ⟨ρ.val % 128, Nat.mod_lt _ (by decide)⟩

/-- Zeros. -/
abbrev zeroQ : Vec Ideal S128x128 .bf16 := broadcast S128x128 (Scalar.ofBits (F := Ideal) .bf16 0x0000#16)
/-- The upper rows and the lower. -/
abbrev topQ (q : Vec Ideal S1x128x128 .bf16) : Vec Ideal S128x128 .bf16 := select k0_pay176 (shapeCast S128x128 q shapeCasts_S1x128x128_S128x128) zeroQ
abbrev botQ (q : Vec Ideal S1x128x128 .bf16) : Vec Ideal S128x128 .bf16 := select k0_pay176 zeroQ (shapeCast S128x128 q shapeCasts_S1x128x128_S128x128)

/-- The queries of a slab, the first head's over the second's, each with the other's lanes cleared. -/
def catQ (q : Vec Ideal S1x128x128 .bf16) : FVec Ideal S256x128 .bf16 :=
  concatenate S256x128 0 [⟨S128x128, topQ q⟩, ⟨S128x128, botQ q⟩] concatenates_S128x128_S128x128_S256x128_d0

theorem cast3_apply {M : ℕ} {e : EltTy} (x : Vec Ideal ⟨3, ![1, M, 128]⟩ e) (h : (⟨3, ![1, M, 128]⟩ : Shape).ShapeCasts ⟨2, ![M, 128]⟩) (r : Fin M) (l : Fin 128) :
    shapeCast ⟨2, ![M, 128]⟩ x h (ix2 r l) = x (ix3 0 r l) :=
  shapeCast_apply x h _ _ (by
    rw [Shape.rowMajor_val_three, Shape.rowMajor_val_two]
    show ((0 : ℕ) * M + r.val) * 128 + l.val = r.val * 128 + l.val
    omega)

theorem up_apply (x : FVec Ideal S256x128 .f32) (r : Fin 256) (l : Fin 128) : up x (ix3 0 r l) = x (ix2 r l) :=
  shapeCast_apply x _ _ _ (by
    rw [Shape.rowMajor_val_three, Shape.rowMajor_val_two]
    show r.val * 128 + l.val = ((0 : ℕ) * 256 + r.val) * 128 + l.val
    omega)

theorem catQ_apply (q : Vec Ideal S1x128x128 .bf16) (ρ : Fin 256) (l : Fin 128) :
    catQ q (ix2 ρ l) = if (ρ.val < 128 ↔ l.val < 64) then q (ix3 0 ⟨ρ.val % 128, Nat.mod_lt _ (by decide)⟩ l) else 0 := by
  have hz : ∀ j, zeroQ j = 0 := fun _ => Ideal.ofBits_zero_bf16
  by_cases hρ : ρ.val < 128
  · have e : catQ q (ix2 ρ l) = topQ q (ix2 ⟨ρ.val, hρ⟩ l) :=
      concatenate_pair_apply_left (t := S256x128) (s₁ := S128x128) (s₂ := S128x128) 0 (topQ q) (botQ q) _ (ix2 ρ l) rfl (ix2 ⟨ρ.val, hρ⟩ l) (fun b => by fin_cases b <;> rfl)
    have hm : (⟨ρ.val, hρ⟩ : Fin 128) = ⟨ρ.val % 128, Nat.mod_lt _ (by decide)⟩ := Fin.ext (Nat.mod_eq_of_lt hρ).symm
    rw [e, show ∀ j, topQ q j = Scalar.select (k0_pay176 j) (shapeCast S128x128 q shapeCasts_S1x128x128_S128x128 j) (zeroQ j) from fun _ => rfl, low_apply, cast3_apply, hz, hm]
    by_cases hl : l.val < 64
    · rw [if_pos hl, if_pos (by tauto)]; rfl
    · rw [if_neg hl, if_neg (by tauto)]; rfl
  · have hρ' := ρ.isLt
    have e : catQ q (ix2 ρ l) = botQ q (ix2 ⟨ρ.val - 128, by omega⟩ l) :=
      concatenate_pair_apply_right (t := S256x128) (s₁ := S128x128) (s₂ := S128x128) 0 (topQ q) (botQ q) _ (ix2 ρ l) rfl rfl (ix2 ⟨ρ.val - 128, by omega⟩ l)
        (fun b hb => by fin_cases b <;> first | rfl | exact absurd rfl hb) (by show ρ.val - 128 + 128 = ρ.val; omega)
    have hm : (⟨ρ.val - 128, by omega⟩ : Fin 128) = ⟨ρ.val % 128, Nat.mod_lt _ (by decide)⟩ := Fin.ext (by show ρ.val - 128 = ρ.val % 128; omega)
    rw [e, show ∀ j, botQ q j = Scalar.select (k0_pay176 j) (zeroQ j) (shapeCast S128x128 q shapeCasts_S1x128x128_S128x128 j) from fun _ => rfl, low_apply, cast3_apply, hz, hm]
    by_cases hl : l.val < 64
    · rw [if_pos hl, if_neg (by tauto)]; rfl
    · rw [if_neg hl, if_pos (by tauto)]; rfl

/-! ### Scores -/

theorem zNeg_read (k q : Vec Ideal S1x128x128 .bf16) (ρ : Fin 256) (c : Fin 128) :
    zNeg k q (ix2 ρ c) = ∑ l : Fin 128, catQ q (ix2 ρ l) * k (ix3 0 c l) := by
  have e : zNeg k q (ix2 ρ c) = (constant S256x128 .f32 0x00000000#32 : FVec Ideal S256x128 .f32) (ix2 ρ c)
      + ∑ l : Fin 128, catQ q (ix2 ρ l) * (shapeCast S128x128 k shapeCasts_S1x128x128_S128x128) (ix2 c l) :=
    Ideal.matmul_transposedRhs_apply none (catQ q) (shapeCast S128x128 k shapeCasts_S1x128x128_S128x128) _ ρ c
  rw [e, show (constant S256x128 .f32 0x00000000#32 : FVec Ideal S256x128 .f32) (ix2 ρ c) = 0 from Ideal.ofBits_zero_f32, zero_add]
  exact Finset.sum_congr rfl fun l _ => by rw [cast3_apply]

theorem zBand_read (k : Vec Ideal S1x512x128 .bf16) (q : Vec Ideal S1x128x128 .bf16) (ρ : Fin 256) (c : Fin 512) :
    k0_pay6 k0_pay176 k q (ix2 ρ c) = ∑ l : Fin 128, catQ q (ix2 ρ l) * k (ix3 0 c l) := by
  have e : k0_pay6 k0_pay176 k q (ix2 ρ c) = (constant S256x512 .f32 0x00000000#32 : FVec Ideal S256x512 .f32) (ix2 ρ c)
      + ∑ l : Fin 128, catQ q (ix2 ρ l) * (shapeCast S512x128 k shapeCasts_S1x512x128_S512x128) (ix2 c l) :=
    Ideal.matmul_transposedRhs_apply none (catQ q) (shapeCast S512x128 k shapeCasts_S1x512x128_S512x128) _ ρ c
  rw [e, show (constant S256x512 .f32 0x00000000#32 : FVec Ideal S256x512 .f32) (ix2 ρ c) = 0 from Ideal.ofBits_zero_f32, zero_add]
  exact Finset.sum_congr rfl fun l _ => by rw [cast3_apply]

/-- A pair of heads' product with one head's lanes left is that head's product. -/
theorem half_sum (ρ : ℕ) (hρ : ρ < 256) (f g : ℕ → ℝ) :
    (∑ l : Fin 128, (if (ρ < 128 ↔ l.val < 64) then (f l.val : EReal) else 0) * (g l.val : EReal))
      = ((∑ d ∈ Finset.range 64, f (64 * (ρ / 128) + d) * g (64 * (ρ / 128) + d) : ℝ) : EReal) := by
  have e : ∀ l : Fin 128, (if (ρ < 128 ↔ l.val < 64) then (f l.val : EReal) else 0) * (g l.val : EReal)
      = ((if (ρ < 128 ↔ l.val < 64) then f l.val * g l.val else 0 : ℝ) : EReal) := fun l => by
    split_ifs <;> simp
  rw [Finset.sum_congr rfl fun l _ => e l, ← coe_sum, Fin.sum_univ_eq_sum_range (fun l => if (ρ < 128 ↔ l < 64) then f l * g l else 0) 128,
    Finset.range_eq_Ico, ← Finset.sum_Ico_consecutive _ (show 0 ≤ 64 by decide) (show 64 ≤ 128 by decide), ← Finset.range_eq_Ico,
    Finset.sum_Ico_eq_sum_range]
  congr 1
  by_cases h : ρ < 128
  · have h0 : ρ / 128 = 0 := by omega
    have e2 : ∑ k ∈ Finset.range (128 - 64), (if (ρ < 128 ↔ 64 + k < 64) then f (64 + k) * g (64 + k) else 0) = 0 :=
      Finset.sum_eq_zero fun x hx => if_neg (by have := Finset.mem_range.1 hx; omega)
    rw [h0, e2, add_zero]
    refine Finset.sum_congr rfl fun x hx => ?_
    have := Finset.mem_range.1 hx
    rw [if_pos (by omega)]; simp
  · have h0 : ρ / 128 = 1 := by omega
    have e2 : ∑ k ∈ Finset.range 64, (if (ρ < 128 ↔ k < 64) then f k * g k else 0) = 0 :=
      Finset.sum_eq_zero fun x hx => if_neg (by have := Finset.mem_range.1 hx; omega)
    rw [h0, e2, zero_add]
    refine Finset.sum_congr rfl fun x hx => ?_
    have := Finset.mem_range.1 hx
    rw [if_pos (by omega)]

/-! ### The log of what is kept -/

/-- −softplus(−x), the log of what the stick keeps at a negated score x. -/
def lkR (x : ℝ) : ℝ := min x 0 - Real.log (1 + Real.exp (-|x|))

theorem lkOf_real (z : FVec Ideal S256x128 .f32) (j : S256x128.Idx) (x : ℝ) (h : z j = (x : EReal)) : lkOf z j = (lkR x : EReal) := by
  have e : lkOf z j = min (z j) (Ideal.ofBits .f32 0x00000000#32) - Ideal.log (Ideal.ofBits .f32 0x3F800000#32
      + Ideal.exp2 (max (z j) (-(z j)) * ((-((Real.log 2)⁻¹) : ℝ) : EReal))) := rfl
  rw [e, h, Ideal.ofBits_zero_f32, Ideal.ofBits_one_f32]
  have habs : max (x : EReal) (-(x : EReal)) = ((|x| : ℝ) : EReal) := by
    rw [← EReal.coe_neg, ← EReal.coe_strictMono.monotone.map_max]; rfl
  have hmin : min (x : EReal) 0 = ((min x 0 : ℝ) : EReal) := by
    rw [← EReal.coe_zero, ← EReal.coe_strictMono.monotone.map_min]
  have hexp : Ideal.exp2 ((|x| * -((Real.log 2)⁻¹) : ℝ) : EReal) = ((Real.exp (-|x|) : ℝ) : EReal) := by
    show ((Real.rpow 2 (|x| * -((Real.log 2)⁻¹)) : ℝ) : EReal) = _
    congr 1
    show (2 : ℝ) ^ (|x| * -((Real.log 2)⁻¹)) = _
    rw [Real.rpow_def_of_pos (by norm_num)]
    congr 1
    have : Real.log 2 ≠ 0 := (Real.log_pos (by norm_num)).ne'
    field_simp
  rw [habs, hmin, ← EReal.coe_mul, hexp, show (1 : EReal) = ((1 : ℝ) : EReal) from rfl, ← EReal.coe_add]
  have hl : Ideal.log ((1 + Real.exp (-|x|) : ℝ) : EReal) = ((Real.log (1 + Real.exp (-|x|)) : ℝ) : EReal) := by
    show (if (1 + Real.exp (-|x|)) ≤ 0 then ⊥ else ((Real.log (1 + Real.exp (-|x|)) : ℝ) : EReal)) = _
    rw [if_neg]; have := Real.exp_pos (-|x|); linarith
  rw [hl, ← EReal.coe_sub]
  rfl

theorem lkOf_top (z : FVec Ideal S256x128 .f32) (j : S256x128.Idx) (h : z j = ⊤) : lkOf z j = 0 := by
  have e : lkOf z j = min (z j) (Ideal.ofBits .f32 0x00000000#32) - Ideal.log (Ideal.ofBits .f32 0x3F800000#32
      + Ideal.exp2 (max (z j) (-(z j)) * ((-((Real.log 2)⁻¹) : ℝ) : EReal))) := rfl
  rw [e, h, Ideal.ofBits_zero_f32, Ideal.ofBits_one_f32]
  have hneg : (-((Real.log 2)⁻¹) : ℝ) < 0 := by
    have : 0 < (Real.log 2)⁻¹ := inv_pos.2 (Real.log_pos (by norm_num)); linarith
  rw [show max (⊤ : EReal) (-⊤) = ⊤ from max_eq_left le_top, EReal.top_mul_coe_of_neg hneg]
  have h2 : Ideal.exp2 ⊥ = 0 := rfl
  rw [h2, add_zero]
  have hl : Ideal.log 1 = 0 := by
    show (if (1 : ℝ) ≤ 0 then ⊥ else ((Real.log 1 : ℝ) : EReal)) = _
    rw [if_neg (by norm_num), Real.log_one]; rfl
  rw [hl, show min (⊤ : EReal) 0 = 0 from min_eq_right le_top]
  simp

/-! ### Its sums -/

/-- The running sums' coefficients: lower triangle, then ones. -/
def IsCum (cum : Vec Ideal S128x256 .bf16) : Prop :=
  ∀ (r : Fin 128) (c : Fin 256), cum (ix2 r c) = if 128 ≤ c.val ∨ c.val ≤ r.val then (1 : EReal) else 0

theorem sums_read (z : FVec Ideal S256x128 .f32) (cum : Vec Ideal S128x256 .bf16) (ρ c : Fin 256) :
    k0_pay191 (lkOf z) cum (ix2 ρ c) = ∑ k : Fin 128, lkOf z (ix2 ρ k) * cum (ix2 k c) := by
  have e : k0_pay191 (lkOf z) cum (ix2 ρ c) = (constant S256x256 .f32 0x00000000#32 : FVec Ideal S256x256 .f32) (ix2 ρ c)
      + ∑ k : Fin 128, lkOf z (ix2 ρ k) * cum (ix2 k c) :=
    Ideal.matmul_plain_apply none (lkOf z) cum _ ρ c
  rw [e, show (constant S256x256 .f32 0x00000000#32 : FVec Ideal S256x256 .f32) (ix2 ρ c) = 0 from Ideal.ofBits_zero_f32, zero_add]

theorem totOf_read (z : FVec Ideal S256x128 .f32) (cum : Vec Ideal S128x256 .bf16) (hc : IsCum cum) (ρ : Fin 256) (c : Fin 128)
    (L : ℕ → ℝ) (hL : ∀ k : Fin 128, lkOf z (ix2 ρ k) = (L k.val : EReal)) :
    totOf z cum (ix2 ρ c) = ((∑ k ∈ Finset.range 128, L k : ℝ) : EReal) := by
  have e : totOf z cum (ix2 ρ c) = k0_pay191 (lkOf z) cum (ix2 ρ ⟨128 + c.val, by omega⟩) :=
    extractStridedSlice_apply _ _ _ _ _ (fun a => by fin_cases a <;> simp [ix2])
  rw [e, sums_read, ← Fin.sum_univ_eq_sum_range, coe_sum]
  refine Finset.sum_congr rfl fun k _ => ?_
  rw [hc, if_pos (Or.inl (by show 128 ≤ 128 + c.val; omega)), hL, mul_one]

theorem sufOf_read (z : FVec Ideal S256x128 .f32) (cum : Vec Ideal S128x256 .bf16) (hc : IsCum cum) (ρ : Fin 256) (c : Fin 128)
    (L : ℕ → ℝ) (hL : ∀ k : Fin 128, lkOf z (ix2 ρ k) = (L k.val : EReal)) :
    sufOf z cum (ix2 ρ c) = ((∑ k ∈ Finset.Ico c.val 128, L k : ℝ) : EReal) := by
  have e : sufOf z cum (ix2 ρ c) = k0_pay191 (lkOf z) cum (ix2 ρ ⟨c.val, by omega⟩) :=
    extractStridedSlice_apply _ _ _ _ _ (fun a => by fin_cases a <;> simp [ix2])
  have hs : (∑ k ∈ Finset.Ico c.val 128, L k) = ∑ k ∈ Finset.range 128, if c.val ≤ k then L k else 0 := by
    rw [← Finset.sum_filter]
    refine Finset.sum_congr ?_ fun _ _ => rfl
    ext k; simp [and_comm]
  rw [e, sums_read, hs, ← Fin.sum_univ_eq_sum_range (fun k => if c.val ≤ k then L k else 0) 128, coe_sum]
  refine Finset.sum_congr rfl fun k _ => ?_
  rw [hc, hL]
  have hcc := c.isLt
  by_cases h : c.val ≤ k.val
  · rw [if_pos (Or.inr h), if_pos h, mul_one]
  · rw [if_neg (by show ¬ (128 ≤ c.val ∨ c.val ≤ k.val); omega), if_neg h, mul_zero]; rfl

theorem pv_read (w : FVec Ideal S256x128 .bf16) (v : Vec Ideal S1x128x128 .bf16) (ρ : Fin 256) (l : Fin 128) :
    pv w v (ix2 ρ l) = ∑ k : Fin 128, w (ix2 ρ k) * v (ix3 0 k l) := by
  have e : pv w v (ix2 ρ l) = (constant S256x128 .f32 0x00000000#32 : FVec Ideal S256x128 .f32) (ix2 ρ l)
      + ∑ k : Fin 128, w (ix2 ρ k) * (shapeCast S128x128 v shapeCasts_S1x128x128_S128x128) (ix2 k l) :=
    Ideal.matmul_plain_apply none w (shapeCast S128x128 v shapeCasts_S1x128x128_S128x128) _ ρ l
  rw [e, show (constant S256x128 .f32 0x00000000#32 : FVec Ideal S256x128 .f32) (ix2 ρ l) = 0 from Ideal.ofBits_zero_f32, zero_add]
  exact Finset.sum_congr rfl fun k _ => by rw [cast3_apply]

theorem pvBand_read (w : FVec Ideal S256x512 .bf16) (v : Vec Ideal S1x512x128 .bf16) (ρ : Fin 256) (l : Fin 128) :
    pvBand w v (ix2 ρ l) = ∑ k : Fin 512, w (ix2 ρ k) * v (ix3 0 k l) := by
  have e : pvBand w v (ix2 ρ l) = (constant S256x128 .f32 0x00000000#32 : FVec Ideal S256x128 .f32) (ix2 ρ l)
      + ∑ k : Fin 512, w (ix2 ρ k) * (shapeCast S512x128 v shapeCasts_S1x512x128_S512x128) (ix2 k l) :=
    Ideal.matmul_plain_apply none w (shapeCast S512x128 v shapeCasts_S1x512x128_S512x128) _ ρ l
  rw [e, show (constant S256x128 .f32 0x00000000#32 : FVec Ideal S256x128 .f32) (ix2 ρ l) = 0 from Ideal.ofBits_zero_f32, zero_add]
  exact Finset.sum_congr rfl fun k _ => by rw [cast3_apply]

end Cert.KernelIdeal.Hand

end
-- ==== Proof.KI.Chain.lean ====
module

public import proofs.«01_k».proof.Proof.KI.Read
public import Idealize.ShloMosaic.Lib.ValueIdxCoords

@[expose] public section

set_option maxRecDepth 65536

noncomputable section

namespace Cert.KernelIdeal.Hand

open Cert.KernelIdeal Cert.KernelIdeal.Gen
open Idealize.ShloMosaic Idealize.ShloMosaic.TcCoe Idealize.ShloMosaic.ValueIdx

/-! One row of the stick, block by block: the sums and weights of a block in terms of the row's negated scores. -/

/-- The log of the stick left between key `J` and the row's own position `r`. -/
def Cof (nz : ℕ → ℝ) (r J : ℕ) : ℝ := ∑ j ∈ Finset.Ico J r, lkR (nz j)

/-- The weight of key `j` in row `r`: what is broken off the stick left, nothing at or after the row itself. -/
def Wof (nz : ℕ → ℝ) (r j : ℕ) : EReal := if j < r then ((Real.exp (Cof nz r j - nz j) : ℝ) : EReal) else 0

theorem shift_sum (f : ℕ → ℝ) (J c n : ℕ) : ∑ k ∈ Finset.Ico c n, f (J + k) = ∑ j ∈ Finset.Ico (J + c) (J + n), f j := by
  rw [Finset.sum_Ico_add, add_comm c, add_comm n]

theorem Cof_cut (nz : ℕ → ℝ) (r J K : ℕ) (h : J ≤ K) (h' : K ≤ r) :
    Cof nz r J = ∑ j ∈ Finset.Ico J K, lkR (nz j) + Cof nz r K := by
  unfold Cof; rw [Finset.sum_Ico_consecutive _ h h']

theorem fin_sum (n J : ℕ) (f : ℕ → EReal) : ∑ k : Fin n, f (J + k.val) = ∑ j ∈ Finset.Ico J (J + n), f j := by
  rw [Fin.sum_univ_eq_sum_range (fun k => f (J + k)) n, Finset.sum_Ico_eq_sum_range]
  simp

section Block
variable (z : FVec Ideal S256x128 .f32) (cum : Vec Ideal S128x256 .bf16) (hc : IsCum cum) (ρ : Fin 256) (nz : ℕ → ℝ) (r J : ℕ)
include hc

theorem tot_full (hJ : J + 128 ≤ r) (hz : ∀ c : Fin 128, z (ix2 ρ c) = (nz (J + c.val) : EReal)) (l : Fin 128) :
    (Cof nz r (J + 128) : EReal) + totOf z cum (ix2 ρ l) = (Cof nz r J : EReal) := by
  rw [totOf_read z cum hc ρ l (fun k => lkR (nz (J + k))) (fun k => lkOf_real z _ _ (hz k)), ← EReal.coe_add,
    Finset.range_eq_Ico, shift_sum (fun j => lkR (nz j)), Cof_cut nz r J (J + 128) (by omega) hJ, add_comm, add_zero]

theorem w_full (hJ : J + 128 ≤ r) (hz : ∀ c : Fin 128, z (ix2 ρ c) = (nz (J + c.val) : EReal)) (cr : FVec Ideal S256x128 .f32)
    (c : Fin 128) (hcr : cr (ix2 ρ c) = (Cof nz r (J + 128) : EReal)) : wOf z cum cr (ix2 ρ c) = Wof nz r (J + c.val) := by
  have hlt := c.isLt
  have e : wOf z cum cr (ix2 ρ c) = Ideal.exp ((sufOf z cum (ix2 ρ c) - z (ix2 ρ c)) + cr (ix2 ρ c)) := rfl
  rw [e, sufOf_read z cum hc ρ c (fun k => lkR (nz (J + k))) (fun k => lkOf_real z _ _ (hz k)), hz, hcr, ← EReal.coe_sub, ← EReal.coe_add,
    shift_sum (fun j => lkR (nz j)), Wof, if_pos (by omega), Cof_cut nz r (J + c.val) (J + 128) (by omega) hJ]
  show ((Real.exp _ : ℝ) : EReal) = _
  congr 2; ring

theorem lk_diag (t : ℕ) (hz : ∀ c : Fin 128, z (ix2 ρ c) = if c.val < t then (nz (J + c.val) : EReal) else ⊤) (k : Fin 128) :
    lkOf z (ix2 ρ k) = (((fun k => if k < t then lkR (nz (J + k)) else 0) k.val : ℝ) : EReal) := by
  by_cases h : k.val < t
  · rw [lkOf_real z _ _ ((hz k).trans (if_pos h))]; simp only [if_pos h]
  · rw [lkOf_top z _ ((hz k).trans (if_neg h))]; simp only [if_neg h]; rfl

theorem sum_diag (t c : ℕ) (ht : t ≤ 128) : ∑ k ∈ Finset.Ico c 128, (if k < t then lkR (nz (J + k)) else 0) = Cof nz (J + t) (J + c) := by
  rw [← Finset.sum_filter, Cof, ← shift_sum (fun j => lkR (nz j))]
  refine Finset.sum_congr ?_ fun _ _ => rfl
  ext k; simp only [Finset.mem_filter, Finset.mem_Ico]; omega

theorem tot_diag (t : ℕ) (ht : t ≤ 128) (hr : r = J + t)
    (hz : ∀ c : Fin 128, z (ix2 ρ c) = if c.val < t then (nz (J + c.val) : EReal) else ⊤) (l : Fin 128) :
    totOf z cum (ix2 ρ l) = (Cof nz r J : EReal) := by
  rw [totOf_read z cum hc ρ l (fun k => if k < t then lkR (nz (J + k)) else 0) (lk_diag z cum hc ρ nz J t hz), Finset.range_eq_Ico, sum_diag cum hc nz J t 0 ht, hr, add_zero]

theorem w_diag (t : ℕ) (ht : t ≤ 128) (hr : r = J + t)
    (hz : ∀ c : Fin 128, z (ix2 ρ c) = if c.val < t then (nz (J + c.val) : EReal) else ⊤) (c : Fin 128) :
    wFirst z cum (ix2 ρ c) = Wof nz r (J + c.val) := by
  have e : wFirst z cum (ix2 ρ c) = Ideal.exp (sufOf z cum (ix2 ρ c) - z (ix2 ρ c)) := rfl
  rw [e, sufOf_read z cum hc ρ c (fun k => if k < t then lkR (nz (J + k)) else 0) (lk_diag z cum hc ρ nz J t hz), sum_diag cum hc nz J t c.val ht, hz, Wof, hr]
  by_cases h : c.val < t
  · rw [if_pos h, if_pos (by omega), ← EReal.coe_sub]; rfl
  · rw [if_neg h, if_neg (by omega), EReal.sub_top]; rfl

end Block

theorem pv_row (w : FVec Ideal S256x128 .bf16) (v : Vec Ideal S1x128x128 .bf16) (ρ : Fin 256) (l : Fin 128) (W V : ℕ → EReal) (J : ℕ)
    (hw : ∀ c : Fin 128, w (ix2 ρ c) = W (J + c.val)) (hv : ∀ c : Fin 128, v (ix3 0 c l) = V (J + c.val)) :
    pv w v (ix2 ρ l) = ∑ j ∈ Finset.Ico J (J + 128), W j * V j := by
  rw [pv_read, ← fin_sum 128 J (fun j => W j * V j)]
  exact Finset.sum_congr rfl fun c _ => by rw [hw, hv]

theorem pvBand_row (w : FVec Ideal S256x512 .bf16) (v : Vec Ideal S1x512x128 .bf16) (ρ : Fin 256) (l : Fin 128) (W V : ℕ → EReal) (J : ℕ)
    (hw : ∀ c : Fin 512, w (ix2 ρ c) = W (J + c.val)) (hv : ∀ c : Fin 512, v (ix3 0 c l) = V (J + c.val)) :
    pvBand w v (ix2 ρ l) = ∑ j ∈ Finset.Ico J (J + 512), W j * V j := by
  rw [pvBand_read, ← fin_sum 512 J (fun j => W j * V j)]
  exact Finset.sum_congr rfl fun c _ => by rw [hw, hv]

section Band
variable (z : FVec Ideal S256x512 .f32) (cum : Vec Ideal S128x256 .bf16) (hc : IsCum cum) (ρ : Fin 256) (nz : ℕ → ℝ) (r J : ℕ)
  (hr : r = J + 384 + ρ.val % 128) (hz : ∀ c : Fin 512, z (ix2 ρ c) = (nz (J + c.val) : EReal))

theorem masked_apply (j : S256x128.Idx) : (broadcast S256x128 (Named.named κ "masked" 0x7149F2CA#32) : FVec Ideal S256x128 .f32) j = ⊤ := rfl

include hz in
theorem zDiag_row (c : Fin 128) : zDiag z (ix2 ρ c) = if c.val < ρ.val % 128 then (nz (J + 384 + c.val) : EReal) else ⊤ := by
  have e : zDiag z (ix2 ρ c) = Scalar.select (k0_pay177 (ix2 ρ c)) (extractStridedSlice S256x128 ![0, 384] z slices_S256x512_o0_384_S256x128 (ix2 ρ c)) (⊤ : EReal) := rfl
  have e2 : extractStridedSlice S256x128 ![0, 384] z slices_S256x512_o0_384_S256x128 (ix2 ρ c) = z (ix2 ρ ⟨384 + c.val, by omega⟩) :=
    extractStridedSlice_apply _ _ _ _ _ (fun a => by fin_cases a <;> simp [ix2])
  rw [e, e2, strict_apply, hz]
  by_cases h : c.val < ρ.val % 128
  · rw [if_pos h, if_pos h]; show ((nz (J + (384 + c.val)) : ℝ) : EReal) = _; rw [add_assoc]
  · rw [if_neg h, if_neg h]; rfl

include hz in
theorem zB2_row (c : Fin 128) : zB2 z (ix2 ρ c) = (nz (J + 256 + c.val) : EReal) := by
  have e2 : zB2 z (ix2 ρ c) = z (ix2 ρ ⟨256 + c.val, by omega⟩) :=
    extractStridedSlice_apply _ _ _ _ _ (fun a => by fin_cases a <;> simp [ix2])
  rw [e2, hz, add_assoc]

include hz in
theorem zB1_row (c : Fin 128) : zB1 z (ix2 ρ c) = (nz (J + 128 + c.val) : EReal) := by
  have e2 : zB1 z (ix2 ρ c) = z (ix2 ρ ⟨128 + c.val, by omega⟩) :=
    extractStridedSlice_apply _ _ _ _ _ (fun a => by fin_cases a <;> simp [ix2])
  rw [e2, hz, add_assoc]

include hz in
theorem zB0_row (c : Fin 128) : zB0 z (ix2 ρ c) = (nz (J + c.val) : EReal) := by
  have e2 : zB0 z (ix2 ρ c) = z (ix2 ρ ⟨c.val, by omega⟩) :=
    extractStridedSlice_apply _ _ _ _ _ (fun a => by fin_cases a <;> simp [ix2])
  rw [e2, hz]

include hc hr hz

theorem bc1_row (l : Fin 128) : bc1 z cum (ix2 ρ l) = (Cof nz r (J + 384) : EReal) :=
  tot_diag (zDiag z) cum hc ρ nz r (J + 384) (ρ.val % 128) (by omega) hr (zDiag_row z ρ nz J hz) l

theorem bc2_row (l : Fin 128) : bc2 z cum (ix2 ρ l) = (Cof nz r (J + 256) : EReal) := by
  have e : bc2 z cum (ix2 ρ l) = bc1 z cum (ix2 ρ l) + totOf (zB2 z) cum (ix2 ρ l) := rfl
  rw [e, bc1_row z cum hc ρ nz r J hr hz]
  exact tot_full (zB2 z) cum hc ρ nz r (J + 256) (by omega) (zB2_row z ρ nz J hz) l

theorem bc3_row (l : Fin 128) : bc3 z cum (ix2 ρ l) = (Cof nz r (J + 128) : EReal) := by
  have e : bc3 z cum (ix2 ρ l) = bc2 z cum (ix2 ρ l) + totOf (zB1 z) cum (ix2 ρ l) := rfl
  rw [e, bc2_row z cum hc ρ nz r J hr hz]
  exact tot_full (zB1 z) cum hc ρ nz r (J + 128) (by omega) (zB1_row z ρ nz J hz) l

theorem bc4_row (l : Fin 128) : bc4 z cum (ix2 ρ l) = (Cof nz r J : EReal) := by
  have e : bc4 z cum (ix2 ρ l) = bc3 z cum (ix2 ρ l) + totOf (zB0 z) cum (ix2 ρ l) := rfl
  rw [e, bc3_row z cum hc ρ nz r J hr hz]
  exact tot_full (zB0 z) cum hc ρ nz r J (by omega) (zB0_row z ρ nz J hz) l

theorem wBand_row (c : Fin 512) : wBand z cum (ix2 ρ c) = Wof nz r (J + c.val) := by
  have hlt := c.isLt
  have piece : ∀ (k : ℕ) (hk : k < 4) (x : FVec Ideal S256x128 .bf16)
      (hx : ([⟨S256x128, wOf (zB0 z) cum (bc3 z cum)⟩, ⟨S256x128, wOf (zB1 z) cum (bc2 z cum)⟩, ⟨S256x128, wOf (zB2 z) cum (bc1 z cum)⟩,
        ⟨S256x128, wFirst (zDiag z) cum⟩] : List ((s : Shape) × (s.Idx → Ideal .bf16)))[k] = ⟨S256x128, x⟩) (d : Fin 128), 128 * k + d.val = c.val → wBand z cum (ix2 ρ c) = x (ix2 ρ d) := by
    intro k hk x hx d hd
    refine concatenate_apply_piece (t := S256x512) 1 ([⟨S256x128, wOf (zB0 z) cum (bc3 z cum)⟩, ⟨S256x128, wOf (zB1 z) cum (bc2 z cum)⟩, ⟨S256x128, wOf (zB2 z) cum (bc1 z cum)⟩,
        ⟨S256x128, wFirst (zDiag z) cum⟩] : List ((s : Shape) × (s.Idx → Ideal .bf16))) _ (ix2 ρ c) k hk S256x128 x hx rfl (128 * k) ?_ (ix2 ρ d) ?_ hd
    · have : k = 0 ∨ k = 1 ∨ k = 2 ∨ k = 3 := by omega
      rcases this with rfl | rfl | rfl | rfl <;> rfl
    · intro b hb; fin_cases b
      · rfl
      · exact absurd rfl hb
  rcases (by omega : c.val < 128 ∨ (128 ≤ c.val ∧ c.val < 256) ∨ (256 ≤ c.val ∧ c.val < 384) ∨ 384 ≤ c.val) with h | h | h | h
  · rw [piece 0 (by omega) _ rfl ⟨c.val, h⟩ (by simp), w_full (zB0 z) cum hc ρ nz r J (by omega) (zB0_row z ρ nz J hz) _ _ (bc3_row z cum hc ρ nz r J hr hz _)]
  · rw [piece 1 (by omega) _ rfl ⟨c.val - 128, by omega⟩ (by show 128 * 1 + (c.val - 128) = c.val; omega),
      w_full (zB1 z) cum hc ρ nz r (J + 128) (by omega) (zB1_row z ρ nz J hz) _ _ (bc2_row z cum hc ρ nz r J hr hz _)]
    congr 1; show J + 128 + (c.val - 128) = J + c.val; omega
  · rw [piece 2 (by omega) _ rfl ⟨c.val - 256, by omega⟩ (by show 128 * 2 + (c.val - 256) = c.val; omega),
      w_full (zB2 z) cum hc ρ nz r (J + 256) (by omega) (zB2_row z ρ nz J hz) _ _ (bc1_row z cum hc ρ nz r J hr hz _)]
    congr 1; show J + 256 + (c.val - 256) = J + c.val; omega
  · rw [piece 3 (by omega) _ rfl ⟨c.val - 384, by omega⟩ (by show 128 * 3 + (c.val - 384) = c.val; omega),
      w_diag (zDiag z) cum hc ρ nz r (J + 384) (ρ.val % 128) (by omega) hr (zDiag_row z ρ nz J hz)]
    congr 1; show J + 384 + (c.val - 384) = J + c.val; omega

end Band

theorem zDiag1_row (k q : Vec Ideal S1x128x128 .bf16) (ρ : Fin 256) (nz : ℕ → ℝ) (J : ℕ)
    (hz : ∀ c : Fin 128, zNeg k q (ix2 ρ c) = (nz (J + c.val) : EReal)) (c : Fin 128) :
    zDiag1 k q (ix2 ρ c) = if c.val < ρ.val % 128 then (nz (J + c.val) : EReal) else ⊤ := by
  have e : zDiag1 k q (ix2 ρ c) = Scalar.select (k0_pay177 (ix2 ρ c)) (zNeg k q (ix2 ρ c)) (⊤ : EReal) := rfl
  rw [e, strict_apply, hz]
  by_cases h : c.val < ρ.val % 128
  · rw [if_pos h, if_pos h]; rfl
  · rw [if_neg h, if_neg h]; rfl

/-! ### The test value -/

theorem mxl {s : Shape} (x y : FVec Ideal s .f32) (j : s.Idx) (h : ⊥ < x j) : ⊥ < maximumf x y j := lt_of_lt_of_le h (le_max_left (x j) (y j))
theorem mxr {s : Shape} (x y : FVec Ideal s .f32) (j : s.Idx) (h : ⊥ < y j) : ⊥ < maximumf x y j := lt_of_lt_of_le h (le_max_right (x j) (y j))
theorem slc {A B : ℕ} [NeZero A] [NeZero B] (x : FVec Ideal ⟨2, ![A, 128]⟩ .f32) (h : (⟨2, ![A, 128]⟩ : Shape).Slices ![0, 0] ⟨2, ![B, 128]⟩)
    (hx : ⊥ < x (ix2 0 0)) : ⊥ < extractStridedSlice ⟨2, ![B, 128]⟩ ![0, 0] x h (ix2 0 0) := by
  rw [extractStridedSlice_apply _ _ _ _ (ix2 0 0) (fun a => by fin_cases a <;> simp [ix2])]; exact hx

theorem k0_pay92_live (M : FVec Ideal S8x128 .f32) (h : ⊥ < M (ix2 0 0)) : ⊥ < k0_pay92 M := by
  have e : ∃ j : S1.Idx, k0_pay92 M = multiReduction .maximumf [1, 2] S1 (shapeCast S1x8x128 M shapeCasts_S8x128_S1x8x128) 0xFF800000#32 reduces_S1x8x128_S1 (.inl rfl) rfl j := ⟨_, rfl⟩
  obtain ⟨j, e⟩ := e
  rw [e.trans (multiReduction_maximumf_eq_fold (shapeCast S1x8x128 M shapeCasts_S8x128_S1x8x128) 0xFF800000#32 reduces_S1x8x128_S1 (.inl rfl) rfl j)]
  refine (Finset.lt_fold_max _).2 (Or.inr ⟨ix3 0 0 0, ?_, ?_⟩)
  · refine Finset.mem_filter.2 ⟨Finset.mem_univ _, ?_⟩
    rw [eq_ix1_u0 j]; exact eq_ix1_u0 _
  · rw [shapeCast_apply (t := S1x8x128) M _ (ix3 0 0 0) (ix2 0 0) rfl]; exact h

theorem k0_pay91_live (a b d : FVec Ideal S256x128 .f32) (c : FVec Ideal S128x128 .f32) (h : ⊥ < d (ix2 0 0)) : ⊥ < k0_pay91 a b d c (ix2 0 0) :=
  mxr _ _ _ (mxr _ _ _ (mxl _ _ _ (slc _ _ (mxl _ _ _ (slc _ _ (mxl _ _ _ (slc _ _ (mxl _ _ _ (slc _ _ (mxl _ _ _ (slc _ _ h)))))))))))

theorem k0_pay5_live (a : FVec Ideal S256x128 .f32) (b c : FVec Ideal S8x128 .f32) (d : FVec Ideal S64x128 .f32) (h : ⊥ < a (ix2 0 0)) : ⊥ < k0_pay5 a b c d :=
  k0_pay92_live _ (mxr _ _ _ (mxr _ _ _ (mxl _ _ _ (slc _ _ (mxl _ _ _ (slc _ _ (mxl _ _ _ (slc _ _ (mxl _ _ _ (slc _ _ (mxl _ _ _ (slc _ _ h))))))))))))

theorem k0_pay148_live (a : FVec Ideal S256x128 .f32) (b c : FVec Ideal S8x128 .f32) (d : FVec Ideal S64x128 .f32) (f : FVec Ideal S32x128 .f32) (h : ⊥ < a (ix2 0 0)) : ⊥ < k0_pay148 a b c d f :=
  k0_pay92_live _ (mxr _ _ _ (mxr _ _ _ (mxl _ _ _ (slc _ _ (mxl _ _ _ (slc _ _ (mxl _ _ _ (slc _ _ (mxl _ _ _ (slc _ _ (mxl _ _ _ (slc _ _ h))))))))))))

/-- A test value above −∞ lets the loop go on. -/
theorem goes_of_live (l : Ideal .f32) (h : ⊥ < l) : goes l = 1#1 := by
  show Ideal.cmp .ogt l ⊥ = 1#1
  simp [Ideal.cmp, h]

end Cert.KernelIdeal.Hand

end
-- ==== Proof.KI.Loop.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Rules
public import proofs.«01_k».proof.Proof.KI.Values

@[expose] public section

set_option maxRecDepth 65536

noncomputable section

namespace Cert.KernelIdeal.Hand

open Cert.KernelIdeal Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-! The loop over the earlier key blocks: its label meets a specification at the number of blocks to go. -/

/-- The naturals: the loop's blocks to go. -/
abbrev 𝒱₀ : Variants := Variants.nat
local notation "𝕄" => MT nD τ sig Unit (Elt F) ℕ (UR sig nD τ) ℕ

/-- A store over the one word leaves the word stored. -/
theorem put_one (x : Vec F S1 .f32) (w : F .f32) :
    VecWindow.put x ![0] ![1] (fun _ => w) = fun _ => w := by
  funext y
  unfold VecWindow.put
  split_ifs with h
  · rfl
  · exfalso; apply h; intro a
    have := (y a).isLt
    fin_cases a
    simp [S1] at this ⊢
    exact this

/-- A store over the one word of scalar memory leaves it owned at the word stored. -/
theorem stW {Λ : Labels} {defs : Defs nD τ sig (Elt F) Λ} (𝒱 : Variants) (c : Thread nD τ) (bd : Option 𝒱.V) (E : Set ℕ) {α : Type} {Q : α → sProp 𝕄}
    {cs : CoreSpace} {M : Memref sig c.2.kind cs S1 .f32} {x : Vec F S1 .f32} {w : F .f32}
    {hx : (M.access (Rect.unit (s := S1) ![0] S1.size inb_S1_S1_0)).Stores Finset.univ} {hm : (Finset.univ : Finset (Rect.unit (s := S1) ![0] S1.size inb_S1_S1_0).shape.Idx) = Finset.univ ∨ ∀ a, (Rect.unit (s := S1) ![0] S1.size inb_S1_S1_0).stride a = 1}
    {k : PUnit → Prog (TpuEff nD τ sig (Elt F) Λ c.2) α} :
    owns c M fullShare x ⊢ iprop((owns c M fullShare (fun _ => w : Vec F S1 .f32) -∗ wp frame (wpE defs 𝒱 c bd) E (k ⟨⟩) Q)
      -∗ wp frame (wpE defs 𝒱 c bd) E (.op (.store M (Rect.unit (s := S1) ![0] S1.size inb_S1_S1_0) (fun _ => w) Finset.univ hx hm) k) Q) := by
  have e : (fun _ => w : Vec F S1 .f32) = VecWindow.put x ![0] S1.size (fun _ => w) := (put_one x w).symm
  rw [e]
  exact st 𝒱 c bd E

theorem jw_test : ∀ n : ℕ, n < 32 → Scalar.cmpi .sge (jw (n + 1)) 0#32 = 1#1 := by decide
theorem jw_zero : Scalar.cmpi .sge (jw 0) 0#32 = 0#1 := by decide
theorem jw_chk : ∀ n : ℕ, n < 32 → k0_chk1 (jw (n + 1)) := by
  intro n hn
  have h : ∀ n : Fin 32, k0_chk1 (jw (n.val + 1)) := by decide
  exact h ⟨n, hn⟩
theorem jw_pred (n : ℕ) : Scalar.subi (jw (n + 1)) 1#32 = jw n := by
  show BitVec.ofNat 32 (n + 1) - 1#32 - 1#32 = BitVec.ofNat 32 n - 1#32
  rw [BitVec.ofNat_add, BitVec.add_sub_cancel]
theorem andi_one (x : BitVec 1) : Scalar.andi 1#1 x = x := by revert x; decide
theorem andi_zero (x : BitVec 1) : Scalar.andi 0#1 x = 0#1 := by revert x; decide

section Loop
variable (c : Dev nD) (i : grid0.Coords) (arg16 : Memref sig .tc .smem S1 .f32) (harg16 : arg16.IsWhole) (arg4 : Memref sig .tc .vmem S1x4096x512 .bf16) (harg4 : arg4.IsWhole)
  (arg3 : Memref sig .tc .vmem S1x128x512 .bf16) (harg3 : arg3.IsWhole) (v2 : IVec S128x128 1) (arg14 : Memref sig .tc .vmem S4x256x128 .f32) (harg14 : arg14.IsWhole)
  (arg6 : Memref sig .tc .vmem S128x256 .bf16) (harg6 : arg6.IsWhole) (arg5 : Memref sig .tc .vmem S1x4096x512 .bf16) (harg5 : arg5.IsWhole)
  (arg15 : Memref sig .tc .vmem S4x256x128 .f32) (harg15 : arg15.IsWhole)
  (X : Ins F)

/-- What the loop reads and what it carries. -/
def held (q : Fin 12 → PosShare TreeShare) (s : St F) : sProp 𝕄 :=
  iprop(owns (c : Thread nD τ) arg3 (q 1) X.x3 ∗ owns (c : Thread nD τ) arg4 (q 2) X.x4 ∗ owns (c : Thread nD τ) arg5 (q 3) X.x5
    ∗ owns (c : Thread nD τ) arg6 (q 4) X.x6 ∗ owns (c : Thread nD τ) arg14 fullShare s.carry ∗ owns (c : Thread nD τ) arg15 fullShare s.acc
    ∗ owns (c : Thread nD τ) arg16 fullShare (fun _ => s.live))

/-- With `n` blocks to go from the state `s` the loop returns some counter and leaves `run`'s state. -/
def spec (q : Fin 12 → PosShare TreeShare) (n : ℕ) (s : St F) : sWPT 𝕄 (BitVec 32) := do
  sWPT.consume (held c arg16 arg4 arg3 arg14 arg6 arg5 arg15 X q s)
  let r ← sWPT.arbitrary
  sWPT.produce (held c arg16 arg4 arg3 arg14 arg6 arg5 arg15 X q (run X v2 n s))
  pure r

theorem spec_apply (q : Fin 12 → PosShare TreeShare) (n : ℕ) (s : St F) (K : BitVec 32 → sProp 𝕄) :
    spec c arg16 arg4 arg3 v2 arg14 arg6 arg5 arg15 X q n s K
      = iprop(held c arg16 arg4 arg3 arg14 arg6 arg5 arg15 X q s ∗ ∀ r : BitVec 32, held c arg16 arg4 arg3 arg14 arg6 arg5 arg15 X q (run X v2 n s) -∗ K r) := rfl

set_option maxHeartbeats 4000000 in
/-- The loop's label meets the specification, by induction on the blocks to go. -/
theorem spec_le (q : Fin 12 → PosShare TreeShare) (E : Set ℕ) : ∀ n, n ≤ 32 → ∀ s K, spec c arg16 arg4 arg3 v2 arg14 arg6 arg5 arg15 X q n s K
    ⊢ wp frame (wpE (defs₀ (F := F)) 𝒱₀ (c : Thread nD τ) (some n)) E
      (defs₀ (F := F) .tc 1 ⟨i, arg16, harg16, arg4, harg4, arg3, harg3, v2, arg14, harg14, arg6, harg6, arg5, harg5, arg15, harg15, jw n⟩) K := by
  intro n
  induction n with
  | zero =>
    intro hn s K
    rw [spec_apply]
    show _ ⊢ wp frame (wpE (defs₀ (F := F)) 𝒱₀ (c : Thread nD τ) (some 0)) E
      (cc0_while1 i arg16 harg16 arg4 harg4 arg3 harg3 v2 arg14 harg14 arg6 harg6 arg5 harg5 arg15 harg15 (jw 0)) K
    rw [cc0_while1_eq_skeleton]; unfold cc0_while1_skel
    simp only [smemLoad, smemLoadElt, jw_zero, andi_zero, Prog.lift, Prog.bind_op, Prog.bind_ret, Prog.pure_eq_ret]
    unfold held
    iintro ⟨⟨H3, H4, H5, H6, H14, H15, H16⟩, Hk⟩
    iapply (ld 𝒱₀ (c : Thread nD τ) (some 0) E) $$ H16; iintro H16
    rw [if_neg (by decide)]
    rw [wp_ret]; imodintro
    iapply Hk
    isplitl [H3]; · iexact H3
    isplitl [H4]; · iexact H4
    isplitl [H5]; · iexact H5
    isplitl [H6]; · iexact H6
    isplitl [H14]; · iexact H14
    isplitl [H15]; · iexact H15
    iexact H16
  | succ n ih =>
    intro hn s K
    have hj := jw_chk n (by omega)
    rw [spec_apply]
    show _ ⊢ wp frame (wpE (defs₀ (F := F)) 𝒱₀ (c : Thread nD τ) (some (n + 1))) E
      (cc0_while1 i arg16 harg16 arg4 harg4 arg3 harg3 v2 arg14 harg14 arg6 harg6 arg5 harg5 arg15 harg15 (jw (n + 1))) K
    rw [cc0_while1_eq_skeleton]; unfold cc0_while1_skel
    simp only [smemLoad, smemLoadElt, jw_test n (by omega), andi_one, Prog.lift, Prog.bind_op, Prog.bind_ret, Prog.pure_eq_ret]
    unfold held
    iintro ⟨⟨H3, H4, H5, H6, H14, H15, H16⟩, Hk⟩
    iapply (ld 𝒱₀ (c : Thread nD τ) (some (n + 1)) E) $$ H16; iintro H16
    split
    · rename_i hg0
      have hg : goes s.live = 1#1 := hg0
      have hrun : run X v2 (n + 1) s = run X v2 n (tripStep X v2 (jw (n + 1)) hj s) := by
        rw [run, if_pos hg, dif_pos hj]
      rw [hrun]
      rw [k0_part30_eq_skeleton]; unfold k0_part30_skel
      rw [k0_part31_eq_skeleton]; unfold k0_part31_skel
      rw [k0_part32_eq_skeleton]; unfold k0_part32_skel
      rw [k0_part33_eq_skeleton]; unfold k0_part33_skel
      rw [k0_part34_eq_skeleton]; unfold k0_part34_skel
      rw [k0_part35_eq_skeleton]; unfold k0_part35_skel
      simp only [smemLoad, smemLoadElt, Prog.lift, Prog.bind_op, Prog.bind_ret, Prog.pure_eq_ret]
      iapply (wp_assume 𝒱₀ (c : Thread nD τ) (some (n + 1)) E hj)
      iapply (ld 𝒱₀ (c : Thread nD τ) (some (n + 1)) E) $$ H4; iintro H4
      iapply (ld 𝒱₀ (c : Thread nD τ) (some (n + 1)) E) $$ H3; iintro H3
      iapply (ld 𝒱₀ (c : Thread nD τ) (some (n + 1)) E) $$ H14; iintro H14
      iapply (ld 𝒱₀ (c : Thread nD τ) (some (n + 1)) E) $$ H6; iintro H6
      iapply (ld 𝒱₀ (c : Thread nD τ) (some (n + 1)) E) $$ H5; iintro H5
      iapply (ld 𝒱₀ (c : Thread nD τ) (some (n + 1)) E) $$ H15; iintro H15
      iapply (ld 𝒱₀ (c : Thread nD τ) (some (n + 1)) E) $$ H15; iintro H15
      iapply (st 𝒱₀ (c : Thread nD τ) (some (n + 1)) E) $$ H15; iintro H15
      iapply (ld 𝒱₀ (c : Thread nD τ) (some (n + 1)) E) $$ H14; iintro H14
      iapply (ld 𝒱₀ (c : Thread nD τ) (some (n + 1)) E) $$ H14; iintro H14
      iapply (st 𝒱₀ (c : Thread nD τ) (some (n + 1)) E) $$ H14; iintro H14
      iapply (ld 𝒱₀ (c : Thread nD τ) (some (n + 1)) E) $$ H4; iintro H4
      iapply (ld 𝒱₀ (c : Thread nD τ) (some (n + 1)) E) $$ H3; iintro H3
      iapply (ld 𝒱₀ (c : Thread nD τ) (some (n + 1)) E) $$ H14; iintro H14
      iapply (ld 𝒱₀ (c : Thread nD τ) (some (n + 1)) E) $$ H6; iintro H6
      iapply (ld 𝒱₀ (c : Thread nD τ) (some (n + 1)) E) $$ H5; iintro H5
      iapply (ld 𝒱₀ (c : Thread nD τ) (some (n + 1)) E) $$ H15; iintro H15
      iapply (ld 𝒱₀ (c : Thread nD τ) (some (n + 1)) E) $$ H15; iintro H15
      iapply (st 𝒱₀ (c : Thread nD τ) (some (n + 1)) E) $$ H15; iintro H15
      iapply (ld 𝒱₀ (c : Thread nD τ) (some (n + 1)) E) $$ H14; iintro H14
      iapply (ld 𝒱₀ (c : Thread nD τ) (some (n + 1)) E) $$ H14; iintro H14
      iapply (st 𝒱₀ (c : Thread nD τ) (some (n + 1)) E) $$ H14; iintro H14
      iapply (ld 𝒱₀ (c : Thread nD τ) (some (n + 1)) E) $$ H4; iintro H4
      iapply (ld 𝒱₀ (c : Thread nD τ) (some (n + 1)) E) $$ H3; iintro H3
      iapply (ld 𝒱₀ (c : Thread nD τ) (some (n + 1)) E) $$ H14; iintro H14
      iapply (ld 𝒱₀ (c : Thread nD τ) (some (n + 1)) E) $$ H6; iintro H6
      iapply (ld 𝒱₀ (c : Thread nD τ) (some (n + 1)) E) $$ H5; iintro H5
      iapply (ld 𝒱₀ (c : Thread nD τ) (some (n + 1)) E) $$ H15; iintro H15
      iapply (ld 𝒱₀ (c : Thread nD τ) (some (n + 1)) E) $$ H15; iintro H15
      iapply (st 𝒱₀ (c : Thread nD τ) (some (n + 1)) E) $$ H15; iintro H15
      iapply (ld 𝒱₀ (c : Thread nD τ) (some (n + 1)) E) $$ H14; iintro H14
      iapply (ld 𝒱₀ (c : Thread nD τ) (some (n + 1)) E) $$ H14; iintro H14
      iapply (st 𝒱₀ (c : Thread nD τ) (some (n + 1)) E) $$ H14; iintro H14
      iapply (ld 𝒱₀ (c : Thread nD τ) (some (n + 1)) E) $$ H4; iintro H4
      iapply (ld 𝒱₀ (c : Thread nD τ) (some (n + 1)) E) $$ H3; iintro H3
      iapply (ld 𝒱₀ (c : Thread nD τ) (some (n + 1)) E) $$ H14; iintro H14
      iapply (ld 𝒱₀ (c : Thread nD τ) (some (n + 1)) E) $$ H6; iintro H6
      iapply (ld 𝒱₀ (c : Thread nD τ) (some (n + 1)) E) $$ H5; iintro H5
      iapply (ld 𝒱₀ (c : Thread nD τ) (some (n + 1)) E) $$ H15; iintro H15
      iapply (ld 𝒱₀ (c : Thread nD τ) (some (n + 1)) E) $$ H15; iintro H15
      iapply (st 𝒱₀ (c : Thread nD τ) (some (n + 1)) E) $$ H15; iintro H15
      iapply (ld 𝒱₀ (c : Thread nD τ) (some (n + 1)) E) $$ H14; iintro H14
      iapply (ld 𝒱₀ (c : Thread nD τ) (some (n + 1)) E) $$ H14; iintro H14
      iapply (st 𝒱₀ (c : Thread nD τ) (some (n + 1)) E) $$ H14; iintro H14
      iapply (ld 𝒱₀ (c : Thread nD τ) (some (n + 1)) E) $$ H16; iintro H16
      iapply (stW 𝒱₀ (c : Thread nD τ) (some (n + 1)) E) $$ H16; iintro H16
      rw [jw_pred]
      iapply (wp_call_spec 𝒱₀ (c : Thread nD τ) (some (n + 1)) E
        (spec c arg16 arg4 arg3 v2 arg14 arg6 arg5 arg15 X q n (tripStep X v2 (jw (n + 1)) hj s)) n
        (fun u hu => by cases hu; exact Nat.lt_succ_self n) (ih (by omega) _))
      rw [spec_apply]; unfold held
      isplitl [H3 H4 H5 H6 H14 H15 H16]
      · isplitl [H3]; · iexact H3
        isplitl [H4]; · iexact H4
        isplitl [H5]; · iexact H5
        isplitl [H6]; · iexact H6
        isplitl [H14]; · iexact H14
        isplitl [H15]; · iexact H15
        iexact H16
      iintro %r H
      rw [wp_ret]; imodintro
      iapply Hk
      iexact H
    · rename_i hg0
      have hg : ¬ goes s.live = 1#1 := hg0
      have hrun : run X v2 (n + 1) s = s := by rw [run, if_neg hg]
      rw [hrun]
      rw [wp_ret]; imodintro
      iapply Hk
      isplitl [H3]; · iexact H3
      isplitl [H4]; · iexact H4
      isplitl [H5]; · iexact H5
      isplitl [H6]; · iexact H6
      isplitl [H14]; · iexact H14
      isplitl [H15]; · iexact H15
      iexact H16

end Loop

end Cert.KernelIdeal.Hand

end
-- ==== Proof.KI.Body.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Rules
public import proofs.«01_k».proof.Proof.KI.Loop

@[expose] public section

set_option maxRecDepth 65536

noncomputable section

namespace Cert.KernelIdeal.Hand

open Cert.KernelIdeal Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-! One grid point's body, run at a point with three key blocks before its own and at a point with fewer. -/

local notation "𝕄" => MT nD τ sig Unit (Elt F) ℕ (UR sig nD τ) ℕ

/-- Four stores over the four slabs leave nothing of what was there. -/
theorem put_slabs {e : EltTy} (x y : Vec F S4x256x128 e) (a b d g : Vec F S1x256x128 e) :
    VecWindow.put (VecWindow.put (VecWindow.put (VecWindow.put x ![0, 0, 0] S1x256x128.size a) ![1, 0, 0] S1x256x128.size b)
        ![2, 0, 0] S1x256x128.size d) ![3, 0, 0] S1x256x128.size g
      = VecWindow.put (VecWindow.put (VecWindow.put (VecWindow.put y ![0, 0, 0] S1x256x128.size a) ![1, 0, 0] S1x256x128.size b)
        ![2, 0, 0] S1x256x128.size d) ![3, 0, 0] S1x256x128.size g := by
  funext z
  have h0 : (z 0).val < 4 := (z 0).isLt
  have h1 : (z 1).val < 256 := (z 1).isLt
  have h2 : (z 2).val < 128 := (z 2).isLt
  unfold VecWindow.put
  split_ifs with k3 k2 k1 k0 <;> try rfl
  exfalso
  have : (z 0).val = 0 ∨ (z 0).val = 1 ∨ (z 0).val = 2 ∨ (z 0).val = 3 := by omega
  rcases this with h | h | h | h
  · exact k0 (by intro a; fin_cases a <;> simp [S1x256x128, h] <;> omega)
  · exact k1 (by intro a; fin_cases a <;> simp [S1x256x128, h] <;> omega)
  · exact k2 (by intro a; fin_cases a <;> simp [S1x256x128, h] <;> omega)
  · exact k3 (by intro a; fin_cases a <;> simp [S1x256x128, h] <;> omega)

/-- Four stores over the four lane tiles leave nothing of what was there. -/
theorem put_tiles {e : EltTy} (x y : Vec F S1x128x512 e) (a b d g : Vec F S1x128x128 e) :
    VecWindow.put (VecWindow.put (VecWindow.put (VecWindow.put x ![0, 0, 0] S1x128x128.size a) ![0, 0, 128] S1x128x128.size b)
        ![0, 0, 256] S1x128x128.size d) ![0, 0, 384] S1x128x128.size g
      = VecWindow.put (VecWindow.put (VecWindow.put (VecWindow.put y ![0, 0, 0] S1x128x128.size a) ![0, 0, 128] S1x128x128.size b)
        ![0, 0, 256] S1x128x128.size d) ![0, 0, 384] S1x128x128.size g := by
  funext z
  have h0 : (z 0).val < 1 := (z 0).isLt
  have h1 : (z 1).val < 128 := (z 1).isLt
  have h2 : (z 2).val < 512 := (z 2).isLt
  unfold VecWindow.put
  split_ifs with k3 k2 k1 k0 <;> try rfl
  exfalso
  have : (z 2).val < 128 ∨ (128 ≤ (z 2).val ∧ (z 2).val < 256) ∨ (256 ≤ (z 2).val ∧ (z 2).val < 384) ∨ 384 ≤ (z 2).val := by omega
  rcases this with h | h | h | h
  · exact k0 (by intro a; fin_cases a <;> simp [S1x128x128] <;> omega)
  · exact k1 (by intro a; fin_cases a <;> simp [S1x128x128] <;> omega)
  · exact k2 (by intro a; fin_cases a <;> simp [S1x128x128] <;> omega)
  · exact k3 (by intro a; fin_cases a <;> simp [S1x128x128] <;> omega)

theorem st_ext {a b : St F} (h1 : a.carry = b.carry) (h2 : a.acc = b.acc) (h3 : a.live = b.live) : a = b := by
  cases a; cases b; cases h1; cases h2; cases h3; rfl

theorem bandFrom_base (X : Ins F) (i : grid0.Coords) (hi : k0_cond1 i = 1#1) (s14 s15 : Vec F S4x256x128 .f32) (o : Vec F S1x128x512 .bf16) :
    bandFrom X i hi s14 s15 o = bandFrom X i hi base base baseO :=
  Prod.ext (st_ext (put_slabs ..) (put_slabs ..) rfl) (put_tiles ..)

theorem edgeFrom_base (X : Ins F) (i : grid0.Coords) (hi : k0_cond2 i = 1#1) (s14 s15 : Vec F S4x256x128 .f32) (o : Vec F S1x128x512 .bf16) :
    edgeFrom X i hi s14 s15 o = edgeFrom X i hi base base baseO :=
  Prod.ext (st_ext (put_slabs ..) (put_slabs ..) rfl) (put_tiles ..)

theorem outFrom_base (acc : Vec F S4x256x128 .f32) (o : Vec F S1x128x512 .bf16) : outFrom acc o = outFrom acc baseO := put_tiles ..

theorem left_le (i : grid0.Coords) : left (i 1).val ≤ 32 := by
  have : (i 1).val < 32 := (i 1).isLt
  unfold left; split_ifs <;> omega

/-- The first counter of the loop is that of `left` blocks to go. -/
theorem v31_eq (i : grid0.Coords) : Scalar.select (Scalar.cmpi .sge (BitVec.ofNat 32 (i 1).val) 3#32) (Scalar.subi (BitVec.ofNat 32 (i 1).val) 4#32)
    (Scalar.subi (BitVec.ofNat 32 (i 1).val) 1#32) = jw (left (i 1).val) := by
  have : ∀ b : Fin 32, Scalar.select (Scalar.cmpi .sge (BitVec.ofNat 32 b.val) 3#32) (Scalar.subi (BitVec.ofNat 32 b.val) 4#32)
    (Scalar.subi (BitVec.ofNat 32 b.val) 1#32) = jw (left b.val) := by decide
  exact this (i 1)

theorem cond1_iff (i : grid0.Coords) : k0_cond1 i = 1#1 ↔ 3 ≤ (i 1).val := by
  have : ∀ b : Fin 32, Scalar.cmpi .ne (Scalar.extui (Scalar.cmpi .sge (BitVec.ofNat 32 b.val) 3#32) : BitVec 32) 0#32 = 1#1 ↔ 3 ≤ b.val := by decide
  exact this (i 1)

theorem cond2_iff (i : grid0.Coords) : k0_cond2 i = 1#1 ↔ (i 1).val < 3 := by
  have : ∀ b : Fin 32, Scalar.cmpi .ne (Scalar.extui (Scalar.cmpi .slt (BitVec.ofNat 32 b.val) 3#32) : BitVec 32) 0#32 = 1#1 ↔ b.val < 3 := by decide
  exact this (i 1)

section Body
variable (c : Dev nD) (i : grid0.Coords) (arg2 : Memref sig .tc .smem S8 .f32) (harg2 : arg2.IsWhole) (arg3 : Memref sig .tc .vmem S1x128x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S128x256 .bf16) (harg6 : arg6.IsWhole) (arg7 : Memref sig .tc .vmem S1x128x512 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x128x256 .bf16) (harg11 : arg11.IsWhole) (arg12 : Memref sig .tc .vmem S1x128x512 .bf16) (harg12 : arg12.IsWhole) (arg13 : Memref sig .tc .vmem S1x128x512 .bf16) (harg13 : arg13.IsWhole) (arg14 : Memref sig .tc .vmem S4x256x128 .f32) (harg14 : arg14.IsWhole) (arg15 : Memref sig .tc .vmem S4x256x128 .f32) (harg15 : arg15.IsWhole) (arg16 : Memref sig .tc .smem S1 .f32) (harg16 : arg16.IsWhole) (X : Ins F)

set_option maxHeartbeats 4000000 in
/-- The body at a point of the band: whatever the scratch and the two outputs hold, the outputs end at their blocks. -/
theorem body_band (q : Fin 12 → PosShare TreeShare) (E : Set ℕ) (hi : k0_cond1 i = 1#1) (hn : ¬ k0_cond2 i = 1#1)
    (o12 o13 : Vec F S1x128x512 .bf16) (s14 s15 : Vec F S4x256x128 .f32) (s16 : Vec F S1 .f32) (K : PUnit → sProp 𝕄) :
    iprop(owns (c : Thread nD τ) arg2 (q 0) X.x2 ∗ owns (c : Thread nD τ) arg3 (q 1) X.x3 ∗ owns (c : Thread nD τ) arg4 (q 2) X.x4 ∗ owns (c : Thread nD τ) arg5 (q 3) X.x5 ∗ owns (c : Thread nD τ) arg6 (q 4) X.x6 ∗ owns (c : Thread nD τ) arg7 (q 5) X.x7 ∗ owns (c : Thread nD τ) arg8 (q 6) X.x8 ∗ owns (c : Thread nD τ) arg9 (q 7) X.x9 ∗ owns (c : Thread nD τ) arg10 (q 8) X.x10 ∗ owns (c : Thread nD τ) arg11 (q 9) X.x11 ∗ owns (c : Thread nD τ) arg12 fullShare (o12) ∗ owns (c : Thread nD τ) arg13 fullShare (o13) ∗ owns (c : Thread nD τ) arg14 fullShare (s14) ∗ owns (c : Thread nD τ) arg15 fullShare (s15) ∗ owns (c : Thread nD τ) arg16 fullShare (s16)
      ∗ (iprop(owns (c : Thread nD τ) arg2 (q 0) X.x2 ∗ owns (c : Thread nD τ) arg3 (q 1) X.x3 ∗ owns (c : Thread nD τ) arg4 (q 2) X.x4 ∗ owns (c : Thread nD τ) arg5 (q 3) X.x5 ∗ owns (c : Thread nD τ) arg6 (q 4) X.x6 ∗ owns (c : Thread nD τ) arg7 (q 5) X.x7 ∗ owns (c : Thread nD τ) arg8 (q 6) X.x8 ∗ owns (c : Thread nD τ) arg9 (q 7) X.x9 ∗ owns (c : Thread nD τ) arg10 (q 8) X.x10 ∗ owns (c : Thread nD τ) arg11 (q 9) X.x11 ∗ owns (c : Thread nD τ) arg12 fullShare (outSb X i) ∗ owns (c : Thread nD τ) arg13 fullShare (outSw X i) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) 𝒱₀ (c : Thread nD τ) none) E (cc0_token_mixers i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_token_mixers_eq_skeleton]; unfold cc0_token_mixers_skel
  rw [k0_part29_eq_skeleton]; unfold k0_part29_skel
  simp only [dif_pos hi, dif_neg hn, v31_eq]
  rw [k0_part1_eq_skeleton]; unfold k0_part1_skel
  rw [k0_part2_eq_skeleton]; unfold k0_part2_skel
  rw [k0_part3_eq_skeleton]; unfold k0_part3_skel
  rw [k0_part4_eq_skeleton]; unfold k0_part4_skel
  rw [k0_part5_eq_skeleton]; unfold k0_part5_skel
  rw [k0_part6_eq_skeleton]; unfold k0_part6_skel
  rw [k0_part7_eq_skeleton]; unfold k0_part7_skel
  rw [k0_part8_eq_skeleton]; unfold k0_part8_skel
  rw [k0_part9_eq_skeleton]; unfold k0_part9_skel
  rw [k0_part10_eq_skeleton]; unfold k0_part10_skel
  rw [k0_part11_eq_skeleton]; unfold k0_part11_skel
  rw [k0_part12_eq_skeleton]; unfold k0_part12_skel
  rw [k0_part13_eq_skeleton]; unfold k0_part13_skel
  rw [k0_part14_eq_skeleton]; unfold k0_part14_skel
  rw [k0_part15_eq_skeleton]; unfold k0_part15_skel
  rw [k0_part16_eq_skeleton]; unfold k0_part16_skel
  rw [k0_part17_eq_skeleton]; unfold k0_part17_skel
  simp only [smemLoad, smemLoadElt, Prog.lift, Prog.bind_op, Prog.bind_ret, Prog.pure_eq_ret]
  iintro ⟨H2, H3, H4, H5, H6, H7, H8, H9, H10, H11, H12, H13, H14, H15, H16, Hk⟩
  iapply (ld 𝒱₀ (c : Thread nD τ) none E) $$ H4; iintro H4
  iapply (ld 𝒱₀ (c : Thread nD τ) none E) $$ H3; iintro H3
  iapply (ld 𝒱₀ (c : Thread nD τ) none E) $$ H4; iintro H4
  iapply (ld 𝒱₀ (c : Thread nD τ) none E) $$ H3; iintro H3
  iapply (ld 𝒱₀ (c : Thread nD τ) none E) $$ H4; iintro H4
  iapply (ld 𝒱₀ (c : Thread nD τ) none E) $$ H3; iintro H3
  iapply (ld 𝒱₀ (c : Thread nD τ) none E) $$ H4; iintro H4
  iapply (ld 𝒱₀ (c : Thread nD τ) none E) $$ H3; iintro H3
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H6; iintro H6
  iapply (ld 𝒱₀ (c : Thread nD τ) none E) $$ H5; iintro H5
  iapply (ld 𝒱₀ (c : Thread nD τ) none E) $$ H15; iintro H15
  iapply (st 𝒱₀ (c : Thread nD τ) none E) $$ H15; iintro H15
  iapply (ld 𝒱₀ (c : Thread nD τ) none E) $$ H14; iintro H14
  iapply (st 𝒱₀ (c : Thread nD τ) none E) $$ H14; iintro H14
  iapply (ld 𝒱₀ (c : Thread nD τ) none E) $$ H5; iintro H5
  iapply (ld 𝒱₀ (c : Thread nD τ) none E) $$ H15; iintro H15
  iapply (st 𝒱₀ (c : Thread nD τ) none E) $$ H15; iintro H15
  iapply (ld 𝒱₀ (c : Thread nD τ) none E) $$ H14; iintro H14
  iapply (st 𝒱₀ (c : Thread nD τ) none E) $$ H14; iintro H14
  iapply (ld 𝒱₀ (c : Thread nD τ) none E) $$ H5; iintro H5
  iapply (ld 𝒱₀ (c : Thread nD τ) none E) $$ H15; iintro H15
  iapply (st 𝒱₀ (c : Thread nD τ) none E) $$ H15; iintro H15
  iapply (ld 𝒱₀ (c : Thread nD τ) none E) $$ H14; iintro H14
  iapply (st 𝒱₀ (c : Thread nD τ) none E) $$ H14; iintro H14
  iapply (ld 𝒱₀ (c : Thread nD τ) none E) $$ H5; iintro H5
  iapply (ld 𝒱₀ (c : Thread nD τ) none E) $$ H15; iintro H15
  iapply (st 𝒱₀ (c : Thread nD τ) none E) $$ H15; iintro H15
  iapply (ld 𝒱₀ (c : Thread nD τ) none E) $$ H14; iintro H14
  iapply (st 𝒱₀ (c : Thread nD τ) none E) $$ H14; iintro H14
  iapply (ld 𝒱₀ (c : Thread nD τ) none E) $$ H16; iintro H16
  iapply (stW 𝒱₀ (c : Thread nD τ) none E) $$ H16; iintro H16
  iapply (ld 𝒱₀ (c : Thread nD τ) none E) $$ H8; iintro H8
  iapply (ld 𝒱₀ (c : Thread nD τ) none E) $$ H9; iintro H9
  iapply (ld 𝒱₀ (c : Thread nD τ) none E) $$ H10; iintro H10
  iapply (ld 𝒱₀ (c : Thread nD τ) none E) $$ H11; iintro H11
  iapply (ld 𝒱₀ (c : Thread nD τ) none E) $$ H7; iintro H7
  iapply (ld 𝒱₀ (c : Thread nD τ) none E) $$ H2; iintro H2
  iapply (ld 𝒱₀ (c : Thread nD τ) none E) $$ H2; iintro H2
  iapply (ld 𝒱₀ (c : Thread nD τ) none E) $$ H13; iintro H13
  iapply (st 𝒱₀ (c : Thread nD τ) none E) $$ H13; iintro H13
  iapply (ld 𝒱₀ (c : Thread nD τ) none E) $$ H7; iintro H7
  iapply (ld 𝒱₀ (c : Thread nD τ) none E) $$ H2; iintro H2
  iapply (ld 𝒱₀ (c : Thread nD τ) none E) $$ H2; iintro H2
  iapply (ld 𝒱₀ (c : Thread nD τ) none E) $$ H13; iintro H13
  iapply (st 𝒱₀ (c : Thread nD τ) none E) $$ H13; iintro H13
  iapply (ld 𝒱₀ (c : Thread nD τ) none E) $$ H8; iintro H8
  iapply (ld 𝒱₀ (c : Thread nD τ) none E) $$ H9; iintro H9
  iapply (ld 𝒱₀ (c : Thread nD τ) none E) $$ H10; iintro H10
  iapply (ld 𝒱₀ (c : Thread nD τ) none E) $$ H11; iintro H11
  iapply (ld 𝒱₀ (c : Thread nD τ) none E) $$ H7; iintro H7
  iapply (ld 𝒱₀ (c : Thread nD τ) none E) $$ H2; iintro H2
  iapply (ld 𝒱₀ (c : Thread nD τ) none E) $$ H2; iintro H2
  iapply (ld 𝒱₀ (c : Thread nD τ) none E) $$ H13; iintro H13
  iapply (st 𝒱₀ (c : Thread nD τ) none E) $$ H13; iintro H13
  iapply (ld 𝒱₀ (c : Thread nD τ) none E) $$ H7; iintro H7
  iapply (ld 𝒱₀ (c : Thread nD τ) none E) $$ H2; iintro H2
  iapply (ld 𝒱₀ (c : Thread nD τ) none E) $$ H2; iintro H2
  iapply (ld 𝒱₀ (c : Thread nD τ) none E) $$ H13; iintro H13
  iapply (st 𝒱₀ (c : Thread nD τ) none E) $$ H13; iintro H13
  iapply (wp_call_spec 𝒱₀ (c : Thread nD τ) none E
    (spec c arg16 arg4 arg3 k0_pay176 arg14 arg6 arg5 arg15 X q (left (i 1).val) (bandFrom X i hi s14 s15 o13).1) (left (i 1).val)
    (fun u hu => nomatch hu) (spec_le c i arg16 harg16 arg4 harg4 arg3 harg3 k0_pay176 arg14 harg14 arg6 harg6 arg5 harg5 arg15 harg15 X q E _ (left_le i) _))
  rw [spec_apply]; unfold held
  isplitl [H3 H4 H5 H6 H14 H15 H16]
  · isplitl [H3]; · iexact H3
    isplitl [H4]; · iexact H4
    isplitl [H5]; · iexact H5
    isplitl [H6]; · iexact H6
    isplitl [H14]; · iexact H14
    isplitl [H15]; · iexact H15
    iexact H16
  iintro %r ⟨H3, H4, H5, H6, H14, H15, H16⟩
  iapply (ld 𝒱₀ (c : Thread nD τ) none E) $$ H15; iintro H15
  iapply (ld 𝒱₀ (c : Thread nD τ) none E) $$ H12; iintro H12
  iapply (st 𝒱₀ (c : Thread nD τ) none E) $$ H12; iintro H12
  iapply (ld 𝒱₀ (c : Thread nD τ) none E) $$ H15; iintro H15
  iapply (ld 𝒱₀ (c : Thread nD τ) none E) $$ H12; iintro H12
  iapply (st 𝒱₀ (c : Thread nD τ) none E) $$ H12; iintro H12
  iapply (ld 𝒱₀ (c : Thread nD τ) none E) $$ H15; iintro H15
  iapply (ld 𝒱₀ (c : Thread nD τ) none E) $$ H12; iintro H12
  iapply (st 𝒱₀ (c : Thread nD τ) none E) $$ H12; iintro H12
  iapply (ld 𝒱₀ (c : Thread nD τ) none E) $$ H15; iintro H15
  iapply (ld 𝒱₀ (c : Thread nD τ) none E) $$ H12; iintro H12
  iapply (st 𝒱₀ (c : Thread nD τ) none E) $$ H12; iintro H12
  have e13 : (bandFrom X i hi s14 s15 o13).2 = outSw X i := by
    rw [bandFrom_base]; unfold outSw start; simp only [dif_pos hi, dif_neg hn]
  have e12 : outFrom (run X k0_pay176 (left (i 1).val) (bandFrom X i hi s14 s15 o13).1).acc o12 = outSb X i := by
    rw [bandFrom_base, outFrom_base]; unfold outSb start; simp only [dif_pos hi, dif_neg hn]
  rw [← e13, ← e12]
  rw [wp_ret]; imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iexists _; iexact H16

set_option maxHeartbeats 4000000 in
/-- The body at a point of the edge: whatever the scratch and the two outputs hold, the outputs end at their blocks. -/
theorem body_edge (q : Fin 12 → PosShare TreeShare) (E : Set ℕ) (hn : ¬ k0_cond1 i = 1#1) (hi : k0_cond2 i = 1#1)
    (o12 o13 : Vec F S1x128x512 .bf16) (s14 s15 : Vec F S4x256x128 .f32) (s16 : Vec F S1 .f32) (K : PUnit → sProp 𝕄) :
    iprop(owns (c : Thread nD τ) arg2 (q 0) X.x2 ∗ owns (c : Thread nD τ) arg3 (q 1) X.x3 ∗ owns (c : Thread nD τ) arg4 (q 2) X.x4 ∗ owns (c : Thread nD τ) arg5 (q 3) X.x5 ∗ owns (c : Thread nD τ) arg6 (q 4) X.x6 ∗ owns (c : Thread nD τ) arg7 (q 5) X.x7 ∗ owns (c : Thread nD τ) arg8 (q 6) X.x8 ∗ owns (c : Thread nD τ) arg9 (q 7) X.x9 ∗ owns (c : Thread nD τ) arg10 (q 8) X.x10 ∗ owns (c : Thread nD τ) arg11 (q 9) X.x11 ∗ owns (c : Thread nD τ) arg12 fullShare (o12) ∗ owns (c : Thread nD τ) arg13 fullShare (o13) ∗ owns (c : Thread nD τ) arg14 fullShare (s14) ∗ owns (c : Thread nD τ) arg15 fullShare (s15) ∗ owns (c : Thread nD τ) arg16 fullShare (s16)
      ∗ (iprop(owns (c : Thread nD τ) arg2 (q 0) X.x2 ∗ owns (c : Thread nD τ) arg3 (q 1) X.x3 ∗ owns (c : Thread nD τ) arg4 (q 2) X.x4 ∗ owns (c : Thread nD τ) arg5 (q 3) X.x5 ∗ owns (c : Thread nD τ) arg6 (q 4) X.x6 ∗ owns (c : Thread nD τ) arg7 (q 5) X.x7 ∗ owns (c : Thread nD τ) arg8 (q 6) X.x8 ∗ owns (c : Thread nD τ) arg9 (q 7) X.x9 ∗ owns (c : Thread nD τ) arg10 (q 8) X.x10 ∗ owns (c : Thread nD τ) arg11 (q 9) X.x11 ∗ owns (c : Thread nD τ) arg12 fullShare (outSb X i) ∗ owns (c : Thread nD τ) arg13 fullShare (outSw X i) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) 𝒱₀ (c : Thread nD τ) none) E (cc0_token_mixers i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_token_mixers_eq_skeleton]; unfold cc0_token_mixers_skel
  rw [k0_part29_eq_skeleton]; unfold k0_part29_skel
  simp only [dif_neg hn, dif_pos hi, v31_eq]
  rw [k0_part18_eq_skeleton]; unfold k0_part18_skel
  rw [k0_part19_eq_skeleton]; unfold k0_part19_skel
  rw [k0_part20_eq_skeleton]; unfold k0_part20_skel
  rw [k0_part21_eq_skeleton]; unfold k0_part21_skel
  rw [k0_part22_eq_skeleton]; unfold k0_part22_skel
  rw [k0_part23_eq_skeleton]; unfold k0_part23_skel
  rw [k0_part24_eq_skeleton]; unfold k0_part24_skel
  rw [k0_part25_eq_skeleton]; unfold k0_part25_skel
  rw [k0_part26_eq_skeleton]; unfold k0_part26_skel
  rw [k0_part27_eq_skeleton]; unfold k0_part27_skel
  rw [k0_part28_eq_skeleton]; unfold k0_part28_skel
  simp only [smemLoad, smemLoadElt, Prog.lift, Prog.bind_op, Prog.bind_ret, Prog.pure_eq_ret]
  iintro ⟨H2, H3, H4, H5, H6, H7, H8, H9, H10, H11, H12, H13, H14, H15, H16, Hk⟩
  iapply (ld 𝒱₀ (c : Thread nD τ) none E) $$ H4; iintro H4
  iapply (ld 𝒱₀ (c : Thread nD τ) none E) $$ H3; iintro H3
  iapply (ld 𝒱₀ (c : Thread nD τ) none E) $$ H6; iintro H6
  iapply (ld 𝒱₀ (c : Thread nD τ) none E) $$ H5; iintro H5
  iapply (ld 𝒱₀ (c : Thread nD τ) none E) $$ H15; iintro H15
  iapply (st 𝒱₀ (c : Thread nD τ) none E) $$ H15; iintro H15
  iapply (ld 𝒱₀ (c : Thread nD τ) none E) $$ H14; iintro H14
  iapply (st 𝒱₀ (c : Thread nD τ) none E) $$ H14; iintro H14
  iapply (ld 𝒱₀ (c : Thread nD τ) none E) $$ H4; iintro H4
  iapply (ld 𝒱₀ (c : Thread nD τ) none E) $$ H3; iintro H3
  iapply (ld 𝒱₀ (c : Thread nD τ) none E) $$ H6; iintro H6
  iapply (ld 𝒱₀ (c : Thread nD τ) none E) $$ H5; iintro H5
  iapply (ld 𝒱₀ (c : Thread nD τ) none E) $$ H15; iintro H15
  iapply (st 𝒱₀ (c : Thread nD τ) none E) $$ H15; iintro H15
  iapply (ld 𝒱₀ (c : Thread nD τ) none E) $$ H14; iintro H14
  iapply (st 𝒱₀ (c : Thread nD τ) none E) $$ H14; iintro H14
  iapply (ld 𝒱₀ (c : Thread nD τ) none E) $$ H4; iintro H4
  iapply (ld 𝒱₀ (c : Thread nD τ) none E) $$ H3; iintro H3
  iapply (ld 𝒱₀ (c : Thread nD τ) none E) $$ H6; iintro H6
  iapply (ld 𝒱₀ (c : Thread nD τ) none E) $$ H5; iintro H5
  iapply (ld 𝒱₀ (c : Thread nD τ) none E) $$ H15; iintro H15
  iapply (st 𝒱₀ (c : Thread nD τ) none E) $$ H15; iintro H15
  iapply (ld 𝒱₀ (c : Thread nD τ) none E) $$ H14; iintro H14
  iapply (st 𝒱₀ (c : Thread nD τ) none E) $$ H14; iintro H14
  iapply (ld 𝒱₀ (c : Thread nD τ) none E) $$ H4; iintro H4
  iapply (ld 𝒱₀ (c : Thread nD τ) none E) $$ H3; iintro H3
  iapply (ld 𝒱₀ (c : Thread nD τ) none E) $$ H6; iintro H6
  iapply (ld 𝒱₀ (c : Thread nD τ) none E) $$ H5; iintro H5
  iapply (ld 𝒱₀ (c : Thread nD τ) none E) $$ H15; iintro H15
  iapply (st 𝒱₀ (c : Thread nD τ) none E) $$ H15; iintro H15
  iapply (ld 𝒱₀ (c : Thread nD τ) none E) $$ H14; iintro H14
  iapply (st 𝒱₀ (c : Thread nD τ) none E) $$ H14; iintro H14
  iapply (ld 𝒱₀ (c : Thread nD τ) none E) $$ H16; iintro H16
  iapply (stW 𝒱₀ (c : Thread nD τ) none E) $$ H16; iintro H16
  iapply (ld 𝒱₀ (c : Thread nD τ) none E) $$ H8; iintro H8
  iapply (ld 𝒱₀ (c : Thread nD τ) none E) $$ H9; iintro H9
  iapply (ld 𝒱₀ (c : Thread nD τ) none E) $$ H10; iintro H10
  iapply (ld 𝒱₀ (c : Thread nD τ) none E) $$ H11; iintro H11
  iapply (ld 𝒱₀ (c : Thread nD τ) none E) $$ H7; iintro H7
  iapply (ld 𝒱₀ (c : Thread nD τ) none E) $$ H2; iintro H2
  iapply (ld 𝒱₀ (c : Thread nD τ) none E) $$ H2; iintro H2
  iapply (ld 𝒱₀ (c : Thread nD τ) none E) $$ H13; iintro H13
  iapply (st 𝒱₀ (c : Thread nD τ) none E) $$ H13; iintro H13
  iapply (ld 𝒱₀ (c : Thread nD τ) none E) $$ H7; iintro H7
  iapply (ld 𝒱₀ (c : Thread nD τ) none E) $$ H2; iintro H2
  iapply (ld 𝒱₀ (c : Thread nD τ) none E) $$ H2; iintro H2
  iapply (ld 𝒱₀ (c : Thread nD τ) none E) $$ H13; iintro H13
  iapply (st 𝒱₀ (c : Thread nD τ) none E) $$ H13; iintro H13
  iapply (ld 𝒱₀ (c : Thread nD τ) none E) $$ H8; iintro H8
  iapply (ld 𝒱₀ (c : Thread nD τ) none E) $$ H9; iintro H9
  iapply (ld 𝒱₀ (c : Thread nD τ) none E) $$ H10; iintro H10
  iapply (ld 𝒱₀ (c : Thread nD τ) none E) $$ H11; iintro H11
  iapply (ld 𝒱₀ (c : Thread nD τ) none E) $$ H7; iintro H7
  iapply (ld 𝒱₀ (c : Thread nD τ) none E) $$ H2; iintro H2
  iapply (ld 𝒱₀ (c : Thread nD τ) none E) $$ H2; iintro H2
  iapply (ld 𝒱₀ (c : Thread nD τ) none E) $$ H13; iintro H13
  iapply (st 𝒱₀ (c : Thread nD τ) none E) $$ H13; iintro H13
  iapply (ld 𝒱₀ (c : Thread nD τ) none E) $$ H7; iintro H7
  iapply (ld 𝒱₀ (c : Thread nD τ) none E) $$ H2; iintro H2
  iapply (ld 𝒱₀ (c : Thread nD τ) none E) $$ H2; iintro H2
  iapply (ld 𝒱₀ (c : Thread nD τ) none E) $$ H13; iintro H13
  iapply (st 𝒱₀ (c : Thread nD τ) none E) $$ H13; iintro H13
  iapply (wp_call_spec 𝒱₀ (c : Thread nD τ) none E
    (spec c arg16 arg4 arg3 k0_pay176 arg14 arg6 arg5 arg15 X q (left (i 1).val) (edgeFrom X i hi s14 s15 o13).1) (left (i 1).val)
    (fun u hu => nomatch hu) (spec_le c i arg16 harg16 arg4 harg4 arg3 harg3 k0_pay176 arg14 harg14 arg6 harg6 arg5 harg5 arg15 harg15 X q E _ (left_le i) _))
  rw [spec_apply]; unfold held
  isplitl [H3 H4 H5 H6 H14 H15 H16]
  · isplitl [H3]; · iexact H3
    isplitl [H4]; · iexact H4
    isplitl [H5]; · iexact H5
    isplitl [H6]; · iexact H6
    isplitl [H14]; · iexact H14
    isplitl [H15]; · iexact H15
    iexact H16
  iintro %r ⟨H3, H4, H5, H6, H14, H15, H16⟩
  iapply (ld 𝒱₀ (c : Thread nD τ) none E) $$ H15; iintro H15
  iapply (ld 𝒱₀ (c : Thread nD τ) none E) $$ H12; iintro H12
  iapply (st 𝒱₀ (c : Thread nD τ) none E) $$ H12; iintro H12
  iapply (ld 𝒱₀ (c : Thread nD τ) none E) $$ H15; iintro H15
  iapply (ld 𝒱₀ (c : Thread nD τ) none E) $$ H12; iintro H12
  iapply (st 𝒱₀ (c : Thread nD τ) none E) $$ H12; iintro H12
  iapply (ld 𝒱₀ (c : Thread nD τ) none E) $$ H15; iintro H15
  iapply (ld 𝒱₀ (c : Thread nD τ) none E) $$ H12; iintro H12
  iapply (st 𝒱₀ (c : Thread nD τ) none E) $$ H12; iintro H12
  iapply (ld 𝒱₀ (c : Thread nD τ) none E) $$ H15; iintro H15
  iapply (ld 𝒱₀ (c : Thread nD τ) none E) $$ H12; iintro H12
  iapply (st 𝒱₀ (c : Thread nD τ) none E) $$ H12; iintro H12
  have e13 : (edgeFrom X i hi s14 s15 o13).2 = outSw X i := by
    rw [edgeFrom_base]; unfold outSw start; simp only [dif_neg hn, dif_pos hi]
  have e12 : outFrom (run X k0_pay176 (left (i 1).val) (edgeFrom X i hi s14 s15 o13).1).acc o12 = outSb X i := by
    rw [edgeFrom_base, outFrom_base]; unfold outSb start; simp only [dif_neg hn, dif_pos hi]
  rw [← e13, ← e12]
  rw [wp_ret]; imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iexists _; iexact H16

end Body

end Cert.KernelIdeal.Hand

end
-- ==== Proof.KI.Sb.lean ====
module

public import proofs.«01_k».proof.Proof.KI.Chain
public import proofs.«01_k».proof.Proof.KI.Body

@[expose] public section

set_option maxRecDepth 65536

noncomputable section

namespace Cert.KernelIdeal.Hand

open Cert.KernelIdeal Cert.KernelIdeal.Gen
open Idealize.ShloMosaic Idealize.ShloMosaic.TcCoe Idealize.ShloMosaic.ValueIdx

/-! The stick-breaking output of a grid point: the row's formula, kept from key block to key block. -/

/-- What a grid point's blocks hold, as functions of positions: finite queries (already scaled and negated) and keys, any
values, and the running sums' coefficients. -/
structure Reads (X : Ins Ideal) (qf kf : ℕ → ℕ → ℝ) (vf : ℕ → ℕ → EReal) : Prop where
  hq : ∀ (t : Fin 128) (l : Fin 512), X.x3 (ix3 0 t l) = (qf t.val l.val : EReal)
  hk : ∀ (j : Fin 4096) (l : Fin 512), X.x4 (ix3 0 j l) = (kf j.val l.val : EReal)
  hv : ∀ (j : Fin 4096) (l : Fin 512), X.x5 (ix3 0 j l) = vf j.val l.val
  hc : ∀ (r : Fin 128) (c : Fin 256), X.x6 (ix2 r c) = if 128 ≤ c.val ∨ c.val ≤ r.val then (1 : EReal) else 0

/-- Head `h`'s negated score of query `t` and key `j`. -/
def nzf (qf kf : ℕ → ℕ → ℝ) (h t j : ℕ) : ℝ := ∑ d ∈ Finset.range 64, qf t (64 * h + d) * kf j (64 * h + d)

theorem win3 {A B M : ℕ} {e : EltTy} (x : Vec Ideal ⟨3, ![1, A, B]⟩ e) (off : Fin 3 → ℕ)
    (inb : ∀ a, off a + ![1, M, 128] a ≤ (⟨3, ![1, A, B]⟩ : Shape).size a) (J L : ℕ) (h : off = ![0, J, L]) (i : Fin M) (l : Fin 128)
    (hi : J + i.val < A) (hl : L + l.val < B) :
    VecWindow.window x off ![1, M, 128] inb (ix3 0 i l) = x (ix3 0 ⟨J + i.val, hi⟩ ⟨L + l.val, hl⟩) := by
  subst h
  refine congrArg x (funext fun a => Fin.ext ?_)
  fin_cases a
  · rfl
  · show J + 1 * i.val = J + i.val; omega
  · show L + 1 * l.val = L + l.val; omega

theorem cum_reads {X : Ins Ideal} {qf kf vf} (R : Reads X qf kf vf) : IsCum (cumW X) := fun r c => by
  have e : cumW X (ix2 r c) = X.x6 (ix2 r c) := by
    refine congrArg X.x6 (funext fun a => Fin.ext ?_)
    fin_cases a
    · show 0 + 1 * r.val = r.val; omega
    · show 0 + 1 * c.val = c.val; omega
  rw [e, R.hc]

section Rows
variable {X : Ins Ideal} {qf kf : ℕ → ℕ → ℝ} {vf : ℕ → ℕ → EReal} (R : Reads X qf kf vf)
include R

theorem score_sum (n : ℕ) (hn : n < 4) (offQ : Fin 3 → ℕ) (inbQ : ∀ a, offQ a + S1x128x128.size a ≤ S1x128x512.size a) (hQ : offQ = ![0, 0, 128 * n])
    (ρ : Fin 256) (j : ℕ) (kv : Fin 128 → EReal) (hkv : ∀ l : Fin 128, kv l = (kf j (128 * n + l.val) : EReal)) :
    ∑ l : Fin 128, catQ (VecWindow.window X.x3 offQ S1x128x128.size inbQ) (ix2 ρ l) * kv l = (nzf qf kf (2 * n + ρ.val / 128) (ρ.val % 128) j : EReal) := by
  have hρ := ρ.isLt
  rw [Finset.sum_congr rfl (g := fun l : Fin 128 => (if (ρ.val < 128 ↔ l.val < 64) then (((fun l => qf (ρ.val % 128) (128 * n + l)) l.val : ℝ) : EReal) else 0)
    * (((fun l => kf j (128 * n + l)) l.val : ℝ) : EReal))]
  · rw [half_sum ρ.val hρ (fun l => qf (ρ.val % 128) (128 * n + l)) (fun l => kf j (128 * n + l)), nzf]
    congr 1
    refine Finset.sum_congr rfl fun d _ => ?_
    have e : 64 * (2 * n + ρ.val / 128) + d = 128 * n + (64 * (ρ.val / 128) + d) := by omega
    rw [e]
  · intro l _
    have hl := l.isLt
    have e : VecWindow.window X.x3 offQ S1x128x128.size inbQ (ix3 0 ⟨ρ.val % 128, Nat.mod_lt _ (by decide)⟩ l) = (qf (ρ.val % 128) (128 * n + l.val) : EReal) := by
      rw [win3 X.x3 offQ inbQ 0 (128 * n) hQ _ l (by show 0 + ρ.val % 128 < 128; omega) (by omega), R.hq]
      show ((qf (0 + ρ.val % 128) (128 * n + l.val) : ℝ) : EReal) = _; rw [zero_add]
    rw [catQ_apply, e, hkv]

theorem zNeg_row (n : ℕ) (hn : n < 4) (offQ offK : Fin 3 → ℕ) (inbQ : ∀ a, offQ a + S1x128x128.size a ≤ S1x128x512.size a)
    (inbK : ∀ a, offK a + S1x128x128.size a ≤ S1x4096x512.size a) (J : ℕ) (hJ : J + 128 ≤ 4096) (hQ : offQ = ![0, 0, 128 * n]) (hK : offK = ![0, J, 128 * n])
    (ρ : Fin 256) (c : Fin 128) :
    zNeg (VecWindow.window X.x4 offK S1x128x128.size inbK) (VecWindow.window X.x3 offQ S1x128x128.size inbQ) (ix2 ρ c)
      = (nzf qf kf (2 * n + ρ.val / 128) (ρ.val % 128) (J + c.val) : EReal) := by
  have hc := c.isLt
  rw [zNeg_read]
  refine score_sum R n hn offQ inbQ hQ ρ (J + c.val) _ fun l => ?_
  have hl := l.isLt
  rw [win3 X.x4 offK inbK J (128 * n) hK c l (by omega) (by omega), R.hk]

theorem zBand_row (n : ℕ) (hn : n < 4) (offQ offK : Fin 3 → ℕ) (inbQ : ∀ a, offQ a + S1x128x128.size a ≤ S1x128x512.size a)
    (inbK : ∀ a, offK a + S1x512x128.size a ≤ S1x4096x512.size a) (J : ℕ) (hJ : J + 512 ≤ 4096) (hQ : offQ = ![0, 0, 128 * n]) (hK : offK = ![0, J, 128 * n])
    (ρ : Fin 256) (c : Fin 512) :
    k0_pay6 k0_pay176 (VecWindow.window X.x4 offK S1x512x128.size inbK) (VecWindow.window X.x3 offQ S1x128x128.size inbQ) (ix2 ρ c)
      = (nzf qf kf (2 * n + ρ.val / 128) (ρ.val % 128) (J + c.val) : EReal) := by
  have hc := c.isLt
  rw [zBand_read]
  refine score_sum R n hn offQ inbQ hQ ρ (J + c.val) _ fun l => ?_
  have hl := l.isLt
  rw [win3 X.x4 offK inbK J (128 * n) hK c l (by omega) (by omega), R.hk]

end Rows

/-- A slab of the running log and of the output, once the keys from `J` on are behind. -/
def Slab (qf kf : ℕ → ℕ → ℝ) (vf : ℕ → ℕ → EReal) (b J n : ℕ) (C A : Vec Ideal S1x256x128 .f32) : Prop :=
  ∀ (ρ : Fin 256) (l : Fin 128),
    C (ix3 0 ρ l) = (Cof (nzf qf kf (2 * n + ρ.val / 128) (ρ.val % 128)) (128 * b + ρ.val % 128) J : EReal)
    ∧ A (ix3 0 ρ l) = ∑ j ∈ Finset.Ico J (128 * (b + 1)), Wof (nzf qf kf (2 * n + ρ.val / 128) (ρ.val % 128)) (128 * b + ρ.val % 128) j * vf j (128 * n + l.val)

section Steps
variable {X : Ins Ideal} {qf kf : ℕ → ℕ → ℝ} {vf : ℕ → ℕ → EReal} (R : Reads X qf kf vf)
  (b : ℕ) (hb : b < 32) (n : ℕ) (hn : n < 4) (offQ offK : Fin 3 → ℕ) (inbQ : ∀ a, offQ a + S1x128x128.size a ≤ S1x128x512.size a)
  (hQ : offQ = ![0, 0, 128 * n]) (J : ℕ) (hK : offK = ![0, J, 128 * n])

include R hb hn hQ hK

theorem trip_slab (inbK : ∀ a, offK a + S1x128x128.size a ≤ S1x4096x512.size a) (hJ : J + 128 ≤ 128 * b) (C A : Vec Ideal S1x256x128 .f32)
    (h : Slab qf kf vf b (J + 128) n C A) :
    Slab qf kf vf b J n
      (up (addf (down C) (totOf (zNeg (VecWindow.window X.x4 offK S1x128x128.size inbK) (VecWindow.window X.x3 offQ S1x128x128.size inbQ)) (cumW X))))
      (up (addf (down A) (pv (wOf (zNeg (VecWindow.window X.x4 offK S1x128x128.size inbK) (VecWindow.window X.x3 offQ S1x128x128.size inbQ)) (cumW X) (down C))
        (VecWindow.window X.x5 offK S1x128x128.size inbK)))) := by
  intro ρ l
  have hz := zNeg_row R n hn offQ offK inbQ inbK J (by omega) hQ hK ρ
  have hcr : ∀ l : Fin 128, down C (ix2 ρ l) = (Cof (nzf qf kf (2 * n + ρ.val / 128) (ρ.val % 128)) (128 * b + ρ.val % 128) (J + 128) : EReal) :=
    fun l => (cast3_apply C _ ρ l).trans (h ρ l).1
  have hv : ∀ c : Fin 128, VecWindow.window X.x5 offK S1x128x128.size inbK (ix3 0 c l) = vf (J + c.val) (128 * n + l.val) := fun c => by
    have hc := c.isLt; have hl := l.isLt
    rw [win3 X.x5 offK inbK J (128 * n) hK c l (by omega) (by omega), R.hv]
  refine ⟨?_, ?_⟩
  · rw [up_apply]
    show down C (ix2 ρ l) + totOf _ _ (ix2 ρ l) = _
    rw [hcr]
    exact tot_full _ _ (cum_reads R) ρ _ _ J (by omega) hz l
  · rw [up_apply]
    show down A (ix2 ρ l) + pv _ _ (ix2 ρ l) = _
    rw [pv_row _ _ ρ l (Wof (nzf qf kf (2 * n + ρ.val / 128) (ρ.val % 128)) (128 * b + ρ.val % 128)) (fun j => vf j (128 * n + l.val)) J
      (fun c => w_full _ _ (cum_reads R) ρ _ _ J (by omega) hz _ c (hcr c)) hv, (show down A (ix2 ρ l) = A (ix3 0 ρ l) from cast3_apply A _ ρ l).trans (h ρ l).2, add_comm]
    exact Finset.sum_Ico_consecutive _ (by omega) (by omega)

theorem edge_slab (inbK : ∀ a, offK a + S1x128x128.size a ≤ S1x4096x512.size a) (hJ : J = 128 * b) :
    Slab qf kf vf b J n
      (up (totOf (zDiag1 (VecWindow.window X.x4 offK S1x128x128.size inbK) (VecWindow.window X.x3 offQ S1x128x128.size inbQ)) (cumW X)))
      (up (pv (wFirst (zDiag1 (VecWindow.window X.x4 offK S1x128x128.size inbK) (VecWindow.window X.x3 offQ S1x128x128.size inbQ)) (cumW X))
        (VecWindow.window X.x5 offK S1x128x128.size inbK))) := by
  intro ρ l
  have hz := zDiag1_row _ _ ρ _ J (zNeg_row R n hn offQ offK inbQ inbK J (by omega) hQ hK ρ)
  have hv : ∀ c : Fin 128, VecWindow.window X.x5 offK S1x128x128.size inbK (ix3 0 c l) = vf (J + c.val) (128 * n + l.val) := fun c => by
    have hc := c.isLt; have hl := l.isLt
    rw [win3 X.x5 offK inbK J (128 * n) hK c l (by omega) (by omega), R.hv]
  refine ⟨?_, ?_⟩
  · rw [up_apply]
    exact tot_diag _ _ (cum_reads R) ρ _ _ J (ρ.val % 128) (by omega) (by omega) hz l
  · rw [up_apply, pv_row _ _ ρ l (Wof (nzf qf kf (2 * n + ρ.val / 128) (ρ.val % 128)) (128 * b + ρ.val % 128)) (fun j => vf j (128 * n + l.val)) J
      (fun c => w_diag _ _ (cum_reads R) ρ _ _ J (ρ.val % 128) (by omega) (by omega) hz c) hv, hJ, show 128 * b + 128 = 128 * (b + 1) by omega]

theorem band_slab (inbK : ∀ a, offK a + S1x512x128.size a ≤ S1x4096x512.size a) (hJ : J + 384 = 128 * b) :
    Slab qf kf vf b J n
      (up (bc4 (k0_pay6 k0_pay176 (VecWindow.window X.x4 offK S1x512x128.size inbK) (VecWindow.window X.x3 offQ S1x128x128.size inbQ)) (cumW X)))
      (up (pvBand (wBand (k0_pay6 k0_pay176 (VecWindow.window X.x4 offK S1x512x128.size inbK) (VecWindow.window X.x3 offQ S1x128x128.size inbQ)) (cumW X))
        (VecWindow.window X.x5 offK S1x512x128.size inbK))) := by
  intro ρ l
  have hz := zBand_row R n hn offQ offK inbQ inbK J (by omega) hQ hK ρ
  have hv : ∀ c : Fin 512, VecWindow.window X.x5 offK S1x512x128.size inbK (ix3 0 c l) = vf (J + c.val) (128 * n + l.val) := fun c => by
    have hc := c.isLt; have hl := l.isLt
    rw [win3 X.x5 offK inbK J (128 * n) hK c l (by omega) (by omega), R.hv]
  refine ⟨?_, ?_⟩
  · rw [up_apply]
    exact bc4_row _ _ (cum_reads R) ρ _ _ J (by omega) hz l
  · rw [up_apply, pvBand_row _ _ ρ l (Wof (nzf qf kf (2 * n + ρ.val / 128) (ρ.val % 128)) (128 * b + ρ.val % 128)) (fun j => vf j (128 * n + l.val)) J
      (fun c => wBand_row _ _ (cum_reads R) ρ _ _ J (by omega) hz c) hv, show J + 512 = 128 * (b + 1) by omega]

end Steps

/-- The whole state, once the keys from `J` on are behind. -/
structure Inv (qf kf : ℕ → ℕ → ℝ) (vf : ℕ → ℕ → EReal) (b J : ℕ) (s : St Ideal) : Prop where
  h0 : Slab qf kf vf b J 0 (VecWindow.window s.carry ![0, 0, 0] S1x256x128.size inb_S4x256x128_S1x256x128_0_0_0) (VecWindow.window s.acc ![0, 0, 0] S1x256x128.size inb_S4x256x128_S1x256x128_0_0_0)
  h1 : Slab qf kf vf b J 1 (VecWindow.window s.carry ![1, 0, 0] S1x256x128.size inb_S4x256x128_S1x256x128_1_0_0) (VecWindow.window s.acc ![1, 0, 0] S1x256x128.size inb_S4x256x128_S1x256x128_1_0_0)
  h2 : Slab qf kf vf b J 2 (VecWindow.window s.carry ![2, 0, 0] S1x256x128.size inb_S4x256x128_S1x256x128_2_0_0) (VecWindow.window s.acc ![2, 0, 0] S1x256x128.size inb_S4x256x128_S1x256x128_2_0_0)
  h3 : Slab qf kf vf b J 3 (VecWindow.window s.carry ![3, 0, 0] S1x256x128.size inb_S4x256x128_S1x256x128_3_0_0) (VecWindow.window s.acc ![3, 0, 0] S1x256x128.size inb_S4x256x128_S1x256x128_3_0_0)
  live : ⊥ < s.live

section Offsets
theorem off9_jw : ∀ n : Fin 32, k0_off9 (jw (n.val + 1)) = ![0, 128 * n.val, 128 * 0] := by decide
theorem off10_jw : ∀ n : Fin 32, k0_off10 (jw (n.val + 1)) = ![0, 128 * n.val, 128 * 1] := by decide
theorem off11_jw : ∀ n : Fin 32, k0_off11 (jw (n.val + 1)) = ![0, 128 * n.val, 128 * 2] := by decide
theorem off12_jw : ∀ n : Fin 32, k0_off12 (jw (n.val + 1)) = ![0, 128 * n.val, 128 * 3] := by decide

/-- The grid point of a batch element and a query block. -/
abbrev pt (a : Fin 8) (b : Fin 32) : grid0.Coords := fun d => match d with | ⟨0, _⟩ => a | ⟨1, _⟩ => b
theorem off1_at (i : grid0.Coords) (h : 3 ≤ (i 1).val) : k0_off1 i = ![0, 128 * ((i 1).val - 3), 128 * 0] := by
  have d : ∀ b : Fin 32, 3 ≤ b.val → k0_off1 (pt 0 b) = ![0, 128 * (b.val - 3), 128 * 0] := by decide
  exact d (i 1) h
theorem off5_at (i : grid0.Coords) : k0_off5 i = ![0, 128 * (i 1).val, 128 * 0] := by
  have d : ∀ b : Fin 32, k0_off5 (pt 0 b) = ![0, 128 * b.val, 128 * 0] := by decide
  exact d (i 1)
theorem off2_at (i : grid0.Coords) (h : 3 ≤ (i 1).val) : k0_off2 i = ![0, 128 * ((i 1).val - 3), 128 * 1] := by
  have d : ∀ b : Fin 32, 3 ≤ b.val → k0_off2 (pt 0 b) = ![0, 128 * (b.val - 3), 128 * 1] := by decide
  exact d (i 1) h
theorem off6_at (i : grid0.Coords) : k0_off6 i = ![0, 128 * (i 1).val, 128 * 1] := by
  have d : ∀ b : Fin 32, k0_off6 (pt 0 b) = ![0, 128 * b.val, 128 * 1] := by decide
  exact d (i 1)
theorem off3_at (i : grid0.Coords) (h : 3 ≤ (i 1).val) : k0_off3 i = ![0, 128 * ((i 1).val - 3), 128 * 2] := by
  have d : ∀ b : Fin 32, 3 ≤ b.val → k0_off3 (pt 0 b) = ![0, 128 * (b.val - 3), 128 * 2] := by decide
  exact d (i 1) h
theorem off7_at (i : grid0.Coords) : k0_off7 i = ![0, 128 * (i 1).val, 128 * 2] := by
  have d : ∀ b : Fin 32, k0_off7 (pt 0 b) = ![0, 128 * b.val, 128 * 2] := by decide
  exact d (i 1)
theorem off4_at (i : grid0.Coords) (h : 3 ≤ (i 1).val) : k0_off4 i = ![0, 128 * ((i 1).val - 3), 128 * 3] := by
  have d : ∀ b : Fin 32, 3 ≤ b.val → k0_off4 (pt 0 b) = ![0, 128 * (b.val - 3), 128 * 3] := by decide
  exact d (i 1) h
theorem off8_at (i : grid0.Coords) : k0_off8 i = ![0, 128 * (i 1).val, 128 * 3] := by
  have d : ∀ b : Fin 32, k0_off8 (pt 0 b) = ![0, 128 * b.val, 128 * 3] := by decide
  exact d (i 1)
end Offsets

section Whole
variable {X : Ins Ideal} {qf kf : ℕ → ℕ → ℝ} {vf : ℕ → ℕ → EReal} (R : Reads X qf kf vf)
include R

/-- A trip takes the keys of one more block behind. -/
theorem trip_inv (b : ℕ) (hb : b < 32) (n : ℕ) (hn : n < b) (hj : k0_chk1 (jw (n + 1))) (s : St Ideal) (h : Inv qf kf vf b (128 * (n + 1)) s) :
    Inv qf kf vf b (128 * n) (tripStep X k0_pay176 (jw (n + 1)) hj s) where
  h0 := by
    rw [trip_carry0, trip_acc0]
    exact trip_slab R b hb 0 (by decide) _ _ _ rfl (128 * n) (off9_jw ⟨n, by omega⟩) _ (by omega) _ _ h.h0
  h1 := by
    rw [trip_carry1, trip_acc1]
    exact trip_slab R b hb 1 (by decide) _ _ _ rfl (128 * n) (off10_jw ⟨n, by omega⟩) _ (by omega) _ _ h.h1
  h2 := by
    rw [trip_carry2, trip_acc2]
    exact trip_slab R b hb 2 (by decide) _ _ _ rfl (128 * n) (off11_jw ⟨n, by omega⟩) _ (by omega) _ _ h.h2
  h3 := by
    rw [trip_carry3, trip_acc3]
    exact trip_slab R b hb 3 (by decide) _ _ _ rfl (128 * n) (off12_jw ⟨n, by omega⟩) _ (by omega) _ _ h.h3
  live := by
    obtain ⟨x, y, z, e⟩ := trip_live X (jw (n + 1)) hj s
    rw [e]
    refine k0_pay5_live _ _ _ _ ?_
    have := (trip_slab R b hb 3 (by decide) _ _ inb_S1x128x512_S1x128x128_0_0_384 rfl (128 * n) (off12_jw ⟨n, by omega⟩) (k0_off12_inb _ hj) (by omega) _ _ h.h3 0 0).1
    rw [up_apply] at this
    exact this ▸ EReal.bot_lt_coe _

/-- The start leaves the keys before the four last blocks, or before the last one. -/
theorem start_inv (i : grid0.Coords) : Inv qf kf vf (i 1).val (128 * left (i 1).val) (start X i).1 := by
  have hb : (i 1).val < 32 := (i 1).isLt
  unfold start left
  by_cases h3 : 3 ≤ (i 1).val
  · have h1 : k0_cond1 i = 1#1 := (cond1_iff i).2 h3
    rw [dif_pos h1, if_pos h3]
    refine ⟨?_, ?_, ?_, ?_, ?_⟩
    · rw [band_carry0, band_acc0]
      exact band_slab R _ hb 0 (by decide) _ _ _ rfl _ (off1_at i h3) _ (by omega)
    · rw [band_carry1, band_acc1]
      exact band_slab R _ hb 1 (by decide) _ _ _ rfl _ (off2_at i h3) _ (by omega)
    · rw [band_carry2, band_acc2]
      exact band_slab R _ hb 2 (by decide) _ _ _ rfl _ (off3_at i h3) _ (by omega)
    · rw [band_carry3, band_acc3]
      exact band_slab R _ hb 3 (by decide) _ _ _ rfl _ (off4_at i h3) _ (by omega)
    · obtain ⟨x, y, z, e⟩ := band_live X i h1 base base baseO
      rw [e]
      refine k0_pay92_live _ (k0_pay91_live _ _ _ _ ?_)
      have := (band_slab R _ hb 3 (by decide) _ _ inb_S1x128x512_S1x128x128_0_0_384 rfl _ (off4_at i h3) (k0_off4_inb i h1) (by omega) 0 0).1
      rw [up_apply] at this
      exact this ▸ EReal.bot_lt_coe _
  · have h1 : ¬ k0_cond1 i = 1#1 := fun h => h3 ((cond1_iff i).1 h)
    have h2 : k0_cond2 i = 1#1 := (cond2_iff i).2 (by omega)
    rw [dif_neg h1, dif_pos h2, if_neg h3]
    refine ⟨?_, ?_, ?_, ?_, ?_⟩
    · rw [edge_carry0, edge_acc0]
      exact edge_slab R _ hb 0 (by decide) _ _ _ rfl _ (off5_at i) _ rfl
    · rw [edge_carry1, edge_acc1]
      exact edge_slab R _ hb 1 (by decide) _ _ _ rfl _ (off6_at i) _ rfl
    · rw [edge_carry2, edge_acc2]
      exact edge_slab R _ hb 2 (by decide) _ _ _ rfl _ (off7_at i) _ rfl
    · rw [edge_carry3, edge_acc3]
      exact edge_slab R _ hb 3 (by decide) _ _ _ rfl _ (off8_at i) _ rfl
    · obtain ⟨x, y, z, w, e⟩ := edge_live X i h2 base base baseO
      rw [e]
      refine k0_pay148_live _ _ _ _ _ ?_
      have := (edge_slab R _ hb 3 (by decide) _ _ inb_S1x128x512_S1x128x128_0_0_384 rfl _ (off8_at i) (k0_off8_inb i h2) rfl 0 0).1
      rw [up_apply] at this
      exact this ▸ EReal.bot_lt_coe _

/-- The loop takes all that is left behind. -/
theorem run_inv (b : ℕ) (hb : b < 32) : ∀ (n : ℕ), n ≤ b → ∀ s : St Ideal, Inv qf kf vf b (128 * n) s → Inv qf kf vf b 0 (run X k0_pay176 n s)
  | 0, _, s, h => h
  | n + 1, hn, s, h => by
    have hj := jw_chk n (by omega)
    have e : run X k0_pay176 (n + 1) s = run X k0_pay176 n (tripStep X k0_pay176 (jw (n + 1)) hj s) := by
      show (if goes s.live = 1#1 then (if h : k0_chk1 (jw (n + 1)) then run X k0_pay176 n (tripStep X k0_pay176 (jw (n + 1)) h s) else s) else s) = _
      rw [if_pos (goes_of_live _ h.live), dif_pos hj]
    rw [e]
    exact run_inv b hb n (by omega) _ (trip_inv R b hb n (by omega) hj s h)

theorem final_inv (i : grid0.Coords) : Inv qf kf vf (i 1).val 0 (run X k0_pay176 (left (i 1).val) (start X i).1) :=
  run_inv R _ (i 1).isLt _ (by unfold left; split_ifs <;> omega) _ (start_inv R i)

end Whole

end Cert.KernelIdeal.Hand

end
-- ==== Proof.KI.SwForm.lean ====
module

public import proofs.«01_k».proof.Proof.KI.Blocks

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

/-! The sliding-window half of a grid point, tile by tile: what the printed steps compose to. -/

/-- The scores of one head's queries against a pair of key blocks, minus infinity outside the window. -/
def swS (sel : IVec S128x128 1) (va : IVec S128x256 1) (kb : FVec F S256x128 .bf16) (q : FVec F S128x128 .bf16) : FVec F S128x256 .f32 :=
  select va (matmul dot_S128x128_S256x128_S128x256_1_1_0_0_n_n none
      (select sel q (broadcast S128x128 (Scalar.ofBits .bf16 0x0000#16))) kb (constant S128x256 .f32 0x00000000#32))
    (broadcast S128x256 (Scalar.ofBits .f32 0xFF800000#32))

/-- A row's largest score, the sink among them. -/
def swM (s : FVec F S128x256 .f32) (w : Elt F .f32) : FVec F S128x1 .f32 :=
  maximumf (shapeCast S128x1 (multiReduction .maximumf [1] S128 s 0xFF800000#32 reduces_S128x256_S128 (.inl rfl) rfl) shapeCasts_S128_S128x1)
    (broadcast S128x1 w)

/-- The scores' exponentials from a row's own level. -/
def swP (s : FVec F S128x256 .f32) (m : FVec F S128x1 .f32) : FVec F S128x256 .f32 :=
  exp (subf s (broadcastTo S128x256 m broadcasts_S128x1_S128x256))

/-- A row's normaliser, the sink's share among it. -/
def swD (p : FVec F S128x256 .f32) (w : Elt F .f32) (m : FVec F S128x1 .f32) : FVec F S128x1 .f32 :=
  addf (shapeCast S128x1 (multiReduction .add [1] S128 p 0x00000000#32 reduces_S128x256_S128 (.inl rfl) rfl) shapeCasts_S128_S128x1)
    (exp (subf (broadcast S128x1 w) m))

/-- The values under the exponentials, divided by the normaliser. -/
def swO (p : FVec F S128x256 .f32) (vb : FVec F S256x128 .bf16) (d : FVec F S128x1 .f32) : FVec F S128x128 .f32 :=
  divf (matmul dot_S128x256_S256x128_S128x128_1_0_0_1_n_n none (truncf .bf16 p bitsLt_bf16_f32) vb (constant S128x128 .f32 0x00000000#32))
    (broadcastTo S128x128 d broadcasts_S128x1_S128x128)

/-- One head over its window. -/
def swHead (sel : IVec S128x128 1) (va : IVec S128x256 1) (kb vb : FVec F S256x128 .bf16) (q : FVec F S128x128 .bf16) (w : Elt F .f32) :
    FVec F S128x128 .f32 :=
  swO (swP (swS sel va kb q) (swM (swS sel va kb q) w)) vb
    (swD (swP (swS sel va kb q) (swM (swS sel va kb q) w)) w (swM (swS sel va kb q) w))

/-- The other lanes. -/
abbrev highMask : IVec S128x128 1 := xori k0_pay176 (constantI S128x128 1 1#1)

/-- Two heads' outputs side by side. -/
def swTile (va : IVec S128x256 1) (kb vb : FVec F S256x128 .bf16) (q : Vec F S1x128x128 .bf16) (w0 w1 : Elt F .f32) : Vec F S1x128x128 .bf16 :=
  shapeCast S1x128x128 (truncf .bf16 (select k0_pay176
    (swHead k0_pay176 va kb vb (shapeCast S128x128 q shapeCasts_S1x128x128_S128x128) w0)
    (swHead highMask va kb vb (shapeCast S128x128 q shapeCasts_S1x128x128_S128x128) w1)) bitsLt_bf16_f32) shapeCasts_S128x128_S1x128x128

/-- The tile of the heads at lane `a`, their keys and values at lane `b`, their sinks at `s0` and `s1`. -/
def tileOf (X : Ins F) (n : BitVec 32) (a b : ℕ) (s0 s1 : ℕ) (ha : ∀ d, ![0, 0, a] d + S1x128x128.size d ≤ S1x128x512.size d)
    (hb : ∀ d, ![0, 0, b] d + S1x128x128.size d ≤ S1x128x256.size d) (h0 : ∀ d, ![s0] d + S1.size d ≤ S8.size d) (h1 : ∀ d, ![s1] d + S1.size d ≤ S8.size d) :
    Vec F S1x128x128 .bf16 :=
  swTile (k0_pay94 n)
    (k0_pay95 (VecWindow.window X.x8 ![0, 0, b] S1x128x128.size hb) (VecWindow.window X.x9 ![0, 0, b] S1x128x128.size hb))
    (k0_pay95 (VecWindow.window X.x10 ![0, 0, b] S1x128x128.size hb) (VecWindow.window X.x11 ![0, 0, b] S1x128x128.size hb))
    (VecWindow.window X.x7 ![0, 0, a] S1x128x128.size ha) (word X.x2 ![s0] h0) (word X.x2 ![s1] h1)

/-- The four tiles in their places. -/
def swAll (X : Ins F) (n : BitVec 32) (o : Vec F S1x128x512 .bf16) : Vec F S1x128x512 .bf16 :=
  VecWindow.put (VecWindow.put (VecWindow.put (VecWindow.put o
    ![0, 0, 0] S1x128x128.size (tileOf X n 0 0 0 1 inb_S1x128x512_S1x128x128_0_0_0 inb_S1x128x256_S1x128x128_0_0_0 inb_S8_S1_0 inb_S8_S1_1))
    ![0, 0, 128] S1x128x128.size (tileOf X n 128 0 2 3 inb_S1x128x512_S1x128x128_0_0_128 inb_S1x128x256_S1x128x128_0_0_0 inb_S8_S1_2 inb_S8_S1_3))
    ![0, 0, 256] S1x128x128.size (tileOf X n 256 128 4 5 inb_S1x128x512_S1x128x128_0_0_256 inb_S1x128x256_S1x128x128_0_0_128 inb_S8_S1_4 inb_S8_S1_5))
    ![0, 0, 384] S1x128x128.size (tileOf X n 384 128 6 7 inb_S1x128x512_S1x128x128_0_0_384 inb_S1x128x256_S1x128x128_0_0_128 inb_S8_S1_6 inb_S8_S1_7)

/-- A later point's sliding-window block is its four tiles. -/
theorem band_sw (X : Ins F) (i : grid0.Coords) (hi : k0_cond1 i = 1#1) (c a : Vec F S4x256x128 .f32) (o : Vec F S1x128x512 .bf16) :
    (bandFrom X i hi c a o).2 = swAll X (BitVec.ofNat 32 (i 1).val) o := rfl

/-- So is an early point's. -/
theorem edge_sw (X : Ins F) (i : grid0.Coords) (hi : k0_cond2 i = 1#1) (c a : Vec F S4x256x128 .f32) (o : Vec F S1x128x512 .bf16) :
    (edgeFrom X i hi c a o).2 = swAll X (BitVec.ofNat 32 (i 1).val) o := rfl

end Cert.KernelIdeal.Hand

end
-- ==== Proof.Soft.lean ====
module

public import Idealize.ShloMosaic.Lib.IdealHost
public import Idealize.ShloMosaic.Lib.MatmulPlain

@[expose] public section

noncomputable section

namespace Cert.Mix

open Idealize.ShloMosaic

/-! A softmax with a sink over the extended reals: the level subtracted from every score leaves the weights alone. -/

/-- A finite sum of reals is their sum. -/
theorem real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a score that is not plus infinity. -/
def ex (x : EReal) : ℝ := (Ideal.exp x).toReal

theorem ex_bot : ex ⊥ = 0 := rfl
theorem ex_coe (r : ℝ) : ex r = Real.exp r := rfl

theorem ex_nonneg (x : EReal) : 0 ≤ ex x := by
  induction x using EReal.rec with
  | bot => exact le_refl _
  | coe r => exact (Real.exp_pos r).le
  | top => exact le_refl _

/-- An exponential from a real level is the exponential over the level's. -/
theorem exp_sub_real (x : EReal) (hx : x ≠ ⊤) (m : ℝ) : Ideal.exp (x - (m : EReal)) = ((ex x * Real.exp (-m) : ℝ) : EReal) := by
  induction x using EReal.rec with
  | bot => rw [EReal.bot_sub, ex_bot, zero_mul]; rfl
  | coe r => rw [ex_coe, ← Real.exp_add, ← EReal.coe_sub, sub_eq_add_neg]; rfl
  | top => exact absurd rfl hx

/-- A real divisor other than zero. -/
theorem div_real (x : EReal) (d : ℝ) (hd : d ≠ 0) : Ideal.div x (d : EReal) = x * ((d⁻¹ : ℝ) : EReal) := by
  unfold Ideal.div
  rw [if_neg (by simpa using hd), EReal.coe_inv]

/-- A nonnegative real factor goes into a sum. -/
theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- Between the infinities lies a real. -/
theorem real_between (x : EReal) (h0 : ⊥ < x) (h1 : x < ⊤) : ∃ r : ℝ, x = r :=
  ⟨x.toReal, (EReal.coe_toReal h1.ne h0.ne').symm⟩

section
variable {ι : Type} [Fintype ι] (x : ι → EReal) (w : EReal) (hx : ∀ i, x i ≠ ⊤) (hw : w ≠ ⊤) (m : ℝ)
include hx hw

/-- The normaliser from a level. -/
theorem norm_real : (∑ i, Ideal.exp (x i - (m : EReal))) + Ideal.exp (w - (m : EReal)) = (((∑ i, ex (x i) + ex w) * Real.exp (-m) : ℝ) : EReal) := by
  rw [Finset.sum_congr rfl fun i _ => exp_sub_real (x i) (hx i) m, exp_sub_real w hw m, ← real_sum, ← EReal.coe_add, ← Finset.sum_mul, ← add_mul]

/-- A weight from a level is the weight. -/
theorem weight_real (h0 : ∑ i, ex (x i) + ex w ≠ 0) (y : EReal) (hy : y ≠ ⊤) :
    Ideal.div (Ideal.exp (y - (m : EReal))) ((((∑ i, ex (x i) + ex w) * Real.exp (-m) : ℝ) : EReal)) = ((ex y / (∑ i, ex (x i) + ex w) : ℝ) : EReal) := by
  have hm := Real.exp_pos (-m)
  rw [div_real _ _ (mul_ne_zero h0 hm.ne'), exp_sub_real y hy m, ← EReal.coe_mul]
  congr 1
  field_simp

/-- The values under the exponentials, over the normaliser, are the values under the weights. -/
theorem soft_real (h0 : ∑ i, ex (x i) + ex w ≠ 0) (v : ι → EReal) :
    Ideal.div (∑ i, Ideal.exp (x i - (m : EReal)) * v i) ((∑ i, Ideal.exp (x i - (m : EReal))) + Ideal.exp (w - (m : EReal)))
      = ∑ i, ((ex (x i) / (∑ i, ex (x i) + ex w) : ℝ) : EReal) * v i := by
  have hm := Real.exp_pos (-m)
  have hs : 0 ≤ ∑ i, ex (x i) + ex w := add_nonneg (Finset.sum_nonneg fun i _ => ex_nonneg _) (ex_nonneg _)
  have hd : 0 ≤ ((∑ i, ex (x i) + ex w) * Real.exp (-m))⁻¹ := inv_nonneg.2 (mul_nonneg hs hm.le)
  rw [norm_real x w hx hw m, div_real _ _ (mul_ne_zero h0 hm.ne'), sum_mul_real _ _ _ hd]
  refine Finset.sum_congr rfl fun i _ => ?_
  rw [exp_sub_real (x i) (hx i) m, mul_comm _ (v i), mul_assoc, ← EReal.coe_mul, mul_comm]
  congr 2
  field_simp

end

/-- The keys of a window, counted over a pair of blocks, are the keys of the window among all. -/
theorem window_sum {M : Type} [AddCommMonoid M] (b : ℕ) (hb : b < 32) (t : ℕ) (ht : t < 128) (f g : ℕ → M)
    (hfg : ∀ c, 128 ≤ 128 * b + c → f c = g (128 * b + c - 128)) :
    ∑ c : Fin 256, (if c.val ≤ 128 + t ∧ t < c.val ∧ 128 ≤ 128 * b + c.val then f c.val else 0)
      = ∑ j ∈ Finset.range 4096, if j ≤ 128 * b + t ∧ 128 * b + t < j + 128 then g j else 0 := by
  rw [Fin.sum_univ_eq_sum_range (fun c => if c ≤ 128 + t ∧ t < c ∧ 128 ≤ 128 * b + c then f c else 0) 256, ← Finset.sum_filter, ← Finset.sum_filter]
  refine Finset.sum_nbij' (fun c => 128 * b + c - 128) (fun j => j + 128 - 128 * b) ?_ ?_ ?_ ?_ ?_
  · intro c hc
    simp only [Finset.mem_filter, Finset.mem_range] at hc ⊢
    omega
  · intro c hc
    simp only [Finset.mem_filter, Finset.mem_range] at hc ⊢
    omega
  · intro c hc
    simp only [Finset.mem_filter, Finset.mem_range] at hc
    show 128 * b + c - 128 + 128 - 128 * b = c
    omega
  · intro c hc
    simp only [Finset.mem_filter, Finset.mem_range] at hc
    show 128 * b + (c + 128 - 128 * b) - 128 = c
    omega
  · intro c hc
    simp only [Finset.mem_filter, Finset.mem_range] at hc
    exact hfg c hc.2.2.2

end Cert.Mix

end
-- ==== Proof.KI.Sw.lean ====
module

public import proofs.«01_k».proof.Proof.KI.Sb
public import proofs.«01_k».proof.Proof.KI.SwForm
public import proofs.«01_k».proof.Proof.Soft

@[expose] public section

set_option maxRecDepth 65536

noncomputable section

namespace Cert.KernelIdeal.Hand

open Cert.KernelIdeal Cert.KernelIdeal.Gen Cert.Mix
open Idealize.ShloMosaic Idealize.ShloMosaic.TcCoe Idealize.ShloMosaic.ValueIdx

/-! The sliding-window half of a grid point over the extended reals. -/

/-- Whether column `c` of a pair of key blocks is in the window of row `t` of query block `b`. -/
abbrev Ok (b t c : ℕ) : Prop := c ≤ 128 + t ∧ t < c ∧ 128 ≤ 128 * b + c

theorem near_apply : ∀ (t : Fin 128) (c : Fin 256),
    Scalar.andi (Scalar.cmpi .sle (Scalar.subi (Scalar.subi (BitVec.ofNat 32 (0 * 256 + c.val)) 128#32) (BitVec.ofNat 32 (0 * 128 + t.val))) 0#32)
      (Scalar.cmpi .sgt (Scalar.subi (Scalar.subi (BitVec.ofNat 32 (0 * 256 + c.val)) 128#32) (BitVec.ofNat 32 (0 * 128 + t.val))) 4294967168#32)
      = if c.val ≤ 128 + t.val ∧ t.val < c.val then 1#1 else 0#1 := by decide +kernel

theorem first_apply : ∀ (b : Fin 32) (c : Fin 256),
    Scalar.cmpi .sge (BitVec.ofNat 32 (0 * 256 + c.val)) (Scalar.subi 128#32 (Scalar.muli (BitVec.ofNat 32 b.val) 128#32))
      = if 128 ≤ 128 * b.val + c.val then 1#1 else 0#1 := by decide +kernel

/-- The window's mask. -/
theorem valid_apply (b : Fin 32) (t : Fin 128) (c : Fin 256) : k0_pay94 (BitVec.ofNat 32 b.val) (ix2 t c) = if Ok b.val t.val c.val then 1#1 else 0#1 := by
  have e : k0_pay94 (BitVec.ofNat 32 b.val) (ix2 t c) = Scalar.andi
      (Scalar.andi (Scalar.cmpi .sle (Scalar.subi (Scalar.subi (BitVec.ofNat 32 (0 * 256 + c.val)) 128#32) (BitVec.ofNat 32 (0 * 128 + t.val))) 0#32)
        (Scalar.cmpi .sgt (Scalar.subi (Scalar.subi (BitVec.ofNat 32 (0 * 256 + c.val)) 128#32) (BitVec.ofNat 32 (0 * 128 + t.val))) 4294967168#32))
      (Scalar.cmpi .sge (BitVec.ofNat 32 (0 * 256 + c.val)) (Scalar.subi 128#32 (Scalar.muli (BitVec.ofNat 32 b.val) 128#32))) := rfl
  rw [e, near_apply, first_apply]
  by_cases h1 : c.val ≤ 128 + t.val ∧ t.val < c.val <;> by_cases h2 : 128 ≤ 128 * b.val + c.val
  · rw [if_pos h1, if_pos h2, if_pos ⟨h1.1, h1.2, h2⟩]; rfl
  · rw [if_pos h1, if_neg h2, if_neg (fun h => h2 h.2.2)]; rfl
  · rw [if_neg h1, if_pos h2, if_neg (fun h => h1 ⟨h.1, h.2.1⟩)]; rfl
  · rw [if_neg h1, if_neg h2, if_neg (fun h => h2 h.2.2)]; rfl

/-- The lanes of a pair's first head. -/
theorem lowSel (r l : Fin 128) : k0_pay176 (ix2 r l) = if (0 < 128 ↔ l.val < 64) then 1#1 else 0#1 := by
  rw [low_apply]; congr 1; simp

/-- The lanes of its second. -/
theorem highSel (r l : Fin 128) : highMask (ix2 r l) = if (128 < 128 ↔ l.val < 64) then 1#1 else 0#1 := by
  have e : highMask (ix2 r l) = Scalar.xori (k0_pay176 (ix2 r l)) 1#1 := rfl
  rw [e, low_apply]
  by_cases h : l.val < 64
  · rw [if_pos h, if_neg (by omega)]; rfl
  · rw [if_neg h, if_pos (by omega)]; rfl

theorem col_apply {α : Type} (x : S128.Idx → α) (h : S128.ShapeCasts S128x1) (r : Fin 128) : shapeCast S128x1 x h (ix2 r 0) = x (ix1 r) :=
  shapeCast_apply x h _ _ (by
    rw [Shape.rowMajor_val_one, Shape.rowMajor_val_two]
    show r.val = r.val * 1 + 0
    omega)

theorem spread_apply {α : Type} {N : ℕ} (x : S128x1.Idx → α) (h : S128x1.Broadcasts ⟨2, ![128, N]⟩) (r : Fin 128) (c : Fin N) :
    broadcastTo ⟨2, ![128, N]⟩ x h (ix2 r c) = x (ix2 r 0) :=
  broadcastTo_apply x h (ix2 r c) (ix2 r 0) (fun a => by fin_cases a <;> rfl)

theorem cast2_apply {α : Type} (x : S128x128.Idx → α) (h : S128x128.ShapeCasts S1x128x128) (r l : Fin 128) :
    shapeCast S1x128x128 x h (ix3 0 r l) = x (ix2 r l) :=
  shapeCast_apply x h _ _ (by
    rw [Shape.rowMajor_val_three, Shape.rowMajor_val_two]
    show r.val * 128 + l.val = ((0 : ℕ) * 128 + r.val) * 128 + l.val
    omega)

theorem negInf : (Ideal.ofBits .f32 0xFF800000#32 : EReal) = ⊥ := by simp [Ideal.ofBits, Ideal.ieee]

theorem lift_row (r : Fin 128) (c : Fin 256) : reduces_S128x256_S128.lift (ix1 r) c = ix2 r c := by
  funext a; fin_cases a <;> rfl

/-- A row's level: its largest score, the sink among them. -/
theorem swM_read (s : FVec Ideal S128x256 .f32) (w : EReal) (r : Fin 128) :
    swM (F := Ideal) s w (ix2 r 0) = max ((Finset.univ : Finset (Fin 256)).fold max ⊥ fun c => s (ix2 r c)) w := by
  have e2 := Ideal.multiReduction_maximumf_single s 0xFF800000#32 reduces_S128x256_S128 (.inl rfl) rfl (ix1 r)
  have e3 := e2.trans (congrArg (fun z => Finset.fold max z (s ∘ reduces_S128x256_S128.lift (ix1 r)) Finset.univ) negInf)
  have e4 := e3.trans (congrArg (fun f => Finset.fold max (⊥ : EReal) f Finset.univ) (funext fun c => congrArg s (lift_row r c) :
    (s ∘ reduces_S128x256_S128.lift (ix1 r)) = fun c => s (ix2 r c)))
  exact congrArg (fun z => max z w) ((col_apply _ shapeCasts_S128_S128x1 r).trans e4)

theorem swP_read (s : FVec Ideal S128x256 .f32) (m : FVec Ideal S128x1 .f32) (r : Fin 128) (c : Fin 256) :
    swP (F := Ideal) s m (ix2 r c) = Ideal.exp (s (ix2 r c) - m (ix2 r 0)) := by
  have e : swP (F := Ideal) s m (ix2 r c) = Ideal.exp (s (ix2 r c) - broadcastTo S128x256 m broadcasts_S128x1_S128x256 (ix2 r c)) := rfl
  exact e.trans (congrArg (fun z => Ideal.exp (s (ix2 r c) - z)) (spread_apply (N := 256) m broadcasts_S128x1_S128x256 r c))

theorem swD_read (p : FVec Ideal S128x256 .f32) (w : EReal) (m : FVec Ideal S128x1 .f32) (r : Fin 128) :
    swD (F := Ideal) p w m (ix2 r 0) = (∑ c : Fin 256, p (ix2 r c)) + Ideal.exp (w - m (ix2 r 0)) := by
  have e2 := Ideal.multiReduction_add_single p 0x00000000#32 reduces_S128x256_S128 (.inl rfl) rfl (ix1 r)
  have e3 := e2.trans (Finset.sum_congr rfl fun c _ => congrArg p (lift_row r c) : _ = ∑ c : Fin 256, p (ix2 r c))
  exact congrArg (fun z => z + Ideal.exp (w - m (ix2 r 0))) ((col_apply _ shapeCasts_S128_S128x1 r).trans e3)

theorem swO_read (p : FVec Ideal S128x256 .f32) (vb : FVec Ideal S256x128 .bf16) (d : FVec Ideal S128x1 .f32) (r l : Fin 128) :
    swO (F := Ideal) p vb d (ix2 r l) = Ideal.div (∑ c : Fin 256, p (ix2 r c) * vb (ix2 c l)) (d (ix2 r 0)) := by
  have e : swO (F := Ideal) p vb d (ix2 r l) = Ideal.div
      (matmul (F := Ideal) dot_S128x256_S256x128_S128x128_1_0_0_1_n_n none (truncf .bf16 p bitsLt_bf16_f32) vb (constant S128x128 .f32 0x00000000#32) (ix2 r l))
      (broadcastTo S128x128 d broadcasts_S128x1_S128x128 (ix2 r l)) := rfl
  have e2 : matmul (F := Ideal) dot_S128x256_S256x128_S128x128_1_0_0_1_n_n none (truncf .bf16 p bitsLt_bf16_f32) vb (constant S128x128 .f32 0x00000000#32) (ix2 r l)
      = (constant S128x128 .f32 0x00000000#32 : FVec Ideal S128x128 .f32) (ix2 r l) + ∑ c : Fin 256, p (ix2 r c) * vb (ix2 c l) :=
    Ideal.matmul_plain_apply none (truncf .bf16 p bitsLt_bf16_f32) vb _ r l
  have e3 := e2.trans (by rw [show (constant S128x128 .f32 0x00000000#32 : FVec Ideal S128x128 .f32) (ix2 r l) = 0 from Ideal.ofBits_zero_f32, zero_add] :
    _ = ∑ c : Fin 256, p (ix2 r c) * vb (ix2 c l))
  exact e.trans (congrArg₂ Ideal.div e3 (spread_apply (N := 128) d broadcasts_S128x1_S128x128 r l))

/-- One head read at a row: the values under the weights of a softmax with a sink. -/
theorem swHead_read (sel : IVec S128x128 1) (va : IVec S128x256 1) (kb vb : FVec Ideal S256x128 .bf16) (q : FVec Ideal S128x128 .bf16) (w : EReal)
    (r l : Fin 128) (x v : Fin 256 → EReal) (hs : ∀ c, swS (F := Ideal) sel va kb q (ix2 r c) = x c) (hx : ∀ c, x c ≠ ⊤) (hw : w ≠ ⊤)
    (hv : ∀ c, vb (ix2 c l) = v c) (c0 : Fin 256) (h0 : ⊥ < x c0) :
    swHead (F := Ideal) sel va kb vb q w (ix2 r l) = ∑ c, ((ex (x c) / (∑ k, ex (x k) + ex w) : ℝ) : EReal) * v c := by
  have e : swHead (F := Ideal) sel va kb vb q w (ix2 r l) = swO (F := Ideal) (swP (swS sel va kb q) (swM (swS sel va kb q) w)) vb
    (swD (swP (swS sel va kb q) (swM (swS sel va kb q) w)) w (swM (swS sel va kb q) w)) (ix2 r l) := rfl
  have hm : swM (F := Ideal) (swS sel va kb q) w (ix2 r 0) = max ((Finset.univ : Finset (Fin 256)).fold max ⊥ x) w := by
    rw [swM_read]; congr 2; exact funext hs
  obtain ⟨m, hm'⟩ := real_between (max ((Finset.univ : Finset (Fin 256)).fold max ⊥ x) w)
    (lt_max_of_lt_left ((Finset.lt_fold_max _).2 (Or.inr ⟨c0, Finset.mem_univ _, h0⟩)))
    (max_lt ((Finset.fold_max_lt _).2 ⟨bot_lt_top, fun c _ => (hx c).lt_top⟩) hw.lt_top)
  have hp : ∀ c, swP (F := Ideal) (swS sel va kb q) (swM (swS sel va kb q) w) (ix2 r c) = Ideal.exp (x c - (m : EReal)) := fun c => by
    rw [swP_read, hs, hm, hm']
  have hpos : ∑ k, ex (x k) + ex w ≠ 0 := by
    have h1 : 0 < ex (x c0) := by
      obtain ⟨z, hz⟩ := real_between (x c0) h0 (hx c0).lt_top
      rw [hz, ex_coe]; exact Real.exp_pos z
    have h2 : ex (x c0) ≤ ∑ k, ex (x k) := Finset.single_le_sum (f := fun k => ex (x k)) (fun k _ => ex_nonneg _) (Finset.mem_univ c0)
    have h3 := ex_nonneg w
    exact (by linarith : 0 < ∑ k, ex (x k) + ex w).ne'
  rw [e, swO_read, swD_read, hm, hm', Finset.sum_congr rfl fun c _ => hp c, Finset.sum_congr rfl fun c _ => (by rw [hp c, hv c] :
    swP (F := Ideal) (swS sel va kb q) (swM (swS sel va kb q) w) (ix2 r c) * vb (ix2 c l) = Ideal.exp (x c - (m : EReal)) * v c)]
  exact soft_real x w hx hw m hpos v

/-- What a grid point's input blocks hold for the sliding window, at query block `b`. -/
structure ReadsW (X : Ins Ideal) (b : ℕ) (qf kf : ℕ → ℕ → ℝ) (vf : ℕ → ℕ → EReal) (sf : ℕ → EReal) : Prop where
  hq : ∀ (t : Fin 128) (l : Fin 512), X.x7 (ix3 0 t l) = (qf t.val l.val : EReal)
  hkp : ∀ (c : Fin 128) (l : Fin 256), X.x8 (ix3 0 c l) = (kf (128 * (b - 1) + c.val) l.val : EReal)
  hkc : ∀ (c : Fin 128) (l : Fin 256), X.x9 (ix3 0 c l) = (kf (128 * b + c.val) l.val : EReal)
  hvp : ∀ (c : Fin 128) (l : Fin 256), X.x10 (ix3 0 c l) = vf (128 * (b - 1) + c.val) l.val
  hvc : ∀ (c : Fin 128) (l : Fin 256), X.x11 (ix3 0 c l) = vf (128 * b + c.val) l.val
  hs : ∀ h : Fin 8, X.x2 (ix1 h) = sf h.val
  hs' : ∀ h, sf h ≠ ⊤

/-- Head `h`'s score of query `t` and key `j`. -/
def zsw (qf kf : ℕ → ℕ → ℝ) (h t j : ℕ) : ℝ := ∑ d ∈ Finset.range 64, qf t (64 * h + d) * kf j (128 * (h / 4) + 64 * (h % 2) + d)

/-- Its exponential where the key is in the window. -/
def ew (qf kf : ℕ → ℕ → ℝ) (b h t j : ℕ) : ℝ := if j ≤ 128 * b + t ∧ 128 * b + t < j + 128 then Real.exp (zsw qf kf h t j) else 0

/-- The key of a column of a pair of blocks. -/
def kj (b c : ℕ) : ℕ := if c < 128 then 128 * (b - 1) + c else 128 * b + (c - 128)

/-- A pair of blocks, one over the other. -/
theorem pair_apply (x y : Vec Ideal S1x128x128 .bf16) (c : Fin 256) (l : Fin 128) (f : ℕ → EReal) (b : ℕ)
    (hx : ∀ c : Fin 128, x (ix3 0 c l) = f (128 * (b - 1) + c.val)) (hy : ∀ c : Fin 128, y (ix3 0 c l) = f (128 * b + c.val)) :
    k0_pay95 x y (ix2 c l) = f (kj b c.val) := by
  have hc := c.isLt
  have e : k0_pay95 x y = concatenate S256x128 0 [⟨S128x128, shapeCast S128x128 x shapeCasts_S1x128x128_S128x128⟩,
    ⟨S128x128, shapeCast S128x128 y shapeCasts_S1x128x128_S128x128⟩] concatenates_S128x128_S128x128_S256x128_d0 := rfl
  rw [e]
  unfold kj
  by_cases h : c.val < 128
  · rw [if_pos h, concatenate_pair_apply_left (t := S256x128) (s₁ := S128x128) (s₂ := S128x128) 0 _ _ _ (ix2 c l) rfl (ix2 ⟨c.val, h⟩ l)
      (fun b => by fin_cases b <;> rfl), cast3_apply, hx]
  · rw [if_neg h, concatenate_pair_apply_right (t := S256x128) (s₁ := S128x128) (s₂ := S128x128) 0 _ _ _ (ix2 c l) rfl rfl (ix2 ⟨c.val - 128, by omega⟩ l)
        (fun b hb => by fin_cases b <;> first | rfl | exact absurd rfl hb) (by show c.val - 128 + 128 = c.val; omega), cast3_apply, hy]

section
variable {X : Ins Ideal} {b : ℕ} {qf kf : ℕ → ℕ → ℝ} {vf : ℕ → ℕ → EReal} {sf : ℕ → EReal} (R : ReadsW X b qf kf vf sf) (hb : b < 32)
include R hb

/-- The scores of head `2 * a + e`. -/
theorem swS_read (a e : ℕ) (ha : a < 4) (he : e < 2) (sel : IVec S128x128 1) (hsel : ∀ r l : Fin 128, sel (ix2 r l) = if (128 * e < 128 ↔ l.val < 64) then 1#1 else 0#1)
    (hq : ∀ d, ![0, 0, 128 * a] d + S1x128x128.size d ≤ S1x128x512.size d) (hk : ∀ d, ![0, 0, 128 * (a / 2)] d + S1x128x128.size d ≤ S1x128x256.size d)
    (t : Fin 128) (c : Fin 256) :
    swS (F := Ideal) sel (k0_pay94 (BitVec.ofNat 32 b))
        (k0_pay95 (VecWindow.window X.x8 ![0, 0, 128 * (a / 2)] S1x128x128.size hk) (VecWindow.window X.x9 ![0, 0, 128 * (a / 2)] S1x128x128.size hk))
        (shapeCast S128x128 (VecWindow.window X.x7 ![0, 0, 128 * a] S1x128x128.size hq) shapeCasts_S1x128x128_S128x128) (ix2 t c)
      = if Ok b t.val c.val then ((zsw qf kf (2 * a + e) t.val (kj b c.val) : ℝ) : EReal) else ⊥ := by
  have hk' : ∀ l : Fin 128, k0_pay95 (VecWindow.window X.x8 ![0, 0, 128 * (a / 2)] S1x128x128.size hk)
      (VecWindow.window X.x9 ![0, 0, 128 * (a / 2)] S1x128x128.size hk) (ix2 c l) = ((fun l => kf (kj b c.val) (128 * (a / 2) + l)) l.val : EReal) := fun l => by
    have hl := l.isLt
    refine pair_apply _ _ c l (fun j => (kf j (128 * (a / 2) + l.val) : EReal)) b (fun c => ?_) (fun c => ?_)
    · have hc := c.isLt
      rw [win3 _ _ _ 0 (128 * (a / 2)) rfl c l (by omega) (by omega), R.hkp]
      simp only [zero_add]
    · have hc := c.isLt
      rw [win3 _ _ _ 0 (128 * (a / 2)) rfl c l (by omega) (by omega), R.hkc]
      simp only [zero_add]
  have hq' : ∀ l : Fin 128, (select sel (shapeCast S128x128 (VecWindow.window X.x7 ![0, 0, 128 * a] S1x128x128.size hq) shapeCasts_S1x128x128_S128x128)
      (broadcast S128x128 (Scalar.ofBits (F := Ideal) .bf16 0x0000#16)) : FVec Ideal S128x128 .bf16) (ix2 t l)
      = if (128 * e < 128 ↔ l.val < 64) then ((fun l => qf t.val (128 * a + l)) l.val : EReal) else 0 := fun l => by
    have hl := l.isLt
    have ht := t.isLt
    have e1 : (select sel (shapeCast S128x128 (VecWindow.window X.x7 ![0, 0, 128 * a] S1x128x128.size hq) shapeCasts_S1x128x128_S128x128)
      (broadcast S128x128 (Scalar.ofBits (F := Ideal) .bf16 0x0000#16)) : FVec Ideal S128x128 .bf16) (ix2 t l)
      = Scalar.select (sel (ix2 t l)) (shapeCast S128x128 (VecWindow.window X.x7 ![0, 0, 128 * a] S1x128x128.size hq) shapeCasts_S1x128x128_S128x128 (ix2 t l))
        (Ideal.ofBits .bf16 0x0000#16) := rfl
    rw [e1, hsel, cast3_apply, win3 _ _ _ 0 (128 * a) rfl t l (by omega) (by omega), R.hq, Ideal.ofBits_zero_bf16]
    simp only [zero_add]
    split_ifs <;> rfl
  have e0 : swS (F := Ideal) sel (k0_pay94 (BitVec.ofNat 32 b))
        (k0_pay95 (VecWindow.window X.x8 ![0, 0, 128 * (a / 2)] S1x128x128.size hk) (VecWindow.window X.x9 ![0, 0, 128 * (a / 2)] S1x128x128.size hk))
        (shapeCast S128x128 (VecWindow.window X.x7 ![0, 0, 128 * a] S1x128x128.size hq) shapeCasts_S1x128x128_S128x128) (ix2 t c)
      = Scalar.select (k0_pay94 (BitVec.ofNat 32 b) (ix2 t c)) ((constant S128x256 .f32 0x00000000#32 : FVec Ideal S128x256 .f32) (ix2 t c)
        + ∑ l : Fin 128, (select sel (shapeCast S128x128 (VecWindow.window X.x7 ![0, 0, 128 * a] S1x128x128.size hq) shapeCasts_S1x128x128_S128x128)
      (broadcast S128x128 (Scalar.ofBits (F := Ideal) .bf16 0x0000#16)) : FVec Ideal S128x128 .bf16) (ix2 t l)
          * k0_pay95 (VecWindow.window X.x8 ![0, 0, 128 * (a / 2)] S1x128x128.size hk) (VecWindow.window X.x9 ![0, 0, 128 * (a / 2)] S1x128x128.size hk) (ix2 c l))
        (Ideal.ofBits .f32 0xFF800000#32) :=
    congrArg (fun z => Scalar.select (k0_pay94 (BitVec.ofNat 32 b) (ix2 t c)) z (Ideal.ofBits .f32 0xFF800000#32))
      (Ideal.matmul_transposedRhs_apply none (select sel (shapeCast S128x128 (VecWindow.window X.x7 ![0, 0, 128 * a] S1x128x128.size hq) shapeCasts_S1x128x128_S128x128)
      (broadcast S128x128 (Scalar.ofBits (F := Ideal) .bf16 0x0000#16)) : FVec Ideal S128x128 .bf16)
        (k0_pay95 (VecWindow.window X.x8 ![0, 0, 128 * (a / 2)] S1x128x128.size hk) (VecWindow.window X.x9 ![0, 0, 128 * (a / 2)] S1x128x128.size hk)) _ t c)
  rw [e0, Finset.sum_congr rfl fun l _ => congrArg₂ (· * ·) (hq' l) (hk' l), half_sum (128 * e) (by omega) (fun l => qf t.val (128 * a + l)) (fun l => kf (kj b c.val) (128 * (a / 2) + l)),
    show (constant S128x256 .f32 0x00000000#32 : FVec Ideal S128x256 .f32) (ix2 t c) = 0 from Ideal.ofBits_zero_f32, zero_add, negInf, valid_apply ⟨b, hb⟩ t c]
  have ez : (∑ d ∈ Finset.range 64, qf t.val (128 * a + (64 * (128 * e / 128) + d)) * kf (kj b c.val) (128 * (a / 2) + (64 * (128 * e / 128) + d)))
      = zsw qf kf (2 * a + e) t.val (kj b c.val) := by
    unfold zsw
    refine Finset.sum_congr rfl fun d _ => ?_
    rw [show 128 * a + (64 * (128 * e / 128) + d) = 64 * (2 * a + e) + d by omega,
      show 128 * (a / 2) + (64 * (128 * e / 128) + d) = 128 * ((2 * a + e) / 4) + 64 * ((2 * a + e) % 2) + d by omega]
  rw [ez]
  split_ifs <;> rfl

/-- Head `2 * a + e` at a row. -/
theorem head_read (a e : ℕ) (ha : a < 4) (he : e < 2) (sel : IVec S128x128 1) (hsel : ∀ r l : Fin 128, sel (ix2 r l) = if (128 * e < 128 ↔ l.val < 64) then 1#1 else 0#1)
    (hq : ∀ d, ![0, 0, 128 * a] d + S1x128x128.size d ≤ S1x128x512.size d) (hk : ∀ d, ![0, 0, 128 * (a / 2)] d + S1x128x128.size d ≤ S1x128x256.size d)
    (t l : Fin 128) :
    swHead (F := Ideal) sel (k0_pay94 (BitVec.ofNat 32 b))
        (k0_pay95 (VecWindow.window X.x8 ![0, 0, 128 * (a / 2)] S1x128x128.size hk) (VecWindow.window X.x9 ![0, 0, 128 * (a / 2)] S1x128x128.size hk))
        (k0_pay95 (VecWindow.window X.x10 ![0, 0, 128 * (a / 2)] S1x128x128.size hk) (VecWindow.window X.x11 ![0, 0, 128 * (a / 2)] S1x128x128.size hk))
        (shapeCast S128x128 (VecWindow.window X.x7 ![0, 0, 128 * a] S1x128x128.size hq) shapeCasts_S1x128x128_S128x128) (sf (2 * a + e)) (ix2 t l)
      = ∑ j ∈ Finset.range 4096, ((ew qf kf b (2 * a + e) t.val j / (∑ k ∈ Finset.range 4096, ew qf kf b (2 * a + e) t.val k + ex (sf (2 * a + e))) : ℝ) : EReal)
          * vf j (128 * (a / 2) + l.val) := by
  have ht := t.isLt
  have hv : ∀ c : Fin 256, k0_pay95 (VecWindow.window X.x10 ![0, 0, 128 * (a / 2)] S1x128x128.size hk)
      (VecWindow.window X.x11 ![0, 0, 128 * (a / 2)] S1x128x128.size hk) (ix2 c l) = vf (kj b c.val) (128 * (a / 2) + l.val) := fun c => by
    have hl := l.isLt
    refine pair_apply _ _ c l (fun j => vf j (128 * (a / 2) + l.val)) b (fun c => ?_) (fun c => ?_)
    · have hc := c.isLt
      rw [win3 _ _ _ 0 (128 * (a / 2)) rfl c l (by omega) (by omega), R.hvp]
      simp only [zero_add]
    · have hc := c.isLt
      rw [win3 _ _ _ 0 (128 * (a / 2)) rfl c l (by omega) (by omega), R.hvc]
      simp only [zero_add]
  have hex : ∀ c : Fin 256, ex (if Ok b t.val c.val then ((zsw qf kf (2 * a + e) t.val (kj b c.val) : ℝ) : EReal) else ⊥)
      = if Ok b t.val c.val then Real.exp (zsw qf kf (2 * a + e) t.val (kj b c.val)) else 0 := fun c => by
    split_ifs
    · rfl
    · rfl
  have hkj : ∀ c, 128 ≤ 128 * b + c → kj b c = 128 * b + c - 128 := fun c h => by unfold kj; split_ifs <;> omega
  rw [swHead_read sel _ _ _ _ (sf (2 * a + e)) t l _ _ (swS_read R hb a e ha he sel hsel hq hk t)
    (fun c => by split_ifs; exacts [EReal.coe_ne_top _, bot_ne_top]) (R.hs' _) hv ⟨128 + t.val, by omega⟩
    (by rw [if_pos ⟨le_refl _, by show t.val < 128 + t.val; omega, by show 128 ≤ 128 * b + (128 + t.val); omega⟩]; exact EReal.bot_lt_coe _)]
  have hD : ∑ k : Fin 256, ex (if Ok b t.val k.val then ((zsw qf kf (2 * a + e) t.val (kj b k.val) : ℝ) : EReal) else ⊥)
      = ∑ k ∈ Finset.range 4096, ew qf kf b (2 * a + e) t.val k := by
    rw [Finset.sum_congr rfl fun c _ => hex c]
    exact window_sum b hb t.val ht (fun c => Real.exp (zsw qf kf (2 * a + e) t.val (kj b c))) (fun j => Real.exp (zsw qf kf (2 * a + e) t.val j))
      (fun c h => by rw [hkj c h])
  rw [hD]
  generalize (∑ k ∈ Finset.range 4096, ew qf kf b (2 * a + e) t.val k + ex (sf (2 * a + e))) = D
  have hN : ∀ c : Fin 256, ((ex (if Ok b t.val c.val then ((zsw qf kf (2 * a + e) t.val (kj b c.val) : ℝ) : EReal) else ⊥) / D : ℝ) : EReal)
        * vf (kj b c.val) (128 * (a / 2) + l.val)
      = if Ok b t.val c.val then (((Real.exp (zsw qf kf (2 * a + e) t.val (kj b c.val)) / D : ℝ) : EReal) * vf (kj b c.val) (128 * (a / 2) + l.val)) else 0 := fun c => by
    rw [hex]
    split_ifs
    · rfl
    · rw [zero_div, EReal.coe_zero, zero_mul]
  rw [Finset.sum_congr rfl fun c _ => hN c]
  refine (window_sum b hb t.val ht (fun c => ((Real.exp (zsw qf kf (2 * a + e) t.val (kj b c)) / D : ℝ) : EReal) * vf (kj b c) (128 * (a / 2) + l.val))
    (fun j => ((Real.exp (zsw qf kf (2 * a + e) t.val j) / D : ℝ) : EReal) * vf j (128 * (a / 2) + l.val)) (fun c h => by rw [hkj c h])).trans ?_
  refine Finset.sum_congr rfl fun j _ => ?_
  unfold ew
  split_ifs
  · rfl
  · rw [zero_div, EReal.coe_zero, zero_mul]

end

end Cert.KernelIdeal.Hand

end
-- ==== Proof.KI.Out.lean ====
module

public import proofs.«01_k».proof.Proof.KI.Sw

@[expose] public section

set_option maxRecDepth 65536

noncomputable section

namespace Cert.KernelIdeal.Hand

open Cert.KernelIdeal Cert.KernelIdeal.Gen Cert.Mix
open Idealize.ShloMosaic Idealize.ShloMosaic.TcCoe Idealize.ShloMosaic.ValueIdx

/-! A grid point's two output blocks, read at an entry. -/

/-- A tile put apart from the one read changes nothing there. -/
theorem tile_put_ne {e : EltTy} (x : Vec Ideal S1x128x512 e) (m n : ℕ) (h : m + 128 ≤ n ∨ n + 128 ≤ m) (inb : ∀ a, ![0, 0, n] a + ![1, 128, 128] a ≤ S1x128x512.size a)
    (w : Vec Ideal S1x128x128 e) :
    VecWindow.window (VecWindow.put x ![0, 0, m] ![1, 128, 128] w) ![0, 0, n] ![1, 128, 128] inb = VecWindow.window x ![0, 0, n] ![1, 128, 128] inb :=
  VecWindow.window_put_of_disjoint x ![0, 0, m] ![1, 128, 128] ![0, 0, n] ![1, 128, 128] inb w (2 : Fin 3)
    (by show n + 128 ≤ m ∨ m + 128 ≤ n; omega)

/-- The tile just put is what was put. -/
theorem tile_put_eq {e : EltTy} (x : Vec Ideal S1x128x512 e) (n : ℕ) (inb : ∀ a, ![0, 0, n] a + ![1, 128, 128] a ≤ S1x128x512.size a)
    (w : Vec Ideal S1x128x128 e) : VecWindow.window (VecWindow.put x ![0, 0, n] ![1, 128, 128] w) ![0, 0, n] ![1, 128, 128] inb = w :=
  VecWindow.window_put_same x ![0, 0, n] ![1, 128, 128] inb w

/-- Four tiles put side by side, read at an entry. -/
theorem four_tiles {e : EltTy} (o : Vec Ideal S1x128x512 e) (w0 w1 w2 w3 : Vec Ideal S1x128x128 e) (f : ℕ → Fin 128 → Elt Ideal e) (t : Fin 128)
    (h0 : ∀ l : Fin 128, w0 (ix3 0 t l) = f 0 l) (h1 : ∀ l : Fin 128, w1 (ix3 0 t l) = f 1 l)
    (h2 : ∀ l : Fin 128, w2 (ix3 0 t l) = f 2 l) (h3 : ∀ l : Fin 128, w3 (ix3 0 t l) = f 3 l) (l : Fin 512) :
    VecWindow.put (VecWindow.put (VecWindow.put (VecWindow.put o ![0, 0, 0] ![1, 128, 128] w0) ![0, 0, 128] ![1, 128, 128] w1)
      ![0, 0, 256] ![1, 128, 128] w2) ![0, 0, 384] ![1, 128, 128] w3 (ix3 0 t l) = f (l.val / 128) ⟨l.val % 128, Nat.mod_lt _ (by decide)⟩ := by
  have hl := l.isLt
  have ht := t.isLt
  have key : ∀ (y : Vec Ideal S1x128x512 e) (n : ℕ) (inb : ∀ a, ![0, 0, n] a + ![1, 128, 128] a ≤ S1x128x512.size a) (hn : n = 128 * (l.val / 128)),
      y (ix3 0 t l) = VecWindow.window y ![0, 0, n] ![1, 128, 128] inb (ix3 0 t ⟨l.val % 128, Nat.mod_lt _ (by decide)⟩) := fun y n inb hn => by
    rw [win3 y ![0, 0, n] inb 0 n rfl t ⟨l.val % 128, Nat.mod_lt _ (by decide)⟩ (by omega) (by show n + l.val % 128 < 512; omega)]
    refine congrArg y ?_
    congr 1
    · exact Fin.ext (by show t.val = 0 + t.val; omega)
    · exact Fin.ext (by show l.val = n + l.val % 128; omega)
  rcases (by omega : l.val / 128 = 0 ∨ l.val / 128 = 1 ∨ l.val / 128 = 2 ∨ l.val / 128 = 3) with h | h | h | h
  · refine (key _ 0 inb_S1x128x512_S1x128x128_0_0_0 (by omega)).trans ?_
    rw [tile_put_ne _ 384 0 (by decide), tile_put_ne _ 256 0 (by decide), tile_put_ne _ 128 0 (by decide), tile_put_eq, h0, h]
  · refine (key _ 128 inb_S1x128x512_S1x128x128_0_0_128 (by omega)).trans ?_
    rw [tile_put_ne _ 384 128 (by decide), tile_put_ne _ 256 128 (by decide), tile_put_eq, h1, h]
  · refine (key _ 256 inb_S1x128x512_S1x128x128_0_0_256 (by omega)).trans ?_
    rw [tile_put_ne _ 384 256 (by decide), tile_put_eq, h2, h]
  · refine (key _ 384 inb_S1x128x512_S1x128x128_0_0_384 (by omega)).trans ?_
    rw [tile_put_eq, h3, h]

/-- Two heads' rows of a slab, side by side, read at an entry. -/
theorem pack_read (w : Vec Ideal S1x256x128 .f32) (t l : Fin 128) :
    k0_pay2 k0_pay176 w (ix3 0 t l) = w (ix3 0 ⟨128 * (l.val / 64) + t.val, by have := t.isLt; have := l.isLt; omega⟩ l) := by
  have ht := t.isLt
  have hl := l.isLt
  have e : k0_pay2 k0_pay176 w (ix3 0 t l) = shapeCast S1x128x128 (fun j => Scalar.select (k0_pay176 j)
      (extractStridedSlice S128x128 ![0, 0] (shapeCast S256x128 w shapeCasts_S1x256x128_S256x128) slices_S256x128_o0_0_S128x128 j)
      (extractStridedSlice S128x128 ![128, 0] (shapeCast S256x128 w shapeCasts_S1x256x128_S256x128) slices_S256x128_o128_0_S128x128 j))
      shapeCasts_S128x128_S1x128x128 (ix3 0 t l) := rfl
  have e1 : extractStridedSlice S128x128 ![0, 0] (shapeCast S256x128 w shapeCasts_S1x256x128_S256x128) slices_S256x128_o0_0_S128x128 (ix2 t l)
      = shapeCast S256x128 w shapeCasts_S1x256x128_S256x128 (ix2 ⟨t.val, by omega⟩ l) :=
    extractStridedSlice_apply _ _ _ _ _ (fun a => by fin_cases a <;> simp [ix2])
  have e2 : extractStridedSlice S128x128 ![128, 0] (shapeCast S256x128 w shapeCasts_S1x256x128_S256x128) slices_S256x128_o128_0_S128x128 (ix2 t l)
      = shapeCast S256x128 w shapeCasts_S1x256x128_S256x128 (ix2 ⟨128 + t.val, by omega⟩ l) :=
    extractStridedSlice_apply _ _ _ _ _ (fun a => by fin_cases a <;> simp [ix2])
  rw [e, cast2_apply, low_apply, e1, e2, cast3_apply, cast3_apply]
  by_cases h : l.val < 64
  · rw [if_pos h]
    refine congrArg w ?_
    congr 1
    exact Fin.ext (by show t.val = 128 * (l.val / 64) + t.val; omega)
  · rw [if_neg h]
    refine congrArg w ?_
    congr 1
    exact Fin.ext (by show 128 + t.val = 128 * (l.val / 64) + t.val; omega)

/-- The stick-breaking output's entry at row `t` and lane `l` of query block `b`. -/
def sbAt (qf kf : ℕ → ℕ → ℝ) (vf : ℕ → ℕ → EReal) (b t l : ℕ) : EReal :=
  ∑ j ∈ Finset.Ico 0 (128 * (b + 1)), Wof (nzf qf kf (l / 64) t) (128 * b + t) j * vf j l

theorem slab_entry {qf kf : ℕ → ℕ → ℝ} {vf : ℕ → ℕ → EReal} {b n : ℕ} {C A : Vec Ideal S1x256x128 .f32} (h : Slab qf kf vf b 0 n C A) (t l : Fin 128) :
    k0_pay2 k0_pay176 A (ix3 0 t l) = sbAt qf kf vf b t.val (128 * n + l.val) := by
  have ht := t.isLt
  have hl := l.isLt
  rw [pack_read, (h ⟨128 * (l.val / 64) + t.val, by omega⟩ l).2]
  unfold sbAt
  show (∑ j ∈ Finset.Ico 0 (128 * (b + 1)), Wof (nzf qf kf (2 * n + (128 * (l.val / 64) + t.val) / 128) ((128 * (l.val / 64) + t.val) % 128))
    (128 * b + (128 * (l.val / 64) + t.val) % 128) j * vf j (128 * n + l.val)) = _
  rw [show 2 * n + (128 * (l.val / 64) + t.val) / 128 = (128 * n + l.val) / 64 by omega, show (128 * (l.val / 64) + t.val) % 128 = t.val by omega]

/-- A point's block of the stick-breaking output, read at an entry. -/
theorem outSb_read {X : Ins Ideal} {qf kf : ℕ → ℕ → ℝ} {vf : ℕ → ℕ → EReal} (R : Reads X qf kf vf) (i : grid0.Coords) (t : Fin 128) (l : Fin 512) :
    outSb X i (ix3 0 t l) = sbAt qf kf vf (i 1).val t.val l.val := by
  have hI := final_inv R i
  have h := four_tiles baseO _ _ _ _ (fun n l => sbAt qf kf vf (i 1).val t.val (128 * n + l.val)) t
    (fun l => slab_entry hI.h0 t l) (fun l => slab_entry hI.h1 t l) (fun l => slab_entry hI.h2 t l) (fun l => slab_entry hI.h3 t l) l
  refine Eq.trans ?_ (h.trans ?_)
  · rfl
  · show sbAt qf kf vf (i 1).val t.val (128 * (l.val / 128) + l.val % 128) = _
    rw [Nat.div_add_mod]

/-- The sliding window's entry at row `t` and lane `l` of query block `b`. -/
def swAt (qf kf : ℕ → ℕ → ℝ) (vf : ℕ → ℕ → EReal) (sf : ℕ → EReal) (b t l : ℕ) : EReal :=
  ∑ j ∈ Finset.range 4096, ((ew qf kf b (l / 64) t j / (∑ k ∈ Finset.range 4096, ew qf kf b (l / 64) t k + ex (sf (l / 64))) : ℝ) : EReal)
    * vf j (128 * (l / 256) + l % 128)

theorem word_read (x : Vec Ideal S8 .f32) (s : ℕ) (hs : s < 8) (inb : ∀ d, ![s] d + S1.size d ≤ S8.size d) : word x ![s] inb = x (ix1 ⟨s, hs⟩) := by
  unfold word
  refine congrArg x (funext fun d => Fin.ext ?_)
  fin_cases d
  show s + 1 * _ = s
  have : ∀ n : Fin 1, s + 1 * n.val = s := fun n => by have := n.isLt; omega
  exact this _

theorem tile_entry {X : Ins Ideal} {b : ℕ} {qf kf : ℕ → ℕ → ℝ} {vf : ℕ → ℕ → EReal} {sf : ℕ → EReal} (R : ReadsW X b qf kf vf sf) (hb : b < 32)
    (a : ℕ) (ha : a < 4) (hq : ∀ d, ![0, 0, 128 * a] d + S1x128x128.size d ≤ S1x128x512.size d) (hk : ∀ d, ![0, 0, 128 * (a / 2)] d + S1x128x128.size d ≤ S1x128x256.size d)
    (g0 : ∀ d, ![2 * a] d + S1.size d ≤ S8.size d) (g1 : ∀ d, ![2 * a + 1] d + S1.size d ≤ S8.size d) (t l : Fin 128) :
    tileOf X (BitVec.ofNat 32 b) (128 * a) (128 * (a / 2)) (2 * a) (2 * a + 1) hq hk g0 g1 (ix3 0 t l) = swAt qf kf vf sf b t.val (128 * a + l.val) := by
  have hl := l.isLt
  have e0 := head_read R hb a 0 ha (by decide) k0_pay176 lowSel hq hk t l
  have e1 := head_read R hb a 1 ha (by decide) highMask highSel hq hk t l
  have w0 : word X.x2 ![2 * a] g0 = sf (2 * a) := by rw [word_read _ _ (by omega), R.hs]
  have w1 : word X.x2 ![2 * a + 1] g1 = sf (2 * a + 1) := by rw [word_read _ _ (by omega), R.hs]
  unfold tileOf
  rw [w0, w1]
  unfold swTile
  rw [cast2_apply]
  refine (show _ = Scalar.select (k0_pay176 (ix2 t l)) _ _ from rfl).trans ?_
  rw [low_apply]
  unfold swAt
  by_cases h : l.val < 64
  · rw [if_pos h]
    refine (show _ = _ from rfl).trans (e0.trans ?_)
    rw [show 2 * a + 0 = (128 * a + l.val) / 64 by omega, show 128 * (a / 2) + l.val = 128 * ((128 * a + l.val) / 256) + (128 * a + l.val) % 128 by omega]
  · rw [if_neg h]
    refine (show _ = _ from rfl).trans (e1.trans ?_)
    rw [show 2 * a + 1 = (128 * a + l.val) / 64 by omega, show 128 * (a / 2) + l.val = 128 * ((128 * a + l.val) / 256) + (128 * a + l.val) % 128 by omega]

/-- A point's block of the sliding window's output, read at an entry. -/
theorem outSw_read {X : Ins Ideal} {i : grid0.Coords} {qf kf : ℕ → ℕ → ℝ} {vf : ℕ → ℕ → EReal} {sf : ℕ → EReal} (R : ReadsW X (i 1).val qf kf vf sf)
    (t : Fin 128) (l : Fin 512) : outSw X i (ix3 0 t l) = swAt qf kf vf sf (i 1).val t.val l.val := by
  have hb : (i 1).val < 32 := (i 1).isLt
  have e : outSw X i = swAll X (BitVec.ofNat 32 (i 1).val) baseO := by
    unfold outSw start
    by_cases h3 : 3 ≤ (i 1).val
    · rw [dif_pos ((cond1_iff i).2 h3), band_sw]
    · rw [dif_neg (fun h => h3 ((cond1_iff i).1 h)), dif_pos ((cond2_iff i).2 (by omega)), edge_sw]
  rw [e]
  have h := four_tiles baseO _ _ _ _ (fun n l => swAt qf kf vf sf (i 1).val t.val (128 * n + l.val)) t
    (fun l => tile_entry R hb 0 (by decide) inb_S1x128x512_S1x128x128_0_0_0 inb_S1x128x256_S1x128x128_0_0_0 inb_S8_S1_0 inb_S8_S1_1 t l)
    (fun l => tile_entry R hb 1 (by decide) inb_S1x128x512_S1x128x128_0_0_128 inb_S1x128x256_S1x128x128_0_0_0 inb_S8_S1_2 inb_S8_S1_3 t l)
    (fun l => tile_entry R hb 2 (by decide) inb_S1x128x512_S1x128x128_0_0_256 inb_S1x128x256_S1x128x128_0_0_128 inb_S8_S1_4 inb_S8_S1_5 t l)
    (fun l => tile_entry R hb 3 (by decide) inb_S1x128x512_S1x128x128_0_0_384 inb_S1x128x256_S1x128x128_0_0_128 inb_S8_S1_6 inb_S8_S1_7 t l) l
  refine Eq.trans ?_ (h.trans ?_)
  · rfl
  · show swAt qf kf vf sf (i 1).val t.val (128 * (l.val / 128) + l.val % 128) = _
    rw [Nat.div_add_mod]

end Cert.KernelIdeal.Hand

end
-- ==== Proof.KI.Launch.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Rules
public import proofs.«01_k».proof.Proof.KI.Body
public import Idealize.ShloMosaic.Lib.Pipeline.FrameBody
public import Idealize.ShloMosaic.Lib.Pipeline.ValueKit.Geometry

@[expose] public section

set_option maxRecDepth 65536

noncomputable section

namespace Cert.KernelIdeal.Hand

open Cert.KernelIdeal Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-! The launch: the pipeline's data, the body at each point, and what every run of the program ends with. -/

local notation "𝕄" => MT nD τ sig Unit (Elt F) ℕ (UR sig nD τ) ℕ

variable (m : (ℓ : Loc nD τ sig) → Buf (Elt F) ℓ) (ρ : Dev nD → PrngReg)

/-- The buffers at the pipeline's start: the host operations done on the launch memory. -/
@[irreducible] def V (c : Dev nD) (b : Ref sig .tc) : Buf (Elt F) ((c.tc : Thread nD τ).loc b) := StableHlo.after hostOps0 (fun b => m (c, b)) b

/-- Window 0's block of its array. -/
def blk0 (c : Dev nD) (t : Fin grid0.N) : Vec F S8 .f32 := (win0_0.blk t).view.read (Elt F) (V m c (Pipeline.arrRef spec0 0))
/-- Window 1's block of its array. -/
def blk1 (c : Dev nD) (t : Fin grid0.N) : Vec F S1x128x512 .bf16 := (win0_1.blk t).view.read (Elt F) (V m c (Pipeline.arrRef spec0 1))
/-- Window 2's block of its array. -/
def blk2 (c : Dev nD) (t : Fin grid0.N) : Vec F S1x4096x512 .bf16 := (win0_2.blk t).view.read (Elt F) (V m c (Pipeline.arrRef spec0 2))
/-- Window 3's block of its array. -/
def blk3 (c : Dev nD) (t : Fin grid0.N) : Vec F S1x4096x512 .bf16 := (win0_3.blk t).view.read (Elt F) (V m c (Pipeline.arrRef spec0 3))
/-- Window 4's block of its array. -/
def blk4 (c : Dev nD) (t : Fin grid0.N) : Vec F S128x256 .bf16 := (win0_4.blk t).view.read (Elt F) (V m c (Pipeline.arrRef spec0 4))
/-- Window 5's block of its array. -/
def blk5 (c : Dev nD) (t : Fin grid0.N) : Vec F S1x128x512 .bf16 := (win0_5.blk t).view.read (Elt F) (V m c (Pipeline.arrRef spec0 5))
/-- Window 6's block of its array. -/
def blk6 (c : Dev nD) (t : Fin grid0.N) : Vec F S1x128x256 .bf16 := (win0_6.blk t).view.read (Elt F) (V m c (Pipeline.arrRef spec0 6))
/-- Window 7's block of its array. -/
def blk7 (c : Dev nD) (t : Fin grid0.N) : Vec F S1x128x256 .bf16 := (win0_7.blk t).view.read (Elt F) (V m c (Pipeline.arrRef spec0 7))
/-- Window 8's block of its array. -/
def blk8 (c : Dev nD) (t : Fin grid0.N) : Vec F S1x128x256 .bf16 := (win0_8.blk t).view.read (Elt F) (V m c (Pipeline.arrRef spec0 8))
/-- Window 9's block of its array. -/
def blk9 (c : Dev nD) (t : Fin grid0.N) : Vec F S1x128x256 .bf16 := (win0_9.blk t).view.read (Elt F) (V m c (Pipeline.arrRef spec0 9))

/-- The input blocks of point `t`. -/
def ins (c : Dev nD) (t : Fin grid0.N) : Ins F :=
  ⟨blk0 m c t, blk1 m c t, blk2 m c t, blk3 m c t, blk4 m c t, blk5 m c t, blk6 m c t, blk7 m c t, blk8 m c t, blk9 m c t⟩

/-- What the body leaves in each window's buffer: an input's block, an output's block as computed. -/
def leaves (c : Dev nD) (t : Fin grid0.N) : (w : Fin 12) → (((cfg0 (F := F)).win w).block.Idx → Elt F ((cfg0 (F := F)).win w).elt)
  | 0 => blk0 m c t
  | 1 => blk1 m c t
  | 2 => blk2 m c t
  | 3 => blk3 m c t
  | 4 => blk4 m c t
  | 5 => blk5 m c t
  | 6 => blk6 m c t
  | 7 => blk7 m c t
  | 8 => blk8 m c t
  | 9 => blk9 m c t
  | 10 => outSb (ins m c t) (grid0.coords t)
  | 11 => outSw (ins m c t) (grid0.coords t)
  | ⟨_ + 12, h⟩ => absurd h (Nat.not_lt.2 (Nat.le_add_left _ _))

/-- The pipeline's data on core `c`. -/
def dats (_ : Fin 1) (c : Dev nD) : Dat τ (Elt F) Unit ℕ (UR sig nD τ) ℕ (cfg0 (F := F)) c where
  A w := V m c (Pipeline.arrRef spec0 w)
  after w t := leaves m c t w
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

theorem before0 (c : Dev nD) (t : Fin (cfg0 (F := F)).N) (d) : (dats m 0 c).before 0 t d = blk0 m c t :=
  ((dats m 0 c).before_in_eq_fetched 0 rfl (fun _ => rfl) (fun _ _ _ => rfl) (fun _ => rfl) t d).trans rfl
theorem before1 (c : Dev nD) (t : Fin (cfg0 (F := F)).N) (d) : (dats m 0 c).before 1 t d = blk1 m c t :=
  ((dats m 0 c).before_in_eq_fetched 1 rfl (fun _ => rfl) (fun _ _ _ => rfl) (fun _ => rfl) t d).trans rfl
theorem before2 (c : Dev nD) (t : Fin (cfg0 (F := F)).N) (d) : (dats m 0 c).before 2 t d = blk2 m c t :=
  ((dats m 0 c).before_in_eq_fetched 2 rfl (fun _ => rfl) (fun _ _ _ => rfl) (fun _ => rfl) t d).trans rfl
theorem before3 (c : Dev nD) (t : Fin (cfg0 (F := F)).N) (d) : (dats m 0 c).before 3 t d = blk3 m c t :=
  ((dats m 0 c).before_in_eq_fetched 3 rfl (fun _ => rfl) (fun _ _ _ => rfl) (fun _ => rfl) t d).trans rfl
theorem before4 (c : Dev nD) (t : Fin (cfg0 (F := F)).N) (d) : (dats m 0 c).before 4 t d = blk4 m c t :=
  ((dats m 0 c).before_in_eq_fetched 4 rfl (fun _ => rfl) (fun _ _ _ => rfl) (fun _ => rfl) t d).trans rfl
theorem before5 (c : Dev nD) (t : Fin (cfg0 (F := F)).N) (d) : (dats m 0 c).before 5 t d = blk5 m c t :=
  ((dats m 0 c).before_in_eq_fetched 5 rfl (fun _ => rfl) (fun _ _ _ => rfl) (fun _ => rfl) t d).trans rfl
theorem before6 (c : Dev nD) (t : Fin (cfg0 (F := F)).N) (d) : (dats m 0 c).before 6 t d = blk6 m c t :=
  ((dats m 0 c).before_in_eq_fetched 6 rfl (fun _ => rfl) (fun _ _ _ => rfl) (fun _ => rfl) t d).trans rfl
theorem before7 (c : Dev nD) (t : Fin (cfg0 (F := F)).N) (d) : (dats m 0 c).before 7 t d = blk7 m c t :=
  ((dats m 0 c).before_in_eq_fetched 7 rfl (fun _ => rfl) (fun _ _ _ => rfl) (fun _ => rfl) t d).trans rfl
theorem before8 (c : Dev nD) (t : Fin (cfg0 (F := F)).N) (d) : (dats m 0 c).before 8 t d = blk8 m c t :=
  ((dats m 0 c).before_in_eq_fetched 8 rfl (fun _ => rfl) (fun _ _ _ => rfl) (fun _ => rfl) t d).trans rfl
theorem before9 (c : Dev nD) (t : Fin (cfg0 (F := F)).N) (d) : (dats m 0 c).before 9 t d = blk9 m c t :=
  ((dats m 0 c).before_in_eq_fetched 9 rfl (fun _ => rfl) (fun _ _ _ => rfl) (fun _ => rfl) t d).trans rfl

/-- The invariant between points: the scratch at some contents, the generator register at some state. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]; simp only [owns_whole]; try rfl

/-- What the body is called with at a point. -/
def bodyPre (c : Dev nD) (t : Fin (cfg0 (F := F)).N) : sProp 𝕄 :=
  iprop((dats m 0 c).Φ t.castSucc ∗ (dats m 0 c).owesAt () t.castSucc ∗ (∃ d, owns (c : Thread nD τ) (st0_0 (F := F) t) fullShare ((dats m 0 c).before 0 t d)) ∗ (∃ d, owns (c : Thread nD τ) (st0_1 (F := F) t) fullShare ((dats m 0 c).before 1 t d)) ∗ (∃ d, owns (c : Thread nD τ) (st0_2 (F := F) t) fullShare ((dats m 0 c).before 2 t d)) ∗ (∃ d, owns (c : Thread nD τ) (st0_3 (F := F) t) fullShare ((dats m 0 c).before 3 t d)) ∗ (∃ d, owns (c : Thread nD τ) (st0_4 (F := F) t) fullShare ((dats m 0 c).before 4 t d)) ∗ (∃ d, owns (c : Thread nD τ) (st0_5 (F := F) t) fullShare ((dats m 0 c).before 5 t d)) ∗ (∃ d, owns (c : Thread nD τ) (st0_6 (F := F) t) fullShare ((dats m 0 c).before 6 t d)) ∗ (∃ d, owns (c : Thread nD τ) (st0_7 (F := F) t) fullShare ((dats m 0 c).before 7 t d)) ∗ (∃ d, owns (c : Thread nD τ) (st0_8 (F := F) t) fullShare ((dats m 0 c).before 8 t d)) ∗ (∃ d, owns (c : Thread nD τ) (st0_9 (F := F) t) fullShare ((dats m 0 c).before 9 t d)) ∗ (∃ d, owns (c : Thread nD τ) (st0_10 (F := F) t) fullShare ((dats m 0 c).before 10 t d)) ∗ (∃ d, owns (c : Thread nD τ) (st0_11 (F := F) t) fullShare ((dats m 0 c).before 11 t d)))
/-- What it returns. -/
def bodyPost (c : Dev nD) (t : Fin (cfg0 (F := F)).N) : sProp 𝕄 :=
  iprop((dats m 0 c).Φ t.succ ∗ (dats m 0 c).owesAt () t.succ ∗ owns (c : Thread nD τ) (st0_0 (F := F) t) fullShare ((dats m 0 c).after 0 t) ∗ owns (c : Thread nD τ) (st0_1 (F := F) t) fullShare ((dats m 0 c).after 1 t) ∗ owns (c : Thread nD τ) (st0_2 (F := F) t) fullShare ((dats m 0 c).after 2 t) ∗ owns (c : Thread nD τ) (st0_3 (F := F) t) fullShare ((dats m 0 c).after 3 t) ∗ owns (c : Thread nD τ) (st0_4 (F := F) t) fullShare ((dats m 0 c).after 4 t) ∗ owns (c : Thread nD τ) (st0_5 (F := F) t) fullShare ((dats m 0 c).after 5 t) ∗ owns (c : Thread nD τ) (st0_6 (F := F) t) fullShare ((dats m 0 c).after 6 t) ∗ owns (c : Thread nD τ) (st0_7 (F := F) t) fullShare ((dats m 0 c).after 7 t) ∗ owns (c : Thread nD τ) (st0_8 (F := F) t) fullShare ((dats m 0 c).after 8 t) ∗ owns (c : Thread nD τ) (st0_9 (F := F) t) fullShare ((dats m 0 c).after 9 t) ∗ owns (c : Thread nD τ) (st0_10 (F := F) t) fullShare ((dats m 0 c).after 10 t) ∗ owns (c : Thread nD τ) (st0_11 (F := F) t) fullShare ((dats m 0 c).after 11 t))

set_option maxHeartbeats 4000000 in
/-- The body at a point, from the blocks of its inputs to the blocks of its outputs. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0, before1, before2, before3, before4, before5, before6, before7, before8, before9]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, Phi_eq]
  iintro ⟨⟨⟨⟨%s0, HS0⟩, ⟨%s1, HS1⟩, ⟨%s2, HS2⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h1 : k0_cond1 (grid0.coords t) = 1#1
  · have h2 : ¬ k0_cond2 (grid0.coords t) = 1#1 := by
      rw [cond2_iff]; rw [cond1_iff] at h1; omega
    iapply (body_band c (grid0.coords t) _ _ _ _ _ _ _ _ _ _ _ _ _ _ _ _ _ _ _ _ _ _ _ _ _ _ _ _ _ _ (ins m c t) (fun _ => fullShare) Set.univ h1 h2 _ _ s0 s1 s2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]; · iexact HS0
        isplitl [HS1]; · iexact HS1
        iexact HS2
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have h2 : k0_cond2 (grid0.coords t) = 1#1 := by
      rw [cond2_iff]; rw [cond1_iff] at h1; omega
    iapply (body_edge c (grid0.coords t) _ _ _ _ _ _ _ _ _ _ _ _ _ _ _ _ _ _ _ _ _ _ _ _ _ _ _ _ _ _ (ins m c t) (fun _ => fullShare) Set.univ h1 h2 _ _ s0 s1 s2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]; · iexact HS0
        isplitl [HS1]; · iexact HS1
        iexact HS2
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at the point is the body as spelled at the point. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- Every point stores every output's block. -/
theorem idle_eq (i : grid0.Coords) : ∀ w : Fin 12, idle0 w i = false
  | 0 => rfl
  | 1 => rfl
  | 2 => rfl
  | 3 => rfl
  | 4 => rfl
  | 5 => rfl
  | 6 => rfl
  | 7 => rfl
  | 8 => rfl
  | 9 => rfl
  | 10 => rfl
  | 11 => by
    show (!(k0_cond1 i == 1#1) && !(k0_cond2 i == 1#1)) = false
    by_cases h : k0_cond1 i = 1#1
    · rw [h]; rfl
    · have h2 : k0_cond2 i = 1#1 := by
        rw [cond2_iff]; rw [cond1_iff] at h; omega
      rw [h2]; simp
  | ⟨_ + 12, h⟩ => absurd h (Nat.not_lt.2 (Nat.le_add_left _ _))

set_option maxHeartbeats 8000000 in
/-- The body meets the pipeline's obligation at every point. -/
theorem body_obligation (c : Dev nD) :
    BodyObligation (dats (F := F) m 0 c) (defs₀ (F := F)) 𝒱₀ () Set.univ := fun t => by
  have h := sound_body m c t
  unfold bodyPre bodyPost at h
  rw [bigSep_W0, bigSep_W0, defs₀_row]
  have hi : idle0 11 (grid0.coords t) = false := idle_eq _ 11
  refine triple_restated h rfl .rfl fun _ => sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (?_)))))))))))))
  refine Entails.of_eq ?_
  dsimp only
  rw [hi]
  rfl

/-- @main is its host operations, then the pipeline. -/
theorem hmain : Pipeline.HMain (Ix := Unit) (Name := ℕ) (U := UR sig nD τ) (Lvl := ℕ) cfgs 0 defs₀ 𝒱₀ m (main (F := F)) (V m) := by
  have h : V m = fun (c : Dev nD) (b : Ref sig .tc) => StableHlo.after hostOps0 (fun b => m (c, b)) b := by funext c b; unfold V; rfl
  rw [h]
  exact Pipeline.hmain_prefix cfgs 0 defs₀ 𝒱₀ m main hostOps0 hostOps0_sub
    (by simp only [List.Forall]; exact ⟨rfl, rfl, rfl, rfl, rfl, rfl, rfl, rfl, rfl, rfl, rfl, rfl, rfl, rfl, rfl⟩) main_chain

set_option backward.isDefEq.respectTransparency.types false in
/-- Every run of @main from any memory with zero counters ends, with each window's array as the pipeline's write-backs
leave it, every other unscoped buffer as the host operations left it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl) (howed := fun _ _ => rfl)
    (V := V m) (hmain := hmain m) (hA := A_eq m) (hΦ := fun _ _ => rfl)

end Cert.KernelIdeal.Hand

end
-- ==== Proof.KI.Frames.lean ====
module

public import proofs.«01_k».proof.Proof.KI.Launch

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]

/-! What every run leaves in the argument arrays: what the launch found there. -/

variable (m : (ℓ : Loc nD τ sig) → Buf (Elt F) ℓ) (ρ : Dev nD → PrngReg)

/-- The host operations write nothing to argument 0. -/
theorem V_arg0 (c : Dev nD) : V m c main_arg0 = m ((c.tc : Thread nD τ).loc main_arg0) := by
  unfold V
  simp only [hostOps0]
  after_results_simp <;> rfl

/-- The host operations write nothing to argument 1. -/
theorem V_arg1 (c : Dev nD) : V m c main_arg1 = m ((c.tc : Thread nD τ).loc main_arg1) := by
  unfold V
  simp only [hostOps0]
  after_results_simp <;> rfl

/-- The host operations write nothing to argument 2. -/
theorem V_arg2 (c : Dev nD) : V m c main_arg2 = m ((c.tc : Thread nD τ).loc main_arg2) := by
  unfold V
  simp only [hostOps0]
  after_results_simp <;> rfl

/-- The host operations write nothing to argument 3. -/
theorem V_arg3 (c : Dev nD) : V m c main_arg3 = m ((c.tc : Thread nD τ).loc main_arg3) := by
  unfold V
  simp only [hostOps0]
  after_results_simp <;> rfl

/-- The host operations write nothing to argument 4. -/
theorem V_arg4 (c : Dev nD) : V m c main_arg4 = m ((c.tc : Thread nD τ).loc main_arg4) := by
  unfold V
  simp only [hostOps0]
  after_results_simp <;> rfl

/-- The host operations write nothing to argument 5. -/
theorem V_arg5 (c : Dev nD) : V m c main_arg5 = m ((c.tc : Thread nD τ).loc main_arg5) := by
  unfold V
  simp only [hostOps0]
  after_results_simp <;> rfl

/-- The host operations write nothing to argument 6. -/
theorem V_arg6 (c : Dev nD) : V m c main_arg6 = m ((c.tc : Thread nD τ).loc main_arg6) := by
  unfold V
  simp only [hostOps0]
  after_results_simp <;> rfl

/-- The argument arrays end as they began. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.FramePost.rest_eq h c main_arg0 (Pipeline.mem_restRefs_of main_arg0 (by decide) (show ∀ w : Fin 12, (spec0 w).arr.view.ref ≠ main_arg0 by decide))).trans (V_arg0 m c),
    (Pipeline.FramePost.rest_eq h c main_arg1 (Pipeline.mem_restRefs_of main_arg1 (by decide) (show ∀ w : Fin 12, (spec0 w).arr.view.ref ≠ main_arg1 by decide))).trans (V_arg1 m c),
    (Pipeline.FramePost.rest_eq h c main_arg2 (Pipeline.mem_restRefs_of main_arg2 (by decide) (show ∀ w : Fin 12, (spec0 w).arr.view.ref ≠ main_arg2 by decide))).trans (V_arg2 m c),
    (Pipeline.FramePost.rest_eq h c main_arg3 (Pipeline.mem_restRefs_of main_arg3 (by decide) (show ∀ w : Fin 12, (spec0 w).arr.view.ref ≠ main_arg3 by decide))).trans (V_arg3 m c),
    (Pipeline.FramePost.rest_eq h c main_arg4 (Pipeline.mem_restRefs_of main_arg4 (by decide) (show ∀ w : Fin 12, (spec0 w).arr.view.ref ≠ main_arg4 by decide))).trans (V_arg4 m c),
    (Pipeline.FramePost.rest_eq h c main_arg5 (Pipeline.mem_restRefs_of main_arg5 (by decide) (show ∀ w : Fin 12, (spec0 w).arr.view.ref ≠ main_arg5 by decide))).trans (V_arg5 m c),
    (Pipeline.FramePost.in_eq h c 0 rfl).trans (V_arg6 m c)⟩

end Cert.KernelIdeal.Hand

end
-- ==== Proof.KI.Host.lean ====
module

public import proofs.«01_k».proof.Proof.KI.Out
public import proofs.«01_k».proof.Proof.KI.Frames

@[expose] public section

set_option maxRecDepth 65536

noncomputable section

namespace Cert.KernelIdeal.Hand

open Cert.KernelIdeal Cert.KernelIdeal.Gen Cert.Mix
open Idealize.ShloMosaic Idealize.ShloMosaic.TcCoe Idealize.ShloMosaic.Tactic Idealize.ShloMosaic.ValueIdx
open Idealize.SL.Sem

/-! What the host operations leave in the packed operand, and a grid point's blocks of it, read at an entry. -/

/-- A token's pair of key or value heads, each set down twice. -/
def dup (x : Vec Ideal S8x4096x128 .f32) : Vec Ideal S8x4096x256 .f32 :=
  shapeCast S8x4096x256 (concatenate S8x4096x2x2x64 3 [⟨S8x4096x2x1x64, shapeCast S8x4096x2x1x64 x shapeCasts_S8x4096x128_S8x4096x2x1x64⟩,
    ⟨S8x4096x2x1x64, shapeCast S8x4096x2x1x64 x shapeCasts_S8x4096x128_S8x4096x2x1x64⟩] concatenates_S8x4096x2x1x64_S8x4096x2x1x64_S8x4096x2x2x64_d3)
    shapeCasts_S8x4096x2x2x64_S8x4096x256

/-- An operand times a constant. -/
def scaled (b : BitVec 32) (x : Vec Ideal S8x4096x512 .f32) : Vec Ideal S8x4096x512 .f32 :=
  mulf x (broadcastInDim S8x4096x512 ![] bcast_S_S8x4096x512 (constant (F := Ideal) S_ .f32 b))

/-- The six operands. -/
abbrev pieces (x0 x1 x2 x3 : Vec Ideal S8x4096x512 .f32) (x4 x5 : Vec Ideal S8x4096x128 .f32) : List ((s : Shape) × (s.Idx → EReal)) :=
  [⟨S8x4096x512, scaled 0xBE000000#32 x0⟩, ⟨S8x4096x512, x1⟩, ⟨S8x4096x512, x2⟩, ⟨S8x4096x512, scaled 0x3E000000#32 x3⟩, ⟨S8x4096x256, dup x4⟩, ⟨S8x4096x256, dup x5⟩]

/-- The six operands side by side. -/
def packed (x0 x1 x2 x3 : Vec Ideal S8x4096x512 .f32) (x4 x5 : Vec Ideal S8x4096x128 .f32) : Vec Ideal S8x4096x2560 .bf16 :=
  truncf (F := Ideal) (s := S8x4096x2560) (φ := .f32) .bf16 (concatenate S8x4096x2560 2 (pieces x0 x1 x2 x3 x4 x5)
    concatenates_S8x4096x512_S8x4096x512_S8x4096x512_S8x4096x512_S8x4096x256_S8x4096x256_S8x4096x2560_d2 : Vec Ideal S8x4096x2560 .f32) bitsLt_bf16_f32

section Launch
variable (m : (ℓ : Loc nD τ sig) → Buf (Elt Ideal) ℓ) (c : Dev nD)

/-- The packed operand after the host operations that follow the table's. -/
theorem tail_v11 (W : Valuation τ sig (Elt Ideal)) : StableHlo.after (hostOps0 (F := Ideal)).tail W (Proc.devRef .tc main_v11)
    = packed (W (Proc.devRef .tc main_arg0)) (W (Proc.devRef .tc main_arg1)) (W (Proc.devRef .tc main_arg2)) (W (Proc.devRef .tc main_arg3))
      (W (Proc.devRef .tc main_arg4)) (W (Proc.devRef .tc main_arg5)) := by
  simp only [hostOps0, List.tail_cons]
  after_results_simp
  dsimp only [Matrix.cons_val]
  simp only [↓ StableHlo.readResult, ↓ StableHlo.readPieces, -eq_self]
  rfl

/-- The same, the arguments named. -/
theorem tail_v11' (W : Valuation τ sig (Elt Ideal)) (x0 x1 x2 x3 : Vec Ideal S8x4096x512 .f32) (x4 x5 : Vec Ideal S8x4096x128 .f32)
    (h0 : W (Proc.devRef .tc main_arg0) = x0) (h1 : W (Proc.devRef .tc main_arg1) = x1) (h2 : W (Proc.devRef .tc main_arg2) = x2)
    (h3 : W (Proc.devRef .tc main_arg3) = x3) (h4 : W (Proc.devRef .tc main_arg4) = x4) (h5 : W (Proc.devRef .tc main_arg5) = x5) :
    StableHlo.after (hostOps0 (F := Ideal)).tail W (Proc.devRef .tc main_v11) = packed x0 x1 x2 x3 x4 x5 := by
  subst h0 h1 h2 h3 h4 h5
  exact tail_v11 W

theorem V_v11 : V m c main_v11 = packed (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold V
  exact tail_v11' _ _ _ _ _ _ _ (StableHlo.nullary_result_ne _ _ _ _ (by decide)) (StableHlo.nullary_result_ne _ _ _ _ (by decide)) (StableHlo.nullary_result_ne _ _ _ _ (by decide))
    (StableHlo.nullary_result_ne _ _ _ _ (by decide)) (StableHlo.nullary_result_ne _ _ _ _ (by decide)) (StableHlo.nullary_result_ne _ _ _ _ (by decide))

theorem V_cst : V m c main_cst = fun i => FloatOps.ofBits (F := Ideal) .bf16 (lit0 (S128x256.rowMajor i)) := by
  unfold V
  simp only [hostOps0]
  after_results_simp <;> rfl

end Launch

/-! ## The packed operand at an entry -/

/-- A head set down twice, read at a lane. -/
theorem dup_apply (x : Vec Ideal S8x4096x128 .f32) (a : Fin 8) (j : Fin 4096) (l : Fin 256) :
    dup x (ix3 a j l) = x (ix3 a j ⟨64 * (l.val / 128) + l.val % 64, by have := l.isLt; omega⟩) := by
  have hl := l.isLt
  have ha := a.isLt
  have hj := j.isLt
  have e1 : ∀ (y : Vec Ideal S8x4096x2x2x64 .f32), shapeCast S8x4096x256 y shapeCasts_S8x4096x2x2x64_S8x4096x256 (ix3 a j l)
      = y (ix5 a j ⟨l.val / 128, by omega⟩ ⟨l.val / 64 % 2, by omega⟩ ⟨l.val % 64, by omega⟩) := fun y =>
    shapeCast_apply _ _ _ _ (by
      rw [Shape.rowMajor_val_three, Shape.rowMajor_val_five]
      show (((a.val * 4096 + j.val) * 2 + l.val / 128) * 2 + l.val / 64 % 2) * 64 + l.val % 64 = (a.val * 4096 + j.val) * 256 + l.val
      omega)
  have e2 : shapeCast S8x4096x2x1x64 x shapeCasts_S8x4096x128_S8x4096x2x1x64 (ix5 a j ⟨l.val / 128, by omega⟩ 0 ⟨l.val % 64, by omega⟩)
      = x (ix3 a j ⟨64 * (l.val / 128) + l.val % 64, by omega⟩) :=
    shapeCast_apply _ _ _ _ (by
      rw [Shape.rowMajor_val_three, Shape.rowMajor_val_five]
      show (a.val * 4096 + j.val) * 128 + (64 * (l.val / 128) + l.val % 64) = (((a.val * 4096 + j.val) * 2 + l.val / 128) * 1 + 0) * 64 + l.val % 64
      omega)
  rw [dup, e1]
  by_cases h : l.val / 64 % 2 = 0
  · refine (concatenate_pair_apply_left (t := S8x4096x2x2x64) (s₁ := S8x4096x2x1x64) (s₂ := S8x4096x2x1x64) 3 _ _ _ _ rfl
      (ix5 a j ⟨l.val / 128, by omega⟩ 0 ⟨l.val % 64, by omega⟩) (fun b => ?_)).trans e2
    fin_cases b
    · rfl
    · rfl
    · rfl
    · exact h.symm
    · rfl
  · refine (concatenate_pair_apply_right (t := S8x4096x2x2x64) (s₁ := S8x4096x2x1x64) (s₂ := S8x4096x2x1x64) 3 _ _ _ _ rfl rfl
      (ix5 a j ⟨l.val / 128, by omega⟩ 0 ⟨l.val % 64, by omega⟩) (fun b hb => ?_) (by show 0 + 1 = l.val / 64 % 2; omega)).trans e2
    fin_cases b
    · rfl
    · rfl
    · rfl
    · exact absurd rfl hb
    · rfl

section Packed
variable (x0 x1 x2 x3 : Vec Ideal S8x4096x512 .f32) (x4 x5 : Vec Ideal S8x4096x128 .f32)

/-- The packed operand at an entry is the joined operands' entry. -/
theorem packed_eq (i : S8x4096x2560.Idx) : packed x0 x1 x2 x3 x4 x5 i = concatenate S8x4096x2560 2 (pieces x0 x1 x2 x3 x4 x5)
    concatenates_S8x4096x512_S8x4096x512_S8x4096x512_S8x4096x512_S8x4096x256_S8x4096x256_S8x4096x2560_d2 i := by
  unfold packed
  rfl

/-- A lane of a packed operand five hundred and twelve wide. -/
theorem packed_piece (k : ℕ) (hk : k < 4) (y : Vec Ideal S8x4096x512 .f32)
    (hy : (pieces x0 x1 x2 x3 x4 x5)[k]'(by simp; omega) = ⟨S8x4096x512, y⟩)
    (a : Fin 8) (j : Fin 4096) (l : Fin 512) (L : Fin 2560) (hL : 512 * k + l.val = L.val) : packed x0 x1 x2 x3 x4 x5 (ix3 a j L) = y (ix3 a j l) := by
  refine (packed_eq x0 x1 x2 x3 x4 x5 (ix3 a j L)).trans ?_
  refine concatenate_apply_piece (t := S8x4096x2560) 2 (pieces x0 x1 x2 x3 x4 x5) _ (ix3 a j L) k (by simp; omega) S8x4096x512 y hy rfl (512 * k) ?_ (ix3 a j l) ?_ hL
  · have : k = 0 ∨ k = 1 ∨ k = 2 ∨ k = 3 := by omega
    rcases this with rfl | rfl | rfl | rfl <;> rfl
  · intro b hb
    fin_cases b
    · rfl
    · rfl
    · exact absurd rfl hb

/-- A lane of a packed operand two hundred and fifty-six wide. -/
theorem packed_piece' (k : ℕ) (hk : k < 2) (y : Vec Ideal S8x4096x256 .f32)
    (hy : (pieces x0 x1 x2 x3 x4 x5)[4 + k]'(by simp; omega) = ⟨S8x4096x256, y⟩)
    (a : Fin 8) (j : Fin 4096) (l : Fin 256) (L : Fin 2560) (hL : 2048 + 256 * k + l.val = L.val) : packed x0 x1 x2 x3 x4 x5 (ix3 a j L) = y (ix3 a j l) := by
  refine (packed_eq x0 x1 x2 x3 x4 x5 (ix3 a j L)).trans ?_
  refine concatenate_apply_piece (t := S8x4096x2560) 2 (pieces x0 x1 x2 x3 x4 x5) _ (ix3 a j L) (4 + k) (by simp; omega) S8x4096x256 y hy rfl (2048 + 256 * k) ?_ (ix3 a j l) ?_ hL
  · have : k = 0 ∨ k = 1 := by omega
    rcases this with rfl | rfl <;> rfl
  · intro b hb
    fin_cases b
    · rfl
    · rfl
    · exact absurd rfl hb

end Packed

theorem eighth_neg : Ideal.ofBits .f32 0xBE000000#32 = ((-(1 / 8) : ℝ) : EReal) := by
  simp [Ideal.ofBits, Ideal.ieee]
  norm_num
  rw [← EReal.coe_mul]
  norm_num

theorem eighth_pos : Ideal.ofBits .f32 0x3E000000#32 = ((1 / 8 : ℝ) : EReal) := by
  simp [Ideal.ofBits, Ideal.ieee]
  norm_num
  rw [← EReal.coe_mul]
  norm_num

/-! ## A point's blocks -/

section Blocks
variable (m : (ℓ : Loc nD τ sig) → Buf (Elt Ideal) ℓ) (c : Dev nD) (t : Fin grid0.N)

theorem idx0 : ∀ t : Fin grid0.N, win0_0.index t = ![0] := by decide +kernel
theorem idx1 : ∀ t : Fin grid0.N, win0_1.index t = ![(grid0.coords t 0).val, (grid0.coords t 1).val, 0] := by decide +kernel
theorem idx2 : ∀ t : Fin grid0.N, win0_2.index t = ![(grid0.coords t 0).val, 0, 1] := by decide +kernel
theorem idx3 : ∀ t : Fin grid0.N, win0_3.index t = ![(grid0.coords t 0).val, 0, 2] := by decide +kernel
theorem idx4 : ∀ t : Fin grid0.N, win0_4.index t = ![0, 0] := by decide +kernel
theorem idx5 : ∀ t : Fin grid0.N, win0_5.index t = ![(grid0.coords t 0).val, (grid0.coords t 1).val, 3] := by decide +kernel
theorem idx6 : ∀ t : Fin grid0.N, win0_6.index t = ![(grid0.coords t 0).val, (grid0.coords t 1).val - 1, 8] := by decide +kernel
theorem idx7 : ∀ t : Fin grid0.N, win0_7.index t = ![(grid0.coords t 0).val, (grid0.coords t 1).val, 8] := by decide +kernel
theorem idx8 : ∀ t : Fin grid0.N, win0_8.index t = ![(grid0.coords t 0).val, (grid0.coords t 1).val - 1, 9] := by decide +kernel
theorem idx9 : ∀ t : Fin grid0.N, win0_9.index t = ![(grid0.coords t 0).val, (grid0.coords t 1).val, 9] := by decide +kernel
theorem idx10 : ∀ t : Fin grid0.N, win0_10.index t = ![(grid0.coords t 0).val, (grid0.coords t 1).val, 0] := by decide +kernel
theorem idx11 : ∀ t : Fin grid0.N, win0_11.index t = ![(grid0.coords t 0).val, (grid0.coords t 1).val, 0] := by decide +kernel

theorem blk0_at (h : Fin 8) : blk0 m c t (ix1 h) = V m c main_arg6 (ix1 h) := by
  have e := idx0 t
  refine congrArg (V m c main_arg6) (funext fun a => Fin.ext ?_)
  blk_simp [e]
  fin_cases a
  show 0 * 8 + h.val = h.val
  omega

theorem blk1_at (r : Fin 128) (l : Fin 512) (A : Fin 8) (J : Fin 4096) (L : Fin 2560) (hA : A.val = (grid0.coords t 0).val)
    (hJ : J.val = 128 * (grid0.coords t 1).val + r.val) (hL : L.val = 0 + l.val) : blk1 m c t (ix3 0 r l) = V m c main_v11 (ix3 A J L) := by
  have e := idx1 t
  refine congrArg (V m c main_v11) (funext fun a => Fin.ext ?_)
  blk_simp [e]
  fin_cases a
  · show (grid0.coords t 0).val * 1 + 0 = A.val; omega
  · show (grid0.coords t 1).val * 128 + r.val = J.val; omega
  · show 0 * 512 + l.val = L.val; omega

theorem blk2_at (r : Fin 4096) (l : Fin 512) (A : Fin 8) (J : Fin 4096) (L : Fin 2560) (hA : A.val = (grid0.coords t 0).val)
    (hJ : J.val = r.val) (hL : L.val = 512 + l.val) : blk2 m c t (ix3 0 r l) = V m c main_v11 (ix3 A J L) := by
  have e := idx2 t
  refine congrArg (V m c main_v11) (funext fun a => Fin.ext ?_)
  blk_simp [e]
  fin_cases a
  · show (grid0.coords t 0).val * 1 + 0 = A.val; omega
  · show 0 * 4096 + r.val = J.val; omega
  · show 1 * 512 + l.val = L.val; omega

theorem blk3_at (r : Fin 4096) (l : Fin 512) (A : Fin 8) (J : Fin 4096) (L : Fin 2560) (hA : A.val = (grid0.coords t 0).val)
    (hJ : J.val = r.val) (hL : L.val = 1024 + l.val) : blk3 m c t (ix3 0 r l) = V m c main_v11 (ix3 A J L) := by
  have e := idx3 t
  refine congrArg (V m c main_v11) (funext fun a => Fin.ext ?_)
  blk_simp [e]
  fin_cases a
  · show (grid0.coords t 0).val * 1 + 0 = A.val; omega
  · show 0 * 4096 + r.val = J.val; omega
  · show 2 * 512 + l.val = L.val; omega

theorem blk5_at (r : Fin 128) (l : Fin 512) (A : Fin 8) (J : Fin 4096) (L : Fin 2560) (hA : A.val = (grid0.coords t 0).val)
    (hJ : J.val = 128 * (grid0.coords t 1).val + r.val) (hL : L.val = 1536 + l.val) : blk5 m c t (ix3 0 r l) = V m c main_v11 (ix3 A J L) := by
  have e := idx5 t
  refine congrArg (V m c main_v11) (funext fun a => Fin.ext ?_)
  blk_simp [e]
  fin_cases a
  · show (grid0.coords t 0).val * 1 + 0 = A.val; omega
  · show (grid0.coords t 1).val * 128 + r.val = J.val; omega
  · show 3 * 512 + l.val = L.val; omega

theorem blk6_at (r : Fin 128) (l : Fin 256) (A : Fin 8) (J : Fin 4096) (L : Fin 2560) (hA : A.val = (grid0.coords t 0).val)
    (hJ : J.val = 128 * ((grid0.coords t 1).val - 1) + r.val) (hL : L.val = 2048 + l.val) : blk6 m c t (ix3 0 r l) = V m c main_v11 (ix3 A J L) := by
  have e := idx6 t
  refine congrArg (V m c main_v11) (funext fun a => Fin.ext ?_)
  blk_simp [e]
  fin_cases a
  · show (grid0.coords t 0).val * 1 + 0 = A.val; omega
  · show ((grid0.coords t 1).val - 1) * 128 + r.val = J.val; omega
  · show 8 * 256 + l.val = L.val; omega

theorem blk7_at (r : Fin 128) (l : Fin 256) (A : Fin 8) (J : Fin 4096) (L : Fin 2560) (hA : A.val = (grid0.coords t 0).val)
    (hJ : J.val = 128 * (grid0.coords t 1).val + r.val) (hL : L.val = 2048 + l.val) : blk7 m c t (ix3 0 r l) = V m c main_v11 (ix3 A J L) := by
  have e := idx7 t
  refine congrArg (V m c main_v11) (funext fun a => Fin.ext ?_)
  blk_simp [e]
  fin_cases a
  · show (grid0.coords t 0).val * 1 + 0 = A.val; omega
  · show (grid0.coords t 1).val * 128 + r.val = J.val; omega
  · show 8 * 256 + l.val = L.val; omega

theorem blk8_at (r : Fin 128) (l : Fin 256) (A : Fin 8) (J : Fin 4096) (L : Fin 2560) (hA : A.val = (grid0.coords t 0).val)
    (hJ : J.val = 128 * ((grid0.coords t 1).val - 1) + r.val) (hL : L.val = 2304 + l.val) : blk8 m c t (ix3 0 r l) = V m c main_v11 (ix3 A J L) := by
  have e := idx8 t
  refine congrArg (V m c main_v11) (funext fun a => Fin.ext ?_)
  blk_simp [e]
  fin_cases a
  · show (grid0.coords t 0).val * 1 + 0 = A.val; omega
  · show ((grid0.coords t 1).val - 1) * 128 + r.val = J.val; omega
  · show 9 * 256 + l.val = L.val; omega

theorem blk9_at (r : Fin 128) (l : Fin 256) (A : Fin 8) (J : Fin 4096) (L : Fin 2560) (hA : A.val = (grid0.coords t 0).val)
    (hJ : J.val = 128 * (grid0.coords t 1).val + r.val) (hL : L.val = 2304 + l.val) : blk9 m c t (ix3 0 r l) = V m c main_v11 (ix3 A J L) := by
  have e := idx9 t
  refine congrArg (V m c main_v11) (funext fun a => Fin.ext ?_)
  blk_simp [e]
  fin_cases a
  · show (grid0.coords t 0).val * 1 + 0 = A.val; omega
  · show (grid0.coords t 1).val * 128 + r.val = J.val; omega
  · show 9 * 256 + l.val = L.val; omega

theorem blk4_at (r : Fin 128) (l : Fin 256) : blk4 m c t (ix2 r l) = V m c main_cst (ix2 r l) := by
  have e := idx4 t
  refine congrArg (V m c main_cst) (funext fun a => Fin.ext ?_)
  blk_simp [e]
  fin_cases a
  · show 0 * 128 + r.val = r.val; omega
  · show 0 * 256 + l.val = l.val; omega

end Blocks

end Cert.KernelIdeal.Hand

end
-- ==== Proof.KI.Table0.lean ====
module

public import proofs.«01_k».proof.Proof.KI.Frames

@[expose] public section

set_option maxRecDepth 65536

noncomputable section

namespace Cert.KernelIdeal.Hand

open Cert.KernelIdeal Cert.KernelIdeal.Gen
open Idealize.ShloMosaic

/-! The table of the running sum, rows 0 to 31: one in the second half and up to the row's own column, zero elsewhere. -/

/-- Rows 0 to 7. -/
theorem table_0 : ∀ r : Fin 8, ∀ c : Fin 256, lit0t ((0 + r.val) * 256 + c.val) = if 128 ≤ c.val ∨ c.val ≤ 0 + r.val then 0x3F80#16 else 0x0000#16 := by
  decide +kernel

/-- Rows 8 to 15. -/
theorem table_8 : ∀ r : Fin 8, ∀ c : Fin 256, lit0t ((8 + r.val) * 256 + c.val) = if 128 ≤ c.val ∨ c.val ≤ 8 + r.val then 0x3F80#16 else 0x0000#16 := by
  decide +kernel

/-- Rows 16 to 23. -/
theorem table_16 : ∀ r : Fin 8, ∀ c : Fin 256, lit0t ((16 + r.val) * 256 + c.val) = if 128 ≤ c.val ∨ c.val ≤ 16 + r.val then 0x3F80#16 else 0x0000#16 := by
  decide +kernel

/-- Rows 24 to 31. -/
theorem table_24 : ∀ r : Fin 8, ∀ c : Fin 256, lit0t ((24 + r.val) * 256 + c.val) = if 128 ≤ c.val ∨ c.val ≤ 24 + r.val then 0x3F80#16 else 0x0000#16 := by
  decide +kernel

end Cert.KernelIdeal.Hand

end
-- ==== Proof.KI.Table1.lean ====
module

public import proofs.«01_k».proof.Proof.KI.Frames

@[expose] public section

set_option maxRecDepth 65536

noncomputable section

namespace Cert.KernelIdeal.Hand

open Cert.KernelIdeal Cert.KernelIdeal.Gen
open Idealize.ShloMosaic

/-! The table of the running sum, rows 32 to 63: one in the second half and up to the row's own column, zero elsewhere. -/

/-- Rows 32 to 39. -/
theorem table_32 : ∀ r : Fin 8, ∀ c : Fin 256, lit0t ((32 + r.val) * 256 + c.val) = if 128 ≤ c.val ∨ c.val ≤ 32 + r.val then 0x3F80#16 else 0x0000#16 := by
  decide +kernel

/-- Rows 40 to 47. -/
theorem table_40 : ∀ r : Fin 8, ∀ c : Fin 256, lit0t ((40 + r.val) * 256 + c.val) = if 128 ≤ c.val ∨ c.val ≤ 40 + r.val then 0x3F80#16 else 0x0000#16 := by
  decide +kernel

/-- Rows 48 to 55. -/
theorem table_48 : ∀ r : Fin 8, ∀ c : Fin 256, lit0t ((48 + r.val) * 256 + c.val) = if 128 ≤ c.val ∨ c.val ≤ 48 + r.val then 0x3F80#16 else 0x0000#16 := by
  decide +kernel

/-- Rows 56 to 63. -/
theorem table_56 : ∀ r : Fin 8, ∀ c : Fin 256, lit0t ((56 + r.val) * 256 + c.val) = if 128 ≤ c.val ∨ c.val ≤ 56 + r.val then 0x3F80#16 else 0x0000#16 := by
  decide +kernel

end Cert.KernelIdeal.Hand

end
-- ==== Proof.KI.Table2.lean ====
module

public import proofs.«01_k».proof.Proof.KI.Frames

@[expose] public section

set_option maxRecDepth 65536

noncomputable section

namespace Cert.KernelIdeal.Hand

open Cert.KernelIdeal Cert.KernelIdeal.Gen
open Idealize.ShloMosaic

/-! The table of the running sum, rows 64 to 95: one in the second half and up to the row's own column, zero elsewhere. -/

/-- Rows 64 to 71. -/
theorem table_64 : ∀ r : Fin 8, ∀ c : Fin 256, lit0t ((64 + r.val) * 256 + c.val) = if 128 ≤ c.val ∨ c.val ≤ 64 + r.val then 0x3F80#16 else 0x0000#16 := by
  decide +kernel

/-- Rows 72 to 79. -/
theorem table_72 : ∀ r : Fin 8, ∀ c : Fin 256, lit0t ((72 + r.val) * 256 + c.val) = if 128 ≤ c.val ∨ c.val ≤ 72 + r.val then 0x3F80#16 else 0x0000#16 := by
  decide +kernel

/-- Rows 80 to 87. -/
theorem table_80 : ∀ r : Fin 8, ∀ c : Fin 256, lit0t ((80 + r.val) * 256 + c.val) = if 128 ≤ c.val ∨ c.val ≤ 80 + r.val then 0x3F80#16 else 0x0000#16 := by
  decide +kernel

/-- Rows 88 to 95. -/
theorem table_88 : ∀ r : Fin 8, ∀ c : Fin 256, lit0t ((88 + r.val) * 256 + c.val) = if 128 ≤ c.val ∨ c.val ≤ 88 + r.val then 0x3F80#16 else 0x0000#16 := by
  decide +kernel

end Cert.KernelIdeal.Hand

end
-- ==== Proof.KI.Table3.lean ====
module

public import proofs.«01_k».proof.Proof.KI.Frames

@[expose] public section

set_option maxRecDepth 65536

noncomputable section

namespace Cert.KernelIdeal.Hand

open Cert.KernelIdeal Cert.KernelIdeal.Gen
open Idealize.ShloMosaic

/-! The table of the running sum, rows 96 to 127: one in the second half and up to the row's own column, zero elsewhere. -/

/-- Rows 96 to 103. -/
theorem table_96 : ∀ r : Fin 8, ∀ c : Fin 256, lit0t ((96 + r.val) * 256 + c.val) = if 128 ≤ c.val ∨ c.val ≤ 96 + r.val then 0x3F80#16 else 0x0000#16 := by
  decide +kernel

/-- Rows 104 to 111. -/
theorem table_104 : ∀ r : Fin 8, ∀ c : Fin 256, lit0t ((104 + r.val) * 256 + c.val) = if 128 ≤ c.val ∨ c.val ≤ 104 + r.val then 0x3F80#16 else 0x0000#16 := by
  decide +kernel

/-- Rows 112 to 119. -/
theorem table_112 : ∀ r : Fin 8, ∀ c : Fin 256, lit0t ((112 + r.val) * 256 + c.val) = if 128 ≤ c.val ∨ c.val ≤ 112 + r.val then 0x3F80#16 else 0x0000#16 := by
  decide +kernel

/-- Rows 120 to 127. -/
theorem table_120 : ∀ r : Fin 8, ∀ c : Fin 256, lit0t ((120 + r.val) * 256 + c.val) = if 128 ≤ c.val ∨ c.val ≤ 120 + r.val then 0x3F80#16 else 0x0000#16 := by
  decide +kernel

end Cert.KernelIdeal.Hand

end
-- ==== Proof.KI.Result.lean ====
module

public import proofs.«01_k».proof.Proof.KI.Host
public import proofs.«01_k».proof.Proof.KI.Table0
public import proofs.«01_k».proof.Proof.KI.Table1
public import proofs.«01_k».proof.Proof.KI.Table2
public import proofs.«01_k».proof.Proof.KI.Table3

@[expose] public section

set_option maxRecDepth 65536

noncomputable section

namespace Cert.KernelIdeal.Hand

open Cert.KernelIdeal Cert.KernelIdeal.Gen Cert.Mix
open Idealize.ShloMosaic Idealize.ShloMosaic.TcCoe Idealize.ShloMosaic.Tactic Idealize.ShloMosaic.ValueIdx
open Idealize.SL.Sem

/-! The two result arrays as functions of the arguments. -/

/-- A property of all numbers below 128, from eight at a time. -/
theorem by_eights (P : ℕ → Prop) (h0 : ∀ r : Fin 8, P (0 + r.val)) (h1 : ∀ r : Fin 8, P (8 + r.val)) (h2 : ∀ r : Fin 8, P (16 + r.val)) (h3 : ∀ r : Fin 8, P (24 + r.val)) (h4 : ∀ r : Fin 8, P (32 + r.val)) (h5 : ∀ r : Fin 8, P (40 + r.val)) (h6 : ∀ r : Fin 8, P (48 + r.val)) (h7 : ∀ r : Fin 8, P (56 + r.val)) (h8 : ∀ r : Fin 8, P (64 + r.val)) (h9 : ∀ r : Fin 8, P (72 + r.val)) (h10 : ∀ r : Fin 8, P (80 + r.val)) (h11 : ∀ r : Fin 8, P (88 + r.val)) (h12 : ∀ r : Fin 8, P (96 + r.val)) (h13 : ∀ r : Fin 8, P (104 + r.val)) (h14 : ∀ r : Fin 8, P (112 + r.val)) (h15 : ∀ r : Fin 8, P (120 + r.val)) (r : ℕ) (hr : r < 128) : P r := by
  have h : r / 8 = 0 ∨ r / 8 = 1 ∨ r / 8 = 2 ∨ r / 8 = 3 ∨ r / 8 = 4 ∨ r / 8 = 5 ∨ r / 8 = 6 ∨ r / 8 = 7 ∨ r / 8 = 8 ∨ r / 8 = 9 ∨ r / 8 = 10 ∨ r / 8 = 11 ∨ r / 8 = 12 ∨ r / 8 = 13 ∨ r / 8 = 14 ∨ r / 8 = 15 := by omega
  rcases h with h | h | h | h | h | h | h | h | h | h | h | h | h | h | h | h
  · obtain ⟨k, hk, rfl⟩ : ∃ k, k < 8 ∧ r = 0 + k := ⟨r - 0, by omega, by omega⟩
    exact h0 ⟨k, hk⟩
  · obtain ⟨k, hk, rfl⟩ : ∃ k, k < 8 ∧ r = 8 + k := ⟨r - 8, by omega, by omega⟩
    exact h1 ⟨k, hk⟩
  · obtain ⟨k, hk, rfl⟩ : ∃ k, k < 8 ∧ r = 16 + k := ⟨r - 16, by omega, by omega⟩
    exact h2 ⟨k, hk⟩
  · obtain ⟨k, hk, rfl⟩ : ∃ k, k < 8 ∧ r = 24 + k := ⟨r - 24, by omega, by omega⟩
    exact h3 ⟨k, hk⟩
  · obtain ⟨k, hk, rfl⟩ : ∃ k, k < 8 ∧ r = 32 + k := ⟨r - 32, by omega, by omega⟩
    exact h4 ⟨k, hk⟩
  · obtain ⟨k, hk, rfl⟩ : ∃ k, k < 8 ∧ r = 40 + k := ⟨r - 40, by omega, by omega⟩
    exact h5 ⟨k, hk⟩
  · obtain ⟨k, hk, rfl⟩ : ∃ k, k < 8 ∧ r = 48 + k := ⟨r - 48, by omega, by omega⟩
    exact h6 ⟨k, hk⟩
  · obtain ⟨k, hk, rfl⟩ : ∃ k, k < 8 ∧ r = 56 + k := ⟨r - 56, by omega, by omega⟩
    exact h7 ⟨k, hk⟩
  · obtain ⟨k, hk, rfl⟩ : ∃ k, k < 8 ∧ r = 64 + k := ⟨r - 64, by omega, by omega⟩
    exact h8 ⟨k, hk⟩
  · obtain ⟨k, hk, rfl⟩ : ∃ k, k < 8 ∧ r = 72 + k := ⟨r - 72, by omega, by omega⟩
    exact h9 ⟨k, hk⟩
  · obtain ⟨k, hk, rfl⟩ : ∃ k, k < 8 ∧ r = 80 + k := ⟨r - 80, by omega, by omega⟩
    exact h10 ⟨k, hk⟩
  · obtain ⟨k, hk, rfl⟩ : ∃ k, k < 8 ∧ r = 88 + k := ⟨r - 88, by omega, by omega⟩
    exact h11 ⟨k, hk⟩
  · obtain ⟨k, hk, rfl⟩ : ∃ k, k < 8 ∧ r = 96 + k := ⟨r - 96, by omega, by omega⟩
    exact h12 ⟨k, hk⟩
  · obtain ⟨k, hk, rfl⟩ : ∃ k, k < 8 ∧ r = 104 + k := ⟨r - 104, by omega, by omega⟩
    exact h13 ⟨k, hk⟩
  · obtain ⟨k, hk, rfl⟩ : ∃ k, k < 8 ∧ r = 112 + k := ⟨r - 112, by omega, by omega⟩
    exact h14 ⟨k, hk⟩
  · obtain ⟨k, hk, rfl⟩ : ∃ k, k < 8 ∧ r = 120 + k := ⟨r - 120, by omega, by omega⟩
    exact h15 ⟨k, hk⟩

/-- The table of the running sum at a row and column. -/
theorem table_at (r c : ℕ) (hr : r < 128) (hc : c < 256) : lit0t (r * 256 + c) = if 128 ≤ c ∨ c ≤ r then 0x3F80#16 else 0x0000#16 :=
  by_eights (fun r => ∀ c : Fin 256, lit0t (r * 256 + c.val) = if 128 ≤ c.val ∨ c.val ≤ r then 0x3F80#16 else 0x0000#16)
    table_0 table_8 table_16 table_24 table_32 table_40 table_48 table_56 table_64 table_72 table_80 table_88 table_96 table_104 table_112 table_120 r hr ⟨c, hc⟩

/-- An array's entry at a batch element, a token and a lane; zero outside the array. -/
def at3 {W : ℕ} (x : (⟨3, ![8, 4096, W]⟩ : Shape).Idx → EReal) (a : Fin 8) (j l : ℕ) : EReal :=
  if h : j < 4096 ∧ l < W then x (ix3 a ⟨j, h.1⟩ ⟨l, h.2⟩) else 0

theorem at3_eq {W : ℕ} (x : (⟨3, ![8, 4096, W]⟩ : Shape).Idx → EReal) (a : Fin 8) (j : Fin 4096) (l : Fin W) : at3 x a j.val l.val = x (ix3 a j l) :=
  dif_pos ⟨j.isLt, l.isLt⟩

/-- Stick-breaking attention of queries, keys and values, at an entry of its result. -/
def sbOf (x0 x1 x2 : Vec Ideal S8x4096x512 .f32) (a : Fin 8) (b t l : ℕ) : EReal :=
  sbAt (fun t l => (at3 x0 a (128 * b + t) l).toReal * (-(1 / 8))) (fun j l => (at3 x1 a j l).toReal) (at3 x2 a) b t l

/-- A key or value head's lane of a lane of its two copies. -/
def lane (l : ℕ) : ℕ := 64 * (l / 128) + l % 64

/-- A sink. -/
def sinkOf (x6 : Vec Ideal S8 .f32) (h : ℕ) : EReal := if h' : h < 8 then x6 (ix1 ⟨h, h'⟩) else 0

/-- Sliding-window attention of queries, keys, values and sinks, at an entry of its result. -/
def swOf (x3 : Vec Ideal S8x4096x512 .f32) (x4 x5 : Vec Ideal S8x4096x128 .f32) (x6 : Vec Ideal S8 .f32) (a : Fin 8) (b t l : ℕ) : EReal :=
  swAt (fun t l => (at3 x3 a (128 * b + t) l).toReal * (1 / 8)) (fun j l => (at3 x4 a j (lane l)).toReal) (fun j l => at3 x5 a j (lane l)) (sinkOf x6) b t l

theorem sbOf_congr (x0 x1 x2 : Vec Ideal S8x4096x512 .f32) (a a' : Fin 8) (b b' t t' l l' : ℕ) (ha : a = a') (hb : b = b') (ht : t = t') (hl : l = l') :
    sbAt (fun t l => (at3 x0 a (128 * b + t) l).toReal * (-(1 / 8))) (fun j l => (at3 x1 a j l).toReal) (at3 x2 a) b t l = sbOf x0 x1 x2 a' b' t' l' := by
  subst ha hb ht hl; rfl

theorem swOf_congr (x3 : Vec Ideal S8x4096x512 .f32) (x4 x5 : Vec Ideal S8x4096x128 .f32) (x6 : Vec Ideal S8 .f32) (a a' : Fin 8) (b b' t t' l l' : ℕ)
    (ha : a = a') (hb : b = b') (ht : t = t') (hl : l = l') :
    swAt (fun t l => (at3 x3 a (128 * b + t) l).toReal * (1 / 8)) (fun j l => (at3 x4 a j (lane l)).toReal) (fun j l => at3 x5 a j (lane l)) (sinkOf x6) b t l
      = swOf x3 x4 x5 x6 a' b' t' l' := by
  subst ha hb ht hl; rfl

section Launch
variable (m : (ℓ : Loc nD τ sig) → Buf (Elt Ideal) ℓ) (c : Dev nD) (t : Fin grid0.N)
variable (x0 x1 x2 x3 : Vec Ideal S8x4096x512 .f32) (x4 x5 : Vec Ideal S8x4096x128 .f32) (x6 : Vec Ideal S8 .f32)
variable (h0 : m ((c.tc : Thread nD τ).loc main_arg0) = x0) (h1 : m ((c.tc : Thread nD τ).loc main_arg1) = x1) (h2 : m ((c.tc : Thread nD τ).loc main_arg2) = x2)
  (h3 : m ((c.tc : Thread nD τ).loc main_arg3) = x3) (h4 : m ((c.tc : Thread nD τ).loc main_arg4) = x4) (h5 : m ((c.tc : Thread nD τ).loc main_arg5) = x5)
  (h6 : m ((c.tc : Thread nD τ).loc main_arg6) = x6)

include h0 h1 h2 h3 h4 h5 in
theorem packed_at (A : Fin 8) (J : Fin 4096) (L : Fin 2560) : V m c main_v11 (ix3 A J L) = packed x0 x1 x2 x3 x4 x5 (ix3 A J L) := by
  rw [V_v11]
  subst h0 h1 h2 h3 h4 h5
  rfl

/-- The table's entry. -/
theorem cst_at (r : Fin 128) (l : Fin 256) : V m c main_cst (ix2 r l) = if 128 ≤ l.val ∨ l.val ≤ r.val then (1 : EReal) else 0 := by
  have hr := r.isLt
  have hl := l.isLt
  rw [V_cst]
  have e : (S128x256.rowMajor (ix2 r l)).val = r.val * 256 + l.val := by rw [Shape.rowMajor_val_two]; rfl
  have e2 : lit0 (S128x256.rowMajor (ix2 r l)) = lit0t (r.val * 256 + l.val) := by
    rw [← e]
  show Ideal.ofBits .bf16 (lit0 (S128x256.rowMajor (ix2 r l))) = _
  rw [e2, table_at r.val l.val hr hl]
  split
  · exact Ideal.ofBits_one_bf16
  · exact Ideal.ofBits_zero_bf16

theorem scaled_at (b : BitVec 32) (x : Vec Ideal S8x4096x512 .f32) (i : S8x4096x512.Idx) : scaled b x i = x i * Ideal.ofBits .f32 b := rfl

include h0 h1 h2 h3 h4 h5 in
/-- What a point's stick-breaking blocks hold. -/
theorem reads_sb (f0 : ∀ i, x0 i ≠ ⊤ ∧ x0 i ≠ ⊥) (f1 : ∀ i, x1 i ≠ ⊤ ∧ x1 i ≠ ⊥) :
    Reads (ins m c t) (fun r l => (at3 x0 (grid0.coords t 0) (128 * (grid0.coords t 1).val + r) l).toReal * (-(1 / 8))) (fun j l => (at3 x1 (grid0.coords t 0) j l).toReal)
      (at3 x2 (grid0.coords t 0)) := by
  have hb : (grid0.coords t 1).val < 32 := (grid0.coords t 1).isLt
  refine ⟨fun r l => ?_, fun j l => ?_, fun j l => ?_, fun r l => ?_⟩
  · have hr := r.isLt
    have hl := l.isLt
    refine (blk1_at m c t r l (grid0.coords t 0) ⟨128 * (grid0.coords t 1).val + r.val, by omega⟩ ⟨l.val, by omega⟩ rfl rfl (by show l.val = 512 * 0 + l.val; omega)).trans ?_
    refine (packed_at m c x0 x1 x2 x3 x4 x5 h0 h1 h2 h3 h4 h5 _ _ _).trans ?_
    refine (packed_piece x0 x1 x2 x3 x4 x5 0 (by decide) _ rfl _ _ l _ (by show 512 * 0 + l.val = l.val; omega)).trans ?_
    rw [scaled_at, eighth_neg]
    have e := at3_eq x0 (grid0.coords t 0) ⟨128 * (grid0.coords t 1).val + r.val, by omega⟩ l
    rw [EReal.coe_mul]
    refine congrArg (· * ((-(1 / 8) : ℝ) : EReal)) ?_
    refine Eq.trans ?_ (congrArg (fun z : EReal => ((z.toReal : ℝ) : EReal)) e.symm)
    exact (EReal.coe_toReal (f0 _).1 (f0 _).2).symm
  · have hj := j.isLt
    have hl := l.isLt
    refine (blk2_at m c t j l (grid0.coords t 0) ⟨j.val, by omega⟩ ⟨512 * 1 + l.val, by omega⟩ rfl rfl rfl).trans ?_
    refine (packed_at m c x0 x1 x2 x3 x4 x5 h0 h1 h2 h3 h4 h5 _ _ _).trans ?_
    refine (packed_piece x0 x1 x2 x3 x4 x5 1 (by decide) _ rfl _ _ l _ rfl).trans ?_
    refine Eq.trans ?_ (congrArg (fun z : EReal => ((z.toReal : ℝ) : EReal)) (at3_eq x1 (grid0.coords t 0) j l).symm)
    exact (EReal.coe_toReal (f1 _).1 (f1 _).2).symm
  · have hj := j.isLt
    have hl := l.isLt
    refine (blk3_at m c t j l (grid0.coords t 0) ⟨j.val, by omega⟩ ⟨512 * 2 + l.val, by omega⟩ rfl rfl rfl).trans ?_
    refine (packed_at m c x0 x1 x2 x3 x4 x5 h0 h1 h2 h3 h4 h5 _ _ _).trans ?_
    refine (packed_piece x0 x1 x2 x3 x4 x5 2 (by decide) _ rfl _ _ l _ rfl).trans ?_
    exact (at3_eq x2 (grid0.coords t 0) j l).symm
  · exact (blk4_at m c t r l).trans (cst_at m c r l)

include h0 h1 h2 h3 h4 h5 h6 in
/-- What a point's sliding-window blocks hold. -/
theorem reads_sw (f3 : ∀ i, x3 i ≠ ⊤ ∧ x3 i ≠ ⊥) (f4 : ∀ i, x4 i ≠ ⊤ ∧ x4 i ≠ ⊥) (f6 : ∀ i, x6 i ≠ ⊤) :
    ReadsW (ins m c t) (grid0.coords t 1).val (fun r l => (at3 x3 (grid0.coords t 0) (128 * (grid0.coords t 1).val + r) l).toReal * (1 / 8))
      (fun j l => (at3 x4 (grid0.coords t 0) j (lane l)).toReal) (fun j l => at3 x5 (grid0.coords t 0) j (lane l)) (sinkOf x6) := by
  have hb : (grid0.coords t 1).val < 32 := (grid0.coords t 1).isLt
  have keyK : ∀ (J : Fin 4096) (l : Fin 256) (L : Fin 2560), L.val = 256 * 8 + l.val →
      V m c main_v11 (ix3 (grid0.coords t 0) J L) = (((at3 x4 (grid0.coords t 0) J.val (lane l.val)).toReal : ℝ) : EReal) := fun J l L hL => by
    have hl := l.isLt
    refine (packed_at m c x0 x1 x2 x3 x4 x5 h0 h1 h2 h3 h4 h5 _ _ _).trans ?_
    refine (packed_piece' x0 x1 x2 x3 x4 x5 0 (by decide) _ rfl _ _ l _ (by show 2048 + 256 * 0 + l.val = L.val; omega)).trans ?_
    refine (dup_apply x4 (grid0.coords t 0) J l).trans ?_
    refine Eq.trans ?_ (congrArg (fun z : EReal => ((z.toReal : ℝ) : EReal)) (at3_eq x4 (grid0.coords t 0) J ⟨lane l.val, by unfold lane; omega⟩).symm)
    exact (EReal.coe_toReal (f4 _).1 (f4 _).2).symm
  have keyV : ∀ (J : Fin 4096) (l : Fin 256) (L : Fin 2560), L.val = 256 * 9 + l.val →
      V m c main_v11 (ix3 (grid0.coords t 0) J L) = at3 x5 (grid0.coords t 0) J.val (lane l.val) := fun J l L hL => by
    have hl := l.isLt
    refine (packed_at m c x0 x1 x2 x3 x4 x5 h0 h1 h2 h3 h4 h5 _ _ _).trans ?_
    refine (packed_piece' x0 x1 x2 x3 x4 x5 1 (by decide) _ rfl _ _ l _ (by show 2048 + 256 * 1 + l.val = L.val; omega)).trans ?_
    refine (dup_apply x5 (grid0.coords t 0) J l).trans ?_
    exact (at3_eq x5 (grid0.coords t 0) J ⟨lane l.val, by unfold lane; omega⟩).symm
  refine ⟨fun r l => ?_, fun r l => ?_, fun r l => ?_, fun r l => ?_, fun r l => ?_, fun h => ?_, fun h => ?_⟩
  · have hr := r.isLt
    have hl := l.isLt
    refine (blk5_at m c t r l (grid0.coords t 0) ⟨128 * (grid0.coords t 1).val + r.val, by omega⟩ ⟨512 * 3 + l.val, by omega⟩ rfl rfl rfl).trans ?_
    refine (packed_at m c x0 x1 x2 x3 x4 x5 h0 h1 h2 h3 h4 h5 _ _ _).trans ?_
    refine (packed_piece x0 x1 x2 x3 x4 x5 3 (by decide) _ rfl _ _ l _ rfl).trans ?_
    rw [scaled_at, eighth_pos]
    have e := at3_eq x3 (grid0.coords t 0) ⟨128 * (grid0.coords t 1).val + r.val, by omega⟩ l
    rw [EReal.coe_mul]
    refine congrArg (· * ((1 / 8 : ℝ) : EReal)) ?_
    refine Eq.trans ?_ (congrArg (fun z : EReal => ((z.toReal : ℝ) : EReal)) e.symm)
    exact (EReal.coe_toReal (f3 _).1 (f3 _).2).symm
  · have hr := r.isLt
    have hl := l.isLt
    exact (blk6_at m c t r l (grid0.coords t 0) ⟨128 * ((grid0.coords t 1).val - 1) + r.val, by omega⟩ ⟨256 * 8 + l.val, by omega⟩ rfl rfl rfl).trans (keyK _ l _ rfl)
  · have hr := r.isLt
    have hl := l.isLt
    exact (blk7_at m c t r l (grid0.coords t 0) ⟨128 * (grid0.coords t 1).val + r.val, by omega⟩ ⟨256 * 8 + l.val, by omega⟩ rfl rfl rfl).trans (keyK _ l _ rfl)
  · have hr := r.isLt
    have hl := l.isLt
    exact (blk8_at m c t r l (grid0.coords t 0) ⟨128 * ((grid0.coords t 1).val - 1) + r.val, by omega⟩ ⟨256 * 9 + l.val, by omega⟩ rfl rfl rfl).trans (keyV _ l _ rfl)
  · have hr := r.isLt
    have hl := l.isLt
    exact (blk9_at m c t r l (grid0.coords t 0) ⟨128 * (grid0.coords t 1).val + r.val, by omega⟩ ⟨256 * 9 + l.val, by omega⟩ rfl rfl rfl).trans (keyV _ l _ rfl)
  · refine (blk0_at m c t h).trans ?_
    rw [V_arg6, h6]
    unfold sinkOf
    rw [dif_pos h.isLt]
  · unfold sinkOf
    split
    · exact f6 _
    · exact EReal.zero_ne_top

include h0 h1 h2 h3 h4 h5 in
/-- The first result array at the end. -/
theorem array_sb (f0 : ∀ i, x0 i ≠ ⊤ ∧ x0 i ≠ ⊥) (f1 : ∀ i, x1 i ≠ ⊤ ∧ x1 i ≠ ⊥) :
    (dats m 0 c).arrAt 10 (cfg0 (F := Ideal)).N = fun i : S8x4096x512.Idx => sbOf x0 x1 x2 (i 0) ((i 1).val / 128) ((i 1).val % 128) (i 2).val := by
  refine (dats m 0 c).arrAt_eq_of_covers 10 _ (by decide +kernel) fun t hf y => ?_
  blk_simp
  have e := idx10 t
  show outSb (ins m c t) (grid0.coords t) y = _
  have hy : y = ix3 (n0 := 1) (n1 := 128) (n2 := 512) 0 (y 1) (y 2) := by
    refine funext fun a => Fin.ext ?_
    fin_cases a
    · have : (y 0).val < 1 := (y 0).isLt
      show (y 0).val = 0; omega
    · rfl
    · rfl
  have h := outSb_read (reads_sb m c t x0 x1 x2 x3 x4 x5 h0 h1 h2 h3 h4 h5 f0 f1) (grid0.coords t) (y 1) (y 2)
  have i1 : win0_10.index t 1 = (grid0.coords t 1).val := by rw [e]; rfl
  have i2 : win0_10.index t 2 = 0 := by rw [e]; rfl
  have g0 : ((win0_10.blk t).view.emb y 0).val = (grid0.coords t 0).val := by
    blk_simp [e]
  have hr : (y 1).val < 128 := (y 1).isLt
  refine (congrArg (outSb (ins m c t) (grid0.coords t)) hy).trans (h.trans ?_)
  refine sbOf_congr x0 x1 x2 _ _ _ _ _ _ _ _ (Fin.ext g0.symm) ?_ ?_ ?_
  · rw [i1]; omega
  · rw [i1]; omega
  · rw [i2]; omega

include h0 h1 h2 h3 h4 h5 h6 in
/-- The second result array at the end. -/
theorem array_sw (f3 : ∀ i, x3 i ≠ ⊤ ∧ x3 i ≠ ⊥) (f4 : ∀ i, x4 i ≠ ⊤ ∧ x4 i ≠ ⊥) (f6 : ∀ i, x6 i ≠ ⊤) :
    (dats m 0 c).arrAt 11 (cfg0 (F := Ideal)).N = fun i : S8x4096x512.Idx => swOf x3 x4 x5 x6 (i 0) ((i 1).val / 128) ((i 1).val % 128) (i 2).val := by
  refine (dats m 0 c).arrAt_eq_of_covers 11 _ (by decide +kernel) fun t hf y => ?_
  blk_simp
  have e := idx11 t
  show outSw (ins m c t) (grid0.coords t) y = _
  have hy : y = ix3 (n0 := 1) (n1 := 128) (n2 := 512) 0 (y 1) (y 2) := by
    refine funext fun a => Fin.ext ?_
    fin_cases a
    · have : (y 0).val < 1 := (y 0).isLt
      show (y 0).val = 0; omega
    · rfl
    · rfl
  have h := outSw_read (i := grid0.coords t) (reads_sw m c t x0 x1 x2 x3 x4 x5 x6 h0 h1 h2 h3 h4 h5 h6 f3 f4 f6) (y 1) (y 2)
  have i1 : win0_11.index t 1 = (grid0.coords t 1).val := by rw [e]; rfl
  have i2 : win0_11.index t 2 = 0 := by rw [e]; rfl
  have g0 : ((win0_11.blk t).view.emb y 0).val = (grid0.coords t 0).val := by
    blk_simp [e]
  have hr : (y 1).val < 128 := (y 1).isLt
  refine (congrArg (outSw (ins m c t) (grid0.coords t)) hy).trans (h.trans ?_)
  refine swOf_congr x3 x4 x5 x6 _ _ _ _ _ _ _ _ (Fin.ext g0.symm) ?_ ?_ ?_
  · rw [i1]; omega
  · rw [i1]; omega
  · rw [i2]; omega

end Launch

end Cert.KernelIdeal.Hand

end
-- ==== Proof.RefSb.lean ====
module

public import proofs.«01_k».proof.Proof.Ref
public import proofs.«01_k».proof.Proof.KI.Result

@[expose] public section

set_option maxRecDepth 65536

noncomputable section

namespace Cert.ReferenceIdeal.Hand

open Cert.ReferenceIdeal Cert.ReferenceIdeal.Gen Cert.ReferenceIdeal.Read Cert.Mix
open Cert.KernelIdeal.Hand (at3 at3_eq sbOf sbAt nzf lkR Cof Wof)
open Idealize.ShloMosaic Idealize.ShloMosaic.ValueIdx

/-! The reference's stick-breaking attention, read at an entry. -/

/-- A left fold of additions is the sum. -/
theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window of the running sum, one row of 4096. -/
abbrev Win : Shape := ⟨4, ![1, 1, 1, 4096]⟩

theorem win_numel : Win.numel = 4096 := by decide

theorem win_at (n : Fin Win.numel) : (Win.rowMajor.symm n 0).val = 0 ∧ (Win.rowMajor.symm n 1).val = 0 ∧ (Win.rowMajor.symm n 2).val = 0
    ∧ (Win.rowMajor.symm n 3).val = n.val := by
  have e := Shape.rowMajor_val_four (Win.rowMajor.symm n)
  rw [Equiv.apply_symm_apply] at e
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  change n.val = (((Win.rowMajor.symm n 0).val * 1 + (Win.rowMajor.symm n 1).val) * 1 + (Win.rowMajor.symm n 2).val) * 4096 + (Win.rowMajor.symm n 3).val at e
  omega

/-- The sum of what is left of a row from a position on. -/
theorem tail_sum (f : ℕ → EReal) (j : ℕ) : ∑ n : Fin 4096, (if j + n.val < 4096 then f (j + n.val) else 0) = ∑ n ∈ Finset.Ico j 4096, f n := by
  rw [Fin.sum_univ_eq_sum_range (fun n => if j + n < 4096 then f (j + n) else 0) 4096, ← Finset.sum_filter, Finset.sum_Ico_eq_sum_range]
  refine Finset.sum_congr (Finset.ext fun n => ?_) fun _ _ => rfl
  rw [Finset.mem_filter, Finset.mem_range, Finset.mem_range]
  omega

/-- The running sum from a row's end: an entry and all that follow it. -/
theorem cumsum_rev (x : S8x8x4096x4096.Idx → EReal) (init : EReal) (hi : init = 0) (H : S8x8x4096x4096.ReduceWindows ![1, 1, 1, 4096] ![1, 1, 1, 1] ![0, 0, 0, 0] ![0, 0, 0, 4095] S8x8x4096x4096)
    (i : S8x8x4096x4096.Idx) (f : ℕ → EReal) (hx : ∀ n : Fin 4096, x (ix4 (i 0) (i 1) (i 2) n) = f n.val) :
    Ideal.hostReduceWindowAdd ![1, 1, 1, 4096] ![1, 1, 1, 1] ![0, 0, 0, 0] ![0, 0, 0, 4095] H x init i = ∑ n ∈ Finset.Ico (i 3).val 4096, f n := by
  subst hi
  have g0 : (i 0).val < 8 := (i 0).isLt
  have g1 : (i 1).val < 8 := (i 1).isLt
  have g2 : (i 2).val < 4096 := (i 2).isLt
  have g3 : (i 3).val < 4096 := (i 3).isLt
  unfold Ideal.hostReduceWindowAdd Host.reduceWindow
  refine (foldl_sum _ _ _).trans ?_
  rw [zero_add, ← tail_sum f, ← Fin.sum_univ_def]
  refine Fintype.sum_equiv (finCongr win_numel) _ _ fun n => ?_
  obtain ⟨w0, w1, w2, w3⟩ := win_at n
  by_cases hn : (i 3).val + n.val < 4096
  · refine Eq.trans ?_ (show f ((i 3).val + n.val) = _ from (if_pos hn).symm)
    refine (dif_pos ?_).trans ?_
    rotate_left
    · refine (congrArg x (funext fun a => Fin.ext ?_)).trans (hx ⟨(i 3).val + n.val, hn⟩)
      match a with
      | ⟨0, _⟩ => show (i 0).val * 1 + (Win.rowMajor.symm n 0).val - 0 = (i 0).val; omega
      | ⟨1, _⟩ => show (i 1).val * 1 + (Win.rowMajor.symm n 1).val - 0 = (i 1).val; omega
      | ⟨2, _⟩ => show (i 2).val * 1 + (Win.rowMajor.symm n 2).val - 0 = (i 2).val; omega
      | ⟨3, _⟩ => show (i 3).val * 1 + (Win.rowMajor.symm n 3).val - 0 = (i 3).val + n.val; omega
    · intro a
      match a with
      | ⟨0, _⟩ => show 0 ≤ (i 0).val * 1 + (Win.rowMajor.symm n 0).val ∧ (i 0).val * 1 + (Win.rowMajor.symm n 0).val - 0 < 8; omega
      | ⟨1, _⟩ => show 0 ≤ (i 1).val * 1 + (Win.rowMajor.symm n 1).val ∧ (i 1).val * 1 + (Win.rowMajor.symm n 1).val - 0 < 8; omega
      | ⟨2, _⟩ => show 0 ≤ (i 2).val * 1 + (Win.rowMajor.symm n 2).val ∧ (i 2).val * 1 + (Win.rowMajor.symm n 2).val - 0 < 4096; omega
      | ⟨3, _⟩ => show 0 ≤ (i 3).val * 1 + (Win.rowMajor.symm n 3).val ∧ (i 3).val * 1 + (Win.rowMajor.symm n 3).val - 0 < 4096; omega
  · refine Eq.trans ?_ (show (0 : EReal) = _ from (if_neg hn).symm)
    refine dif_neg ?_
    intro hin
    have h3 : 0 ≤ (i 3).val * 1 + (Win.rowMajor.symm n 3).val ∧ (i 3).val * 1 + (Win.rowMajor.symm n 3).val - 0 < 4096 := hin 3
    omega

/-- A reshaped operand's entry is the array's at head and lane. -/
theorem v0_at (x : S8x4096x512.Idx → EReal) (i : S8x4096x8x64.Idx) : val_main_v0 (F := Ideal) x i = at3 x (i 0) (i 1).val (64 * (i 2).val + (i 3).val) := by
  have g0 : (i 0).val < 8 := (i 0).isLt
  have g1 : (i 1).val < 4096 := (i 1).isLt
  have g2 : (i 2).val < 8 := (i 2).isLt
  have g3 : (i 3).val < 64 := (i 3).isLt
  have e : (val_main_v0 (F := Ideal) x i : EReal) = x (idx_main_v0 i) := val_main_v0_apply (F := Ideal) x i
  refine e.trans (Eq.trans (congrArg x (funext fun a => Fin.ext ?_)) (at3_eq x (i 0) (i 1) ⟨64 * (i 2).val + (i 3).val, by omega⟩).symm)
  match a with
  | ⟨0, _⟩ => show ((((i 0).val * 4096 + (i 1).val) * 8 + (i 2).val) * 64 + (i 3).val) / 2097152 = (i 0).val; omega
  | ⟨1, _⟩ => show ((((i 0).val * 4096 + (i 1).val) * 8 + (i 2).val) * 64 + (i 3).val) / 512 % 4096 = (i 1).val; omega
  | ⟨2, _⟩ => show ((((i 0).val * 4096 + (i 1).val) * 8 + (i 2).val) * 64 + (i 3).val) % 512 = 64 * (i 2).val + (i 3).val; omega

/-- The keys' likewise. -/
theorem v1_at (x : S8x4096x512.Idx → EReal) (i : S8x4096x8x64.Idx) : val_main_v1 (F := Ideal) x i = at3 x (i 0) (i 1).val (64 * (i 2).val + (i 3).val) := v0_at x i

/-- The values' likewise. -/
theorem v2_at (x : S8x4096x512.Idx → EReal) (i : S8x4096x8x64.Idx) : val_main_v2 (F := Ideal) x i = at3 x (i 0) (i 1).val (64 * (i 2).val + (i 3).val) := v0_at x i

/-- One eighth. -/
theorem eighth : (Ideal.ofBits .f32 0x3E000000#32 : EReal) = ((1 / 8 : ℝ) : EReal) := Cert.KernelIdeal.Hand.eighth_pos

/-- The entry of a finite array is its real value. -/
theorem at3_real {W : ℕ} (x : (⟨3, ![8, 4096, W]⟩ : Shape).Idx → EReal) (f : ∀ i, x i ≠ ⊤ ∧ x i ≠ ⊥) (a : Fin 8) (j l : ℕ) : at3 x a j l = ((at3 x a j l).toReal : EReal) := by
  unfold at3
  split
  · exact (EReal.coe_toReal (f _).1 (f _).2).symm
  · simp

section Values
variable (x0 x1 x2 : S8x4096x512.Idx → EReal) (f0 : ∀ i, x0 i ≠ ⊤ ∧ x0 i ≠ ⊥) (f1 : ∀ i, x1 i ≠ ⊤ ∧ x1 i ≠ ⊥)

/-- The negated score of a query and a key. -/
def nzr (a : Fin 8) (h t j : ℕ) : ℝ := nzf (fun t l => (at3 x0 a t l).toReal * (-(1 / 8))) (fun j l => (at3 x1 a j l).toReal) h t j

include f0 f1 in
/-- The scaled score. -/
theorem score_at (i : S8x8x4096x4096.Idx) : val_main_v5 (F := Ideal) x0 x1 i = ((-nzr x0 x1 (i 0) (i 1).val (i 2).val (i 3).val : ℝ) : EReal) := by
  have h : val_main_v3 (F := Ideal) x0 x1 i
      = ((∑ d ∈ Finset.range 64, (at3 x0 (i 0) (i 2).val (64 * (i 1).val + d)).toReal * (at3 x1 (i 0) (i 3).val (64 * (i 1).val + d)).toReal : ℝ) : EReal) := by
    refine (val_main_v3_apply x0 x1 i).trans ?_
    rw [← Fin.sum_univ_eq_sum_range (fun d => (at3 x0 (i 0) (i 2).val (64 * (i 1).val + d)).toReal * (at3 x1 (i 0) (i 3).val (64 * (i 1).val + d)).toReal) 64, real_sum]
    refine Finset.sum_congr rfl fun k _ => ?_
    refine (congrArg₂ (· * ·) (v0_at x0 (lidx_main_v3 i k)) (v1_at x1 (ridx_main_v3 i k))).trans ?_
    rw [EReal.coe_mul]
    exact congrArg₂ (· * ·) (at3_real x0 f0 _ _ _) (at3_real x1 f1 _ _ _)
  have e : val_main_v5 (F := Ideal) x0 x1 i = val_main_v3 (F := Ideal) x0 x1 i * Ideal.ofBits .f32 0x3E000000#32 := rfl
  rw [e, h, eighth, ← EReal.coe_mul]
  refine congrArg Real.toEReal ?_
  unfold nzr nzf
  rw [Finset.sum_mul, ← Finset.sum_neg_distrib]
  refine Finset.sum_congr rfl fun d _ => ?_
  ring

theorem coe_max (a b : ℝ) : ((max a b : ℝ) : EReal) = max (a : EReal) (b : EReal) := EReal.coe_strictMono.monotone.map_max

/-- Softplus of a real. -/
theorem softplus_real (z : ℝ) : Scalar.select (Ideal.cmp .une ((z : EReal) - 0) ((z : EReal) - 0)) ((z : EReal) + 0)
    (max (z : EReal) 0 + Ideal.log1p (Ideal.exp (-(max ((z : EReal) - 0) (-((z : EReal) - 0)))))) = ((-lkR (-z) : ℝ) : EReal) := by
  rw [sub_zero]
  have hc : Ideal.cmp .une (z : EReal) (z : EReal) = 0#1 := by simp [Ideal.cmp]
  rw [hc]
  show max (z : EReal) 0 + Ideal.log1p (Ideal.exp (-(max (z : EReal) (-(z : EReal))))) = _
  have ha : max (z : EReal) (-(z : EReal)) = ((|z| : ℝ) : EReal) := by
    rw [abs_eq_max_neg, coe_max, EReal.coe_neg]
  have h1 : (0 : ℝ) < 1 + Real.exp (-|z|) := by positivity
  have hl : Ideal.log1p (Ideal.exp (-((|z| : ℝ) : EReal))) = ((Real.log (1 + Real.exp (-|z|)) : ℝ) : EReal) := by
    rw [← EReal.coe_neg]
    show Ideal.log (1 + ((Real.exp (-|z|) : ℝ) : EReal)) = _
    rw [← EReal.coe_one, ← EReal.coe_add]
    show (if (1 + Real.exp (-|z|)) ≤ 0 then ⊥ else ((Real.log (1 + Real.exp (-|z|)) : ℝ) : EReal)) = _
    rw [if_neg (not_le.2 h1)]
  rw [ha, hl, ← EReal.coe_zero, ← coe_max, ← EReal.coe_add]
  refine congrArg Real.toEReal ?_
  rw [lkR, abs_neg]
  have : min (-z) 0 = -max z 0 := by
    rcases le_total z 0 with h | h
    · rw [min_eq_right (by linarith), max_eq_right h, neg_zero]
    · rw [min_eq_left (by linarith), max_eq_left h]
  rw [this]; ring

theorem zero_f32 : (FloatOps.ofBits (F := Ideal) .f32 0x00000000#32 : EReal) = 0 := Ideal.ofBits_zero_f32

include f0 f1 in
/-- The logarithm of the part of the stick that a key leaves. -/
theorem keep_at (i : S8x8x4096x4096.Idx) : val_main_v14 (F := Ideal) x0 x1 i = ((lkR (nzr x0 x1 (i 0) (i 1).val (i 2).val (i 3).val) : ℝ) : EReal) := by
  have e : val_main_v13 (F := Ideal) x0 x1 i = Scalar.select (Ideal.cmp .une (val_main_v5 (F := Ideal) x0 x1 i - Ideal.ofBits .f32 0x00000000#32) (val_main_v5 (F := Ideal) x0 x1 i - Ideal.ofBits .f32 0x00000000#32))
    (val_main_v5 (F := Ideal) x0 x1 i + Ideal.ofBits .f32 0x00000000#32) (max (val_main_v5 (F := Ideal) x0 x1 i) (Ideal.ofBits .f32 0x00000000#32)
      + Ideal.log1p (Ideal.exp (-(max (val_main_v5 (F := Ideal) x0 x1 i - Ideal.ofBits .f32 0x00000000#32) (-(val_main_v5 (F := Ideal) x0 x1 i - Ideal.ofBits .f32 0x00000000#32)))))) := rfl
  have e2 : val_main_v14 (F := Ideal) x0 x1 i = -val_main_v13 (F := Ideal) x0 x1 i := rfl
  rw [e2, e, Ideal.ofBits_zero_f32, score_at x0 x1 f0 f1, softplus_real, neg_neg, EReal.coe_neg, neg_neg]

include f0 f1 in
/-- The logarithm of the part of the stick that a key takes. -/
theorem take_at (i : S8x8x4096x4096.Idx) : val_main_v18 (F := Ideal) x0 x1 i
    = ((lkR (nzr x0 x1 (i 0) (i 1).val (i 2).val (i 3).val) - nzr x0 x1 (i 0) (i 1).val (i 2).val (i 3).val : ℝ) : EReal) := by
  have e : val_main_call3_v1 (F := Ideal) x0 x1 i = Scalar.select (Ideal.cmp .une (-val_main_v5 (F := Ideal) x0 x1 i - Ideal.ofBits .f32 0x00000000#32) (-val_main_v5 (F := Ideal) x0 x1 i - Ideal.ofBits .f32 0x00000000#32))
    (-val_main_v5 (F := Ideal) x0 x1 i + Ideal.ofBits .f32 0x00000000#32) (max (-val_main_v5 (F := Ideal) x0 x1 i) (Ideal.ofBits .f32 0x00000000#32)
      + Ideal.log1p (Ideal.exp (-(max (-val_main_v5 (F := Ideal) x0 x1 i - Ideal.ofBits .f32 0x00000000#32) (-(-val_main_v5 (F := Ideal) x0 x1 i - Ideal.ofBits .f32 0x00000000#32)))))) := rfl
  have e2 : val_main_v18 (F := Ideal) x0 x1 i = -val_main_call3_v1 (F := Ideal) x0 x1 i := rfl
  rw [e2, e, Ideal.ofBits_zero_f32, score_at x0 x1 f0 f1, ← EReal.coe_neg, neg_neg, softplus_real, EReal.coe_neg, neg_neg]
  refine congrArg Real.toEReal ?_
  generalize nzr x0 x1 (i 0) (i 1).val (i 2).val (i 3).val = z
  rw [lkR, lkR, abs_neg]
  rcases le_total z 0 with h | h
  · rw [min_eq_right (by linarith), min_eq_left h]; ring
  · rw [min_eq_left (by linarith), min_eq_right h]; ring

theorem bit_zero : ∀ c : BitVec 1, ¬c = 1#1 → c = 0#1 := by decide

/-- A small number as a word. -/
theorem word_int (a : ℕ) (h : a < 4096) : (BitVec.ofNat 32 a).toInt = a := by
  rw [BitVec.toInt_eq_toNat_of_lt (by rw [BitVec.toNat_ofNat]; omega), BitVec.toNat_ofNat]
  omega

/-- Two small numbers as words compare as they do. -/
theorem slt_words (a b : ℕ) (ha : a < 4096) (hb : b < 4096) : IntOp.cmpi .slt (BitVec.ofNat 32 a) (BitVec.ofNat 32 b) = if a < b then 1#1 else 0#1 := by
  have h := IntOp.cmpi_slt (x := BitVec.ofNat 32 a) (y := BitVec.ofNat 32 b)
  rw [word_int a ha, word_int b hb] at h
  split
  · exact h.2 (by omega)
  · exact (bit_zero _ fun e => by have := h.1 e; omega)

/-- The strict causal mask. -/
theorem strict_at (q s : Fin 4096) (j : S4096x4096.Idx) (h0 : (j 0).val = q.val) (h1 : (j 1).val = s.val) :
    val_main_v12 (F := Ideal) j = if s.val < q.val then 1#1 else 0#1 := by
  have e : val_main_v12 (F := Ideal) j = IntOp.cmpi .slt (BitVec.ofNat 32 (j 1).val) (BitVec.ofNat 32 (j 0).val) := by
    rw [val_main_v12_apply, val_main_v10_apply, val_main_v11_apply, val_main_v9_apply, val_main_v7_apply]; rfl
  rw [e, h0, h1]
  exact slt_words _ _ s.isLt q.isLt

include f0 f1 in
/-- The same, zero at a masked key. -/
theorem kept_at (i : S8x8x4096x4096.Idx) : val_main_v15 (F := Ideal) x0 x1 i
    = if (i 3).val < (i 2).val then ((lkR (nzr x0 x1 (i 0) (i 1).val (i 2).val (i 3).val) : ℝ) : EReal) else 0 := by
  rw [val_main_v15_apply]
  have hm : val_main_call1_v1 (F := Ideal) i = if (i 3).val < (i 2).val then 1#1 else 0#1 := by
    rw [val_main_call1_v1_apply]; exact strict_at (i 2) (i 3) _ rfl rfl
  rw [hm, keep_at x0 x1 f0 f1]
  by_cases h : (i 3).val < (i 2).val
  · rw [if_pos h, if_pos h]; rfl
  · rw [if_neg h, if_neg h]; exact Ideal.ofBits_zero_f32

theorem window_ideal (y : S8x8x4096x4096.Idx → EReal) (z : S_.Idx → EReal) (hu : 0 < S_.numel)
    (H : S8x8x4096x4096.ReduceWindows ![1, 1, 1, 4096] ![1, 1, 1, 1] ![0, 0, 0, 0] ![0, 0, 0, 4095] S8x8x4096x4096) :
    Host.reduceWindowAdd (F := Ideal) (φ := .f32) ![1, 1, 1, 4096] ![1, 1, 1, 1] ![0, 0, 0, 0] ![0, 0, 0, 4095] y z H hu
      = Ideal.hostReduceWindowAdd ![1, 1, 1, 4096] ![1, 1, 1, 1] ![0, 0, 0, 0] ![0, 0, 0, 4095] H y (z (Shape.Idx.first hu)) := rfl

theorem start_zero (j : S_.Idx) : (val_main_call2_v0 (F := Ideal) j : EReal) = 0 := by
  rw [val_main_call2_v0_apply]; exact Ideal.ofBits_zero_f32

include f0 f1 in
/-- The running sum at a key: what it and the later keys before the query leave. -/
theorem tail_at (i : S8x8x4096x4096.Idx) : val_main_v16 (F := Ideal) x0 x1 i
    = ((Cof (nzr x0 x1 (i 0) (i 1).val (i 2).val) (i 2).val (i 3).val : ℝ) : EReal) := by
  have g2 : (i 2).val < 4096 := (i 2).isLt
  have hk : ∀ n : Fin 4096, (val_main_v15 (F := Ideal) x0 x1 (ix4 (i 0) (i 1) (i 2) n) : EReal)
      = (fun n : ℕ => if n < (i 2).val then ((lkR (nzr x0 x1 (i 0) (i 1).val (i 2).val n) : ℝ) : EReal) else 0) n.val :=
    fun n => kept_at x0 x1 f0 f1 (ix4 (i 0) (i 1) (i 2) n)
  unfold val_main_v16
  rw [window_ideal]
  refine (cumsum_rev _ _ (start_zero _) _ i (fun n : ℕ => if n < (i 2).val then ((lkR (nzr x0 x1 (i 0) (i 1).val (i 2).val n) : ℝ) : EReal) else 0) hk).trans ?_
  rw [Cof, real_sum, ← Finset.sum_filter]
  refine Finset.sum_congr (Finset.ext fun n => ?_) fun _ _ => rfl
  rw [Finset.mem_filter, Finset.mem_Ico, Finset.mem_Ico]
  omega

include f0 f1 in
/-- The weight of a key. -/
theorem weight_at (i : S8x8x4096x4096.Idx) : val_main_v21 (F := Ideal) x0 x1 i = Wof (nzr x0 x1 (i 0) (i 1).val (i 2).val) (i 2).val (i 3).val := by
  rw [val_main_v21_apply]
  have hm : val_main_call4_v1 (F := Ideal) i = if (i 3).val < (i 2).val then 1#1 else 0#1 := by
    rw [val_main_call4_v1_apply]; exact strict_at (i 2) (i 3) _ rfl rfl
  rw [hm, Wof]
  by_cases h : (i 3).val < (i 2).val
  · rw [if_pos h, if_pos h]
    have e : val_main_v20 (F := Ideal) x0 x1 i = Ideal.exp (val_main_v18 (F := Ideal) x0 x1 i + (val_main_v16 (F := Ideal) x0 x1 i - val_main_v15 (F := Ideal) x0 x1 i)) := rfl
    refine Eq.trans (b := val_main_v20 (F := Ideal) x0 x1 i) rfl ?_
    rw [e, take_at x0 x1 f0 f1, tail_at x0 x1 f0 f1, kept_at x0 x1 f0 f1, if_pos h, ← EReal.coe_sub, ← EReal.coe_add]
    show ((Real.exp _ : ℝ) : EReal) = _
    refine congrArg (fun r : ℝ => ((Real.exp r : ℝ) : EReal)) ?_
    ring
  · rw [if_neg h, if_neg h]; exact Ideal.ofBits_zero_f32

include f0 f1 in
/-- The reference's first result. -/
theorem refSb_ix (a : Fin 8) (t : Fin 4096) (l : Fin 512) : (val_main_v64 (F := Ideal) x0 x1 x2 (ix3 a t l) : EReal) = sbOf x0 x1 x2 a (t.val / 128) (t.val % 128) l.val := by
  have g0 := a.isLt
  have g1 := t.isLt
  have g2 := l.isLt
  have e1 : (val_main_v64 (F := Ideal) x0 x1 x2 (ix3 a t l) : EReal) = val_main_v23 (F := Ideal) x0 x1 x2 (idx_main_v63 (ix3 a t l)) := val_main_v63_apply (F := Ideal) x0 x1 x2 (ix3 a t l)
  have e2 : (val_main_v23 (F := Ideal) x0 x1 x2 (idx_main_v63 (ix3 a t l)) : EReal) = val_main_v22 (F := Ideal) x0 x1 x2 (ix4 a ⟨l.val / 64, by omega⟩ ⟨l.val % 64, by omega⟩ t) := by
    refine (val_main_v23_apply (F := Ideal) x0 x1 x2 _).trans (congrArg (val_main_v22 (F := Ideal) x0 x1 x2) (funext fun b => Fin.ext ?_))
    match b with
    | ⟨0, _⟩ => show ((a.val * 4096 + t.val) * 512 + l.val) / 2097152 = a.val; omega
    | ⟨1, _⟩ => show ((a.val * 4096 + t.val) * 512 + l.val) / 64 % 8 = l.val / 64; omega
    | ⟨2, _⟩ => show ((a.val * 4096 + t.val) * 512 + l.val) % 64 = l.val % 64; omega
    | ⟨3, _⟩ => show ((a.val * 4096 + t.val) * 512 + l.val) / 512 % 4096 = t.val; omega
  have ht : 128 * (t.val / 128) + t.val % 128 = t.val := by omega
  have hl : 64 * (l.val / 64) + l.val % 64 = l.val := by omega
  have hterm : ∀ k : Fin 4096, val_main_v2 (F := Ideal) x2 (lidx_main_v22 (ix4 a ⟨l.val / 64, by omega⟩ ⟨l.val % 64, by omega⟩ t) k)
        * val_main_v21 (F := Ideal) x0 x1 (ridx_main_v22 (ix4 a ⟨l.val / 64, by omega⟩ ⟨l.val % 64, by omega⟩ t) k)
      = (fun k : ℕ => Wof (nzr x0 x1 a (l.val / 64) t.val) t.val k * at3 x2 a k l.val) k.val := fun k => by
    rw [mul_comm]
    exact congrArg₂ (· * ·) (weight_at x0 x1 f0 f1 _) ((v2_at x2 _).trans (congrArg (at3 x2 a k.val) hl))
  refine e1.trans (e2.trans ((val_main_v22_apply x0 x1 x2 _).trans ((Finset.sum_congr rfl fun k _ => hterm k).trans ?_)))
  rw [Fin.sum_univ_eq_sum_range (fun k : ℕ => Wof (nzr x0 x1 a (l.val / 64) t.val) t.val k * at3 x2 a k l.val) 4096, Finset.range_eq_Ico]
  unfold sbOf sbAt
  have hn : nzf (fun u l => (at3 x0 a (128 * (t.val / 128) + u) l).toReal * (-(1 / 8))) (fun j l => (at3 x1 a j l).toReal) (l.val / 64) (t.val % 128)
      = nzr x0 x1 a (l.val / 64) t.val := by
    funext j
    unfold nzr nzf
    exact congrArg (fun n : ℕ => ∑ d ∈ Finset.range 64, (at3 x0 a n (64 * (l.val / 64) + d)).toReal * (-(1 / 8)) * (at3 x1 a j (64 * (l.val / 64) + d)).toReal) ht
  rw [hn, ht]
  refine (Finset.sum_subset (fun n hn => ?_) fun n _ hn => ?_).symm
  · rw [Finset.mem_Ico] at hn ⊢
    omega
  · rw [Finset.mem_Ico] at hn
    rw [Wof, if_neg (by omega), zero_mul]

include f0 f1 in
/-- The same, the array whole. -/
theorem refSb_all : (val_main_v64 (F := Ideal) x0 x1 x2 : S8x4096x512.Idx → EReal) = fun i => sbOf x0 x1 x2 (i 0) ((i 1).val / 128) ((i 1).val % 128) (i 2).val :=
  funext fun i => (congrArg (val_main_v64 (F := Ideal) x0 x1 x2) (eq_ix3 i)).trans (refSb_ix x0 x1 x2 f0 f1 (i 0) (i 1) (i 2))

end Values

end Cert.ReferenceIdeal.Hand

end
-- ==== Proof.RefSw.lean ====
module

public import proofs.«01_k».proof.Proof.RefSb
public import Idealize.ShloMosaic.Lib.KernelVsHost

@[expose] public section

set_option maxRecDepth 65536

noncomputable section

namespace Cert.ReferenceIdeal.Hand

open Cert.ReferenceIdeal Cert.ReferenceIdeal.Gen Cert.ReferenceIdeal.Read Cert.Mix
open Cert.KernelIdeal.Hand (at3 at3_eq swOf swAt zsw ew lane sinkOf negInf)
open Idealize.ShloMosaic Idealize.ShloMosaic.ValueIdx

/-! The reference's sliding-window attention, read at an entry. -/

/-- A query's entry, its heads taken in two groups of four. -/
theorem v27_at (x : S8x4096x512.Idx → EReal) (a : Fin 8) (t : Fin 4096) (g : Fin 2) (r : Fin 4) (d : Fin 64) :
    (val_main_v27 (F := Ideal) x (ix5 a t g r d) : EReal) = at3 x a t.val (64 * (4 * g.val + r.val) + d.val) := by
  have h0 := a.isLt
  have h1 := t.isLt
  have h2 := g.isLt
  have h3 := r.isLt
  have h4 := d.isLt
  have e : (val_main_v27 (F := Ideal) x (ix5 a t g r d) : EReal) = val_main_v24 (F := Ideal) x (ix4 a t ⟨4 * g.val + r.val, by omega⟩ d) := by
    refine (val_main_v27_apply (F := Ideal) x _).trans (congrArg (val_main_v24 (F := Ideal) x) (funext fun b => Fin.ext ?_))
    match b with
    | ⟨0, _⟩ => show ((((a.val * 4096 + t.val) * 2 + g.val) * 4 + r.val) * 64 + d.val) / 2097152 = a.val; omega
    | ⟨1, _⟩ => show ((((a.val * 4096 + t.val) * 2 + g.val) * 4 + r.val) * 64 + d.val) / 512 % 4096 = t.val; omega
    | ⟨2, _⟩ => show ((((a.val * 4096 + t.val) * 2 + g.val) * 4 + r.val) * 64 + d.val) / 64 % 8 = 4 * g.val + r.val; omega
    | ⟨3, _⟩ => show ((((a.val * 4096 + t.val) * 2 + g.val) * 4 + r.val) * 64 + d.val) % 64 = d.val; omega
  exact e.trans (v0_at x (ix4 a t ⟨4 * g.val + r.val, by omega⟩ d))

/-- A key's entry. -/
theorem v25_at (x : S8x4096x128.Idx → EReal) (a : Fin 8) (j : Fin 4096) (g : Fin 2) (d : Fin 64) :
    (val_main_v25 (F := Ideal) x (ix4 a j g d) : EReal) = at3 x a j.val (64 * g.val + d.val) := by
  have h0 := a.isLt
  have h1 := j.isLt
  have h2 := g.isLt
  have h4 := d.isLt
  have e : (val_main_v25 (F := Ideal) x (ix4 a j g d) : EReal) = x (ix3 a j ⟨64 * g.val + d.val, by omega⟩) := by
    refine (val_main_v25_apply (F := Ideal) x _).trans (congrArg x (funext fun b => Fin.ext ?_))
    match b with
    | ⟨0, _⟩ => show (((a.val * 4096 + j.val) * 2 + g.val) * 64 + d.val) / 524288 = a.val; omega
    | ⟨1, _⟩ => show (((a.val * 4096 + j.val) * 2 + g.val) * 64 + d.val) / 128 % 4096 = j.val; omega
    | ⟨2, _⟩ => show (((a.val * 4096 + j.val) * 2 + g.val) * 64 + d.val) % 128 = 64 * g.val + d.val; omega
  exact e.trans (at3_eq x a j ⟨64 * g.val + d.val, by omega⟩).symm

/-- A value's likewise. -/
theorem v26_at (x : S8x4096x128.Idx → EReal) (a : Fin 8) (j : Fin 4096) (g : Fin 2) (d : Fin 64) :
    (val_main_v26 (F := Ideal) x (ix4 a j g d) : EReal) = at3 x a j.val (64 * g.val + d.val) := v25_at x a j g d

/-- The distance of two small numbers as words. -/
theorem diff_int (s t : ℕ) (hs : s < 4096) (ht : t < 4096) : (BitVec.ofNat 32 s - BitVec.ofNat 32 t).toInt = (s : ℤ) - t := by
  rw [BitVec.toInt_sub, word_int s hs, word_int t ht]
  exact Int.bmod_eq_of_le (by omega) (by omega)

/-- The window's mask. -/
theorem near_at (q s : Fin 4096) : val_main_v43 (F := Ideal) (ix2 q s) = if s.val ≤ q.val ∧ q.val < s.val + 128 then 1#1 else 0#1 := by
  have hq := q.isLt
  have hs := s.isLt
  have e : val_main_v43 (F := Ideal) (ix2 q s) = IntOp.andi (IntOp.cmpi .sle (BitVec.ofNat 32 s.val - BitVec.ofNat 32 q.val) 0#32)
      (IntOp.cmpi .sgt (BitVec.ofNat 32 s.val - BitVec.ofNat 32 q.val) 4294967168#32) := by
    rw [val_main_v43_apply, val_main_v40_apply, val_main_v42_apply, val_main_v38_apply, val_main_v39_apply, val_main_v41_apply, val_main_v36_apply,
      val_main_v37_apply, val_main_v33_apply, val_main_v35_apply]
    rfl
  have h1 := IntOp.cmpi_sle (x := BitVec.ofNat 32 s.val - BitVec.ofNat 32 q.val) (y := 0#32)
  have h2 := IntOp.cmpi_sgt (x := BitVec.ofNat 32 s.val - BitVec.ofNat 32 q.val) (y := 4294967168#32)
  rw [diff_int _ _ hs hq, show (0#32 : BitVec 32).toInt = 0 from by decide] at h1
  rw [diff_int _ _ hs hq, show (4294967168#32 : BitVec 32).toInt = -128 from by decide] at h2
  rw [e]
  split
  · exact IntOp.andi_eq_one.2 ⟨h1.2 (by omega), h2.2 (by omega)⟩
  · refine bit_zero _ fun hh => ?_
    have h3 := IntOp.andi_eq_one.1 hh
    have h4 := h1.1 h3.1
    have h5 := h2.1 h3.2
    omega

section Values
variable (x3 : S8x4096x512.Idx → EReal) (x4 x5 : S8x4096x128.Idx → EReal) (x6 : S8.Idx → EReal)
variable (f3 : ∀ i, x3 i ≠ ⊤ ∧ x3 i ≠ ⊥) (f4 : ∀ i, x4 i ≠ ⊤ ∧ x4 i ≠ ⊥) (f6 : ∀ i, x6 i ≠ ⊤)

/-- The score of a query and a key. -/
def zr (a : Fin 8) (h t j : ℕ) : ℝ := zsw (fun t l => (at3 x3 a t l).toReal * (1 / 8)) (fun j l => (at3 x4 a j (lane l)).toReal) h t j

include f3 f4 in
/-- The scaled score. -/
theorem swScore_at (a : Fin 8) (g : Fin 2) (r : Fin 4) (t j : Fin 4096) :
    (val_main_v31 (F := Ideal) x3 x4 (ix5 a g r t j) : EReal) = ((zr x3 x4 a (4 * g.val + r.val) t.val j.val : ℝ) : EReal) := by
  have hg := g.isLt
  have hr := r.isLt
  have e1 : (val_main_v31 (F := Ideal) x3 x4 (ix5 a g r t j) : EReal) = val_main_v29 (F := Ideal) x3 x4 (ix5 a g r t j) * Ideal.ofBits .f32 0x3E000000#32 := rfl
  have e2 : (val_main_v29 (F := Ideal) x3 x4 (ix5 a g r t j) : EReal) = val_main_v28 (F := Ideal) x3 x4 (ix5 a g j t r) := by
    refine (val_main_v29_apply (F := Ideal) x3 x4 _).trans (congrArg (val_main_v28 (F := Ideal) x3 x4) (funext fun b => Fin.ext ?_))
    match b with
    | ⟨0, _⟩ => rfl
    | ⟨1, _⟩ => rfl
    | ⟨2, _⟩ => rfl
    | ⟨3, _⟩ => rfl
    | ⟨4, _⟩ => rfl
  have e3 : (val_main_v28 (F := Ideal) x3 x4 (ix5 a g j t r) : EReal)
      = ((∑ d ∈ Finset.range 64, (at3 x4 a j.val (64 * g.val + d)).toReal * (at3 x3 a t.val (64 * (4 * g.val + r.val) + d)).toReal : ℝ) : EReal) := by
    refine (val_main_v28_apply x3 x4 _).trans ?_
    rw [← Fin.sum_univ_eq_sum_range (fun d => (at3 x4 a j.val (64 * g.val + d)).toReal * (at3 x3 a t.val (64 * (4 * g.val + r.val) + d)).toReal) 64, real_sum]
    refine Finset.sum_congr rfl fun k _ => ?_
    have el : lidx_main_v28 (ix5 a g j t r) k = ix4 a j g k := funext fun b => by
      match b with
      | ⟨0, _⟩ => rfl
      | ⟨1, _⟩ => rfl
      | ⟨2, _⟩ => rfl
      | ⟨3, _⟩ => rfl
    have er : ridx_main_v28 (ix5 a g j t r) k = ix5 a t g r k := funext fun b => by
      match b with
      | ⟨0, _⟩ => rfl
      | ⟨1, _⟩ => rfl
      | ⟨2, _⟩ => rfl
      | ⟨3, _⟩ => rfl
      | ⟨4, _⟩ => rfl
    rw [el, er]
    refine (congrArg₂ (· * ·) (v25_at x4 a j g k) (v27_at x3 a t g r k)).trans ?_
    rw [EReal.coe_mul]
    exact congrArg₂ (· * ·) (at3_real x4 f4 _ _ _) (at3_real x3 f3 _ _ _)
  rw [e1, e2, e3, eighth, ← EReal.coe_mul]
  refine congrArg Real.toEReal ?_
  unfold zr zsw
  rw [Finset.sum_mul]
  refine Finset.sum_congr rfl fun d hd => ?_
  have hd' := Finset.mem_range.1 hd
  have hl : lane (128 * ((4 * g.val + r.val) / 4) + 64 * ((4 * g.val + r.val) % 2) + d) = 64 * g.val + d := by unfold lane; omega
  show _ = (at3 x3 a t.val (64 * (4 * g.val + r.val) + d)).toReal * (1 / 8) * (at3 x4 a j.val (lane (128 * ((4 * g.val + r.val) / 4) + 64 * ((4 * g.val + r.val) % 2) + d))).toReal
  rw [hl]
  ring

include f3 f4 in
/-- The score, minus infinity outside the window. -/
theorem masked_at (a : Fin 8) (g : Fin 2) (r : Fin 4) (t j : Fin 4096) :
    (val_main_v44 (F := Ideal) x3 x4 (ix5 a g r t j) : EReal)
      = if j.val ≤ t.val ∧ t.val < j.val + 128 then ((zr x3 x4 a (4 * g.val + r.val) t.val j.val : ℝ) : EReal) else ⊥ := by
  have hm : val_main_call5_v1 (F := Ideal) (ix5 a g r t j) = if j.val ≤ t.val ∧ t.val < j.val + 128 then 1#1 else 0#1 := by
    refine (val_main_call5_v1_apply (F := Ideal) _).trans (Eq.trans (congrArg (val_main_v43 (F := Ideal)) (funext fun b => ?_)) (near_at t j))
    match b with
    | ⟨0, _⟩ => rfl
    | ⟨1, _⟩ => rfl
  have hb : (val_main_call5_v2 (F := Ideal) (ix5 a g r t j) : EReal) = ⊥ := by
    rw [val_main_call5_v2_apply]; exact negInf
  have e : (val_main_v44 (F := Ideal) x3 x4 (ix5 a g r t j) : EReal)
      = Scalar.select (val_main_call5_v1 (F := Ideal) (ix5 a g r t j)) (val_main_v31 (F := Ideal) x3 x4 (ix5 a g r t j) : EReal) (val_main_call5_v2 (F := Ideal) (ix5 a g r t j) : EReal) :=
    val_main_v44_apply (F := Ideal) x3 x4 _
  rw [e, hm, hb, swScore_at x3 x4 f3 f4]
  by_cases h : j.val ≤ t.val ∧ t.val < j.val + 128
  · rw [if_pos h, if_pos h]; rfl
  · rw [if_neg h, if_neg h]; rfl

/-- The sink's column. -/
theorem sink_at (a : Fin 8) (g : Fin 2) (r : Fin 4) (t : Fin 4096) : (val_main_v46 (F := Ideal) x6 (ix5 a g r t 0) : EReal) = sinkOf x6 (4 * g.val + r.val) := by
  have hg := g.isLt
  have hr := r.isLt
  unfold sinkOf
  rw [dif_pos (show 4 * g.val + r.val < 8 by omega)]
  refine (val_main_v46_apply (F := Ideal) x6 _).trans ((val_main_v45_apply (F := Ideal) x6 _).trans (congrArg x6 (funext fun b => Fin.ext ?_)))
  match b with
  | ⟨0, _⟩ => show (((0 * 2 + g.val) * 4 + r.val) * 1 + 0) * 1 + 0 = 4 * g.val + r.val; omega

/-- The scores with the sink after them: a key's. -/
theorem joined_key (a : Fin 8) (g : Fin 2) (r : Fin 4) (t j : Fin 4096) :
    (val_main_v47 (F := Ideal) x3 x4 x6 (ix5 a g r t j.castSucc) : EReal) = val_main_v44 (F := Ideal) x3 x4 (ix5 a g r t j) := by
  unfold val_main_v47
  refine concatenate_pair_apply_left (t := S8x2x4x4096x4097) (s₁ := S8x2x4x4096x4096) (s₂ := S8x2x4x4096x1) 4 _ _ _ _ rfl (ix5 a g r t j) (fun b => ?_)
  match b with
  | ⟨0, _⟩ => rfl
  | ⟨1, _⟩ => rfl
  | ⟨2, _⟩ => rfl
  | ⟨3, _⟩ => rfl
  | ⟨4, _⟩ => rfl

/-- The scores with the sink after them: the sink's. -/
theorem joined_sink (a : Fin 8) (g : Fin 2) (r : Fin 4) (t : Fin 4096) :
    (val_main_v47 (F := Ideal) x3 x4 x6 (ix5 a g r t (Fin.last 4096)) : EReal) = sinkOf x6 (4 * g.val + r.val) := by
  refine Eq.trans ?_ (sink_at x6 a g r t)
  unfold val_main_v47
  refine concatenate_pair_apply_right (t := S8x2x4x4096x4097) (s₁ := S8x2x4x4096x4096) (s₂ := S8x2x4x4096x1) 4 _ _ _ _ rfl rfl (ix5 a g r t 0) (fun b hb => ?_) rfl
  match b with
  | ⟨0, _⟩ => rfl
  | ⟨1, _⟩ => rfl
  | ⟨2, _⟩ => rfl
  | ⟨3, _⟩ => rfl
  | ⟨4, _⟩ => exact absurd rfl hb

/-- A row's index and a column. -/
theorem row_ix (a : Fin 8) (g : Fin 2) (r : Fin 4) (t : Fin 4096) (k : Fin 4097) : idx_main_v55 (ix4 a g r t) k = ix5 a g r t k := funext fun b => by
  match b with
  | ⟨0, _⟩ => rfl
  | ⟨1, _⟩ => rfl
  | ⟨2, _⟩ => rfl
  | ⟨3, _⟩ => rfl
  | ⟨4, _⟩ => rfl

theorem reduces_row : S8x2x4x4096x4097.Reduces [4] S8x2x4x4096 := by decide

/-- A row's largest entry. -/
theorem max_row (y : S8x2x4x4096x4097.Idx → EReal) (a : Fin 8) (g : Fin 2) (r : Fin 4) (t : Fin 4096) :
    (Host.reduce (FloatOps.maximumf (F := Ideal) (φ := .f32)) y (val_main_cst_5 (F := Ideal)) reducesTo_S8x2x4x4096x4097_S8x2x4x4096_d4 h_S_ (ix4 a g r t) : EReal)
      = (Finset.univ : Finset (Fin 4097)).fold max ⊥ fun k => y (ix5 a g r t k) := by
  have e1 := hostReduce_maximumf_eq_multiReduction (F := Ideal) (u := S_) (φ := .f32) y 0xFF800000#32 reducesTo_S8x2x4x4096x4097_S8x2x4x4096_d4 h_S_ reduces_row (.inl rfl) rfl
  have e2 := Ideal.multiReduction_maximumf_single y 0xFF800000#32 reduces_row (.inl rfl) rfl (ix4 a g r t)
  have e3 := e2.trans (congrArg (fun z => Finset.fold max z (y ∘ reduces_row.lift (ix4 a g r t)) Finset.univ) negInf)
  refine (congrFun e1 (ix4 a g r t)).trans (e3.trans (congrArg (fun f => Finset.fold max (⊥ : EReal) f Finset.univ) (funext fun k => congrArg y (funext fun b => Fin.ext ?_))))
  match b with
  | ⟨0, _⟩ => rfl
  | ⟨1, _⟩ => rfl
  | ⟨2, _⟩ => rfl
  | ⟨3, _⟩ => rfl
  | ⟨4, _⟩ => rfl

include f3 f4 f6 in
/-- The level subtracted from a row's scores is a real. -/
theorem level_at (a : Fin 8) (g : Fin 2) (r : Fin 4) (t : Fin 4096) : ∃ m : ℝ, (val_main_v50 (F := Ideal) x3 x4 x6 (ix4 a g r t) : EReal) = (m : EReal) := by
  have e : (val_main_v50 (F := Ideal) x3 x4 x6 (ix4 a g r t) : EReal) = max (val_main_v49 (F := Ideal) (ix4 a g r t) : EReal) (val_main_v48 (F := Ideal) x3 x4 x6 (ix4 a g r t) : EReal) :=
    val_main_v50_apply (F := Ideal) x3 x4 x6 _
  have hb : (val_main_v49 (F := Ideal) (ix4 a g r t) : EReal) = ⊥ := by
    rw [val_main_v49_apply]; exact negInf
  have h48 : (val_main_v48 (F := Ideal) x3 x4 x6 (ix4 a g r t) : EReal) = (Finset.univ : Finset (Fin 4097)).fold max ⊥ fun k => (val_main_v47 (F := Ideal) x3 x4 x6 (ix5 a g r t k) : EReal) :=
    max_row (val_main_v47 (F := Ideal) x3 x4 x6) a g r t
  rw [e, hb, h48]
  refine real_between _ (lt_max_of_lt_right ?_) (max_lt bot_lt_top ?_)
  · refine (Finset.lt_fold_max _).2 (Or.inr ⟨t.castSucc, Finset.mem_univ _, ?_⟩)
    rw [joined_key, masked_at x3 x4 f3 f4, if_pos ⟨le_refl _, by omega⟩]
    exact EReal.bot_lt_coe _
  · refine (Finset.fold_max_lt _).2 ⟨bot_lt_top, fun k _ => ?_⟩
    refine Fin.lastCases ?_ (fun j => ?_) k
    · rw [joined_sink]
      unfold sinkOf
      split
      · exact lt_top_iff_ne_top.2 (f6 _)
      · exact EReal.zero_lt_top
    · rw [joined_key, masked_at x3 x4 f3 f4]
      split
      · exact EReal.coe_lt_top _
      · exact bot_lt_top

/-- The weight of a key among a row's, before the values. -/
def Xr (a : Fin 8) (h t : ℕ) (j : Fin 4096) : EReal := if j.val ≤ t ∧ t < j.val + 128 then ((zr x3 x4 a h t j.val : ℝ) : EReal) else ⊥

/-- Its exponential. -/
def er (a : Fin 8) (h t j : ℕ) : ℝ := if j ≤ t ∧ t < j + 128 then Real.exp (zr x3 x4 a h t j) else 0

theorem ex_Xr (a : Fin 8) (h t : ℕ) (j : Fin 4096) : ex (Xr x3 x4 a h t j) = er x3 x4 a h t j.val := by
  unfold Xr er
  split
  · exact ex_coe _
  · exact ex_bot

theorem Xr_ne (a : Fin 8) (h t : ℕ) (j : Fin 4096) : Xr x3 x4 a h t j ≠ ⊤ := by
  unfold Xr
  split
  · exact EReal.coe_ne_top _
  · exact bot_ne_top

/-- The normaliser of a row. -/
def nr (a : Fin 8) (h t : ℕ) : ℝ := ∑ k ∈ Finset.range 4096, er x3 x4 a h t k + ex (sinkOf x6 h)

theorem sum_Xr (a : Fin 8) (h t : ℕ) : ∑ j, ex (Xr x3 x4 a h t j) + ex (sinkOf x6 h) = nr x3 x4 x6 a h t := by
  unfold nr
  rw [← Fin.sum_univ_eq_sum_range (fun k => er x3 x4 a h t k) 4096]
  exact congrArg (· + ex (sinkOf x6 h)) (Finset.sum_congr rfl fun j _ => ex_Xr x3 x4 a h t j)

theorem nr_pos (a : Fin 8) (h : ℕ) (t : Fin 4096) : nr x3 x4 x6 a h t.val ≠ 0 := by
  have h1 : 0 < ∑ k ∈ Finset.range 4096, er x3 x4 a h t.val k := by
    refine Finset.sum_pos' (fun k _ => ?_) ⟨t.val, Finset.mem_range.2 t.isLt, ?_⟩
    · unfold er
      split
      · exact (Real.exp_pos _).le
      · exact le_refl _
    · unfold er
      rw [if_pos ⟨le_refl _, by omega⟩]
      exact Real.exp_pos _
  have h2 := ex_nonneg (sinkOf x6 h)
  unfold nr
  linarith

theorem sink_ne (f6 : ∀ i, x6 i ≠ ⊤) (h : ℕ) : sinkOf x6 h ≠ ⊤ := by
  unfold sinkOf
  split
  · exact f6 _
  · exact EReal.zero_ne_top

include f3 f4 f6 in
/-- The softmax's weight of a key. -/
theorem swWeight_at (a : Fin 8) (g : Fin 2) (r : Fin 4) (t j : Fin 4096) :
    (val_main_v59 (F := Ideal) x3 x4 x6 (ix5 a g r t j) : EReal)
      = ((er x3 x4 a (4 * g.val + r.val) t.val j.val / nr x3 x4 x6 a (4 * g.val + r.val) t.val : ℝ) : EReal) := by
  obtain ⟨m, hm⟩ := level_at x3 x4 x6 f3 f4 f6 a g r t
  have e59 : (val_main_v59 (F := Ideal) x3 x4 x6 (ix5 a g r t j) : EReal) = val_main_v58 (F := Ideal) x3 x4 x6 (ix5 a g r t j.castSucc) := by
    refine (val_main_v59_apply (F := Ideal) x3 x4 x6 _).trans (congrArg (val_main_v58 (F := Ideal) x3 x4 x6) (funext fun b => Fin.ext ?_))
    match b with
    | ⟨0, _⟩ => rfl
    | ⟨1, _⟩ => rfl
    | ⟨2, _⟩ => rfl
    | ⟨3, _⟩ => rfl
    | ⟨4, _⟩ => rfl
  have h52 : ∀ k : Fin 4097, (val_main_v52 (F := Ideal) x3 x4 x6 (ix5 a g r t k) : EReal) = (m : EReal) := fun k => by
    refine (val_main_v52_apply (F := Ideal) x3 x4 x6 _).trans ((val_main_v51_apply (F := Ideal) x3 x4 x6 _).trans (Eq.trans (congrArg (val_main_v50 (F := Ideal) x3 x4 x6) (funext fun b => Fin.ext ?_)) hm))
    match b with
    | ⟨0, _⟩ => rfl
    | ⟨1, _⟩ => rfl
    | ⟨2, _⟩ => rfl
    | ⟨3, _⟩ => rfl
  have h54 : ∀ k : Fin 4097, (val_main_v54 (F := Ideal) x3 x4 x6 (ix5 a g r t k) : EReal) = Ideal.exp ((val_main_v47 (F := Ideal) x3 x4 x6 (ix5 a g r t k) : EReal) - (m : EReal)) := fun k => by
    have e : (val_main_v54 (F := Ideal) x3 x4 x6 (ix5 a g r t k) : EReal) = Ideal.exp ((val_main_v47 (F := Ideal) x3 x4 x6 (ix5 a g r t k) : EReal) - (val_main_v52 (F := Ideal) x3 x4 x6 (ix5 a g r t k) : EReal)) := rfl
    rw [e, h52]
  have hX : ∀ k : Fin 4096, (val_main_v47 (F := Ideal) x3 x4 x6 (ix5 a g r t k.castSucc) : EReal) = Xr x3 x4 a (4 * g.val + r.val) t.val k := fun k =>
    (joined_key x3 x4 x6 a g r t k).trans (masked_at x3 x4 f3 f4 a g r t k)
  have h55 : (val_main_v55 (F := Ideal) x3 x4 x6 (ix4 a g r t) : EReal) = ((nr x3 x4 x6 a (4 * g.val + r.val) t.val * Real.exp (-m) : ℝ) : EReal) := by
    have h0 : (val_main_cst_7 (F := Ideal) (Shape.Idx.first h_S_) : EReal) = 0 := Ideal.ofBits_zero_f32
    refine (val_main_v55_apply x3 x4 x6 (ix4 a g r t)).trans ?_
    rw [h0, zero_add, ← sum_Xr, ← norm_real (Xr x3 x4 a (4 * g.val + r.val) t.val) (sinkOf x6 (4 * g.val + r.val)) (Xr_ne x3 x4 a _ _) (sink_ne x6 f6 _) m,
      Fin.sum_univ_castSucc]
    refine congrArg₂ (· + ·) (Finset.sum_congr rfl fun k _ => ?_) ?_
    · rw [row_ix]
      exact (h54 k.castSucc).trans (congrArg (fun z : EReal => Ideal.exp (z - (m : EReal))) (hX k))
    · rw [row_ix]
      exact (h54 (Fin.last 4096)).trans (congrArg (fun z : EReal => Ideal.exp (z - (m : EReal))) (joined_sink x3 x4 x6 a g r t))
  have h57 : (val_main_v57 (F := Ideal) x3 x4 x6 (ix5 a g r t j.castSucc) : EReal) = ((nr x3 x4 x6 a (4 * g.val + r.val) t.val * Real.exp (-m) : ℝ) : EReal) := by
    refine (val_main_v57_apply (F := Ideal) x3 x4 x6 _).trans ((val_main_v56_apply (F := Ideal) x3 x4 x6 _).trans (Eq.trans (congrArg (val_main_v55 (F := Ideal) x3 x4 x6) (funext fun b => Fin.ext ?_)) h55))
    match b with
    | ⟨0, _⟩ => rfl
    | ⟨1, _⟩ => rfl
    | ⟨2, _⟩ => rfl
    | ⟨3, _⟩ => rfl
  have e58 : (val_main_v58 (F := Ideal) x3 x4 x6 (ix5 a g r t j.castSucc) : EReal)
      = Ideal.div (val_main_v54 (F := Ideal) x3 x4 x6 (ix5 a g r t j.castSucc) : EReal) (val_main_v57 (F := Ideal) x3 x4 x6 (ix5 a g r t j.castSucc) : EReal) := rfl
  rw [e59, e58, h57, h54, hX]
  have hw := weight_real (Xr x3 x4 a (4 * g.val + r.val) t.val) (sinkOf x6 (4 * g.val + r.val)) (Xr_ne x3 x4 a _ _) (sink_ne x6 f6 _) m
    (by rw [sum_Xr]; exact nr_pos x3 x4 x6 a _ t) (Xr x3 x4 a (4 * g.val + r.val) t.val j) (Xr_ne x3 x4 a _ _ j)
  rw [sum_Xr, ex_Xr] at hw
  exact hw

include f3 f4 f6 in
/-- The reference's second result. -/
theorem refSw_ix (a : Fin 8) (t : Fin 4096) (l : Fin 512) :
    (val_main_v65 (F := Ideal) x3 x4 x5 x6 (ix3 a t l) : EReal) = swOf x3 x4 x5 x6 a (t.val / 128) (t.val % 128) l.val := by
  have g0 := a.isLt
  have g1 := t.isLt
  have g2 := l.isLt
  have e1 : (val_main_v65 (F := Ideal) x3 x4 x5 x6 (ix3 a t l) : EReal) = val_main_v61 (F := Ideal) x3 x4 x5 x6 (idx_main_v62 (ix3 a t l)) :=
    val_main_v62_apply (F := Ideal) x3 x4 x5 x6 (ix3 a t l)
  have e2 : (val_main_v61 (F := Ideal) x3 x4 x5 x6 (idx_main_v62 (ix3 a t l)) : EReal)
      = val_main_v60 (F := Ideal) x3 x4 x5 x6 (ix5 a ⟨l.val / 256, by omega⟩ ⟨l.val % 64, by omega⟩ ⟨l.val / 64 % 4, by omega⟩ t) := by
    refine (val_main_v61_apply (F := Ideal) x3 x4 x5 x6 _).trans (congrArg (val_main_v60 (F := Ideal) x3 x4 x5 x6) (funext fun b => Fin.ext ?_))
    match b with
    | ⟨0, _⟩ => show ((a.val * 4096 + t.val) * 512 + l.val) / 2097152 = a.val; omega
    | ⟨1, _⟩ => show ((a.val * 4096 + t.val) * 512 + l.val) / 256 % 2 = l.val / 256; omega
    | ⟨2, _⟩ => show ((a.val * 4096 + t.val) * 512 + l.val) % 64 = l.val % 64; omega
    | ⟨3, _⟩ => show ((a.val * 4096 + t.val) * 512 + l.val) / 64 % 4 = l.val / 64 % 4; omega
    | ⟨4, _⟩ => show ((a.val * 4096 + t.val) * 512 + l.val) / 512 % 4096 = t.val; omega
  have ht : 128 * (t.val / 128) + t.val % 128 = t.val := by omega
  have hh : 4 * (l.val / 256) + l.val / 64 % 4 = l.val / 64 := by omega
  have hl : lane (128 * (l.val / 256) + l.val % 128) = 64 * (l.val / 256) + l.val % 64 := by unfold lane; omega
  have hterm : ∀ k : Fin 4096, (val_main_v26 (F := Ideal) x5 (lidx_main_v60 (ix5 a ⟨l.val / 256, by omega⟩ ⟨l.val % 64, by omega⟩ ⟨l.val / 64 % 4, by omega⟩ t) k) : EReal)
        * (val_main_v59 (F := Ideal) x3 x4 x6 (ridx_main_v60 (ix5 a ⟨l.val / 256, by omega⟩ ⟨l.val % 64, by omega⟩ ⟨l.val / 64 % 4, by omega⟩ t) k) : EReal)
      = (fun k : ℕ => ((er x3 x4 a (l.val / 64) t.val k / nr x3 x4 x6 a (l.val / 64) t.val : ℝ) : EReal) * at3 x5 a k (lane (128 * (l.val / 256) + l.val % 128))) k.val := fun k => by
    have el : lidx_main_v60 (ix5 a ⟨l.val / 256, by omega⟩ ⟨l.val % 64, by omega⟩ ⟨l.val / 64 % 4, by omega⟩ t) k = ix4 a k ⟨l.val / 256, by omega⟩ ⟨l.val % 64, by omega⟩ := funext fun b => by
      match b with
      | ⟨0, _⟩ => rfl
      | ⟨1, _⟩ => rfl
      | ⟨2, _⟩ => rfl
      | ⟨3, _⟩ => rfl
    have er' : ridx_main_v60 (ix5 a ⟨l.val / 256, by omega⟩ ⟨l.val % 64, by omega⟩ ⟨l.val / 64 % 4, by omega⟩ t) k = ix5 a ⟨l.val / 256, by omega⟩ ⟨l.val / 64 % 4, by omega⟩ t k := funext fun b => by
      match b with
      | ⟨0, _⟩ => rfl
      | ⟨1, _⟩ => rfl
      | ⟨2, _⟩ => rfl
      | ⟨3, _⟩ => rfl
      | ⟨4, _⟩ => rfl
    rw [el, er', mul_comm]
    refine congrArg₂ (· * ·) ((swWeight_at x3 x4 x6 f3 f4 f6 a _ _ t k).trans ?_) ((v26_at x5 a k _ _).trans (congrArg (at3 x5 a k.val) hl.symm))
    exact congrArg (fun h : ℕ => ((er x3 x4 a h t.val k.val / nr x3 x4 x6 a h t.val : ℝ) : EReal)) hh
  refine e1.trans (e2.trans ((val_main_v60_apply x3 x4 x5 x6 _).trans ((Finset.sum_congr rfl fun k _ => hterm k).trans ?_)))
  rw [Fin.sum_univ_eq_sum_range (fun k : ℕ => ((er x3 x4 a (l.val / 64) t.val k / nr x3 x4 x6 a (l.val / 64) t.val : ℝ) : EReal) * at3 x5 a k (lane (128 * (l.val / 256) + l.val % 128))) 4096]
  unfold swOf swAt
  have he : ∀ j, ew (fun u l => (at3 x3 a (128 * (t.val / 128) + u) l).toReal * (1 / 8)) (fun j l => (at3 x4 a j (lane l)).toReal) (t.val / 128) (l.val / 64) (t.val % 128) j
      = er x3 x4 a (l.val / 64) t.val j := fun j => by
    have hz : zsw (fun u l => (at3 x3 a (128 * (t.val / 128) + u) l).toReal * (1 / 8)) (fun j l => (at3 x4 a j (lane l)).toReal) (l.val / 64) (t.val % 128) j
        = zr x3 x4 a (l.val / 64) t.val j := by
      unfold zr zsw
      exact congrArg (fun n : ℕ => ∑ d ∈ Finset.range 64, (at3 x3 a n (64 * (l.val / 64) + d)).toReal * (1 / 8)
        * (at3 x4 a j (lane (128 * (l.val / 64 / 4) + 64 * (l.val / 64 % 2) + d))).toReal) ht
    unfold ew er
    rw [hz, ht]
  have hn : ∑ k ∈ Finset.range 4096, ew (fun u l => (at3 x3 a (128 * (t.val / 128) + u) l).toReal * (1 / 8)) (fun j l => (at3 x4 a j (lane l)).toReal) (t.val / 128) (l.val / 64) (t.val % 128) k
      + ex (sinkOf x6 (l.val / 64)) = nr x3 x4 x6 a (l.val / 64) t.val := by
    unfold nr
    exact congrArg (· + ex (sinkOf x6 (l.val / 64))) (Finset.sum_congr rfl fun k _ => he k)
  rw [hn]
  exact Finset.sum_congr rfl fun k _ => by rw [he]

include f3 f4 f6 in
/-- The same, the array whole. -/
theorem refSw_all : (val_main_v65 (F := Ideal) x3 x4 x5 x6 : S8x4096x512.Idx → EReal) = fun i => swOf x3 x4 x5 x6 (i 0) ((i 1).val / 128) ((i 1).val % 128) (i 2).val :=
  funext fun i => (congrArg (val_main_v65 (F := Ideal) x3 x4 x5 x6) (eq_ix3 i)).trans (refSw_ix x3 x4 x5 x6 f3 f4 f6 (i 0) (i 1) (i 2))

end Values

end Cert.ReferenceIdeal.Hand

end
-- ==== Proof.Rows.Common.lean ====
module

public import Idealize.ShloMosaic.Lib.MatmulPlain
public import Idealize.ShloMosaic.Lib.IdealHost
public import Idealize.ShloMosaic.Lib.Pipeline.Value
public import Idealize.ShloMosaic.Lib.ValueIdx

@[expose] public section

set_option maxRecDepth 65536

noncomputable section

namespace Cert.Rows

open Idealize.ShloMosaic Idealize.ShloMosaic.TcCoe Idealize.ShloMosaic.ValueIdx

/-! A token's row: its normalisation, the two gated branches and the squared-relu network, as plain formulas over the
extended reals, and the readings of a block that both row kernels share. -/

/-- A row over its root mean square, times the gain. -/
def normRow (x g : Fin 1024 → EReal) (k : Fin 1024) : EReal :=
  x k * Ideal.rsqrt (Ideal.div (∑ j, x j * x j) (Ideal.ofBits .f32 0x44800000#32) + Ideal.ofBits .f32 0x358637BD#32) * g k

/-- A unit of the network: the positive part of its product, squared. -/
def unitRow (x g : Fin 1024 → EReal) (u : Fin 1024 → EReal) : EReal :=
  max (∑ k, normRow x g k * u k) 0 * max (∑ k, normRow x g k * u k) 0

/-- A row and the network's result on it. -/
def mlpRow (x g : Fin 1024 → EReal) (u : Fin 1024 → Fin 4096 → EReal) (d : Fin 4096 → Fin 1024 → EReal) (n : Fin 1024) : EReal :=
  x n + ∑ f : Fin 4096, unitRow x g (fun k => u k f) * d f n

/-- A gate: the logistic function of a product with the normalised row. -/
def gateRow (x g : Fin 1024 → EReal) (w : Fin 1024 → EReal) : EReal := Ideal.logistic (∑ k, normRow x g k * w k)

/-- The two branches' products, each under its gate. -/
def mergedRow (x g : Fin 1024 → EReal) (a b : Fin 512 → EReal) (w : Fin 1024 → Fin 2048 → EReal) (p q : Fin 512 → Fin 1024 → EReal) (j : Fin 1024) : EReal :=
  gateRow x g (fun k => w k ⟨j.val, by omega⟩) * (∑ k, a k * p k j) + gateRow x g (fun k => w k ⟨1024 + j.val, by omega⟩) * (∑ k, b k * q k j)

/-- A row and the merged branches' projection. -/
def mergeRow (x g : Fin 1024 → EReal) (a b : Fin 512 → EReal) (w : Fin 1024 → Fin 2048 → EReal) (p q : Fin 512 → Fin 1024 → EReal)
    (o : Fin 1024 → Fin 1024 → EReal) (n : Fin 1024) : EReal :=
  x n + ∑ j : Fin 1024, mergedRow x g a b w p q j * o j n

/-! ### Readings of a block -/

/-- A vector set up as a column, read at a row. -/
theorem col_apply {α : Type} {M : ℕ} (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) :=
  shapeCast_apply x h _ _ (by
    rw [Shape.rowMajor_val_one, Shape.rowMajor_val_two]
    show r.val = r.val * 1 + 0
    omega)

/-- A column set down along the lanes, read at an entry. -/
theorem spread_apply {α : Type} (x : (⟨2, ![1024, 1]⟩ : Shape).Idx → α) (h : (⟨2, ![1024, 1]⟩ : Shape).Broadcasts ⟨2, ![1024, 1024]⟩) (r c : Fin 1024) :
    broadcastTo ⟨2, ![1024, 1024]⟩ x h (ix2 r c) = x (ix2 r 0) :=
  broadcastTo_apply x h (ix2 r c) (ix2 r 0) (fun a => by fin_cases a <;> rfl)

/-- A row set down along the rows, read at an entry. -/
theorem stack_apply {α : Type} (x : (⟨2, ![1, 1024]⟩ : Shape).Idx → α) (h : (⟨2, ![1, 1024]⟩ : Shape).Broadcasts ⟨2, ![1024, 1024]⟩) (r c : Fin 1024) :
    broadcastTo ⟨2, ![1024, 1024]⟩ x h (ix2 r c) = x (ix2 0 c) :=
  broadcastTo_apply x h (ix2 r c) (ix2 0 c) (fun a => by fin_cases a <;> rfl)

/-- The kernels' normalisation of a block. -/
def normBlk (x : FVec Ideal ⟨2, ![1024, 1024]⟩ .f32) (g : FVec Ideal ⟨2, ![1, 1024]⟩ .f32) (h1 : (⟨2, ![1, 1024]⟩ : Shape).ShapeCasts ⟨2, ![1, 1024]⟩)
    (h2 : (⟨2, ![1024, 1024]⟩ : Shape).Reduces [1] ⟨1, ![1024]⟩) (h3 : (⟨1, ![1024]⟩ : Shape).ShapeCasts ⟨2, ![1024, 1]⟩)
    (h4 : (⟨2, ![1024, 1]⟩ : Shape).Broadcasts ⟨2, ![1024, 1024]⟩) (h5 : (⟨2, ![1, 1024]⟩ : Shape).Broadcasts ⟨2, ![1024, 1024]⟩)
    (h6 : FTy.bits .bf16 < FTy.bits .f32) : FVec Ideal ⟨2, ![1024, 1024]⟩ .bf16 :=
  truncf .bf16 (mulf (mulf x (broadcastTo ⟨2, ![1024, 1024]⟩ (rsqrt (addf (divf
    (shapeCast ⟨2, ![1024, 1]⟩ (multiReduction .add [1] ⟨1, ![1024]⟩ (mulf x x) 0x00000000#32 h2 (.inl rfl) rfl) h3)
    (broadcast ⟨2, ![1024, 1]⟩ (Scalar.ofBits .f32 0x44800000#32))) (broadcast ⟨2, ![1024, 1]⟩ (Scalar.ofBits .f32 0x358637BD#32)))) h4))
    (broadcastTo ⟨2, ![1024, 1024]⟩ (shapeCast ⟨2, ![1, 1024]⟩ g h1) h5)) h6

/-- It is each row's normalisation. -/
theorem normBlk_apply (x : FVec Ideal ⟨2, ![1024, 1024]⟩ .f32) (g : FVec Ideal ⟨2, ![1, 1024]⟩ .f32) (h1) (h2) (h3) (h4) (h5) (h6) (r k : Fin 1024) :
    normBlk x g h1 h2 h3 h4 h5 h6 (ix2 r k) = normRow (fun k => x (ix2 r k)) (fun k => g (ix2 0 k)) k := by
  have e1 : ∀ c : Fin 1024, h2.lift (ix1 r) c = ix2 r c := fun c => by funext a; fin_cases a <;> rfl
  have e2 := (Ideal.multiReduction_add_single (mulf x x) 0x00000000#32 h2 (.inl rfl) rfl (ix1 r)).trans
    (Finset.sum_congr rfl fun c _ => congrArg (mulf x x) (e1 c) : _ = ∑ c : Fin 1024, x (ix2 r c) * x (ix2 r c))
  have e3 := (col_apply (multiReduction .add [1] ⟨1, ![1024]⟩ (mulf x x) 0x00000000#32 h2 (.inl rfl) rfl) h3 r).trans e2
  refine congrArg₂ (· * ·) (congrArg (x (ix2 r k) * ·) ((spread_apply _ h4 r k).trans ?_)) ((stack_apply _ h5 r k).trans ?_)
  · exact congrArg (fun z => Ideal.rsqrt (Ideal.div z (Ideal.ofBits .f32 0x44800000#32) + Ideal.ofBits .f32 0x358637BD#32)) e3
  · exact congrFun (shapeCast_self g h1) _

/-- A sum over a range cut into eight. -/
theorem sum_eight (f : ℕ → EReal) :
    ∑ i ∈ Finset.range 4096, f i = (∑ k ∈ Finset.range 512, f (0 + k)) + (∑ k ∈ Finset.range 512, f (512 + k)) + (∑ k ∈ Finset.range 512, f (1024 + k))
      + (∑ k ∈ Finset.range 512, f (1536 + k)) + (∑ k ∈ Finset.range 512, f (2048 + k)) + (∑ k ∈ Finset.range 512, f (2560 + k))
      + (∑ k ∈ Finset.range 512, f (3072 + k)) + (∑ k ∈ Finset.range 512, f (3584 + k)) := by
  rw [show (4096 : ℕ) = 512 + 512 + 512 + 512 + 512 + 512 + 512 + 512 from rfl]
  simp only [Finset.sum_range_add, zero_add]

/-- A sum over 4096 units cut into eight. -/
theorem sum_units (F : Fin 4096 → EReal) :
    ∑ i, F i = (∑ k : Fin 512, F ⟨0 + k.val, by omega⟩) + (∑ k : Fin 512, F ⟨512 + k.val, by omega⟩) + (∑ k : Fin 512, F ⟨1024 + k.val, by omega⟩)
      + (∑ k : Fin 512, F ⟨1536 + k.val, by omega⟩) + (∑ k : Fin 512, F ⟨2048 + k.val, by omega⟩) + (∑ k : Fin 512, F ⟨2560 + k.val, by omega⟩)
      + (∑ k : Fin 512, F ⟨3072 + k.val, by omega⟩) + (∑ k : Fin 512, F ⟨3584 + k.val, by omega⟩) := by
  have h := sum_eight (fun n => if h : n < 4096 then F ⟨n, h⟩ else 0)
  have hp : ∀ o : ℕ, (ho : o + 512 ≤ 4096) → (∑ k ∈ Finset.range 512, (fun n => if h : n < 4096 then F ⟨n, h⟩ else 0) (o + k)) = ∑ k : Fin 512, F ⟨o + k.val, by omega⟩ :=
    fun o ho => (Fin.sum_univ_eq_sum_range (fun k => (fun n => if h : n < 4096 then F ⟨n, h⟩ else 0) (o + k)) 512).symm.trans
      (Finset.sum_congr rfl fun k _ => dif_pos (by omega))
  rw [hp 0 (by omega), hp 512 (by omega), hp 1024 (by omega), hp 1536 (by omega), hp 2048 (by omega), hp 2560 (by omega), hp 3072 (by omega), hp 3584 (by omega)] at h
  refine Eq.trans ?_ h
  exact (Finset.sum_congr rfl fun k _ => by rw [dif_pos k.isLt] : _ = ∑ k : Fin 4096, if h : k.val < 4096 then F ⟨k.val, h⟩ else 0).trans (Fin.sum_univ_eq_sum_range (fun n => if h : n < 4096 then F ⟨n, h⟩ else 0) 4096)

/-- A matrix product into zeros. -/
def prod {M K N : ℕ} (l : FVec Ideal ⟨2, ![M, K]⟩ .bf16) (r : FVec Ideal ⟨2, ![K, N]⟩ .bf16) (h : (⟨2, ![K, N]⟩ : Shape).ShapeCasts ⟨2, ![K, N]⟩) : FVec Ideal ⟨2, ![M, N]⟩ .f32 :=
  matmul (DotDims.plain M K N) none l (shapeCast ⟨2, ![K, N]⟩ r h) (constant ⟨2, ![M, N]⟩ .f32 0x00000000#32)

/-- It is a sum over the contracted coordinate. -/
theorem prod_apply {M K N : ℕ} (l : FVec Ideal ⟨2, ![M, K]⟩ .bf16) (r : FVec Ideal ⟨2, ![K, N]⟩ .bf16) (h) (i : Fin M) (j : Fin N) :
    prod l r h (ix2 i j) = ∑ k : Fin K, l (ix2 i k) * r (ix2 k j) := by
  have e := Ideal.matmul_plain_apply none l (shapeCast ⟨2, ![K, N]⟩ r h) (constant ⟨2, ![M, N]⟩ .f32 0x00000000#32) i j
  rw [show (constant ⟨2, ![M, N]⟩ .f32 0x00000000#32 : FVec Ideal ⟨2, ![M, N]⟩ .f32) (ix2 i j) = 0 from Ideal.ofBits_zero_f32, zero_add, shapeCast_self] at e
  unfold prod
  rw [shapeCast_self]
  exact e

end Cert.Rows

end
-- ==== Proof.Rows.Mlp.lean ====
module

public import proofs.«01_k».proof.Proof.Rows.Common
public import proofs.«01_k».proof.Proof.Gen.MlpIdeal.Value
public import Idealize.ShloMosaic.Lib.IdealHost
public import Idealize.ShloMosaic.Lib.Pipeline.ValueKit.Tiles
public import Idealize.ShloMosaic.Lib.Pipeline.ValueKit.Geometry
public import Idealize.ShloMosaic.Lib.Pipeline.ValueKit.Basic

@[expose] public section

set_option maxRecDepth 65536

noncomputable section

namespace Cert.MlpIdeal.Hand

open Cert.MlpIdeal Cert.MlpIdeal.Gen Cert.Rows
open Idealize.ShloMosaic Idealize.ShloMosaic.TcCoe Idealize.ShloMosaic.Tactic Idealize.ShloMosaic.ValueIdx
open Idealize.SL.Sem

/-! The squared-relu network's call: its result array as a function of its arguments. -/

/-- A block's normalisation. -/
abbrev nrm (x : Vec Ideal S1024x1024 .f32) (g : Vec Ideal S1x1024 .f32) : FVec Ideal S1024x1024 .bf16 :=
  normBlk x g shapeCasts_S1x1024_S1x1024 reduces_S1024x1024_S1024 shapeCasts_S1024_S1024x1 broadcasts_S1024x1_S1024x1024 broadcasts_S1x1024_S1024x1024 bitsLt_bf16_f32

/-- What 512 units add to a block's result. -/
def chunk (h : FVec Ideal S1024x1024 .bf16) (w : Vec Ideal S1024x512 .bf16) (d : Vec Ideal S512x1024 .bf16) : FVec Ideal S1024x1024 .f32 :=
  prod (truncf .bf16 (mulf (maximumf (prod h w shapeCasts_S1024x512_S1024x512) (broadcast S1024x512 (Scalar.ofBits .f32 0x00000000#32)))
    (maximumf (prod h w shapeCasts_S1024x512_S1024x512) (broadcast S1024x512 (Scalar.ofBits .f32 0x00000000#32)))) bitsLt_bf16_f32) d shapeCasts_S512x1024_S512x1024

/-- It is the sum of the units' shares. -/
theorem chunk_apply (h : FVec Ideal S1024x1024 .bf16) (w : Vec Ideal S1024x512 .bf16) (d : Vec Ideal S512x1024 .bf16) (r n : Fin 1024) :
    chunk h w d (ix2 r n) = ∑ k : Fin 512, (max (∑ j : Fin 1024, h (ix2 r j) * w (ix2 j k)) 0 * max (∑ j : Fin 1024, h (ix2 r j) * w (ix2 j k)) 0) * d (ix2 k n) := by
  refine (prod_apply (M := 1024) (K := 512) (N := 1024) _ d shapeCasts_S512x1024_S512x1024 r n).trans (Finset.sum_congr rfl fun k _ => ?_)
  have e := prod_apply (M := 1024) (K := 1024) (N := 512) h w shapeCasts_S1024x512_S1024x512 r k
  have e2 : max (prod (M := 1024) (K := 1024) (N := 512) h w shapeCasts_S1024x512_S1024x512 (ix2 r k)) (Ideal.ofBits .f32 0x00000000#32)
      = max (∑ j : Fin 1024, h (ix2 r j) * w (ix2 j k)) 0 := by rw [e, Ideal.ofBits_zero_f32]
  exact congrArg (· * d (ix2 k n)) (congrArg₂ (· * ·) e2 e2)

/-- The block's result, the units taken 512 at a time. -/
def blk (x : Vec Ideal S1024x1024 .f32) (g : Vec Ideal S1x1024 .f32) (w0 w1 w2 w3 w4 w5 w6 w7 : Vec Ideal S1024x512 .bf16) (d0 d1 d2 d3 d4 d5 d6 d7 : Vec Ideal S512x1024 .bf16) :
    FVec Ideal S1024x1024 .f32 :=
  addf (addf (addf (addf (addf (addf (addf (addf x (chunk (nrm x g) w0 d0)) (chunk (nrm x g) w1 d1)) (chunk (nrm x g) w2 d2)) (chunk (nrm x g) w3 d3)) (chunk (nrm x g) w4 d4))
    (chunk (nrm x g) w5 d5)) (chunk (nrm x g) w6 d6)) (chunk (nrm x g) w7 d7)

theorem out_eq (x : Vec Ideal S1024x1024 .f32) (g : Vec Ideal S1x1024 .f32) (u : Vec Ideal S1024x4096 .bf16) (d : Vec Ideal S4096x1024 .bf16) :
    out0_4 x g u d = blk x g (View.ld u r0_2) (View.ld u r0_4) (View.ld u r0_6) (View.ld u r0_8) (View.ld u r0_10) (View.ld u r0_12) (View.ld u r0_14) (View.ld u r0_16)
      (View.ld d r0_3) (View.ld d r0_5) (View.ld d r0_7) (View.ld d r0_9) (View.ld d r0_11) (View.ld d r0_13) (View.ld d r0_15) (View.ld d r0_17) := by
  have ex : View.ld x r0_0 = x := View.ld_unit_lit inb_S1024x1024_S1024x1024_0_0 x (by decide)
  have eg : View.ld g r0_1 = g := View.ld_unit_lit inb_S1x1024_S1x1024_0_0 g (by decide)
  unfold out0_4 k0_pay6
  rw [ex, eg]
  refine (View.canon_cons_unit_lit inb_S1024x1024_S1024x1024_0_0 _ [] (by decide)).trans ?_
  rfl

/-- The columns of the first weights that a load takes. -/
theorem ldU (u : Vec Ideal S1024x4096 .bf16) (o : ℕ) (off : Fin 2 → ℕ) (hoff : off = ![0, o]) (ho : o + 512 ≤ 4096) (inb : ∀ a, off a + ![1024, 512] a ≤ S1024x4096.size a) (j : Fin 1024) (k : Fin 512) :
    View.ld u (Rect.unit (s := S1024x4096) off ![1024, 512] inb) (ix2 j k) = u (ix2 j ⟨o + k.val, by omega⟩) :=
  View.ld_unit_apply_of u off _ inb (ix2 j k) (ix2 j ⟨o + k.val, by omega⟩) (by
    subst hoff
    intro a; fin_cases a
    · show j.val = 0 + j.val; omega
    · rfl)

/-- The rows of the second weights that a load takes. -/
theorem ldD (d : Vec Ideal S4096x1024 .bf16) (o : ℕ) (off : Fin 2 → ℕ) (hoff : off = ![o, 0]) (ho : o + 512 ≤ 4096) (inb : ∀ a, off a + ![512, 1024] a ≤ S4096x1024.size a) (k : Fin 512) (n : Fin 1024) :
    View.ld d (Rect.unit (s := S4096x1024) off ![512, 1024] inb) (ix2 k n) = d (ix2 ⟨o + k.val, by omega⟩ n) :=
  View.ld_unit_apply_of d off _ inb (ix2 k n) (ix2 ⟨o + k.val, by omega⟩ n) (by
    subst hoff
    intro a; fin_cases a
    · rfl
    · show n.val = 0 + n.val; omega)

/-- A block's result at an entry: the row's formula. -/
theorem out_read (x : Vec Ideal S1024x1024 .f32) (g : Vec Ideal S1x1024 .f32) (u : Vec Ideal S1024x4096 .bf16) (d : Vec Ideal S4096x1024 .bf16) (r n : Fin 1024) :
    out0_4 x g u d (ix2 r n) = mlpRow (fun k => x (ix2 r k)) (fun k => g (ix2 0 k)) (fun k f => u (ix2 k f)) (fun f n => d (ix2 f n)) n := by
  have key : ∀ (o : ℕ) (ho : o + 512 ≤ 4096) (w : Vec Ideal S1024x512 .bf16) (e : Vec Ideal S512x1024 .bf16), (∀ j k, w (ix2 j k) = u (ix2 j ⟨o + k.val, by omega⟩)) →
      (∀ k n, e (ix2 k n) = d (ix2 ⟨o + k.val, by omega⟩ n)) → chunk (nrm x g) w e (ix2 r n)
        = ∑ k : Fin 512, (fun f : Fin 4096 => unitRow (fun k => x (ix2 r k)) (fun k => g (ix2 0 k)) (fun k => u (ix2 k f)) * d (ix2 f n)) ⟨o + k.val, by omega⟩ := by
    intro o ho w e hw he
    refine (chunk_apply _ w e r n).trans (Finset.sum_congr rfl fun k _ => ?_)
    have hs : (∑ j : Fin 1024, nrm x g (ix2 r j) * w (ix2 j k)) = ∑ j : Fin 1024, normRow (fun k => x (ix2 r k)) (fun k => g (ix2 0 k)) j * u (ix2 j ⟨o + k.val, by omega⟩) :=
      Finset.sum_congr rfl fun j _ => congrArg₂ (· * ·) (normBlk_apply x g _ _ _ _ _ _ r j) (hw j k)
    rw [hs, he]
    rfl
  rw [out_eq]
  unfold mlpRow
  rw [sum_units]
  simp only [← add_assoc]
  unfold blk
  refine congrArg₂ (· + ·) (congrArg₂ (· + ·) (congrArg₂ (· + ·) (congrArg₂ (· + ·) (congrArg₂ (· + ·) (congrArg₂ (· + ·) (congrArg₂ (· + ·) (congrArg₂ (· + ·) rfl ?_) ?_) ?_) ?_) ?_) ?_) ?_) ?_
  · exact key 0 (by omega) _ _ (ldU u 0 _ rfl (by omega) _) (ldD d 0 _ rfl (by omega) _)
  · exact key 512 (by omega) _ _ (ldU u 512 _ rfl (by omega) _) (ldD d 512 _ rfl (by omega) _)
  · exact key 1024 (by omega) _ _ (ldU u 1024 _ rfl (by omega) _) (ldD d 1024 _ rfl (by omega) _)
  · exact key 1536 (by omega) _ _ (ldU u 1536 _ rfl (by omega) _) (ldD d 1536 _ rfl (by omega) _)
  · exact key 2048 (by omega) _ _ (ldU u 2048 _ rfl (by omega) _) (ldD d 2048 _ rfl (by omega) _)
  · exact key 2560 (by omega) _ _ (ldU u 2560 _ rfl (by omega) _) (ldD d 2560 _ rfl (by omega) _)
  · exact key 3072 (by omega) _ _ (ldU u 3072 _ rfl (by omega) _) (ldD d 3072 _ rfl (by omega) _)
  · exact key 3584 (by omega) _ _ (ldU u 3584 _ rfl (by omega) _) (ldD d 3584 _ rfl (by omega) _)

/-! ### The arrays the blocks are cut from -/

section Launch
variable (m : (ℓ : Loc nD τ sig) → Buf (Elt Ideal) ℓ) (c : Dev nD) (t : Fin grid0.N)

/-- The gain as one row. -/
theorem V_gain (k : Fin 1024) : V m c main_v0 (ix2 0 k) = m ((c.tc : Thread nD τ).loc main_arg1) (ix1 k) := by
  have e : V m c main_v0 = broadcastInDim S1x1024 ![1] bcast_S1024_S1x1024_1 (m ((c.tc : Thread nD τ).loc main_arg1)) := by
    unfold V
    simp only [hostOps0]
    after_results_simp
  rw [e]
  exact broadcastInDim_apply _ bcast_S1024_S1x1024_1 _ _ (ix1 k) (fun a => by fin_cases a; rfl)

/-- The first weights. -/
theorem V_up (i : S1024x4096.Idx) : V m c main_v1 i = m ((c.tc : Thread nD τ).loc main_arg2) i := by
  have e : V m c main_v1 = truncf (F := Ideal) .bf16 (m ((c.tc : Thread nD τ).loc main_arg2)) bitsLt_bf16_f32 := by
    unfold V
    simp only [hostOps0]
    after_results_simp
  rw [e]; rfl

/-- The second weights. -/
theorem V_down (i : S4096x1024.Idx) : V m c main_v2 i = m ((c.tc : Thread nD τ).loc main_arg3) i := by
  have e : V m c main_v2 = truncf (F := Ideal) .bf16 (m ((c.tc : Thread nD τ).loc main_arg3)) bitsLt_bf16_f32 := by
    unfold V
    simp only [hostOps0]
    after_results_simp
  rw [e]; rfl

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![(grid0.coords t 0).val, 0] := by decide +kernel

/-- The blocks of a grid point. -/
abbrev b0 : Vec Ideal S1024x1024 .f32 := iblk m c 0 t
abbrev b1 : Vec Ideal S1x1024 .f32 := iblk m c 1 t
abbrev b2 : Vec Ideal S1024x4096 .bf16 := iblk m c 2 t
abbrev b3 : Vec Ideal S4096x1024 .bf16 := iblk m c 3 t

theorem b0_at (r k : Fin 1024) (R : Fin 32768) (hR : R.val = 1024 * (grid0.coords t 0).val + r.val) : b0 m c t (ix2 r k) = m ((c.tc : Thread nD τ).loc main_arg0) (ix2 R k) := by
  have e := idx0 t
  refine Eq.trans ?_ (congrFun (V_main_arg0 m c) (ix2 R k))
  refine congrArg (V m c main_arg0) (funext fun a => Fin.ext ?_)
  blk_simp [e]
  fin_cases a
  · show (grid0.coords t 0).val * 1024 + r.val = R.val; omega
  · show 0 * 1024 + k.val = k.val; omega

theorem b1_at (k : Fin 1024) : b1 m c t (ix2 0 k) = m ((c.tc : Thread nD τ).loc main_arg1) (ix1 k) := by
  have e := idx1 t
  refine Eq.trans ?_ (V_gain m c k)
  refine congrArg (V m c main_v0) (funext fun a => Fin.ext ?_)
  blk_simp [e]
  fin_cases a
  · rfl
  · show 0 * 1024 + k.val = k.val; omega

theorem b2_at (k : Fin 1024) (f : Fin 4096) : b2 m c t (ix2 k f) = m ((c.tc : Thread nD τ).loc main_arg2) (ix2 k f) := by
  have e := idx2 t
  refine Eq.trans ?_ (V_up m c (ix2 k f))
  refine congrArg (V m c main_v1) (funext fun a => Fin.ext ?_)
  blk_simp [e]
  fin_cases a
  · show 0 * 1024 + k.val = k.val; omega
  · show 0 * 4096 + f.val = f.val; omega

theorem b3_at (f : Fin 4096) (n : Fin 1024) : b3 m c t (ix2 f n) = m ((c.tc : Thread nD τ).loc main_arg3) (ix2 f n) := by
  have e := idx3 t
  refine Eq.trans ?_ (V_down m c (ix2 f n))
  refine congrArg (V m c main_v2) (funext fun a => Fin.ext ?_)
  blk_simp [e]
  fin_cases a
  · show 0 * 4096 + f.val = f.val; omega
  · show 0 * 1024 + n.val = n.val; omega

/-- The network on rows of whole arrays, at an entry. -/
def mlpOf (x : Vec Ideal S32768x1024 .f32) (g : Vec Ideal S1024 .f32) (u : Vec Ideal S1024x4096 .f32) (d : Vec Ideal S4096x1024 .f32) (R : Fin 32768) (n : Fin 1024) : EReal :=
  mlpRow (fun k => x (ix2 R k)) (fun k => g (ix1 k)) (fun k f => u (ix2 k f)) (fun f n => d (ix2 f n)) n

/-- A point's result block at an entry. -/
theorem point_out (r n : Fin 1024) (R : Fin 32768) (hR : R.val = 1024 * (grid0.coords t 0).val + r.val) :
    out0_4 (b0 m c t) (b1 m c t) (b2 m c t) (b3 m c t) (ix2 r n) = mlpOf (m ((c.tc : Thread nD τ).loc main_arg0)) (m ((c.tc : Thread nD τ).loc main_arg1))
      (m ((c.tc : Thread nD τ).loc main_arg2)) (m ((c.tc : Thread nD τ).loc main_arg3)) R n := by
  have hx : (fun k => b0 m c t (ix2 r k)) = fun k => m ((c.tc : Thread nD τ).loc main_arg0) (ix2 R k) := funext fun k => b0_at m c t r k R hR
  have h1 : (fun k => b1 m c t (ix2 0 k)) = fun k => m ((c.tc : Thread nD τ).loc main_arg1) (ix1 k) := funext fun k => b1_at m c t k
  have h2 : (fun k f => b2 m c t (ix2 k f)) = fun k f => m ((c.tc : Thread nD τ).loc main_arg2) (ix2 k f) := funext fun k => funext fun f => b2_at m c t k f
  have h3 : (fun f n => b3 m c t (ix2 f n)) = fun f n => m ((c.tc : Thread nD τ).loc main_arg3) (ix2 f n) := funext fun f => funext fun n => b3_at m c t f n
  refine (out_read _ _ _ _ r n).trans ?_
  rw [hx, h1, h2, h3]
  rfl

/-- The same at any index of the block. -/
theorem point_out' (y : S1024x1024.Idx) (R : Fin 32768) (n : Fin 1024) (hR : R.val = 1024 * (grid0.coords t 0).val + (y 0).val) (hn : n.val = (y 1).val) :
    out0_4 (b0 m c t) (b1 m c t) (b2 m c t) (b3 m c t) y = mlpOf (m ((c.tc : Thread nD τ).loc main_arg0)) (m ((c.tc : Thread nD τ).loc main_arg1))
      (m ((c.tc : Thread nD τ).loc main_arg2)) (m ((c.tc : Thread nD τ).loc main_arg3)) R n := by
  obtain ⟨r, k, rfl⟩ : ∃ (r k : Fin 1024), y = ix2 r k := ⟨y 0, y 1, funext fun a => by fin_cases a <;> rfl⟩
  have e : n = k := Fin.ext hn
  subst e
  exact point_out m c t r n R hR

/-- The result array at the end. -/
theorem array_out : (dats m 0 c).arrAt 4 cfg0.N = fun i : S32768x1024.Idx =>
    mlpOf (m ((c.tc : Thread nD τ).loc main_arg0)) (m ((c.tc : Thread nD τ).loc main_arg1)) (m ((c.tc : Thread nD τ).loc main_arg2)) (m ((c.tc : Thread nD τ).loc main_arg3)) (i 0) (i 1) := by
  refine (dats m 0 c).arrAt_eq_of_covers 4 _ (by decide +kernel) fun t hf y => ?_
  blk_simp
  have e := idx4 t
  refine (congrFun (after0_4 m c t) y).trans ?_
  refine point_out' m c t y _ _ ?_ ?_
  · blk_simp [e]
    show (grid0.coords t 0).val * 1024 + (y 0).val = 1024 * (grid0.coords t 0).val + (y 0).val
    omega
  · blk_simp [e]

end Launch

end Cert.MlpIdeal.Hand

end
-- ==== Proof.Rows.MlpRef.lean ====
module

public import proofs.«01_k».proof.Proof.Rows.Common
public import proofs.«01_k».proof.Proof.Gen.MlpRefIdeal.Read

@[expose] public section

set_option maxRecDepth 65536

noncomputable section

namespace Cert.MlpRefIdeal.Hand

open Cert.MlpRefIdeal Cert.MlpRefIdeal.Gen Cert.MlpRefIdeal.Read Cert.Rows
open Idealize.ShloMosaic Idealize.ShloMosaic.TcCoe Idealize.ShloMosaic.ValueIdx

/-! The network's plain formula is what its reference computes. -/

variable (x : (⟨S32768x1024, .f32⟩ : BufTy).Contents (Elt Ideal)) (g : (⟨S1024, .f32⟩ : BufTy).Contents (Elt Ideal))
  (u : (⟨S1024x4096, .f32⟩ : BufTy).Contents (Elt Ideal)) (d : (⟨S4096x1024, .f32⟩ : BufTy).Contents (Elt Ideal))

/-- The reference's normalised row. -/
theorem norm_at (R : Fin 32768) (k : Fin 1024) : val_main_v12 (F := Ideal) x g (ix2 R k) = normRow (fun k => x (ix2 R k)) (fun k => g (ix1 k)) k := by
  have e1 : val_main_v1 (F := Ideal) x (ix1 R) = ∑ j : Fin 1024, x (ix2 R j) * x (ix2 R j) := by
    refine (val_main_v1_apply x (ix1 R)).trans ?_
    refine (congrArg₂ (· + ·) (Ideal.ofBits_zero_f32 : val_main_cst (F := Ideal) (Shape.Idx.first h_S_) = 0) (Finset.sum_congr rfl fun j _ => ?_)).trans (zero_add _)
    have ei : idx_main_v1 (ix1 R) j = ix2 R j := funext fun a => by fin_cases a <;> rfl
    exact (congrArg (val_main_v0 (F := Ideal) x) ei).trans rfl
  have e2 : val_main_v2 (F := Ideal) x (ix2 R 0) = ∑ j : Fin 1024, x (ix2 R j) * x (ix2 R j) := by
    refine (val_main_v2_apply (F := Ideal) x (ix2 R 0)).trans (Eq.trans (congrArg (val_main_v1 (F := Ideal) x) ?_) e1)
    exact funext fun a => by fin_cases a; rfl
  have e8 : val_main_v8 (F := Ideal) x (ix2 R k) = Ideal.rsqrt (Ideal.div (∑ j, x (ix2 R j) * x (ix2 R j)) (Ideal.ofBits .f32 0x44800000#32) + Ideal.ofBits .f32 0x358637BD#32) := by
    refine (val_main_v8_apply (F := Ideal) x (ix2 R k)).trans ?_
    refine (congrArg (val_main_v7 (F := Ideal) x) (funext fun a => by fin_cases a <;> rfl : idx_main_v8 (ix2 R k) = ix2 R 0)).trans ?_
    rw [← e2]
    refine (val_main_v7_apply (F := Ideal) x _).trans (congrArg Ideal.rsqrt ?_)
    refine (val_main_v6_apply (F := Ideal) x _).trans (congrArg₂ (· + ·) ?_ ?_)
    · refine (val_main_v4_apply (F := Ideal) x _).trans (congrArg (Ideal.div _) ?_)
      exact (val_main_v3_apply (F := Ideal) _).trans rfl
    · exact (val_main_v5_apply (F := Ideal) _).trans rfl
  have e11 : val_main_v11 (F := Ideal) g (ix2 R k) = g (ix1 k) := by
    refine (val_main_v11_apply (F := Ideal) g (ix2 R k)).trans ((val_main_v10_apply (F := Ideal) g _).trans (congrArg g ?_))
    exact funext fun a => by fin_cases a; rfl
  refine (val_main_v12_apply (F := Ideal) x g _).trans (congrArg₂ (· * ·) ?_ e11)
  exact (val_main_v9_apply (F := Ideal) x _).trans (congrArg (x (ix2 R k) * ·) e8)

/-- The reference's unit. -/
theorem unit_at (R : Fin 32768) (f : Fin 4096) :
    val_main_v15 (F := Ideal) x g u (ix2 R f) = unitRow (fun k => x (ix2 R k)) (fun k => g (ix1 k)) (fun k => u (ix2 k f)) := by
  have e13 : val_main_v13 (F := Ideal) x g u (ix2 R f) = ∑ k, normRow (fun k => x (ix2 R k)) (fun k => g (ix1 k)) k * u (ix2 k f) := by
    refine (val_main_v13_apply x g u (ix2 R f)).trans (Finset.sum_congr rfl fun k _ => congrArg₂ (· * ·) ?_ (congrArg u ?_))
    · exact (congrArg (val_main_v12 (F := Ideal) x g) (funext fun a => by fin_cases a <;> rfl : lidx_main_v13 (ix2 R f) k = ix2 R k)).trans (norm_at x g R k)
    · exact funext fun a => by fin_cases a <;> rfl
  have e14 : val_main_v14 (F := Ideal) x g u (ix2 R f) = max (∑ k, normRow (fun k => x (ix2 R k)) (fun k => g (ix1 k)) k * u (ix2 k f)) 0 := by
    refine (val_main_v14_apply (F := Ideal) x g u _).trans (congrArg₂ max e13 ?_)
    exact (val_main_call0_v0_apply (F := Ideal) _).trans Ideal.ofBits_zero_f32
  exact (val_main_v15_apply (F := Ideal) x g u _).trans (congrArg₂ (· * ·) e14 e14)

/-- The reference's result. -/
theorem ref_all : val_main_v17 (F := Ideal) x g u d = fun i : S32768x1024.Idx =>
    mlpRow (fun k => x (ix2 (i 0) k)) (fun k => g (ix1 k)) (fun k f => u (ix2 k f)) (fun f n => d (ix2 f n)) (i 1) := by
  funext i
  obtain ⟨R, n, rfl⟩ : ∃ (R : Fin 32768) (n : Fin 1024), i = ix2 R n := ⟨i 0, i 1, funext fun a => by fin_cases a <;> rfl⟩
  refine (val_main_v17_apply (F := Ideal) x g u d _).trans (congrArg (x (ix2 R n) + ·) ?_)
  refine (val_main_v16_apply x g u d (ix2 R n)).trans (Finset.sum_congr rfl fun f _ => congrArg₂ (· * ·) ?_ (congrArg d ?_))
  · exact (congrArg (val_main_v15 (F := Ideal) x g u) (funext fun a => by fin_cases a <;> rfl : lidx_main_v16 (ix2 R n) f = ix2 R f)).trans (unit_at x g u R f)
  · exact funext fun a => by fin_cases a <;> rfl

end Cert.MlpRefIdeal.Hand

end
-- ==== Proof.Rows.Merge.lean ====
module

public import proofs.«01_k».proof.Proof.Rows.Common
public import proofs.«01_k».proof.Proof.Gen.MergeIdeal.Value
public import Idealize.ShloMosaic.Lib.IdealHost
public import Idealize.ShloMosaic.Lib.Pipeline.ValueKit.Tiles
public import Idealize.ShloMosaic.Lib.Pipeline.ValueKit.Geometry
public import Idealize.ShloMosaic.Lib.Pipeline.ValueKit.Basic

@[expose] public section

set_option maxRecDepth 65536

noncomputable section

namespace Cert.MergeIdeal.Hand

open Cert.MergeIdeal Cert.MergeIdeal.Gen Cert.Rows
open Idealize.ShloMosaic Idealize.ShloMosaic.TcCoe Idealize.ShloMosaic.Tactic Idealize.ShloMosaic.ValueIdx
open Idealize.SL.Sem

/-! The call that merges the two mixers' branches: its result array as a function of its arguments. -/

/-- A block's normalisation. -/
abbrev nrm (x : Vec Ideal S1024x1024 .f32) (g : Vec Ideal S1x1024 .f32) : FVec Ideal S1024x1024 .bf16 :=
  normBlk x g shapeCasts_S1x1024_S1x1024 reduces_S1024x1024_S1024 shapeCasts_S1024_S1024x1 broadcasts_S1024x1_S1024x1024 broadcasts_S1x1024_S1024x1024 bitsLt_bf16_f32

/-- One branch under its gate, over 512 of its lanes. -/
def branch (h : FVec Ideal S1024x1024 .bf16) (w : Vec Ideal S1024x512 .bf16) (a : Vec Ideal S1024x512 .bf16) (p : Vec Ideal S512x512 .bf16) : FVec Ideal S1024x512 .f32 :=
  mulf (logistic (prod h w shapeCasts_S1024x512_S1024x512)) (prod (shapeCast S1024x512 a shapeCasts_S1024x512_S1024x512) p shapeCasts_S512x512_S512x512)

/-- It is the gate times the product. -/
theorem branch_apply (h : FVec Ideal S1024x1024 .bf16) (w : Vec Ideal S1024x512 .bf16) (a : Vec Ideal S1024x512 .bf16) (p : Vec Ideal S512x512 .bf16) (r : Fin 1024) (l : Fin 512) :
    branch h w a p (ix2 r l) = Ideal.logistic (∑ k : Fin 1024, h (ix2 r k) * w (ix2 k l)) * ∑ k : Fin 512, a (ix2 r k) * p (ix2 k l) := by
  have e1 := prod_apply (M := 1024) (K := 1024) (N := 512) h w shapeCasts_S1024x512_S1024x512 r l
  have e2 := prod_apply (M := 1024) (K := 512) (N := 512) (shapeCast S1024x512 a shapeCasts_S1024x512_S1024x512) p shapeCasts_S512x512_S512x512 r l
  rw [shapeCast_self a shapeCasts_S1024x512_S1024x512] at e2
  unfold branch
  rw [shapeCast_self a shapeCasts_S1024x512_S1024x512]
  exact congrArg₂ (· * ·) (congrArg Ideal.logistic e1) e2

/-- The merged branches, their lanes in two halves. -/
def merged (h : FVec Ideal S1024x1024 .bf16) (a b : Vec Ideal S1024x512 .bf16) (wa0 wb0 wa1 wb1 : Vec Ideal S1024x512 .bf16) (p0 q0 p1 q1 : Vec Ideal S512x512 .bf16) :
    FVec Ideal S1024x1024 .bf16 :=
  concatenate S1024x1024 1 [⟨S1024x512, truncf .bf16 (addf (branch h wa0 a p0) (branch h wb0 b q0)) bitsLt_bf16_f32⟩,
    ⟨S1024x512, truncf .bf16 (addf (branch h wa1 a p1) (branch h wb1 b q1)) bitsLt_bf16_f32⟩] concatenates_S1024x512_S1024x512_S1024x1024_d1

/-- A half of the result. -/
def half (x : Vec Ideal S1024x512 .f32) (y : FVec Ideal S1024x1024 .bf16) (o : Vec Ideal S1024x512 .bf16) : FVec Ideal S1024x512 .f32 :=
  addf x (prod y o shapeCasts_S1024x512_S1024x512)

/-- It is the row plus the projection. -/
theorem half_apply (x : Vec Ideal S1024x512 .f32) (y : FVec Ideal S1024x1024 .bf16) (o : Vec Ideal S1024x512 .bf16) (r : Fin 1024) (l : Fin 512) :
    half x y o (ix2 r l) = x (ix2 r l) + ∑ j : Fin 1024, y (ix2 r j) * o (ix2 j l) :=
  congrArg (x (ix2 r l) + ·) (prod_apply (M := 1024) (K := 1024) (N := 512) y o shapeCasts_S1024x512_S1024x512 r l)

section Block
variable (x : Vec Ideal S1024x1024 .f32) (a b : Vec Ideal S1024x512 .bf16) (g : Vec Ideal S1x1024 .f32) (w : Vec Ideal S1024x2048 .bf16) (p q : Vec Ideal S512x1024 .bf16)
  (o : Vec Ideal S1024x1024 .bf16)

/-- The merged branches of a grid point. -/
def mid : FVec Ideal S1024x1024 .bf16 :=
  merged (nrm x g) a b (View.ld w r0_4) (View.ld w r0_5) (View.ld w r0_7) (View.ld w r0_8) (View.ld p r0_3) (View.ld q r0_3) (View.ld p r0_6) (View.ld q r0_6)

/-- The two stores of a grid point. -/
theorem out_eq : out0_8 x a b g w p q o = View.canon [⟨r0_10, half (extractStridedSlice S1024x512 ![0, 512] x slices_S1024x1024_o0_512_S1024x512) (mid x a b g w p q) (View.ld o r0_10)⟩,
    ⟨r0_9, half (extractStridedSlice S1024x512 ![0, 0] x slices_S1024x1024_o0_0_S1024x512) (mid x a b g w p q) (View.ld o r0_9)⟩] := by
  have ex : View.ld x r0_0 = x := View.ld_unit_lit inb_S1024x1024_S1024x1024_0_0 x (by decide)
  have eg : View.ld g r0_1 = g := View.ld_unit_lit inb_S1x1024_S1x1024_0_0 g (by decide)
  have ea : View.ld a r0_2 = a := View.ld_unit_lit inb_S1024x512_S1024x512_0_0 a (by decide)
  have eb : View.ld b r0_2 = b := View.ld_unit_lit inb_S1024x512_S1024x512_0_0 b (by decide)
  unfold out0_8 k0_pay9 k0_pay10 k0_pay11 k0_pay12 k0_pay13
  rw [ex, eg, ea, eb]
  rfl

/-- The columns that a load takes. -/
theorem ldCols {e : EltTy} {M N : ℕ} (x : Vec Ideal ⟨2, ![M, N]⟩ e) (s : ℕ) (off : Fin 2 → ℕ) (hoff : off = ![0, s]) (hs : s + 512 ≤ N)
    (inb : ∀ a, off a + ![M, 512] a ≤ (⟨2, ![M, N]⟩ : Shape).size a) (j : Fin M) (k : Fin 512) :
    View.ld x (Rect.unit (s := ⟨2, ![M, N]⟩) off ![M, 512] inb) (ix2 j k) = x (ix2 j ⟨s + k.val, by omega⟩) :=
  View.ld_unit_apply_of x off _ inb (ix2 j k) (ix2 j ⟨s + k.val, by omega⟩) (by
    subst hoff
    intro a; fin_cases a
    · show j.val = 0 + j.val; omega
    · rfl)

/-- A half of the merged branches at an entry. -/
theorem sum_branches (s : ℕ) (hs : s + 512 ≤ 1024) (wa wb : Vec Ideal S1024x512 .bf16) (p' q' : Vec Ideal S512x512 .bf16)
    (hwa : ∀ j k, wa (ix2 j k) = w (ix2 j ⟨s + k.val, by omega⟩)) (hwb : ∀ j k, wb (ix2 j k) = w (ix2 j ⟨1024 + s + k.val, by omega⟩))
    (hp : ∀ j k, p' (ix2 j k) = p (ix2 j ⟨s + k.val, by omega⟩)) (hq : ∀ j k, q' (ix2 j k) = q (ix2 j ⟨s + k.val, by omega⟩)) (r : Fin 1024) (l : Fin 512) :
    addf (branch (nrm x g) wa a p') (branch (nrm x g) wb b q') (ix2 r l) = mergedRow (fun k => x (ix2 r k)) (fun k => g (ix2 0 k)) (fun k => a (ix2 r k)) (fun k => b (ix2 r k))
      (fun k j => w (ix2 k j)) (fun k j => p (ix2 k j)) (fun k j => q (ix2 k j)) ⟨s + l.val, by omega⟩ := by
  have hn : ∀ k : Fin 1024, nrm x g (ix2 r k) = normRow (fun k => x (ix2 r k)) (fun k => g (ix2 0 k)) k := fun k => normBlk_apply x g _ _ _ _ _ _ r k
  refine (congrArg₂ (· + ·) (branch_apply (nrm x g) wa a p' r l) (branch_apply (nrm x g) wb b q' r l)).trans ?_
  unfold mergedRow gateRow
  refine congrArg₂ (· + ·) (congrArg₂ (· * ·) (congrArg Ideal.logistic (Finset.sum_congr rfl fun k _ => ?_)) (Finset.sum_congr rfl fun k _ => ?_))
    (congrArg₂ (· * ·) (congrArg Ideal.logistic (Finset.sum_congr rfl fun k _ => ?_)) (Finset.sum_congr rfl fun k _ => ?_))
  · exact congrArg₂ (· * ·) (hn k) (hwa k l)
  · exact congrArg (a (ix2 r k) * ·) (hp k l)
  · refine congrArg₂ (· * ·) (hn k) ((hwb k l).trans (congrArg w (congrArg (ix2 k) (Fin.ext ?_))))
    show 1024 + s + l.val = 1024 + (s + l.val); omega
  · exact congrArg (b (ix2 r k) * ·) (hq k l)

/-- The merged branches at an entry: the row's formula. -/
theorem mid_apply (r j : Fin 1024) : mid x a b g w p q (ix2 r j) = mergedRow (fun k => x (ix2 r k)) (fun k => g (ix2 0 k)) (fun k => a (ix2 r k)) (fun k => b (ix2 r k))
      (fun k j => w (ix2 k j)) (fun k j => p (ix2 k j)) (fun k j => q (ix2 k j)) j := by
  have hj := j.isLt
  unfold mid merged
  by_cases h : j.val < 512
  · refine (concatenate_pair_apply_left (1 : Fin S1024x1024.rank) _ _ concatenates_S1024x512_S1024x512_S1024x1024_d1 (ix2 r j) rfl (ix2 r ⟨j.val, h⟩) ?_).trans ?_
    · intro c; fin_cases c <;> rfl
    · refine (sum_branches x a b g w p q 0 (by omega) _ _ _ _ (ldCols w 0 _ rfl (by omega) _) (ldCols w 1024 _ rfl (by omega) _) (ldCols p 0 _ rfl (by omega) _)
        (ldCols q 0 _ rfl (by omega) _) r ⟨j.val, h⟩).trans (congrArg _ (Fin.ext ?_))
      show 0 + j.val = j.val; omega
  · refine (concatenate_pair_apply_right (1 : Fin S1024x1024.rank) _ _ concatenates_S1024x512_S1024x512_S1024x1024_d1 (ix2 r j) rfl rfl (ix2 r ⟨j.val - 512, by omega⟩) ?_ ?_).trans ?_
    · intro c hc
      fin_cases c
      · rfl
      · exact absurd rfl hc
    · show j.val - 512 + 512 = j.val; omega
    · refine (sum_branches x a b g w p q 512 (by omega) _ _ _ _ (ldCols w 512 _ rfl (by omega) _) (ldCols w 1536 _ rfl (by omega) _) (ldCols p 512 _ rfl (by omega) _)
        (ldCols q 512 _ rfl (by omega) _) r ⟨j.val - 512, by omega⟩).trans (congrArg _ (Fin.ext ?_))
      show 512 + (j.val - 512) = j.val; omega

/-- A half of a block's result at an entry: the row's formula. -/
theorem half_read (s : ℕ) (hs : s + 512 ≤ 1024) (x' : Vec Ideal S1024x512 .f32) (o' : Vec Ideal S1024x512 .bf16) (hx : ∀ j k, x' (ix2 j k) = x (ix2 j ⟨s + k.val, by omega⟩))
    (ho : ∀ j k, o' (ix2 j k) = o (ix2 j ⟨s + k.val, by omega⟩)) (r : Fin 1024) (l : Fin 512) :
    half x' (mid x a b g w p q) o' (ix2 r l) = mergeRow (fun k => x (ix2 r k)) (fun k => g (ix2 0 k)) (fun k => a (ix2 r k)) (fun k => b (ix2 r k))
      (fun k j => w (ix2 k j)) (fun k j => p (ix2 k j)) (fun k j => q (ix2 k j)) (fun k j => o (ix2 k j)) ⟨s + l.val, by omega⟩ := by
  refine (half_apply _ _ _ r l).trans (congrArg₂ (· + ·) (hx r l) (Finset.sum_congr rfl fun j _ => congrArg₂ (· * ·) (mid_apply x a b g w p q r j) (ho j l)))

/-- A block's result at an entry: the row's formula. -/
theorem out_read (r n : Fin 1024) : out0_8 x a b g w p q o (ix2 r n) = mergeRow (fun k => x (ix2 r k)) (fun k => g (ix2 0 k)) (fun k => a (ix2 r k)) (fun k => b (ix2 r k))
      (fun k j => w (ix2 k j)) (fun k j => p (ix2 k j)) (fun k j => q (ix2 k j)) (fun k j => o (ix2 k j)) n := by
  rw [out_eq]
  refine View.canon_eq_of_allAt _ _ _ (cover0_8 _ _ _) ?_
  refine View.allAt_cons_unit _ _ _ _ _ ?_ (View.allAt_cons_unit _ _ _ _ _ ?_ (View.allAt_nil _ _))
  · intro y hy
    obtain ⟨r', l, rfl⟩ : ∃ (r' : Fin 1024) (l : Fin 512), y = ix2 r' l := ⟨y 0, y 1, funext fun a => by fin_cases a <;> rfl⟩
    have h0 : r.val = 0 + r'.val := hy 0
    have h1 : n.val = 512 + l.val := hy 1
    obtain rfl : r = r' := Fin.ext (by omega)
    refine (half_read x a b g w p q o 512 (by omega) _ _ (fun j k => ?_) (ldCols o 512 _ rfl (by omega) _) r l).trans (congrArg _ (Fin.ext h1.symm))
    exact extractStridedSlice_apply ![0, 512] x slices_S1024x1024_o0_512_S1024x512 (ix2 j k) (ix2 j ⟨512 + k.val, by omega⟩) (fun a => by
      fin_cases a
      · show j.val = 0 + j.val; omega
      · rfl)
  · intro y hy
    obtain ⟨r', l, rfl⟩ : ∃ (r' : Fin 1024) (l : Fin 512), y = ix2 r' l := ⟨y 0, y 1, funext fun a => by fin_cases a <;> rfl⟩
    have h0 : r.val = 0 + r'.val := hy 0
    have h1 : n.val = 0 + l.val := hy 1
    obtain rfl : r = r' := Fin.ext (by omega)
    refine (half_read x a b g w p q o 0 (by omega) _ _ (fun j k => ?_) (ldCols o 0 _ rfl (by omega) _) r l).trans (congrArg _ (Fin.ext h1.symm))
    exact extractStridedSlice_apply ![0, 0] x slices_S1024x1024_o0_0_S1024x512 (ix2 j k) (ix2 j ⟨0 + k.val, by omega⟩) (fun a => by
      fin_cases a
      · show j.val = 0 + j.val; omega
      · rfl)

end Block

/-! ### The arrays the blocks are cut from -/

section Launch
variable (m : (ℓ : Loc nD τ sig) → Buf (Elt Ideal) ℓ) (c : Dev nD) (t : Fin grid0.N)

/-- The gain as one row. -/
theorem V_gain (k : Fin 1024) : V m c main_v2 (ix2 0 k) = m ((c.tc : Thread nD τ).loc main_arg3) (ix1 k) := by
  have e : V m c main_v2 = broadcastInDim S1x1024 ![1] bcast_S1024_S1x1024_1 (m ((c.tc : Thread nD τ).loc main_arg3)) := by
    unfold V
    simp only [hostOps0]
    after_results_simp
  rw [e]
  exact broadcastInDim_apply _ bcast_S1024_S1x1024_1 _ _ (ix1 k) (fun a => by fin_cases a; rfl)

/-- The first mixer's result. -/
theorem V_arg1 (i : S32768x512.Idx) : V m c main_v0 i = m ((c.tc : Thread nD τ).loc main_arg1) i := by
  have e : V m c main_v0 = truncf (F := Ideal) .bf16 (m ((c.tc : Thread nD τ).loc main_arg1)) bitsLt_bf16_f32 := by
    unfold V
    simp only [hostOps0]
    after_results_simp
  rw [e]; rfl

/-- The second mixer's result. -/
theorem V_arg2 (i : S32768x512.Idx) : V m c main_v1 i = m ((c.tc : Thread nD τ).loc main_arg2) i := by
  have e : V m c main_v1 = truncf (F := Ideal) .bf16 (m ((c.tc : Thread nD τ).loc main_arg2)) bitsLt_bf16_f32 := by
    unfold V
    simp only [hostOps0]
    after_results_simp
  rw [e]; rfl

/-- The gates' weights. -/
theorem V_arg4 (i : S1024x2048.Idx) : V m c main_v3 i = m ((c.tc : Thread nD τ).loc main_arg4) i := by
  have e : V m c main_v3 = truncf (F := Ideal) .bf16 (m ((c.tc : Thread nD τ).loc main_arg4)) bitsLt_bf16_f32 := by
    unfold V
    simp only [hostOps0]
    after_results_simp
  rw [e]; rfl

/-- The first branch's weights. -/
theorem V_arg5 (i : S512x1024.Idx) : V m c main_v4 i = m ((c.tc : Thread nD τ).loc main_arg5) i := by
  have e : V m c main_v4 = truncf (F := Ideal) .bf16 (m ((c.tc : Thread nD τ).loc main_arg5)) bitsLt_bf16_f32 := by
    unfold V
    simp only [hostOps0]
    after_results_simp
  rw [e]; rfl

/-- The second branch's weights. -/
theorem V_arg6 (i : S512x1024.Idx) : V m c main_v5 i = m ((c.tc : Thread nD τ).loc main_arg6) i := by
  have e : V m c main_v5 = truncf (F := Ideal) .bf16 (m ((c.tc : Thread nD τ).loc main_arg6)) bitsLt_bf16_f32 := by
    unfold V
    simp only [hostOps0]
    after_results_simp
  rw [e]; rfl

/-- The projection's weights. -/
theorem V_arg7 (i : S1024x1024.Idx) : V m c main_v6 i = m ((c.tc : Thread nD τ).loc main_arg7) i := by
  have e : V m c main_v6 = truncf (F := Ideal) .bf16 (m ((c.tc : Thread nD τ).loc main_arg7)) bitsLt_bf16_f32 := by
    unfold V
    simp only [hostOps0]
    after_results_simp
  rw [e]; rfl

/-- Window 0's block number. -/
theorem idx0 : ∀ t : Fin grid0.N, win0_0.index t = ![(grid0.coords t 0).val, 0] := by decide +kernel
/-- Window 1's block number. -/
theorem idx1 : ∀ t : Fin grid0.N, win0_1.index t = ![(grid0.coords t 0).val, 0] := by decide +kernel
/-- Window 2's block number. -/
theorem idx2 : ∀ t : Fin grid0.N, win0_2.index t = ![(grid0.coords t 0).val, 0] := by decide +kernel
/-- Window 3's block number. -/
theorem idx3 : ∀ t : Fin grid0.N, win0_3.index t = ![0, 0] := by decide +kernel
/-- Window 4's block number. -/
theorem idx4 : ∀ t : Fin grid0.N, win0_4.index t = ![0, 0] := by decide +kernel
/-- Window 5's block number. -/
theorem idx5 : ∀ t : Fin grid0.N, win0_5.index t = ![0, 0] := by decide +kernel
/-- Window 6's block number. -/
theorem idx6 : ∀ t : Fin grid0.N, win0_6.index t = ![0, 0] := by decide +kernel
/-- Window 7's block number. -/
theorem idx7 : ∀ t : Fin grid0.N, win0_7.index t = ![0, 0] := by decide +kernel
/-- Window 8's block number. -/
theorem idx8 : ∀ t : Fin grid0.N, win0_8.index t = ![(grid0.coords t 0).val, 0] := by decide +kernel
/-- Window 0's block. -/
abbrev b0 : Vec Ideal S1024x1024 .f32 := iblk m c 0 t
/-- Window 1's block. -/
abbrev b1 : Vec Ideal S1024x512 .bf16 := iblk m c 1 t
/-- Window 2's block. -/
abbrev b2 : Vec Ideal S1024x512 .bf16 := iblk m c 2 t
/-- Window 3's block. -/
abbrev b3 : Vec Ideal S1x1024 .f32 := iblk m c 3 t
/-- Window 4's block. -/
abbrev b4 : Vec Ideal S1024x2048 .bf16 := iblk m c 4 t
/-- Window 5's block. -/
abbrev b5 : Vec Ideal S512x1024 .bf16 := iblk m c 5 t
/-- Window 6's block. -/
abbrev b6 : Vec Ideal S512x1024 .bf16 := iblk m c 6 t
/-- Window 7's block. -/
abbrev b7 : Vec Ideal S1024x1024 .bf16 := iblk m c 7 t

theorem b0_at (r : Fin 1024) (k : Fin 1024) (R : Fin 32768) (hR : R.val = 1024 * (grid0.coords t 0).val + r.val) : b0 m c t (ix2 r k) = m ((c.tc : Thread nD τ).loc main_arg0) (ix2 R k) := by
  have e := idx0 t
  refine Eq.trans ?_ (congrFun (V_main_arg0 m c) (ix2 R k))
  refine congrArg (V m c main_arg0) (funext fun a => Fin.ext ?_)
  blk_simp [e]
  fin_cases a
  · show (grid0.coords t 0).val * 1024 + r.val = R.val; omega
  · show 0 * 1024 + k.val = k.val; omega

theorem b1_at (r : Fin 1024) (k : Fin 512) (R : Fin 32768) (hR : R.val = 1024 * (grid0.coords t 0).val + r.val) : b1 m c t (ix2 r k) = m ((c.tc : Thread nD τ).loc main_arg1) (ix2 R k) := by
  have e := idx1 t
  refine Eq.trans ?_ (V_arg1 m c (ix2 R k))
  refine congrArg (V m c main_v0) (funext fun a => Fin.ext ?_)
  blk_simp [e]
  fin_cases a
  · show (grid0.coords t 0).val * 1024 + r.val = R.val; omega
  · show 0 * 512 + k.val = k.val; omega

theorem b2_at (r : Fin 1024) (k : Fin 512) (R : Fin 32768) (hR : R.val = 1024 * (grid0.coords t 0).val + r.val) : b2 m c t (ix2 r k) = m ((c.tc : Thread nD τ).loc main_arg2) (ix2 R k) := by
  have e := idx2 t
  refine Eq.trans ?_ (V_arg2 m c (ix2 R k))
  refine congrArg (V m c main_v1) (funext fun a => Fin.ext ?_)
  blk_simp [e]
  fin_cases a
  · show (grid0.coords t 0).val * 1024 + r.val = R.val; omega
  · show 0 * 512 + k.val = k.val; omega

theorem b3_at (k : Fin 1024) : b3 m c t (ix2 0 k) = m ((c.tc : Thread nD τ).loc main_arg3) (ix1 k) := by
  have e := idx3 t
  refine Eq.trans ?_ (V_gain m c k)
  refine congrArg (V m c main_v2) (funext fun a => Fin.ext ?_)
  blk_simp [e]
  fin_cases a
  · rfl
  · show 0 * 1024 + k.val = k.val; omega

theorem b4_at (k : Fin 1024) (f : Fin 2048) : b4 m c t (ix2 k f) = m ((c.tc : Thread nD τ).loc main_arg4) (ix2 k f) := by
  have e := idx4 t
  refine Eq.trans ?_ (V_arg4 m c (ix2 k f))
  refine congrArg (V m c main_v3) (funext fun a => Fin.ext ?_)
  blk_simp [e]
  fin_cases a
  · show 0 * 1024 + k.val = k.val; omega
  · show 0 * 2048 + f.val = f.val; omega

theorem b5_at (k : Fin 512) (f : Fin 1024) : b5 m c t (ix2 k f) = m ((c.tc : Thread nD τ).loc main_arg5) (ix2 k f) := by
  have e := idx5 t
  refine Eq.trans ?_ (V_arg5 m c (ix2 k f))
  refine congrArg (V m c main_v4) (funext fun a => Fin.ext ?_)
  blk_simp [e]
  fin_cases a
  · show 0 * 512 + k.val = k.val; omega
  · show 0 * 1024 + f.val = f.val; omega

theorem b6_at (k : Fin 512) (f : Fin 1024) : b6 m c t (ix2 k f) = m ((c.tc : Thread nD τ).loc main_arg6) (ix2 k f) := by
  have e := idx6 t
  refine Eq.trans ?_ (V_arg6 m c (ix2 k f))
  refine congrArg (V m c main_v5) (funext fun a => Fin.ext ?_)
  blk_simp [e]
  fin_cases a
  · show 0 * 512 + k.val = k.val; omega
  · show 0 * 1024 + f.val = f.val; omega

theorem b7_at (k : Fin 1024) (f : Fin 1024) : b7 m c t (ix2 k f) = m ((c.tc : Thread nD τ).loc main_arg7) (ix2 k f) := by
  have e := idx7 t
  refine Eq.trans ?_ (V_arg7 m c (ix2 k f))
  refine congrArg (V m c main_v6) (funext fun a => Fin.ext ?_)
  blk_simp [e]
  fin_cases a
  · show 0 * 1024 + k.val = k.val; omega
  · show 0 * 1024 + f.val = f.val; omega

/-- The merge on rows of whole arrays, at an entry. -/
def mergeOf (x : Vec Ideal S32768x1024 .f32) (a b : Vec Ideal S32768x512 .f32) (g : Vec Ideal S1024 .f32) (w : Vec Ideal S1024x2048 .f32) (p q : Vec Ideal S512x1024 .f32)
    (o : Vec Ideal S1024x1024 .f32) (R : Fin 32768) (n : Fin 1024) : EReal :=
  mergeRow (fun k => x (ix2 R k)) (fun k => g (ix1 k)) (fun k => a (ix2 R k)) (fun k => b (ix2 R k)) (fun k j => w (ix2 k j)) (fun k j => p (ix2 k j)) (fun k j => q (ix2 k j))
    (fun k j => o (ix2 k j)) n

/-- A point's result block at an entry. -/
theorem point_out (r n : Fin 1024) (R : Fin 32768) (hR : R.val = 1024 * (grid0.coords t 0).val + r.val) :
    out0_8 (b0 m c t) (b1 m c t) (b2 m c t) (b3 m c t) (b4 m c t) (b5 m c t) (b6 m c t) (b7 m c t) (ix2 r n)
      = mergeOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) R n := by
  have h0 : (fun k => b0 m c t (ix2 r k)) = fun k => (m ((c.tc : Thread nD τ).loc main_arg0)) (ix2 R k) := funext fun k => b0_at m c t r k R hR
  have h1 : (fun k => b1 m c t (ix2 r k)) = fun k => (m ((c.tc : Thread nD τ).loc main_arg1)) (ix2 R k) := funext fun k => b1_at m c t r k R hR
  have h2 : (fun k => b2 m c t (ix2 r k)) = fun k => (m ((c.tc : Thread nD τ).loc main_arg2)) (ix2 R k) := funext fun k => b2_at m c t r k R hR
  have h3 : (fun k => b3 m c t (ix2 0 k)) = fun k => (m ((c.tc : Thread nD τ).loc main_arg3)) (ix1 k) := funext fun k => b3_at m c t k
  have h4 : (fun k j => b4 m c t (ix2 k j)) = fun k j => (m ((c.tc : Thread nD τ).loc main_arg4)) (ix2 k j) := funext fun k => funext fun j => b4_at m c t k j
  have h5 : (fun k j => b5 m c t (ix2 k j)) = fun k j => (m ((c.tc : Thread nD τ).loc main_arg5)) (ix2 k j) := funext fun k => funext fun j => b5_at m c t k j
  have h6 : (fun k j => b6 m c t (ix2 k j)) = fun k j => (m ((c.tc : Thread nD τ).loc main_arg6)) (ix2 k j) := funext fun k => funext fun j => b6_at m c t k j
  have h7 : (fun k j => b7 m c t (ix2 k j)) = fun k j => (m ((c.tc : Thread nD τ).loc main_arg7)) (ix2 k j) := funext fun k => funext fun j => b7_at m c t k j
  refine (out_read _ _ _ _ _ _ _ _ r n).trans ?_
  rw [h0, h1, h2, h3, h4, h5, h6, h7]
  rfl

/-- The same at any index of the block. -/
theorem point_out' (y : S1024x1024.Idx) (R : Fin 32768) (n : Fin 1024) (hR : R.val = 1024 * (grid0.coords t 0).val + (y 0).val) (hn : n.val = (y 1).val) :
    out0_8 (b0 m c t) (b1 m c t) (b2 m c t) (b3 m c t) (b4 m c t) (b5 m c t) (b6 m c t) (b7 m c t) y
      = mergeOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) R n := by
  obtain ⟨r, k, rfl⟩ : ∃ (r k : Fin 1024), y = ix2 r k := ⟨y 0, y 1, funext fun a => by fin_cases a <;> rfl⟩
  have e : n = k := Fin.ext hn
  subst e
  exact point_out m c t r n R hR

/-- The result array at the end. -/
theorem array_out : (dats m 0 c).arrAt 8 cfg0.N = fun i : S32768x1024.Idx =>
    mergeOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1) := by
  refine (dats m 0 c).arrAt_eq_of_covers 8 _ (by decide +kernel) fun t hf y => ?_
  blk_simp
  have e := idx8 t
  refine (congrFun (after0_8 m c t) y).trans ?_
  refine point_out' m c t y _ _ ?_ ?_
  · blk_simp [e]
    show (grid0.coords t 0).val * 1024 + (y 0).val = 1024 * (grid0.coords t 0).val + (y 0).val
    omega
  · blk_simp [e]

end Launch

end Cert.MergeIdeal.Hand

end
-- ==== Proof.Rows.MergeRef.lean ====
module

public import proofs.«01_k».proof.Proof.Rows.Common
public import proofs.«01_k».proof.Proof.Gen.MergeRefIdeal.Read
public import Idealize.ShloMosaic.Lib.IdealHost

@[expose] public section

set_option maxRecDepth 65536

noncomputable section

namespace Cert.MergeRefIdeal.Hand

open Cert.MergeRefIdeal Cert.MergeRefIdeal.Gen Cert.MergeRefIdeal.Read Cert.Rows
open Idealize.ShloMosaic Idealize.ShloMosaic.TcCoe Idealize.ShloMosaic.ValueIdx

/-! The merge's plain formula is what its reference computes. -/

variable (x : (⟨S32768x1024, .f32⟩ : BufTy).Contents (Elt Ideal)) (a b : (⟨S32768x512, .f32⟩ : BufTy).Contents (Elt Ideal))
  (g : (⟨S1024, .f32⟩ : BufTy).Contents (Elt Ideal)) (w : (⟨S1024x2048, .f32⟩ : BufTy).Contents (Elt Ideal))
  (p q : (⟨S512x1024, .f32⟩ : BufTy).Contents (Elt Ideal)) (o : (⟨S1024x1024, .f32⟩ : BufTy).Contents (Elt Ideal))

/-- The reference's normalised row. -/
theorem norm_at (R : Fin 32768) (k : Fin 1024) : val_main_v12 (F := Ideal) x g (ix2 R k) = normRow (fun k => x (ix2 R k)) (fun k => g (ix1 k)) k := by
  have e1 : val_main_v1 (F := Ideal) x (ix1 R) = ∑ j : Fin 1024, x (ix2 R j) * x (ix2 R j) := by
    refine (val_main_v1_apply x (ix1 R)).trans ?_
    refine (congrArg₂ (· + ·) (Ideal.ofBits_zero_f32 : val_main_cst (F := Ideal) (Shape.Idx.first h_S_) = 0) (Finset.sum_congr rfl fun j _ => ?_)).trans (zero_add _)
    have ei : idx_main_v1 (ix1 R) j = ix2 R j := funext fun a => by fin_cases a <;> rfl
    exact (congrArg (val_main_v0 (F := Ideal) x) ei).trans rfl
  have e2 : val_main_v2 (F := Ideal) x (ix2 R 0) = ∑ j : Fin 1024, x (ix2 R j) * x (ix2 R j) := by
    refine (val_main_v2_apply (F := Ideal) x (ix2 R 0)).trans (Eq.trans (congrArg (val_main_v1 (F := Ideal) x) ?_) e1)
    exact funext fun a => by fin_cases a; rfl
  have e8 : val_main_v8 (F := Ideal) x (ix2 R k) = Ideal.rsqrt (Ideal.div (∑ j, x (ix2 R j) * x (ix2 R j)) (Ideal.ofBits .f32 0x44800000#32) + Ideal.ofBits .f32 0x358637BD#32) := by
    refine (val_main_v8_apply (F := Ideal) x (ix2 R k)).trans ?_
    refine (congrArg (val_main_v7 (F := Ideal) x) (funext fun a => by fin_cases a <;> rfl : idx_main_v8 (ix2 R k) = ix2 R 0)).trans ?_
    rw [← e2]
    refine (val_main_v7_apply (F := Ideal) x _).trans (congrArg Ideal.rsqrt ?_)
    refine (val_main_v6_apply (F := Ideal) x _).trans (congrArg₂ (· + ·) ?_ ?_)
    · refine (val_main_v4_apply (F := Ideal) x _).trans (congrArg (Ideal.div _) ?_)
      exact (val_main_v3_apply (F := Ideal) _).trans rfl
    · exact (val_main_v5_apply (F := Ideal) _).trans rfl
  have e11 : val_main_v11 (F := Ideal) g (ix2 R k) = g (ix1 k) := by
    refine (val_main_v11_apply (F := Ideal) g (ix2 R k)).trans ((val_main_v10_apply (F := Ideal) g _).trans (congrArg g ?_))
    exact funext fun a => by fin_cases a; rfl
  refine (val_main_v12_apply (F := Ideal) x g _).trans (congrArg₂ (· * ·) ?_ e11)
  exact (val_main_v9_apply (F := Ideal) x _).trans (congrArg (x (ix2 R k) * ·) e8)

/-- The reference's gates. -/
theorem gate_at (R : Fin 32768) (j : Fin 2048) :
    val_main_v19 (F := Ideal) x g w (ix2 R j) = gateRow (fun k => x (ix2 R k)) (fun k => g (ix1 k)) (fun k => w (ix2 k j)) := by
  have e13 : val_main_v13 (F := Ideal) x g w (ix2 R j) = ∑ k, normRow (fun k => x (ix2 R k)) (fun k => g (ix1 k)) k * w (ix2 k j) := by
    refine (val_main_v13_apply x g w (ix2 R j)).trans (Finset.sum_congr rfl fun k _ => congrArg₂ (· * ·) ?_ (congrArg w ?_))
    · exact (congrArg (val_main_v12 (F := Ideal) x g) (funext fun a => by fin_cases a <;> rfl : lidx_main_v13 (ix2 R j) k = ix2 R k)).trans (norm_at x g R k)
    · exact funext fun a => by fin_cases a <;> rfl
  have e15 : val_main_v15 (F := Ideal) x g w (ix2 R j) = Ideal.exp (-(val_main_v13 (F := Ideal) x g w (ix2 R j))) :=
    (val_main_v15_apply (F := Ideal) x g w _).trans rfl
  have e17 : val_main_v17 (F := Ideal) x g w (ix2 R j) = 1 + Ideal.exp (-(val_main_v13 (F := Ideal) x g w (ix2 R j))) := by
    refine (val_main_v17_apply (F := Ideal) x g w _).trans (congrArg₂ (· + ·) ?_ e15)
    exact (val_main_v16_apply (F := Ideal) _).trans Ideal.ofBits_one_f32
  unfold gateRow Ideal.logistic
  rw [← e13]
  refine (val_main_v19_apply (F := Ideal) x g w _).trans (congrArg₂ Ideal.div ?_ e17)
  exact (val_main_v18_apply (F := Ideal) _).trans Ideal.ofBits_one_f32

/-- The first branch's gate. -/
theorem gate_first (R : Fin 32768) (j : Fin 1024) :
    val_main_v22 (F := Ideal) x g w (ix2 R j) = gateRow (fun k => x (ix2 R k)) (fun k => g (ix1 k)) (fun k => w (ix2 k ⟨j.val, by omega⟩)) := by
  have hR := R.isLt
  have hj := j.isLt
  refine (val_main_v22_apply (F := Ideal) x g w _).trans ((val_main_v21_apply (F := Ideal) x g w _).trans ((val_main_v20_apply (F := Ideal) x g w _).trans
    (Eq.trans (congrArg (val_main_v19 (F := Ideal) x g w) ?_) (gate_at x g w R ⟨j.val, by omega⟩))))
  funext c
  fin_cases c
  · apply Fin.ext
    show ((((R.val * 1024 + j.val) / 1024) * 2 + 0) * 1024 + (R.val * 1024 + j.val) % 1024) / 2048 = R.val
    omega
  · apply Fin.ext
    show ((((R.val * 1024 + j.val) / 1024) * 2 + 0) * 1024 + (R.val * 1024 + j.val) % 1024) % 2048 = j.val
    omega

/-- The second branch's gate. -/
theorem gate_second (R : Fin 32768) (j : Fin 1024) :
    val_main_v26 (F := Ideal) x g w (ix2 R j) = gateRow (fun k => x (ix2 R k)) (fun k => g (ix1 k)) (fun k => w (ix2 k ⟨1024 + j.val, by omega⟩)) := by
  have hR := R.isLt
  have hj := j.isLt
  refine (val_main_v26_apply (F := Ideal) x g w _).trans ((val_main_v25_apply (F := Ideal) x g w _).trans ((val_main_v20_apply (F := Ideal) x g w _).trans
    (Eq.trans (congrArg (val_main_v19 (F := Ideal) x g w) ?_) (gate_at x g w R ⟨1024 + j.val, by omega⟩))))
  funext c
  fin_cases c
  · apply Fin.ext
    show ((((R.val * 1024 + j.val) / 1024) * 2 + (1 + 0)) * 1024 + (R.val * 1024 + j.val) % 1024) / 2048 = R.val
    omega
  · apply Fin.ext
    show ((((R.val * 1024 + j.val) / 1024) * 2 + (1 + 0)) * 1024 + (R.val * 1024 + j.val) % 1024) % 2048 = 1024 + j.val
    omega

/-- The reference's merged branches. -/
theorem merged_at (R : Fin 32768) (j : Fin 1024) : val_main_v29 (F := Ideal) x a b g w p q (ix2 R j) = mergedRow (fun k => x (ix2 R k)) (fun k => g (ix1 k)) (fun k => a (ix2 R k)) (fun k => b (ix2 R k))
      (fun k j => w (ix2 k j)) (fun k j => p (ix2 k j)) (fun k j => q (ix2 k j)) j := by
  have e23 : val_main_v23 (F := Ideal) a p (ix2 R j) = ∑ k : Fin 512, a (ix2 R k) * p (ix2 k j) := by
    refine (val_main_v23_apply a p (ix2 R j)).trans (Finset.sum_congr rfl fun k _ => congrArg₂ (· * ·) (congrArg a ?_) (congrArg p ?_))
    · exact funext fun a => by fin_cases a <;> rfl
    · exact funext fun a => by fin_cases a <;> rfl
  have e27 : val_main_v27 (F := Ideal) b q (ix2 R j) = ∑ k : Fin 512, b (ix2 R k) * q (ix2 k j) := by
    refine (val_main_v27_apply b q (ix2 R j)).trans (Finset.sum_congr rfl fun k _ => congrArg₂ (· * ·) (congrArg b ?_) (congrArg q ?_))
    · exact funext fun a => by fin_cases a <;> rfl
    · exact funext fun a => by fin_cases a <;> rfl
  refine (val_main_v29_apply (F := Ideal) x a b g w p q _).trans (congrArg₂ (· + ·) ?_ ?_)
  · exact (val_main_v24_apply (F := Ideal) x a g w p _).trans (congrArg₂ (· * ·) (gate_first x g w R j) e23)
  · exact (val_main_v28_apply (F := Ideal) x b g w q _).trans (congrArg₂ (· * ·) (gate_second x g w R j) e27)

/-- The reference's result. -/
theorem ref_all : val_main_v31 (F := Ideal) x a b g w p q o = fun i : S32768x1024.Idx =>
    mergeRow (fun k => x (ix2 (i 0) k)) (fun k => g (ix1 k)) (fun k => a (ix2 (i 0) k)) (fun k => b (ix2 (i 0) k)) (fun k j => w (ix2 k j)) (fun k j => p (ix2 k j)) (fun k j => q (ix2 k j))
    (fun k j => o (ix2 k j)) (i 1) := by
  funext i
  obtain ⟨R, n, rfl⟩ : ∃ (R : Fin 32768) (n : Fin 1024), i = ix2 R n := ⟨i 0, i 1, funext fun a => by fin_cases a <;> rfl⟩
  refine (val_main_v31_apply (F := Ideal) x a b g w p q o _).trans (congrArg (x (ix2 R n) + ·) ?_)
  refine (val_main_v30_apply x a b g w p q o (ix2 R n)).trans (Finset.sum_congr rfl fun f _ => congrArg₂ (· * ·) ?_ (congrArg o ?_))
  · exact (congrArg (val_main_v29 (F := Ideal) x a b g w p q) (funext fun a => by fin_cases a <;> rfl : lidx_main_v30 (ix2 R n) f = ix2 R f)).trans (merged_at x a b g w p q R f)
  · exact funext fun a => by fin_cases a <;> rfl

end Cert.MergeRefIdeal.Hand

end
-- ==== Proof.Rows.InprojCommon.lean ====
module

public import proofs.«01_k».proof.Proof.Rows.Common

@[expose] public section

set_option maxRecDepth 65536

noncomputable section

namespace Cert.Rows

open Idealize.ShloMosaic Idealize.ShloMosaic.TcCoe Idealize.ShloMosaic.ValueIdx

/-! A token's row of the first call: the projection of its normalisation, each head's own normalisation and its rotation,
as plain formulas over the extended reals; and that the projection is real where the gain and the weights are. -/

/-- A column of the projection. -/
def projRow (x g w : Fin 1024 → EReal) : EReal := ∑ k, normRow x g k * w k

/-- A head over its root mean square, times the gain. -/
def headRow (y g : Fin 64 → EReal) (d : Fin 64) : EReal :=
  y d * Ideal.rsqrt (Ideal.div (∑ e, y e * y e) (Ideal.ofBits .f32 0x42800000#32) + Ideal.ofBits .f32 0x358637BD#32) * g d

/-- The lane that a lane is rotated with: the one 32 further, around 64. -/
def other (d : Fin 64) : Fin 64 := ⟨(d.val + 32) % 64, by omega⟩

/-- The angle of a lane. -/
def turn (d : Fin 64) : Fin 32 := ⟨d.val % 32, by omega⟩

/-- A head's rotation. -/
def ropeRow (n : Fin 64 → EReal) (co si : Fin 32 → EReal) (d : Fin 64) : EReal :=
  n d * co (turn d) + if d.val < 32 then -(n (other d) * si (turn d)) else n (other d) * si (turn d)

section Out
variable (x g : Fin 1024 → EReal) (w : Fin 1024 → Fin 2304 → EReal) (gq gk : Fin 64 → EReal) (co si : Fin 32 → EReal)

/-- A head's 64 columns of the projection, from the one given. -/
def headCols (s : ℕ) (hs : s + 64 ≤ 2304) (e : Fin 64) : EReal := projRow x g fun k => w k ⟨s + e.val, by omega⟩

/-- A row of the result: the first mixer's queries scaled, its keys and values as they are, the second's queries normalised, rotated and scaled,
its keys normalised and rotated and its values as they are, each of the last two twice. -/
def packRow (l : Fin 2560) : EReal :=
  if h0 : l.val < 512 then projRow x g (fun k => w k ⟨l.val, by omega⟩) * Ideal.ofBits .f32 0xBE000000#32
  else if h1 : l.val < 1536 then projRow x g (fun k => w k ⟨l.val, by omega⟩)
  else if h2 : l.val < 2048 then
    ropeRow (headRow (headCols x g w (1536 + 64 * ((l.val - 1536) / 64)) (by omega)) gq) co si ⟨l.val % 64, by omega⟩ * Ideal.ofBits .f32 0x3E000000#32
  else if h3 : l.val < 2304 then
    ropeRow (headRow (headCols x g w (2048 + 64 * ((l.val - 2048) / 128)) (by omega)) gk) co si ⟨l.val % 64, by omega⟩
  else projRow x g fun k => w k ⟨2176 + 64 * ((l.val - 2304) / 128) + l.val % 64, by omega⟩

/-- The stick-breaking queries, times the scale. -/
theorem packRow_sb (l : Fin 512) : packRow x g w gq gk co si ⟨l.val, by omega⟩ = projRow x g (fun k => w k ⟨l.val, by omega⟩) * Ideal.ofBits .f32 0xBE000000#32 := by
  unfold packRow
  rw [dif_pos (show (⟨l.val, by omega⟩ : Fin 2560).val < 512 from l.isLt)]

/-- The stick-breaking keys and values. -/
theorem packRow_kv (l : Fin 1024) : packRow x g w gq gk co si ⟨512 + l.val, by omega⟩ = projRow x g (fun k => w k ⟨512 + l.val, by omega⟩) := by
  unfold packRow
  rw [dif_neg (show ¬ 512 + l.val < 512 by omega), dif_pos (show 512 + l.val < 1536 by omega)]

/-- A head's columns, from where they start. -/
theorem headCols_congr {s s' : ℕ} (hs : s + 64 ≤ 2304) (h : s = s') : headCols x g w s hs = headCols x g w s' (by omega) := by
  subst h; rfl

/-- The sliding-window queries: normalized, rotated and scaled. -/
theorem packRow_q (h : Fin 8) (d : Fin 64) : packRow x g w gq gk co si ⟨1536 + 64 * h.val + d.val, by omega⟩
    = ropeRow (headRow (headCols x g w (1536 + 64 * h.val) (by omega)) gq) co si d * Ideal.ofBits .f32 0x3E000000#32 := by
  have hd := d.isLt
  have hh := h.isLt
  unfold packRow
  rw [dif_neg (show ¬ 1536 + 64 * h.val + d.val < 512 by omega), dif_neg (show ¬ 1536 + 64 * h.val + d.val < 1536 by omega), dif_pos (show 1536 + 64 * h.val + d.val < 2048 by omega)]
  rw [headCols_congr x g w _ (show 1536 + 64 * ((1536 + 64 * h.val + d.val - 1536) / 64) = 1536 + 64 * h.val by omega)]
  congr 2
  apply Fin.ext
  show (1536 + 64 * h.val + d.val) % 64 = d.val
  omega

/-- The sliding-window keys, every head twice. -/
theorem packRow_k (h b : Fin 2) (d : Fin 64) : packRow x g w gq gk co si ⟨2048 + 128 * h.val + 64 * b.val + d.val, by omega⟩
    = ropeRow (headRow (headCols x g w (2048 + 64 * h.val) (by omega)) gk) co si d := by
  have hd := d.isLt
  have hh := h.isLt
  have hb := b.isLt
  unfold packRow
  rw [dif_neg (show ¬ 2048 + 128 * h.val + 64 * b.val + d.val < 512 by omega), dif_neg (show ¬ 2048 + 128 * h.val + 64 * b.val + d.val < 1536 by omega),
    dif_neg (show ¬ 2048 + 128 * h.val + 64 * b.val + d.val < 2048 by omega), dif_pos (show 2048 + 128 * h.val + 64 * b.val + d.val < 2304 by omega)]
  rw [headCols_congr x g w _ (show 2048 + 64 * ((2048 + 128 * h.val + 64 * b.val + d.val - 2048) / 128) = 2048 + 64 * h.val by omega)]
  congr 1
  apply Fin.ext
  show (2048 + 128 * h.val + 64 * b.val + d.val) % 64 = d.val
  omega

/-- The sliding-window values, every head twice. -/
theorem packRow_v (h b : Fin 2) (d : Fin 64) : packRow x g w gq gk co si ⟨2304 + 128 * h.val + 64 * b.val + d.val, by omega⟩
    = projRow x g fun k => w k ⟨2176 + 64 * h.val + d.val, by omega⟩ := by
  have hd := d.isLt
  have hh := h.isLt
  have hb := b.isLt
  unfold packRow
  rw [dif_neg (show ¬ 2304 + 128 * h.val + 64 * b.val + d.val < 512 by omega), dif_neg (show ¬ 2304 + 128 * h.val + 64 * b.val + d.val < 1536 by omega),
    dif_neg (show ¬ 2304 + 128 * h.val + 64 * b.val + d.val < 2048 by omega), dif_neg (show ¬ 2304 + 128 * h.val + 64 * b.val + d.val < 2304 by omega)]
  refine congrArg (projRow x g) (funext fun k => congrArg (w k) (Fin.ext ?_))
  show 2176 + 64 * ((2304 + 128 * h.val + 64 * b.val + d.val - 2304) / 128) + (2304 + 128 * h.val + 64 * b.val + d.val) % 64 = 2176 + 64 * h.val + d.val
  omega

end Out

/-- The result on the tokens of whole arrays, at an entry. -/
def packOf (x : (⟨3, ![8, 4096, 1024]⟩ : Shape).Idx → EReal) (g : (⟨1, ![1024]⟩ : Shape).Idx → EReal) (w : (⟨2, ![1024, 2304]⟩ : Shape).Idx → EReal)
    (gq gk : (⟨1, ![64]⟩ : Shape).Idx → EReal) (co si : (⟨2, ![4096, 32]⟩ : Shape).Idx → EReal) (a : Fin 8) (p : Fin 4096) (n : Fin 2560) : EReal :=
  packRow (fun k => x (ix3 a p k)) (fun k => g (ix1 k)) (fun k j => w (ix2 k j)) (fun e => gq (ix1 e)) (fun e => gk (ix1 e)) (fun j => co (ix2 p j)) (fun j => si (ix2 p j)) n

/-! ## Real numbers -/

/-- An extended real that is a real number. -/
def IsReal (x : EReal) : Prop := ∃ r : ℝ, x = r

/-- What is not infinite is real. -/
theorem IsReal.of (x : EReal) (h : x ≠ ⊤ ∧ x ≠ ⊥) : IsReal x := ⟨x.toReal, (EReal.coe_toReal h.1 h.2).symm⟩

/-- A product of reals is real. -/
theorem IsReal.mul {x y : EReal} : IsReal x → IsReal y → IsReal (x * y) := fun ⟨a, ha⟩ ⟨b, hb⟩ => ⟨a * b, by rw [ha, hb, EReal.coe_mul]⟩

/-- A sum of reals is real. -/
theorem IsReal.sum {ι : Type} (s : Finset ι) (f : ι → EReal) (h : ∀ i, IsReal (f i)) : IsReal (∑ i ∈ s, f i) := by
  choose a ha using h
  refine ⟨∑ i ∈ s, a i, ?_⟩
  rw [Finset.sum_congr rfl fun i _ => ha i]
  exact (map_sum (⟨⟨Real.toEReal, rfl⟩, fun _ _ => EReal.coe_add _ _⟩ : ℝ →+ EReal) a s).symm

/-- The number of columns. -/
theorem word_1024 : Ideal.ofBits .f32 0x44800000#32 = ((1024 : ℝ) : EReal) := by
  simp [Ideal.ofBits, Ideal.ieee]
  norm_num
  rw [← EReal.coe_mul]
  norm_num

/-- The number of lanes of a head. -/
theorem word_64 : Ideal.ofBits .f32 0x42800000#32 = ((64 : ℝ) : EReal) := by
  simp [Ideal.ofBits, Ideal.ieee]
  norm_num
  rw [← EReal.coe_mul]
  norm_num

/-- One sixty-fourth. -/
theorem word_64th : Ideal.ofBits .bf16 0x3C80#16 = ((1 / 64 : ℝ) : EReal) := by
  simp [Ideal.ofBits, Ideal.ieee]
  norm_num
  rw [← EReal.coe_mul]
  norm_num

/-- The small number under the root is positive. -/
theorem word_eps : ∃ r : ℝ, 0 < r ∧ Ideal.ofBits .f32 0x358637BD#32 = (r : EReal) := by
  simp [Ideal.ofBits, Ideal.ieee]
  norm_num
  rw [← EReal.coe_mul]
  exact ⟨_, by positivity, rfl⟩

/-- A square is not negative, an infinite one included. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- An entry of a normalized row is real where the gain is: a row with an infinite entry is divided by infinity, which leaves zeros. -/
theorem normRow_real (x g : Fin 1024 → EReal) (hg : ∀ k, IsReal (g k)) (k : Fin 1024) : IsReal (normRow x g k) := by
  unfold normRow
  obtain ⟨e, he, ee⟩ := word_eps
  by_cases hx : ∀ k, IsReal (x k)
  · refine ((hx k).mul ?_).mul (hg k)
    choose a ha using hx
    have hs : (∑ j, x j * x j) = ((∑ j, a j * a j : ℝ) : EReal) := by
      rw [Finset.sum_congr rfl fun j _ => show x j * x j = ((a j * a j : ℝ) : EReal) by rw [ha j, EReal.coe_mul]]
      exact (map_sum (⟨⟨Real.toEReal, rfl⟩, fun _ _ => EReal.coe_add _ _⟩ : ℝ →+ EReal) (fun j => a j * a j) Finset.univ).symm
    have hn : 0 ≤ ∑ j, a j * a j := Finset.sum_nonneg fun j _ => mul_self_nonneg _
    have hd : Ideal.div ((∑ j, a j * a j : ℝ) : EReal) ((1024 : ℝ) : EReal) = (((∑ j, a j * a j) * (1024 : ℝ)⁻¹ : ℝ) : EReal) := by
      unfold Ideal.div
      rw [if_neg (by simp), ← EReal.coe_inv, ← EReal.coe_mul]
    rw [hs, word_1024, ee, hd, ← EReal.coe_add]
    have hp : 0 < (∑ j, a j * a j) * (1024 : ℝ)⁻¹ + e := by positivity
    refine ⟨(Real.sqrt ((∑ j, a j * a j) * (1024 : ℝ)⁻¹ + e))⁻¹, ?_⟩
    show (if _ < (0 : ℝ) then (⊥ : EReal) else if _ = (0 : ℝ) then ⊤ else _) = _
    rw [if_neg hp.not_gt, if_neg hp.ne']
  · obtain ⟨i, hi⟩ := not_forall.1 hx
    have ht : x i * x i = ⊤ := by
      by_cases h1 : x i = ⊤
      · rw [h1, EReal.top_mul_top]
      · by_cases h2 : x i = ⊥
        · rw [h2, EReal.bot_mul_bot]
        · exact absurd (IsReal.of _ ⟨h1, h2⟩) hi
    have hs : (∑ j, x j * x j) = ⊤ := top_le_iff.1 (ht ▸ Finset.single_le_sum (f := fun j => x j * x j) (fun j _ => square_nonneg (x j)) (Finset.mem_univ i))
    have hd : Ideal.div (⊤ : EReal) ((1024 : ℝ) : EReal) = ⊤ := by
      unfold Ideal.div
      rw [if_neg (by simp), ← EReal.coe_inv]
      exact EReal.top_mul_coe_of_pos (by norm_num)
    rw [hs, word_1024, ee, hd, EReal.top_add_coe, Ideal.rsqrt_top, mul_zero, zero_mul]
    exact ⟨0, rfl⟩

/-- The projection is real where gain and weights are. -/
theorem projRow_real (x g w : Fin 1024 → EReal) (hg : ∀ k, IsReal (g k)) (hw : ∀ k, IsReal (w k)) : IsReal (projRow x g w) :=
  IsReal.sum _ _ fun k => (normRow_real x g hg k).mul (hw k)

/-- A real number less itself. -/
theorem IsReal.sub_self {x : EReal} : IsReal x → x - x = 0 := fun ⟨a, ha⟩ => by
  rw [ha, ← EReal.coe_sub, _root_.sub_self, EReal.coe_zero]

/-- The product with the table is the mean of the head's squares: the squares' remainders are zero, and so are the other head's entries. -/
theorem mean_eq (f : Fin 256 → EReal) (T : Fin 256 → EReal) (y : Fin 64 → EReal) (p : ℕ) (hp : p < 2) (hy : ∀ e, IsReal (y e))
    (hf : ∀ e : Fin 64, f ⟨64 * p + e.val, by omega⟩ = y e * y e) (hz : ∀ k : Fin 128, f ⟨128 + k.val, by omega⟩ = 0)
    (hT : ∀ k, T k = if k.val / 64 % 2 = p then Ideal.ofBits .bf16 0x3C80#16 else Ideal.ofBits .bf16 0x0000#16) :
    ∑ k, f k * T k = Ideal.div (∑ e, y e * y e) (Ideal.ofBits .f32 0x42800000#32) := by
  choose a ha using hy
  have h0 : Ideal.ofBits .bf16 0x0000#16 = 0 := Ideal.ofBits_zero_bf16
  have hs : (∑ e, y e * y e) = ((∑ e, a e * a e : ℝ) : EReal) := by
    rw [Finset.sum_congr rfl fun j _ => show y j * y j = ((a j * a j : ℝ) : EReal) by rw [ha j, EReal.coe_mul]]
    exact (map_sum (⟨⟨Real.toEReal, rfl⟩, fun _ _ => EReal.coe_add _ _⟩ : ℝ →+ EReal) (fun j => a j * a j) Finset.univ).symm
  have hd : Ideal.div ((∑ e, a e * a e : ℝ) : EReal) ((64 : ℝ) : EReal) = (((∑ e, a e * a e) * (64 : ℝ)⁻¹ : ℝ) : EReal) := by
    unfold Ideal.div
    rw [if_neg (by simp), ← EReal.coe_inv, ← EReal.coe_mul]
  rw [hs, word_64, hd]
  have e1 : ∑ k, f k * T k = ∑ e : Fin 64, f ⟨64 * p + e.val, by omega⟩ * T ⟨64 * p + e.val, by omega⟩ := by
    symm
    refine Finset.sum_bij_ne_zero (fun (e : Fin 64) _ _ => (⟨64 * p + e.val, by omega⟩ : Fin 256)) (fun _ _ _ => Finset.mem_univ _) ?_ ?_ (fun _ _ _ => rfl)
    · intro e1 _ _ e2 _ _ h
      have := congrArg Fin.val h
      exact Fin.ext (by simp only at this; omega)
    · intro k _ hk
      have hk' := k.isLt
      by_cases hlt : 128 ≤ k.val
      · have := hz ⟨k.val - 128, by omega⟩
        exact absurd (by rw [show k = ⟨128 + (k.val - 128), by omega⟩ from Fin.ext (by simp only; omega), this, zero_mul]) hk
      · by_cases hd : k.val / 64 % 2 = p
        · exact ⟨⟨k.val - 64 * p, by omega⟩, Finset.mem_univ _, by
            rw [show (⟨64 * p + (k.val - 64 * p), by omega⟩ : Fin 256) = k from Fin.ext (by simp only; omega)]; exact hk,
            Fin.ext (by simp only; omega)⟩
        · exact absurd (by rw [hT k, if_neg hd, h0, mul_zero]) hk
  rw [e1, Finset.sum_congr rfl fun e _ => show f ⟨64 * p + e.val, by omega⟩ * T ⟨64 * p + e.val, by omega⟩ = ((a e * a e * (64 : ℝ)⁻¹ : ℝ) : EReal) by
    rw [hf e, hT _, if_pos (by have := e.isLt; show (64 * p + e.val) / 64 % 2 = p; omega), word_64th, ha e, ← EReal.coe_mul, ← EReal.coe_mul]
    norm_num]
  rw [Finset.sum_mul]
  exact (map_sum (⟨⟨Real.toEReal, rfl⟩, fun _ _ => EReal.coe_add _ _⟩ : ℝ →+ EReal) (fun j => a j * a j * (64 : ℝ)⁻¹) Finset.univ).symm

end Cert.Rows

end
-- ==== Proof.Rows.InprojTable0.lean ====
module

public import proofs.«01_k».proof.InprojIdeal

@[expose] public section

set_option maxRecDepth 65536

noncomputable section

namespace Cert.InprojIdeal.Hand

open Cert.InprojIdeal
open Idealize.ShloMosaic

/-! The table of the heads' means, rows 0 to 63: one sixty-fourth where row and column are of one head, zero elsewhere. -/

/-- Rows 0 to 7. -/
theorem table_0 : ∀ r : Fin 8, ∀ c : Fin 128, lit0t ((0 + r.val) * 128 + c.val) = if (0 + r.val) / 64 % 2 = c.val / 64 then 0x3C80#16 else 0x0000#16 := by
  decide +kernel

/-- Rows 8 to 15. -/
theorem table_8 : ∀ r : Fin 8, ∀ c : Fin 128, lit0t ((8 + r.val) * 128 + c.val) = if (8 + r.val) / 64 % 2 = c.val / 64 then 0x3C80#16 else 0x0000#16 := by
  decide +kernel

/-- Rows 16 to 23. -/
theorem table_16 : ∀ r : Fin 8, ∀ c : Fin 128, lit0t ((16 + r.val) * 128 + c.val) = if (16 + r.val) / 64 % 2 = c.val / 64 then 0x3C80#16 else 0x0000#16 := by
  decide +kernel

/-- Rows 24 to 31. -/
theorem table_24 : ∀ r : Fin 8, ∀ c : Fin 128, lit0t ((24 + r.val) * 128 + c.val) = if (24 + r.val) / 64 % 2 = c.val / 64 then 0x3C80#16 else 0x0000#16 := by
  decide +kernel

/-- Rows 32 to 39. -/
theorem table_32 : ∀ r : Fin 8, ∀ c : Fin 128, lit0t ((32 + r.val) * 128 + c.val) = if (32 + r.val) / 64 % 2 = c.val / 64 then 0x3C80#16 else 0x0000#16 := by
  decide +kernel

/-- Rows 40 to 47. -/
theorem table_40 : ∀ r : Fin 8, ∀ c : Fin 128, lit0t ((40 + r.val) * 128 + c.val) = if (40 + r.val) / 64 % 2 = c.val / 64 then 0x3C80#16 else 0x0000#16 := by
  decide +kernel

/-- Rows 48 to 55. -/
theorem table_48 : ∀ r : Fin 8, ∀ c : Fin 128, lit0t ((48 + r.val) * 128 + c.val) = if (48 + r.val) / 64 % 2 = c.val / 64 then 0x3C80#16 else 0x0000#16 := by
  decide +kernel

/-- Rows 56 to 63. -/
theorem table_56 : ∀ r : Fin 8, ∀ c : Fin 128, lit0t ((56 + r.val) * 128 + c.val) = if (56 + r.val) / 64 % 2 = c.val / 64 then 0x3C80#16 else 0x0000#16 := by
  decide +kernel

end Cert.InprojIdeal.Hand

end
-- ==== Proof.Rows.InprojTable1.lean ====
module

public import proofs.«01_k».proof.InprojIdeal

@[expose] public section

set_option maxRecDepth 65536

noncomputable section

namespace Cert.InprojIdeal.Hand

open Cert.InprojIdeal
open Idealize.ShloMosaic

/-! The table of the heads' means, rows 64 to 127: one sixty-fourth where row and column are of one head, zero elsewhere. -/

/-- Rows 64 to 71. -/
theorem table_64 : ∀ r : Fin 8, ∀ c : Fin 128, lit0t ((64 + r.val) * 128 + c.val) = if (64 + r.val) / 64 % 2 = c.val / 64 then 0x3C80#16 else 0x0000#16 := by
  decide +kernel

/-- Rows 72 to 79. -/
theorem table_72 : ∀ r : Fin 8, ∀ c : Fin 128, lit0t ((72 + r.val) * 128 + c.val) = if (72 + r.val) / 64 % 2 = c.val / 64 then 0x3C80#16 else 0x0000#16 := by
  decide +kernel

/-- Rows 80 to 87. -/
theorem table_80 : ∀ r : Fin 8, ∀ c : Fin 128, lit0t ((80 + r.val) * 128 + c.val) = if (80 + r.val) / 64 % 2 = c.val / 64 then 0x3C80#16 else 0x0000#16 := by
  decide +kernel

/-- Rows 88 to 95. -/
theorem table_88 : ∀ r : Fin 8, ∀ c : Fin 128, lit0t ((88 + r.val) * 128 + c.val) = if (88 + r.val) / 64 % 2 = c.val / 64 then 0x3C80#16 else 0x0000#16 := by
  decide +kernel

/-- Rows 96 to 103. -/
theorem table_96 : ∀ r : Fin 8, ∀ c : Fin 128, lit0t ((96 + r.val) * 128 + c.val) = if (96 + r.val) / 64 % 2 = c.val / 64 then 0x3C80#16 else 0x0000#16 := by
  decide +kernel

/-- Rows 104 to 111. -/
theorem table_104 : ∀ r : Fin 8, ∀ c : Fin 128, lit0t ((104 + r.val) * 128 + c.val) = if (104 + r.val) / 64 % 2 = c.val / 64 then 0x3C80#16 else 0x0000#16 := by
  decide +kernel

/-- Rows 112 to 119. -/
theorem table_112 : ∀ r : Fin 8, ∀ c : Fin 128, lit0t ((112 + r.val) * 128 + c.val) = if (112 + r.val) / 64 % 2 = c.val / 64 then 0x3C80#16 else 0x0000#16 := by
  decide +kernel

/-- Rows 120 to 127. -/
theorem table_120 : ∀ r : Fin 8, ∀ c : Fin 128, lit0t ((120 + r.val) * 128 + c.val) = if (120 + r.val) / 64 % 2 = c.val / 64 then 0x3C80#16 else 0x0000#16 := by
  decide +kernel

end Cert.InprojIdeal.Hand

end
-- ==== Proof.Rows.InprojTable2.lean ====
module

public import proofs.«01_k».proof.InprojIdeal

@[expose] public section

set_option maxRecDepth 65536

noncomputable section

namespace Cert.InprojIdeal.Hand

open Cert.InprojIdeal
open Idealize.ShloMosaic

/-! The table of the heads' means, rows 128 to 191: one sixty-fourth where row and column are of one head, zero elsewhere. -/

/-- Rows 128 to 135. -/
theorem table_128 : ∀ r : Fin 8, ∀ c : Fin 128, lit0t ((128 + r.val) * 128 + c.val) = if (128 + r.val) / 64 % 2 = c.val / 64 then 0x3C80#16 else 0x0000#16 := by
  decide +kernel

/-- Rows 136 to 143. -/
theorem table_136 : ∀ r : Fin 8, ∀ c : Fin 128, lit0t ((136 + r.val) * 128 + c.val) = if (136 + r.val) / 64 % 2 = c.val / 64 then 0x3C80#16 else 0x0000#16 := by
  decide +kernel

/-- Rows 144 to 151. -/
theorem table_144 : ∀ r : Fin 8, ∀ c : Fin 128, lit0t ((144 + r.val) * 128 + c.val) = if (144 + r.val) / 64 % 2 = c.val / 64 then 0x3C80#16 else 0x0000#16 := by
  decide +kernel

/-- Rows 152 to 159. -/
theorem table_152 : ∀ r : Fin 8, ∀ c : Fin 128, lit0t ((152 + r.val) * 128 + c.val) = if (152 + r.val) / 64 % 2 = c.val / 64 then 0x3C80#16 else 0x0000#16 := by
  decide +kernel

/-- Rows 160 to 167. -/
theorem table_160 : ∀ r : Fin 8, ∀ c : Fin 128, lit0t ((160 + r.val) * 128 + c.val) = if (160 + r.val) / 64 % 2 = c.val / 64 then 0x3C80#16 else 0x0000#16 := by
  decide +kernel

/-- Rows 168 to 175. -/
theorem table_168 : ∀ r : Fin 8, ∀ c : Fin 128, lit0t ((168 + r.val) * 128 + c.val) = if (168 + r.val) / 64 % 2 = c.val / 64 then 0x3C80#16 else 0x0000#16 := by
  decide +kernel

/-- Rows 176 to 183. -/
theorem table_176 : ∀ r : Fin 8, ∀ c : Fin 128, lit0t ((176 + r.val) * 128 + c.val) = if (176 + r.val) / 64 % 2 = c.val / 64 then 0x3C80#16 else 0x0000#16 := by
  decide +kernel

/-- Rows 184 to 191. -/
theorem table_184 : ∀ r : Fin 8, ∀ c : Fin 128, lit0t ((184 + r.val) * 128 + c.val) = if (184 + r.val) / 64 % 2 = c.val / 64 then 0x3C80#16 else 0x0000#16 := by
  decide +kernel

end Cert.InprojIdeal.Hand

end
-- ==== Proof.Rows.InprojTable3.lean ====
module

public import proofs.«01_k».proof.InprojIdeal

@[expose] public section

set_option maxRecDepth 65536

noncomputable section

namespace Cert.InprojIdeal.Hand

open Cert.InprojIdeal
open Idealize.ShloMosaic

/-! The table of the heads' means, rows 192 to 255: one sixty-fourth where row and column are of one head, zero elsewhere. -/

/-- Rows 192 to 199. -/
theorem table_192 : ∀ r : Fin 8, ∀ c : Fin 128, lit0t ((192 + r.val) * 128 + c.val) = if (192 + r.val) / 64 % 2 = c.val / 64 then 0x3C80#16 else 0x0000#16 := by
  decide +kernel

/-- Rows 200 to 207. -/
theorem table_200 : ∀ r : Fin 8, ∀ c : Fin 128, lit0t ((200 + r.val) * 128 + c.val) = if (200 + r.val) / 64 % 2 = c.val / 64 then 0x3C80#16 else 0x0000#16 := by
  decide +kernel

/-- Rows 208 to 215. -/
theorem table_208 : ∀ r : Fin 8, ∀ c : Fin 128, lit0t ((208 + r.val) * 128 + c.val) = if (208 + r.val) / 64 % 2 = c.val / 64 then 0x3C80#16 else 0x0000#16 := by
  decide +kernel

/-- Rows 216 to 223. -/
theorem table_216 : ∀ r : Fin 8, ∀ c : Fin 128, lit0t ((216 + r.val) * 128 + c.val) = if (216 + r.val) / 64 % 2 = c.val / 64 then 0x3C80#16 else 0x0000#16 := by
  decide +kernel

/-- Rows 224 to 231. -/
theorem table_224 : ∀ r : Fin 8, ∀ c : Fin 128, lit0t ((224 + r.val) * 128 + c.val) = if (224 + r.val) / 64 % 2 = c.val / 64 then 0x3C80#16 else 0x0000#16 := by
  decide +kernel

/-- Rows 232 to 239. -/
theorem table_232 : ∀ r : Fin 8, ∀ c : Fin 128, lit0t ((232 + r.val) * 128 + c.val) = if (232 + r.val) / 64 % 2 = c.val / 64 then 0x3C80#16 else 0x0000#16 := by
  decide +kernel

/-- Rows 240 to 247. -/
theorem table_240 : ∀ r : Fin 8, ∀ c : Fin 128, lit0t ((240 + r.val) * 128 + c.val) = if (240 + r.val) / 64 % 2 = c.val / 64 then 0x3C80#16 else 0x0000#16 := by
  decide +kernel

/-- Rows 248 to 255. -/
theorem table_248 : ∀ r : Fin 8, ∀ c : Fin 128, lit0t ((248 + r.val) * 128 + c.val) = if (248 + r.val) / 64 % 2 = c.val / 64 then 0x3C80#16 else 0x0000#16 := by
  decide +kernel

end Cert.InprojIdeal.Hand

end
-- ==== Proof.Rows.InprojHost.lean ====
module

public import proofs.«01_k».proof.Proof.Rows.InprojTable0
public import proofs.«01_k».proof.Proof.Rows.InprojTable1
public import proofs.«01_k».proof.Proof.Rows.InprojTable2
public import proofs.«01_k».proof.Proof.Rows.InprojTable3
public import proofs.«01_k».proof.Proof.Gen.InprojIdeal.Value
public import proofs.«01_k».proof.Proof.Gen.InprojRefIdeal.Read
public import Idealize.ShloMosaic.Lib.IdealHost
public import Idealize.ShloMosaic.Lib.Pipeline.ValueKit.Tiles
public import Idealize.ShloMosaic.Lib.Pipeline.ValueKit.Geometry
public import Idealize.ShloMosaic.Lib.Pipeline.ValueKit.Basic

@[expose] public section

set_option maxRecDepth 65536

noncomputable section

namespace Cert.InprojIdeal.Hand

open Cert.InprojIdeal Cert.InprojIdeal.Gen
open Idealize.ShloMosaic Idealize.ShloMosaic.TcCoe Idealize.ShloMosaic.Tactic Idealize.ShloMosaic.ValueIdx
open Idealize.SL.Sem

/-! The arrays that the first call's blocks are cut from, at an entry. -/

/-- The cosines of the positions' angles. -/
abbrev cosines : Vec Ideal S4096x32 .f32 := Cert.InprojRefIdeal.Read.val_main_v17 (F := Ideal)

/-- The sines of the positions' angles. -/
abbrev sines : Vec Ideal S4096x32 .f32 := Cert.InprojRefIdeal.Read.val_main_v18 (F := Ideal)

/-- Two halves of a head's angles, for each of two heads. -/
def twoHeads (a b : Vec Ideal S4096x32 .f32) : Vec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, a⟩, ⟨S4096x32, b⟩] concatenates_S4096x32_S4096x32_S4096x64_d1) shapeCasts_S4096x64_S1x4096x1x64))
    shapeCasts_S1x4096x2x64_S4096x128

/-- A head's gain, for each of two heads. -/
def twoGains (g : Vec Ideal S64 .f32) : Vec Ideal S1x128 .f32 :=
  broadcastInDim S1x128 ![1] bcast_S128_S1x128_1 (shapeCast S128 (broadcastInDim S2x64 ![0, 1] bcast_S1x64_S2x64_0_1 (shapeCast S1x64 g shapeCasts_S64_S1x64)) shapeCasts_S2x64_S128)

section Launch
variable (m : (ℓ : Loc nD τ sig) → Buf (Elt Ideal) ℓ) (c : Dev nD)

/-- The table of the heads' means. -/
theorem V_cst : V m c main_cst = fun i => FloatOps.ofBits (F := Ideal) .bf16 (lit0 (S256x128.rowMajor i)) := by
  unfold V
  simp only [hostOps0]
  after_results_simp <;> rfl

/-- The layer's input, its tokens as rows. -/
theorem V_x : V m c main_v36 = shapeCast S32768x1024 (m ((c.tc : Thread nD τ).loc main_arg0)) shapeCasts_S8x4096x1024_S32768x1024 := by
  unfold V
  simp only [hostOps0]
  after_results_simp
  rfl

/-- The gain as one row. -/
theorem V_gain : V m c main_v37 = broadcastInDim S1x1024 ![1] bcast_S1024_S1x1024_1 (m ((c.tc : Thread nD τ).loc main_arg1)) := by
  unfold V
  simp only [hostOps0]
  after_results_simp

/-- The weights. -/
theorem V_w : V m c main_v38 = truncf (F := Ideal) .bf16 (m ((c.tc : Thread nD τ).loc main_arg2)) bitsLt_bf16_f32 := by
  unfold V
  simp only [hostOps0]
  after_results_simp

/-- The queries' gain. -/
theorem V_gq : V m c main_v31 = twoGains (m ((c.tc : Thread nD τ).loc main_arg3)) := by
  unfold V
  simp only [hostOps0]
  after_results_simp
  rfl

/-- The keys' gain. -/
theorem V_gk : V m c main_v35 = twoGains (m ((c.tc : Thread nD τ).loc main_arg4)) := by
  unfold V
  simp only [hostOps0]
  after_results_simp
  rfl

/-- The cosines, for two heads. -/
theorem V_cos : V m c main_v22 = twoHeads cosines cosines := by
  unfold V
  simp only [hostOps0]
  after_results_simp
  rfl

/-- The sines, for two heads, the first half of each negated. -/
theorem V_sin : V m c main_v27 = twoHeads (Host.negf (F := Ideal) (s := S4096x32) (φ := .f32) sines) sines := by
  unfold V
  simp only [hostOps0]
  after_results_simp
  rfl

end Launch

/-- The angles' rows at an entry. -/
theorem twoHeads_apply (a b : Vec Ideal S4096x32 .f32) (p : Fin 4096) (l : Fin 128) :
    twoHeads a b (ix2 p l) = if l.val % 64 < 32 then a (ix2 p ⟨l.val % 32, by omega⟩) else b (ix2 p ⟨l.val % 32, by omega⟩) := by
  have hl := l.isLt
  have hp := p.isLt
  have e1 : twoHeads a b (ix2 p l) = concatenate S4096x64 1 [⟨S4096x32, a⟩, ⟨S4096x32, b⟩] concatenates_S4096x32_S4096x32_S4096x64_d1 (ix2 p (⟨l.val % 64, by omega⟩ : Fin 64)) := by
    unfold twoHeads
    refine (shapeCast_apply _ _ _ (ix4 (0 : Fin 1) p (⟨l.val / 64, by omega⟩ : Fin 2) (⟨l.val % 64, by omega⟩ : Fin 64)) (by
      rw [Shape.rowMajor_val_four, Shape.rowMajor_val_two]
      show ((0 * 4096 + p.val) * 2 + l.val / 64) * 64 + l.val % 64 = p.val * 128 + l.val
      omega)).trans ?_
    refine (broadcastInDim_apply _ bcast_S1x4096x1x64_S1x4096x2x64_0_1_2_3 _ _ (ix4 (0 : Fin 1) p (0 : Fin 1) (⟨l.val % 64, by omega⟩ : Fin 64)) (fun a => by fin_cases a <;> rfl)).trans ?_
    exact shapeCast_apply _ _ _ (ix2 p (⟨l.val % 64, by omega⟩ : Fin 64)) (by
      rw [Shape.rowMajor_val_four, Shape.rowMajor_val_two]
      show p.val * 64 + l.val % 64 = ((0 * 4096 + p.val) * 1 + 0) * 64 + l.val % 64
      omega)
  rw [e1]
  by_cases h : l.val % 64 < 32
  · rw [if_pos h]
    exact concatenate_pair_apply_left (1 : Fin S4096x64.rank) a b concatenates_S4096x32_S4096x32_S4096x64_d1 _ rfl (ix2 p ⟨l.val % 32, by omega⟩) (fun k => by
      fin_cases k
      · rfl
      · show l.val % 32 = l.val % 64; omega)
  · rw [if_neg h]
    exact concatenate_pair_apply_right (1 : Fin S4096x64.rank) a b concatenates_S4096x32_S4096x32_S4096x64_d1 _ rfl rfl (ix2 p ⟨l.val % 32, by omega⟩) (fun k hk => by
      fin_cases k
      · rfl
      · exact absurd rfl hk) (by show l.val % 32 + 32 = l.val % 64; omega)

/-- The gains' row at an entry. -/
theorem twoGains_apply (g : Vec Ideal S64 .f32) (l : Fin 128) : twoGains g (ix2 0 l) = g (ix1 ⟨l.val % 64, by omega⟩) := by
  have hl := l.isLt
  unfold twoGains
  refine (broadcastInDim_apply _ bcast_S128_S1x128_1 _ _ (ix1 l) (fun a => by fin_cases a; rfl)).trans ?_
  refine (shapeCast_apply _ _ _ (ix2 (⟨l.val / 64, by omega⟩ : Fin 2) (⟨l.val % 64, by omega⟩ : Fin 64)) (by
    rw [Shape.rowMajor_val_two, Shape.rowMajor_val_one]
    show l.val / 64 * 64 + l.val % 64 = l.val
    omega)).trans ?_
  refine (broadcastInDim_apply _ bcast_S1x64_S2x64_0_1 _ _ (ix2 (0 : Fin 1) (⟨l.val % 64, by omega⟩ : Fin 64)) (fun a => by fin_cases a <;> rfl)).trans ?_
  exact shapeCast_apply _ _ _ (ix1 (⟨l.val % 64, by omega⟩ : Fin 64)) (by
    rw [Shape.rowMajor_val_two, Shape.rowMajor_val_one]
    show l.val % 64 = 0 * 64 + l.val % 64
    omega)

/-! ## The table -/

/-- A property of eight numbers at a time. -/
theorem of_eights (P : ℕ → Prop) (n : ℕ) (h : ∀ q < n, ∀ r : Fin 8, P (8 * q + r.val)) (r : ℕ) (hr : r < 8 * n) : P r := by
  have e := h (r / 8) (by omega) ⟨r % 8, by omega⟩
  rwa [show 8 * (r / 8) + r % 8 = r by omega] at e

/-- A row of the table: a sixty-fourth in the columns of its own head. -/
def TableRow (r : ℕ) : Prop := ∀ c : Fin 128, lit0t (r * 128 + c.val) = if r / 64 % 2 = c.val / 64 then 0x3C80#16 else 0x0000#16

/-- Eight rows of the table. -/
theorem rows_of (q s : ℕ) (h : s = 8 * q)
    (t : ∀ r : Fin 8, ∀ c : Fin 128, lit0t ((s + r.val) * 128 + c.val) = if (s + r.val) / 64 % 2 = c.val / 64 then 0x3C80#16 else 0x0000#16) :
    ∀ r : Fin 8, TableRow (8 * q + r.val) := by
  subst h
  exact t

/-- The rows, eight at a time. -/
theorem rows_all (q : ℕ) (hq : q < 32) : ∀ r : Fin 8, TableRow (8 * q + r.val) := by
  interval_cases q
  · exact rows_of 0 0 (by decide) table_0
  · exact rows_of 1 8 (by decide) table_8
  · exact rows_of 2 16 (by decide) table_16
  · exact rows_of 3 24 (by decide) table_24
  · exact rows_of 4 32 (by decide) table_32
  · exact rows_of 5 40 (by decide) table_40
  · exact rows_of 6 48 (by decide) table_48
  · exact rows_of 7 56 (by decide) table_56
  · exact rows_of 8 64 (by decide) table_64
  · exact rows_of 9 72 (by decide) table_72
  · exact rows_of 10 80 (by decide) table_80
  · exact rows_of 11 88 (by decide) table_88
  · exact rows_of 12 96 (by decide) table_96
  · exact rows_of 13 104 (by decide) table_104
  · exact rows_of 14 112 (by decide) table_112
  · exact rows_of 15 120 (by decide) table_120
  · exact rows_of 16 128 (by decide) table_128
  · exact rows_of 17 136 (by decide) table_136
  · exact rows_of 18 144 (by decide) table_144
  · exact rows_of 19 152 (by decide) table_152
  · exact rows_of 20 160 (by decide) table_160
  · exact rows_of 21 168 (by decide) table_168
  · exact rows_of 22 176 (by decide) table_176
  · exact rows_of 23 184 (by decide) table_184
  · exact rows_of 24 192 (by decide) table_192
  · exact rows_of 25 200 (by decide) table_200
  · exact rows_of 26 208 (by decide) table_208
  · exact rows_of 27 216 (by decide) table_216
  · exact rows_of 28 224 (by decide) table_224
  · exact rows_of 29 232 (by decide) table_232
  · exact rows_of 30 240 (by decide) table_240
  · exact rows_of 31 248 (by decide) table_248

/-- The table at a row and a column. -/
theorem table_at (r : ℕ) (hr : r < 256) : TableRow r := of_eights TableRow 32 rows_all r hr

/-- The table at an entry. -/
theorem cst_at (k : Fin 256) (l : Fin 128) : FloatOps.ofBits (F := Ideal) .bf16 (lit0 (S256x128.rowMajor (ix2 k l)))
    = if k.val / 64 % 2 = l.val / 64 then Ideal.ofBits .bf16 0x3C80#16 else Ideal.ofBits .bf16 0x0000#16 := by
  have e : lit0 (S256x128.rowMajor (ix2 k l)) = lit0t (k.val * 128 + l.val) := by
    unfold lit0
    exact congrArg lit0t (Shape.rowMajor_val_two (ix2 k l))
  rw [e, table_at k.val k.isLt l]
  split <;> rfl

end Cert.InprojIdeal.Hand

end
-- ==== Proof.Rows.Inproj.lean ====
module

public import proofs.«01_k».proof.Proof.Rows.InprojCommon
public import proofs.«01_k».proof.Proof.Rows.InprojHost
public import proofs.«01_k».proof.Proof.Gen.InprojIdeal.Value
public import Idealize.ShloMosaic.Lib.IdealHost
public import Idealize.ShloMosaic.Lib.KernelVsHost
public import Idealize.ShloMosaic.Lib.Pipeline.ValueKit.Tiles
public import Idealize.ShloMosaic.Lib.Pipeline.ValueKit.Geometry
public import Idealize.ShloMosaic.Lib.Pipeline.ValueKit.Basic

@[expose] public section

set_option maxRecDepth 65536

noncomputable section

namespace Cert.InprojIdeal.Hand

open Cert.InprojIdeal Cert.InprojIdeal.Gen Cert.Rows
open Idealize.ShloMosaic Idealize.ShloMosaic.TcCoe Idealize.ShloMosaic.Tactic Idealize.ShloMosaic.ValueIdx
open Idealize.SL.Sem

/-! The first call's block of results: each of its pieces at an entry is the row's formula. -/

/-- The heads' normalisation of two heads' lanes. -/
def headBlk (y : FVec Ideal S1024x128 .f32) (g : FVec Ideal S1x128 .f32) (T : FVec Ideal S256x128 .bf16) : FVec Ideal S1024x128 .f32 :=
  mulf (mulf y (rsqrt (addf (matmul dot_S1024x256_S256x128_S1024x128_1_0_0_1_n_n none
    (concatenate S1024x256 1 [⟨S1024x128, truncf .bf16 (mulf y y) bitsLt_bf16_f32⟩,
      ⟨S1024x128, truncf .bf16 (subf (mulf y y) (extf .f32 (truncf .bf16 (mulf y y) bitsLt_bf16_f32) bitsLt_bf16_f32)) bitsLt_bf16_f32⟩]
      concatenates_S1024x128_S1024x128_S1024x256_d1) T (constant S1024x128 .f32 0x00000000#32))
    (broadcast S1024x128 (Scalar.ofBits .f32 0x358637BD#32))))) (broadcastTo S1024x128 g broadcasts_S1x128_S1024x128)

/-- The rotation of two heads' lanes. -/
def ropeBlk (n C S : FVec Ideal S1024x128 .f32) : FVec Ideal S1024x128 .f32 :=
  addf (mulf n C) (mulf (select k0_pay6 (dynamicRotate 1 96#32 none n rotates_S1024x128_d1) (dynamicRotate 1 32#32 none n rotates_S1024x128_d1)) S)

/-- Two query heads' lanes, scaled. -/
def scaled (x : FVec Ideal S1024x128 .f32) : FVec Ideal S1024x128 .bf16 :=
  truncf .bf16 (mulf x (broadcast S1024x128 (Scalar.ofBits .f32 0x3E000000#32))) bitsLt_bf16_f32

/-- Which lanes are the first head's. -/
def firstHead : IVec S1024x128 1 := k0_pay15 (iota .tc S1024x128 32 [1] iota_S1024x128_d1_w32)

/-- The first head's lanes twice. -/
def twiceA (y : FVec Ideal S1024x128 .f32) : FVec Ideal S1024x128 .bf16 :=
  truncf .bf16 (select firstHead y (dynamicRotate 1 64#32 none y rotates_S1024x128_d1)) bitsLt_bf16_f32

/-- The second head's lanes twice. -/
def twiceB (y : FVec Ideal S1024x128 .f32) : FVec Ideal S1024x128 .bf16 :=
  truncf .bf16 (select firstHead (dynamicRotate 1 64#32 none y rotates_S1024x128_d1) y) bitsLt_bf16_f32

/-- Which lanes are a head's first half. -/
theorem mask_at (r : Fin 1024) (l : Fin 128) : k0_pay6 (ix2 r l) = if l.val % 64 < 32 then 1#1 else 0#1 := by
  have h : ∀ l : Fin 128, k0_pay6 (ix2 0 l) = if l.val % 64 < 32 then 1#1 else 0#1 := by decide +kernel
  exact (show k0_pay6 (ix2 r l) = k0_pay6 (ix2 0 l) from rfl).trans (h l)

/-- Which lanes are the first head's, at an entry. -/
theorem firstHead_at (r : Fin 1024) (l : Fin 128) : firstHead (ix2 r l) = if l.val < 64 then 1#1 else 0#1 := by
  have h : ∀ l : Fin 128, firstHead (ix2 0 l) = if l.val < 64 then 1#1 else 0#1 := by decide +kernel
  exact (show firstHead (ix2 r l) = firstHead (ix2 0 l) from rfl).trans (h l)

/-- A rotation of the lanes at an entry. -/
theorem rot_at (n : FVec Ideal S1024x128 .f32) (s : BitVec 32) (r : Fin 1024) (l k : Fin 128) (hk : k.val = (l.val + 128 - s.toNat % 128) % 128) :
    dynamicRotate 1 s none n rotates_S1024x128_d1 (ix2 r l) = n (ix2 r k) :=
  dynamicRotate_apply (1 : Fin S1024x128.rank) s n rotates_S1024x128_d1 (ix2 r l) (ix2 r k) (fun b => by
    fin_cases b
    · rfl
    · exact hk)

section Head
variable (y : FVec Ideal S1024x128 .f32) (g : FVec Ideal S1x128 .f32) (T : FVec Ideal S256x128 .bf16) (C S : FVec Ideal S1024x128 .f32)
  (gain : Fin 64 → EReal) (co si : Fin 32 → EReal) (r : Fin 1024) (hy : ∀ l, IsReal (y (ix2 r l)))
  (hg : ∀ l : Fin 128, g (ix2 0 l) = gain ⟨l.val % 64, by omega⟩)
  (hT : ∀ (k : Fin 256) (l : Fin 128), T (ix2 k l) = if k.val / 64 % 2 = l.val / 64 then Ideal.ofBits .bf16 0x3C80#16 else Ideal.ofBits .bf16 0x0000#16)
  (hC : ∀ l : Fin 128, C (ix2 r l) = co ⟨l.val % 32, by omega⟩)
  (hS : ∀ l : Fin 128, S (ix2 r l) = if l.val % 64 < 32 then -(si ⟨l.val % 32, by omega⟩) else si ⟨l.val % 32, by omega⟩)

include hy hg hT in
/-- The heads' normalisation at an entry. -/
theorem headBlk_apply (h : Fin 2) (d : Fin 64) :
    headBlk y g T (ix2 r ⟨64 * h.val + d.val, by omega⟩) = headRow (fun e => y (ix2 r ⟨64 * h.val + e.val, by omega⟩)) gain d := by
  have hd := d.isLt
  have e1 := Ideal.matmul_plain_apply (M := 1024) (K := 256) (N := 128) none
    (concatenate S1024x256 1 [⟨S1024x128, truncf (F := Ideal) .bf16 (mulf y y) bitsLt_bf16_f32⟩,
      ⟨S1024x128, truncf .bf16 (subf (mulf y y) (extf .f32 (truncf .bf16 (mulf y y) bitsLt_bf16_f32) bitsLt_bf16_f32)) bitsLt_bf16_f32⟩]
      concatenates_S1024x128_S1024x128_S1024x256_d1) T (constant S1024x128 .f32 0x00000000#32) r ⟨64 * h.val + d.val, by omega⟩
  rw [show (constant (F := Ideal) S1024x128 .f32 0x00000000#32) (ix2 r ⟨64 * h.val + d.val, by omega⟩) = 0 from Ideal.ofBits_zero_f32, zero_add] at e1
  have e2 := mean_eq (fun k => concatenate S1024x256 1 [⟨S1024x128, truncf (F := Ideal) .bf16 (mulf y y) bitsLt_bf16_f32⟩,
      ⟨S1024x128, truncf .bf16 (subf (mulf y y) (extf .f32 (truncf .bf16 (mulf y y) bitsLt_bf16_f32) bitsLt_bf16_f32)) bitsLt_bf16_f32⟩]
      concatenates_S1024x128_S1024x128_S1024x256_d1 (ix2 r k)) (fun k => T (ix2 k ⟨64 * h.val + d.val, by omega⟩)) (fun e => y (ix2 r ⟨64 * h.val + e.val, by omega⟩)) h.val h.isLt
      (fun e => hy _) (fun e => ?_) (fun k => ?_) (fun k => ?_)
  · refine congrArg₂ (· * ·) (congrArg (y (ix2 r ⟨64 * h.val + d.val, by omega⟩) * ·) (congrArg (fun z => Ideal.rsqrt (z + Ideal.ofBits .f32 0x358637BD#32)) (e1.trans e2))) ?_
    refine ((broadcastTo_apply g broadcasts_S1x128_S1024x128 _ (ix2 0 ⟨64 * h.val + d.val, by omega⟩) (fun a => by fin_cases a <;> rfl)).trans (hg _)).trans (congrArg gain (Fin.ext ?_))
    show (64 * h.val + d.val) % 64 = d.val
    omega
  · refine (concatenate_pair_apply_left (1 : Fin S1024x256.rank) _ _ concatenates_S1024x128_S1024x128_S1024x256_d1 _ rfl (ix2 r ⟨64 * h.val + e.val, by omega⟩) ?_).trans rfl
    intro c; fin_cases c <;> rfl
  · refine (concatenate_pair_apply_right (1 : Fin S1024x256.rank) _ _ concatenates_S1024x128_S1024x128_S1024x256_d1 _ rfl rfl (ix2 r k) ?_ ?_).trans ((hy k).mul (hy k)).sub_self
    · intro c hc
      fin_cases c
      · rfl
      · exact absurd rfl hc
    · show k.val + 128 = 128 + k.val; omega
  · refine (hT k _).trans ?_
    rw [show (64 * h.val + d.val) / 64 = h.val by omega]

include hy hg hT hC hS in
/-- The rotated heads at an entry. -/
theorem rope_apply (h : Fin 2) (d : Fin 64) :
    ropeBlk (headBlk y g T) C S (ix2 r ⟨64 * h.val + d.val, by omega⟩) = ropeRow (headRow (fun e => y (ix2 r ⟨64 * h.val + e.val, by omega⟩)) gain) co si d := by
  have hd := d.isLt
  have hh := h.isLt
  have hN := headBlk_apply y g T gain r hy hg hT h
  unfold ropeRow
  refine congrArg₂ (· + ·) (congrArg₂ (· * ·) (hN d) ((hC _).trans (congrArg co (Fin.ext ?_)))) ?_
  · show (64 * h.val + d.val) % 32 = d.val % 32; omega
  · have ho : headBlk y g T (ix2 r ⟨64 * h.val + (d.val + 32) % 64, by omega⟩) = headRow (fun e => y (ix2 r ⟨64 * h.val + e.val, by omega⟩)) gain (other d) := hN (other d)
    have ht : (⟨(64 * h.val + d.val) % 32, by omega⟩ : Fin 32) = turn d := Fin.ext (by show (64 * h.val + d.val) % 32 = d.val % 32; omega)
    have hs := hS ⟨64 * h.val + d.val, by omega⟩
    have hm := mask_at r ⟨64 * h.val + d.val, by omega⟩
    have hmod : (64 * h.val + d.val) % 64 = d.val := by omega
    simp only [hmod, ht] at hs hm
    show Scalar.select (k0_pay6 (ix2 r ⟨64 * h.val + d.val, by omega⟩)) (dynamicRotate 1 96#32 none (headBlk y g T) rotates_S1024x128_d1 (ix2 r ⟨64 * h.val + d.val, by omega⟩))
      (dynamicRotate 1 32#32 none (headBlk y g T) rotates_S1024x128_d1 (ix2 r ⟨64 * h.val + d.val, by omega⟩)) * S (ix2 r ⟨64 * h.val + d.val, by omega⟩) = _
    rw [hs, hm]
    by_cases hlt : d.val < 32
    · rw [if_pos hlt, if_pos hlt, if_pos hlt]
      rw [show ∀ a b : EReal, Scalar.select 1#1 a b = a from fun _ _ => rfl,
        rot_at _ 96#32 r _ ⟨64 * h.val + (d.val + 32) % 64, by omega⟩ (by show 64 * h.val + (d.val + 32) % 64 = (64 * h.val + d.val + 128 - 96) % 128; omega), ho, mul_neg]
    · rw [if_neg hlt, if_neg hlt, if_neg hlt]
      rw [show ∀ a b : EReal, Scalar.select 0#1 a b = b from fun _ _ => rfl,
        rot_at _ 32#32 r _ ⟨64 * h.val + (d.val + 32) % 64, by omega⟩ (by show 64 * h.val + (d.val + 32) % 64 = (64 * h.val + d.val + 128 - 32) % 128; omega), ho]

end Head

/-- The first head's lanes twice, at an entry. -/
theorem twiceA_apply (y : FVec Ideal S1024x128 .f32) (r : Fin 1024) (l : Fin 128) : twiceA y (ix2 r l) = y (ix2 r ⟨l.val % 64, by omega⟩) := by
  have hl := l.isLt
  show Scalar.select (firstHead (ix2 r l)) (y (ix2 r l)) (dynamicRotate 1 64#32 none y rotates_S1024x128_d1 (ix2 r l)) = _
  rw [firstHead_at]
  by_cases h : l.val < 64
  · rw [if_pos h]
    exact congrArg (fun k => y (ix2 r k)) (Fin.ext (show l.val = l.val % 64 by omega))
  · rw [if_neg h]
    exact rot_at y 64#32 r l _ (by show l.val % 64 = (l.val + 128 - 64) % 128; omega)

/-- The second head's lanes twice, at an entry. -/
theorem twiceB_apply (y : FVec Ideal S1024x128 .f32) (r : Fin 1024) (l : Fin 128) : twiceB y (ix2 r l) = y (ix2 r ⟨64 + l.val % 64, by omega⟩) := by
  have hl := l.isLt
  show Scalar.select (firstHead (ix2 r l)) (dynamicRotate 1 64#32 none y rotates_S1024x128_d1 (ix2 r l)) (y (ix2 r l)) = _
  rw [firstHead_at]
  by_cases h : l.val < 64
  · rw [if_pos h]
    exact rot_at y 64#32 r l _ (by show 64 + l.val % 64 = (l.val + 128 - 64) % 128; omega)
  · rw [if_neg h]
    exact congrArg (fun k => y (ix2 r k)) (Fin.ext (show l.val = 64 + l.val % 64 by omega))

/-! ## The pieces -/

section Block
variable (x : Vec Ideal S1024x1024 .f32) (g : Vec Ideal S1x1024 .f32) (w : Vec Ideal S1024x2304 .bf16) (gq gk : Vec Ideal S1x128 .f32) (C S : Vec Ideal S1024x128 .f32)
  (T : Vec Ideal S256x128 .bf16)

/-- The block's normalisation. -/
abbrev nrm : FVec Ideal S1024x1024 .bf16 :=
  normBlk x g shapeCasts_S1x1024_S1x1024 reduces_S1024x1024_S1024 shapeCasts_S1024_S1024x1 broadcasts_S1024x1_S1024x1024 broadcasts_S1x1024_S1024x1024 bitsLt_bf16_f32

/-- What the kernel projects is the normalized block. -/
theorem pay3_eq : k0_pay3 x g = nrm x g := by
  unfold k0_pay3
  rw [shapeCast_self x shapeCasts_S1024x1024_S1024x1024]
  rfl

/-- 512 columns of the projection. -/
def proj512 (N : FVec Ideal S1024x1024 .bf16) (w' : Vec Ideal S1024x512 .bf16) : FVec Ideal S1024x512 .f32 := prod N w' shapeCasts_S1024x512_S1024x512

/-- 256 columns of the projection. -/
def proj256 (N : FVec Ideal S1024x1024 .bf16) (w' : Vec Ideal S1024x256 .bf16) : FVec Ideal S1024x256 .f32 := prod N w' shapeCasts_S1024x256_S1024x256

/-- Two query heads. -/
def qBlk (y : FVec Ideal S1024x128 .f32) : FVec Ideal S1024x128 .bf16 := scaled (ropeBlk (headBlk y gq T) C S)

/-- The pieces that a grid point stores, the last first. -/
def pieces : List (View.Piece (Elt Ideal) S1024x2560 .bf16) :=
  let N := k0_pay3 x g
  let q := proj512 N (View.ld w (Rect.unit ![0, 1536] S1024x512.size inb_S1024x2304_S1024x512_0_1536))
  let kv := proj256 N (View.ld w (Rect.unit ![0, 2048] S1024x256.size inb_S1024x2304_S1024x256_0_2048))
  let C' := shapeCast S1024x128 C shapeCasts_S1024x128_S1024x128
  let S' := shapeCast S1024x128 S shapeCasts_S1024x128_S1024x128
  let gq' := shapeCast S1x128 gq shapeCasts_S1x128_S1x128
  let gk' := shapeCast S1x128 gk shapeCasts_S1x128_S1x128
  let k := ropeBlk (headBlk (extractStridedSlice S1024x128 ![0, 0] kv slices_S1024x256_o0_0_S1024x128) gk' T) C' S'
  let v := extractStridedSlice S1024x128 ![0, 128] kv slices_S1024x256_o0_128_S1024x128
  [⟨Rect.unit ![0, 1024] S1024x512.size inb_S1024x2560_S1024x512_0_1024, truncf .bf16 (proj512 N (View.ld w (Rect.unit ![0, 1024] S1024x512.size inb_S1024x2304_S1024x512_0_1024))) bitsLt_bf16_f32⟩,
    ⟨Rect.unit ![0, 512] S1024x512.size inb_S1024x2560_S1024x512_0_512, truncf .bf16 (proj512 N (View.ld w (Rect.unit ![0, 512] S1024x512.size inb_S1024x2304_S1024x512_0_512))) bitsLt_bf16_f32⟩,
    ⟨Rect.unit ![0, 0] S1024x512.size inb_S1024x2560_S1024x512_0_0, truncf .bf16 (mulf (proj512 N (View.ld w (Rect.unit ![0, 0] S1024x512.size inb_S1024x2304_S1024x512_0_0)))
      (broadcast S1024x512 (Scalar.ofBits .f32 0xBE000000#32))) bitsLt_bf16_f32⟩,
    ⟨Rect.unit ![0, 2432] S1024x128.size inb_S1024x2560_S1024x128_0_2432, twiceB v⟩,
    ⟨Rect.unit ![0, 2304] S1024x128.size inb_S1024x2560_S1024x128_0_2304, twiceA v⟩,
    ⟨Rect.unit ![0, 2176] S1024x128.size inb_S1024x2560_S1024x128_0_2176, twiceB k⟩,
    ⟨Rect.unit ![0, 2048] S1024x128.size inb_S1024x2560_S1024x128_0_2048, twiceA k⟩,
    ⟨Rect.unit ![0, 1920] S1024x128.size inb_S1024x2560_S1024x128_0_1920, qBlk gq' C' S' T (extractStridedSlice S1024x128 ![0, 384] q slices_S1024x512_o0_384_S1024x128)⟩,
    ⟨Rect.unit ![0, 1792] S1024x128.size inb_S1024x2560_S1024x128_0_1792, qBlk gq' C' S' T (extractStridedSlice S1024x128 ![0, 256] q slices_S1024x512_o0_256_S1024x128)⟩,
    ⟨Rect.unit ![0, 1664] S1024x128.size inb_S1024x2560_S1024x128_0_1664, qBlk gq' C' S' T (extractStridedSlice S1024x128 ![0, 128] q slices_S1024x512_o0_128_S1024x128)⟩,
    ⟨Rect.unit ![0, 1536] S1024x128.size inb_S1024x2560_S1024x128_0_1536, qBlk gq' C' S' T (extractStridedSlice S1024x128 ![0, 0] q slices_S1024x512_o0_0_S1024x128)⟩]

end Block

section Run
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S256x128 .bf16) (harg8 : arg8.IsWhole) (arg9 : Memref sig .tc .vmem S1024x2560 .bf16) (harg9 : arg9.IsWhole)
    (x0 : Vec Ideal S1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

/-- The pieces of a run, from what the loads find. -/
theorem run_pieces : (kernelRun0_A c i arg1 harg1 arg2 harg2 arg3 harg3 arg4 harg4 arg5 harg5 arg6 harg6 arg7 harg7 arg8 harg8 arg9 harg9 x0 x1 x2 x3 x4 x5 x6 x7).1
    = pieces (View.ld (arg1.view.read (Elt Ideal) (harg1.unread x0)) (Rect.unit ![0, 0] S1024x1024.size inb_S1024x1024_S1024x1024_0_0))
      (View.ld (arg2.view.read (Elt Ideal) (harg2.unread x1)) (Rect.unit ![0, 0] S1x1024.size inb_S1x1024_S1x1024_0_0)) (arg3.view.read (Elt Ideal) (harg3.unread x2))
      (View.ld (arg4.view.read (Elt Ideal) (harg4.unread x3)) (Rect.unit ![0, 0] S1x128.size inb_S1x128_S1x128_0_0))
      (View.ld (arg5.view.read (Elt Ideal) (harg5.unread x4)) (Rect.unit ![0, 0] S1x128.size inb_S1x128_S1x128_0_0))
      (View.ld (arg6.view.read (Elt Ideal) (harg6.unread x5)) (Rect.unit ![0, 0] S1024x128.size inb_S1024x128_S1024x128_0_0))
      (View.ld (arg7.view.read (Elt Ideal) (harg7.unread x6)) (Rect.unit ![0, 0] S1024x128.size inb_S1024x128_S1024x128_0_0))
      (View.ld (arg8.view.read (Elt Ideal) (harg8.unread x7)) (Rect.unit ![0, 0] S256x128.size inb_S256x128_S256x128_0_0)) := by
  unfold kernelRun0_A
  dsimp only
  rfl

/-- The pieces of a run. -/
theorem run_pieces' : (kernelRun0_A c i arg1 harg1 arg2 harg2 arg3 harg3 arg4 harg4 arg5 harg5 arg6 harg6 arg7 harg7 arg8 harg8 arg9 harg9 x0 x1 x2 x3 x4 x5 x6 x7).1
    = pieces x0 x1 x2 x3 x4 x5 x6 x7 := by
  refine (run_pieces c i arg1 harg1 arg2 harg2 arg3 harg3 arg4 harg4 arg5 harg5 arg6 harg6 arg7 harg7 arg8 harg8 arg9 harg9 x0 x1 x2 x3 x4 x5 x6 x7).trans ?_
  rw [harg1.read_unread, harg2.read_unread, harg3.read_unread, harg4.read_unread, harg5.read_unread, harg6.read_unread, harg7.read_unread, harg8.read_unread]
  rw [View.ld_unit_lit inb_S1024x1024_S1024x1024_0_0 x0 (by decide), View.ld_unit_lit inb_S1x1024_S1x1024_0_0 x1 (by decide), View.ld_unit_lit inb_S1x128_S1x128_0_0 x3 (by decide),
    View.ld_unit_lit inb_S1x128_S1x128_0_0 x4 (by decide), View.ld_unit_lit inb_S1024x128_S1024x128_0_0 x5 (by decide), View.ld_unit_lit inb_S1024x128_S1024x128_0_0 x6 (by decide),
    View.ld_unit_lit inb_S256x128_S256x128_0_0 x7 (by decide)]

end Run

/-- The columns that a load takes. -/
theorem ldCols {e : EltTy} {M N : ℕ} (x : Vec Ideal ⟨2, ![M, N]⟩ e) (s B : ℕ) (off : Fin 2 → ℕ) (hoff : off = ![0, s]) (hs : s + B ≤ N)
    (inb : ∀ a, off a + ![M, B] a ≤ (⟨2, ![M, N]⟩ : Shape).size a) (j : Fin M) (k : Fin B) :
    View.ld x (Rect.unit (s := ⟨2, ![M, N]⟩) off ![M, B] inb) (ix2 j k) = x (ix2 j ⟨s + k.val, by omega⟩) :=
  View.ld_unit_apply_of x off _ inb (ix2 j k) (ix2 j ⟨s + k.val, by omega⟩) (by
    subst hoff
    intro a; fin_cases a
    · show j.val = 0 + j.val; omega
    · rfl)

section Read
variable (x : Vec Ideal S1024x1024 .f32) (g : Vec Ideal S1x1024 .f32) (w : Vec Ideal S1024x2304 .bf16) (gq gk : Vec Ideal S1x128 .f32) (C S : Vec Ideal S1024x128 .f32)
  (T : Vec Ideal S256x128 .bf16) (cq ck : Fin 64 → EReal) (co si : Fin 32 → EReal) (r : Fin 1024)

/-- A row of the block. -/
abbrev rowX (k : Fin 1024) : EReal := x (ix2 r k)

/-- The gain. -/
abbrev rowG (k : Fin 1024) : EReal := g (ix2 0 k)

/-- The weights. -/
abbrev matW (k : Fin 1024) (j : Fin 2304) : EReal := w (ix2 k j)

/-- 512 columns of the projection at an entry. -/
theorem proj512_at (s : ℕ) (hs : s + 512 ≤ 2304) (w' : Vec Ideal S1024x512 .bf16) (hw' : ∀ j k, w' (ix2 j k) = w (ix2 j ⟨s + k.val, by omega⟩)) (l : Fin 512) :
    proj512 (k0_pay3 x g) w' (ix2 r l) = projRow (rowX x r) (rowG g) fun k => matW w k ⟨s + l.val, by omega⟩ := by
  rw [pay3_eq]
  refine (prod_apply (M := 1024) (K := 1024) (N := 512) (nrm x g) w' shapeCasts_S1024x512_S1024x512 r l).trans ?_
  exact Finset.sum_congr rfl fun k _ => congrArg₂ (· * ·) (normBlk_apply x g _ _ _ _ _ _ r k) (hw' k l)

/-- 256 columns of the projection at an entry. -/
theorem proj256_at (s : ℕ) (hs : s + 256 ≤ 2304) (w' : Vec Ideal S1024x256 .bf16) (hw' : ∀ j k, w' (ix2 j k) = w (ix2 j ⟨s + k.val, by omega⟩)) (l : Fin 256) :
    proj256 (k0_pay3 x g) w' (ix2 r l) = projRow (rowX x r) (rowG g) fun k => matW w k ⟨s + l.val, by omega⟩ := by
  rw [pay3_eq]
  refine (prod_apply (M := 1024) (K := 1024) (N := 256) (nrm x g) w' shapeCasts_S1024x256_S1024x256 r l).trans ?_
  exact Finset.sum_congr rfl fun k _ => congrArg₂ (· * ·) (normBlk_apply x g _ _ _ _ _ _ r k) (hw' k l)

/-- 128 of the columns of a product at an entry. -/
theorem slice_at {N : ℕ} (y : FVec Ideal ⟨2, ![1024, N]⟩ .f32) (o s : ℕ) (ho : o + 128 ≤ N) (hs : s + N ≤ 2304) (h : (⟨2, ![1024, N]⟩ : Shape).Slices ![0, o] S1024x128)
    (hy : ∀ l : Fin N, y (ix2 r l) = projRow (rowX x r) (rowG g) fun k => matW w k ⟨s + l.val, by omega⟩) (l : Fin 128) :
    extractStridedSlice S1024x128 ![0, o] y h (ix2 r l) = projRow (rowX x r) (rowG g) fun k => matW w k ⟨s + o + l.val, by omega⟩ := by
  refine (extractStridedSlice_apply ![0, o] y h (ix2 r l) (ix2 r (⟨o + l.val, by omega⟩ : Fin N)) (fun a => by
    fin_cases a
    · show r.val = 0 + r.val; omega
    · rfl)).trans ((hy _).trans (congrArg (projRow (rowX x r) (rowG g)) (funext fun k => congrArg (matW w k) (Fin.ext ?_))))
  show s + (o + l.val) = s + o + l.val
  omega

variable (hg : ∀ k, IsReal (g (ix2 0 k))) (hw : ∀ k j, IsReal (w (ix2 k j)))
  (hT : ∀ (k : Fin 256) (l : Fin 128), T (ix2 k l) = if k.val / 64 % 2 = l.val / 64 then Ideal.ofBits .bf16 0x3C80#16 else Ideal.ofBits .bf16 0x0000#16)
  (hC : ∀ l : Fin 128, C (ix2 r l) = co ⟨l.val % 32, by omega⟩)
  (hS : ∀ l : Fin 128, S (ix2 r l) = if l.val % 64 < 32 then -(si ⟨l.val % 32, by omega⟩) else si ⟨l.val % 32, by omega⟩)

include hg hw hT hC hS in
/-- Two rotated heads at an entry. -/
theorem heads_at (y : FVec Ideal S1024x128 .f32) (gg : Vec Ideal S1x128 .f32) (gain : Fin 64 → EReal) (hgg : ∀ l : Fin 128, gg (ix2 0 l) = gain ⟨l.val % 64, by omega⟩)
    (s : ℕ) (hs : s + 128 ≤ 2304) (hy : ∀ l : Fin 128, y (ix2 r l) = projRow (rowX x r) (rowG g) fun k => matW w k ⟨s + l.val, by omega⟩) (h : Fin 2) (d : Fin 64) :
    ropeBlk (headBlk y gg T) C S (ix2 r ⟨64 * h.val + d.val, by omega⟩) = ropeRow (headRow (headCols (rowX x r) (rowG g) (matW w) (s + 64 * h.val) (by omega)) gain) co si d := by
  refine (rope_apply y gg T C S gain co si r (fun l => ?_) hgg hT hC hS h d).trans ?_
  · rw [hy l]
    exact projRow_real _ _ _ hg fun k => hw k _
  · refine congrArg (fun f => ropeRow (headRow f gain) co si d) (funext fun e => (hy _).trans (congrArg (projRow (rowX x r) (rowG g)) (funext fun k => congrArg (matW w k) (Fin.ext ?_))))
    show s + (64 * h.val + e.val) = s + 64 * h.val + e.val
    omega

variable (hgq : ∀ l : Fin 128, gq (ix2 0 l) = cq ⟨l.val % 64, by omega⟩) (hgk : ∀ l : Fin 128, gk (ix2 0 l) = ck ⟨l.val % 64, by omega⟩)

/-- A row of the result. -/
abbrev rowOut : Fin 2560 → EReal := packRow (rowX x r) (rowG g) (matW w) cq ck co si

include hg hw hT hC hS hgq in
/-- Two query heads at an entry. -/
theorem q_at (y : FVec Ideal S1024x128 .f32) (j : ℕ) (hj : j < 4) (hy : ∀ l : Fin 128, y (ix2 r l) = projRow (rowX x r) (rowG g) fun k => matW w k ⟨1536 + 128 * j + l.val, by omega⟩)
    (l : Fin 128) : qBlk gq C S T y (ix2 r l) = rowOut x g w cq ck co si r ⟨1536 + 128 * j + l.val, by omega⟩ := by
  have hl := l.isLt
  have e1 := heads_at x g w C S T co si r hg hw hT hC hS y gq cq hgq (1536 + 128 * j) (by omega) hy ⟨l.val / 64, by omega⟩ ⟨l.val % 64, by omega⟩
  have e2 := packRow_q (rowX x r) (rowG g) (matW w) cq ck co si ⟨2 * j + l.val / 64, by omega⟩ ⟨l.val % 64, by omega⟩
  have el : (⟨64 * (l.val / 64) + l.val % 64, by omega⟩ : Fin 128) = l := Fin.ext (by show 64 * (l.val / 64) + l.val % 64 = l.val; omega)
  have en : (⟨1536 + 64 * (2 * j + l.val / 64) + l.val % 64, by omega⟩ : Fin 2560) = ⟨1536 + 128 * j + l.val, by omega⟩ :=
    Fin.ext (by show 1536 + 64 * (2 * j + l.val / 64) + l.val % 64 = 1536 + 128 * j + l.val; omega)
  refine Eq.trans ?_ (e2.symm.trans (congrArg _ en))
  refine congrArg (· * Ideal.ofBits .f32 0x3E000000#32) ((congrArg (fun l => ropeBlk (headBlk y gq T) C S (ix2 r l)) el.symm).trans (e1.trans ?_))
  rw [headCols_congr (rowX x r) (rowG g) (matW w) _ (show 1536 + 128 * j + 64 * (l.val / 64) = 1536 + 64 * (2 * j + l.val / 64) by omega)]

include hg hw hT hC hS hgk in
/-- A key head of the result. -/
theorem k_at (y : FVec Ideal S1024x128 .f32) (hy : ∀ l : Fin 128, y (ix2 r l) = projRow (rowX x r) (rowG g) fun k => matW w k ⟨2048 + l.val, by omega⟩)
    (h b : Fin 2) (d : Fin 64) : ropeBlk (headBlk y gk T) C S (ix2 r ⟨64 * h.val + d.val, by omega⟩) = rowOut x g w cq ck co si r ⟨2048 + 128 * h.val + 64 * b.val + d.val, by omega⟩ :=
  (heads_at x g w C S T co si r hg hw hT hC hS y gk ck hgk 2048 (by omega) hy h d).trans (packRow_k (rowX x r) (rowG g) (matW w) cq ck co si h b d).symm

/-- A value head of the result. -/
theorem v_at (y : FVec Ideal S1024x128 .f32) (hy : ∀ l : Fin 128, y (ix2 r l) = projRow (rowX x r) (rowG g) fun k => matW w k ⟨2176 + l.val, by omega⟩)
    (h b : Fin 2) (d : Fin 64) : y (ix2 r ⟨64 * h.val + d.val, by omega⟩) = rowOut x g w cq ck co si r ⟨2304 + 128 * h.val + 64 * b.val + d.val, by omega⟩ := by
  refine ((hy _).trans (congrArg (projRow (rowX x r) (rowG g)) (funext fun k => congrArg (matW w k) (Fin.ext ?_)))).trans (packRow_v (rowX x r) (rowG g) (matW w) cq ck co si h b d).symm
  show 2176 + (64 * h.val + d.val) = 2176 + 64 * h.val + d.val
  omega

/-- The first head's lanes twice, by a row that the head is of. -/
theorem twiceA_at (y : FVec Ideal S1024x128 .f32) (o : ℕ) (ho : o + 256 ≤ 2560) (f : Fin 2560 → EReal)
    (hy : ∀ (h b : Fin 2) (d : Fin 64), y (ix2 r ⟨64 * h.val + d.val, by omega⟩) = f ⟨o + 128 * h.val + 64 * b.val + d.val, by omega⟩) (l : Fin 128) :
    twiceA y (ix2 r l) = f ⟨o + l.val, by omega⟩ := by
  have hl := l.isLt
  refine (twiceA_apply y r l).trans ((congrArg (fun k => y (ix2 r k)) (Fin.ext ?_)).trans ((hy 0 ⟨l.val / 64, by omega⟩ ⟨l.val % 64, by omega⟩).trans (congrArg f (Fin.ext ?_))))
  · show l.val % 64 = 64 * 0 + l.val % 64; omega
  · show o + 128 * 0 + 64 * (l.val / 64) + l.val % 64 = o + l.val; omega

/-- The second head's. -/
theorem twiceB_at (y : FVec Ideal S1024x128 .f32) (o : ℕ) (ho : o + 256 ≤ 2560) (f : Fin 2560 → EReal)
    (hy : ∀ (h b : Fin 2) (d : Fin 64), y (ix2 r ⟨64 * h.val + d.val, by omega⟩) = f ⟨o + 128 * h.val + 64 * b.val + d.val, by omega⟩) (l : Fin 128) :
    twiceB y (ix2 r l) = f ⟨o + 128 + l.val, by omega⟩ := by
  have hl := l.isLt
  refine (twiceB_apply y r l).trans ((congrArg (fun k => y (ix2 r k)) (Fin.ext ?_)).trans ((hy 1 ⟨l.val / 64, by omega⟩ ⟨l.val % 64, by omega⟩).trans (congrArg f (Fin.ext ?_))))
  · show 64 + l.val % 64 = 64 * 1 + l.val % 64; omega
  · show o + 128 * 1 + 64 * (l.val / 64) + l.val % 64 = o + 128 + l.val; omega

/-- A piece of 512 columns says what it should of an index in it. -/
theorem tile512 (o : ℕ) (ho : o + 512 ≤ 2560) (v : Vec Ideal S1024x512 .bf16) (f : Fin 2560 → EReal) (hv : ∀ l : Fin 512, v (ix2 r l) = f ⟨o + l.val, by omega⟩) (n : Fin 2560) :
    View.TileAt (Val := Elt Ideal) (S := S1024x2560) (e := .bf16) (ix2 r n) ![0, o] S1024x512.size v (f n) := by
  intro y hy
  obtain ⟨r', l, rfl⟩ : ∃ (r' : Fin 1024) (l : Fin 512), y = ix2 r' l := ⟨y 0, y 1, funext fun a => by fin_cases a <;> rfl⟩
  have h0 : r.val = 0 + r'.val := hy 0
  have h1 : n.val = o + l.val := hy 1
  obtain rfl : r = r' := Fin.ext (by omega)
  exact (hv l).trans (congrArg f (Fin.ext h1.symm))

/-- The same of 128 columns. -/
theorem tile128 (o : ℕ) (ho : o + 128 ≤ 2560) (v : Vec Ideal S1024x128 .bf16) (f : Fin 2560 → EReal) (hv : ∀ l : Fin 128, v (ix2 r l) = f ⟨o + l.val, by omega⟩) (n : Fin 2560) :
    View.TileAt (Val := Elt Ideal) (S := S1024x2560) (e := .bf16) (ix2 r n) ![0, o] S1024x128.size v (f n) := by
  intro y hy
  obtain ⟨r', l, rfl⟩ : ∃ (r' : Fin 1024) (l : Fin 128), y = ix2 r' l := ⟨y 0, y 1, funext fun a => by fin_cases a <;> rfl⟩
  have h0 : r.val = 0 + r'.val := hy 0
  have h1 : n.val = o + l.val := hy 1
  obtain rfl : r = r' := Fin.ext (by omega)
  exact (hv l).trans (congrArg f (Fin.ext h1.symm))

/-- The first 1536 columns of the result, 512 at a time. -/
theorem sb_at (l : Fin 512) : projRow (rowX x r) (rowG g) (fun k => matW w k ⟨0 + l.val, by omega⟩) * Ideal.ofBits .f32 0xBE000000#32
    = rowOut x g w cq ck co si r ⟨0 + l.val, by omega⟩ := by
  refine Eq.trans ?_ ((packRow_sb (rowX x r) (rowG g) (matW w) cq ck co si l).symm.trans (congrArg _ (Fin.ext (by show l.val = 0 + l.val; omega))))
  exact congrArg (· * Ideal.ofBits .f32 0xBE000000#32) (congrArg (projRow (rowX x r) (rowG g)) (funext fun k => congrArg (matW w k) (Fin.ext (by show 0 + l.val = l.val; omega))))

/-- Those without a factor. -/
theorem kv_at (o : ℕ) (ho : 512 ≤ o) (ho' : o ≤ 1024) (l : Fin 512) : projRow (rowX x r) (rowG g) (fun k => matW w k ⟨o + l.val, by omega⟩) = rowOut x g w cq ck co si r ⟨o + l.val, by omega⟩ := by
  refine Eq.trans ?_ ((packRow_kv (rowX x r) (rowG g) (matW w) cq ck co si ⟨o - 512 + l.val, by omega⟩).symm.trans (congrArg _ (Fin.ext (by show 512 + (o - 512 + l.val) = o + l.val; omega))))
  exact congrArg (projRow (rowX x r) (rowG g)) (funext fun k => congrArg (matW w k) (Fin.ext (by show o + l.val = 512 + (o - 512 + l.val); omega)))

include hg hw hT hC hS hgq hgk in
/-- The pieces of a run together, at an entry. -/
theorem pieces_read (n : Fin 2560) (cover : ∃ pc ∈ pieces x g w gq gk C S T, ix2 r n ∈ pc.1.set) :
    View.canon (pieces x g w gq gk C S T) (ix2 r n) = rowOut x g w cq ck co si r n := by
  have hq := proj512_at x g w r 1536 (by omega) _ (ldCols (M := 1024) (N := 2304) w 1536 512 _ rfl (by omega) inb_S1024x2304_S1024x512_0_1536)
  have hkv := proj256_at x g w r 2048 (by omega) _ (ldCols (M := 1024) (N := 2304) w 2048 256 _ rfl (by omega) inb_S1024x2304_S1024x256_0_2048)
  have hk := k_at x g w gk C S T cq ck co si r hg hw hT hC hS hgk _ (slice_at x g w r _ 0 2048 (by omega) (by omega) slices_S1024x256_o0_0_S1024x128 hkv)
  have hv := v_at x g w cq ck co si r _ (slice_at x g w r _ 128 2048 (by omega) (by omega) slices_S1024x256_o0_128_S1024x128 hkv)
  refine View.canon_eq_of_allAt _ _ _ cover ?_
  unfold pieces
  rw [shapeCast_self C, shapeCast_self S, shapeCast_self gq, shapeCast_self gk]
  dsimp only
  refine View.allAt_cons_unit _ _ _ _ _ (tile512 r 1024 (by omega) _ _ (fun l => (proj512_at x g w r 1024 (by omega) _ (ldCols (M := 1024) (N := 2304) w 1024 512 _ rfl (by omega) _) l).trans (kv_at x g w cq ck co si r 1024 (by omega) (by omega) l)) n) ?_
  refine View.allAt_cons_unit _ _ _ _ _ (tile512 r 512 (by omega) _ _ (fun l => (proj512_at x g w r 512 (by omega) _ (ldCols (M := 1024) (N := 2304) w 512 512 _ rfl (by omega) _) l).trans (kv_at x g w cq ck co si r 512 (by omega) (by omega) l)) n) ?_
  refine View.allAt_cons_unit _ _ _ _ _ (tile512 r 0 (by omega) _ _ (fun l => (congrArg (· * Ideal.ofBits .f32 0xBE000000#32) (proj512_at x g w r 0 (by omega) _ (ldCols (M := 1024) (N := 2304) w 0 512 _ rfl (by omega) _) l)).trans (sb_at x g w cq ck co si r l)) n) ?_
  refine View.allAt_cons_unit _ _ _ _ _ (tile128 r 2432 (by omega) _ _ (fun l => twiceB_at r _ 2304 (by omega) _ hv l) n) ?_
  refine View.allAt_cons_unit _ _ _ _ _ (tile128 r 2304 (by omega) _ _ (fun l => twiceA_at r _ 2304 (by omega) _ hv l) n) ?_
  refine View.allAt_cons_unit _ _ _ _ _ (tile128 r 2176 (by omega) _ _ (fun l => twiceB_at r _ 2048 (by omega) _ hk l) n) ?_
  refine View.allAt_cons_unit _ _ _ _ _ (tile128 r 2048 (by omega) _ _ (fun l => twiceA_at r _ 2048 (by omega) _ hk l) n) ?_
  refine View.allAt_cons_unit _ _ _ _ _ (tile128 r 1920 (by omega) _ _ (fun l => q_at x g w gq C S T cq ck co si r hg hw hT hC hS hgq _ 3 (by omega) (slice_at x g w r _ 384 1536 (by omega) (by omega) slices_S1024x512_o0_384_S1024x128 hq) l) n) ?_
  refine View.allAt_cons_unit _ _ _ _ _ (tile128 r 1792 (by omega) _ _ (fun l => q_at x g w gq C S T cq ck co si r hg hw hT hC hS hgq _ 2 (by omega) (slice_at x g w r _ 256 1536 (by omega) (by omega) slices_S1024x512_o0_256_S1024x128 hq) l) n) ?_
  refine View.allAt_cons_unit _ _ _ _ _ (tile128 r 1664 (by omega) _ _ (fun l => q_at x g w gq C S T cq ck co si r hg hw hT hC hS hgq _ 1 (by omega) (slice_at x g w r _ 128 1536 (by omega) (by omega) slices_S1024x512_o0_128_S1024x128 hq) l) n) ?_
  exact View.allAt_cons_unit _ _ _ _ _ (tile128 r 1536 (by omega) _ _ (fun l => q_at x g w gq C S T cq ck co si r hg hw hT hC hS hgq _ 0 (by omega) (slice_at x g w r _ 0 1536 (by omega) (by omega) slices_S1024x512_o0_0_S1024x128 hq) l) n) (View.allAt_nil _ _)

end Read

section Launch
variable (m : (ℓ : Loc nD τ sig) → Buf (Elt Ideal) ℓ) (c : Dev nD) (t : Fin grid0.N)

/-- Window 0's block number. -/
theorem idx0 : ∀ t : Fin grid0.N, win0_0.index t = ![(grid0.coords t 0).val, 0] := by decide +kernel
/-- Window 1's block number. -/
theorem idx1 : ∀ t : Fin grid0.N, win0_1.index t = ![0, 0] := by decide +kernel
/-- Window 2's block number. -/
theorem idx2 : ∀ t : Fin grid0.N, win0_2.index t = ![0, 0] := by decide +kernel
/-- Window 3's block number. -/
theorem idx3 : ∀ t : Fin grid0.N, win0_3.index t = ![0, 0] := by decide +kernel
/-- Window 4's block number. -/
theorem idx4 : ∀ t : Fin grid0.N, win0_4.index t = ![0, 0] := by decide +kernel
/-- Window 5's block number. -/
theorem idx5 : ∀ t : Fin grid0.N, win0_5.index t = ![(grid0.coords t 0).val % 4, 0] := by decide +kernel
/-- Window 6's block number. -/
theorem idx6 : ∀ t : Fin grid0.N, win0_6.index t = ![(grid0.coords t 0).val % 4, 0] := by decide +kernel
/-- Window 7's block number. -/
theorem idx7 : ∀ t : Fin grid0.N, win0_7.index t = ![0, 0] := by decide +kernel
/-- Window 8's block number. -/
theorem idx8 : ∀ t : Fin grid0.N, win0_8.index t = ![(grid0.coords t 0).val, 0] := by decide +kernel
/-- Window 0's block. -/
abbrev b0 : Vec Ideal S1024x1024 .f32 := iblk m c 0 t
/-- Window 1's block. -/
abbrev b1 : Vec Ideal S1x1024 .f32 := iblk m c 1 t
/-- Window 2's block. -/
abbrev b2 : Vec Ideal S1024x2304 .bf16 := iblk m c 2 t
/-- Window 3's block. -/
abbrev b3 : Vec Ideal S1x128 .f32 := iblk m c 3 t
/-- Window 4's block. -/
abbrev b4 : Vec Ideal S1x128 .f32 := iblk m c 4 t
/-- Window 5's block. -/
abbrev b5 : Vec Ideal S1024x128 .f32 := iblk m c 5 t
/-- Window 6's block. -/
abbrev b6 : Vec Ideal S1024x128 .f32 := iblk m c 6 t
/-- Window 7's block. -/
abbrev b7 : Vec Ideal S256x128 .bf16 := iblk m c 7 t

/-- A row of the first block, by the layer's input. -/
theorem b0_at (r k : Fin 1024) (a : Fin 8) (p : Fin 4096) (hR : 4096 * a.val + p.val = 1024 * (grid0.coords t 0).val + r.val) : b0 m c t (ix2 r k) = (m ((c.tc : Thread nD τ).loc main_arg0)) (ix3 a p k) := by
  have e := idx0 t
  have ha := a.isLt
  have hp := p.isLt
  have hv : V m c main_v36 (ix2 (⟨4096 * a.val + p.val, by omega⟩ : Fin 32768) k) = (m ((c.tc : Thread nD τ).loc main_arg0)) (ix3 a p k) := by
    rw [V_x]
    exact shapeCast_apply _ _ _ (ix3 a p k) (by
      rw [Shape.rowMajor_val_three, Shape.rowMajor_val_two]
      show (a.val * 4096 + p.val) * 1024 + k.val = (4096 * a.val + p.val) * 1024 + k.val
      omega)
  refine Eq.trans ?_ hv
  refine congrArg (V m c main_v36) (funext fun a => Fin.ext ?_)
  blk_simp [e]
  fin_cases a
  · show (grid0.coords t 0).val * 1024 + r.val = 4096 * _ + p.val; omega
  · show 0 * 1024 + k.val = k.val; omega

/-- The gain. -/
theorem b1_at (k : Fin 1024) : b1 m c t (ix2 0 k) = (m ((c.tc : Thread nD τ).loc main_arg1)) (ix1 k) := by
  have e := idx1 t
  refine Eq.trans ?_ ((congrFun (V_gain m c) (ix2 0 k)).trans (broadcastInDim_apply _ bcast_S1024_S1x1024_1 _ _ (ix1 k) (fun a => by fin_cases a; rfl)))
  refine congrArg (V m c main_v37) (funext fun a => Fin.ext ?_)
  blk_simp [e]
  fin_cases a
  · rfl
  · show 0 * 1024 + k.val = k.val; omega

/-- The weights. -/
theorem b2_at (k : Fin 1024) (j : Fin 2304) : b2 m c t (ix2 k j) = (m ((c.tc : Thread nD τ).loc main_arg2)) (ix2 k j) := by
  have e := idx2 t
  refine Eq.trans ?_ (congrFun (V_w m c) (ix2 k j))
  refine congrArg (V m c main_v38) (funext fun a => Fin.ext ?_)
  blk_simp [e]
  fin_cases a
  · show 0 * 1024 + k.val = k.val; omega
  · show 0 * 2304 + j.val = j.val; omega

/-- The gain of the queries. -/
theorem b3_at (l : Fin 128) : b3 m c t (ix2 0 l) = (m ((c.tc : Thread nD τ).loc main_arg3)) (ix1 ⟨l.val % 64, by omega⟩) := by
  have e := idx3 t
  refine Eq.trans ?_ ((congrFun (V_gq m c) (ix2 0 l)).trans (twoGains_apply _ l))
  refine congrArg (V m c main_v31) (funext fun a => Fin.ext ?_)
  blk_simp [e]
  fin_cases a
  · rfl
  · show 0 * 128 + l.val = l.val; omega

/-- The gain of the keys. -/
theorem b4_at (l : Fin 128) : b4 m c t (ix2 0 l) = (m ((c.tc : Thread nD τ).loc main_arg4)) (ix1 ⟨l.val % 64, by omega⟩) := by
  have e := idx4 t
  refine Eq.trans ?_ ((congrFun (V_gk m c) (ix2 0 l)).trans (twoGains_apply _ l))
  refine congrArg (V m c main_v35) (funext fun a => Fin.ext ?_)
  blk_simp [e]
  fin_cases a
  · rfl
  · show 0 * 128 + l.val = l.val; omega

/-- A row of the cosines. -/
theorem b5_at (r : Fin 1024) (l : Fin 128) (p : Fin 4096) (hp : p.val = 1024 * ((grid0.coords t 0).val % 4) + r.val) :
    b5 m c t (ix2 r l) = twoHeads cosines cosines (ix2 p l) := by
  have e := idx5 t
  refine Eq.trans ?_ (congrFun (V_cos m c) (ix2 p l))
  refine congrArg (V m c main_v22) (funext fun a => Fin.ext ?_)
  blk_simp [e]
  fin_cases a
  · show (grid0.coords t 0).val % 4 * 1024 + r.val = p.val; omega
  · show 0 * 128 + l.val = l.val; omega

/-- A row of the sines. -/
theorem b6_at (r : Fin 1024) (l : Fin 128) (p : Fin 4096) (hp : p.val = 1024 * ((grid0.coords t 0).val % 4) + r.val) :
    b6 m c t (ix2 r l) = twoHeads (Host.negf (F := Ideal) (s := S4096x32) (φ := .f32) sines) sines (ix2 p l) := by
  have e := idx6 t
  refine Eq.trans ?_ (congrFun (V_sin m c) (ix2 p l))
  refine congrArg (V m c main_v27) (funext fun a => Fin.ext ?_)
  blk_simp [e]
  fin_cases a
  · show (grid0.coords t 0).val % 4 * 1024 + r.val = p.val; omega
  · show 0 * 128 + l.val = l.val; omega

/-- The table. -/
theorem b7_at (k : Fin 256) (l : Fin 128) : b7 m c t (ix2 k l) = if k.val / 64 % 2 = l.val / 64 then Ideal.ofBits .bf16 0x3C80#16 else Ideal.ofBits .bf16 0x0000#16 := by
  have e := idx7 t
  refine Eq.trans ?_ ((congrFun (V_cst m c) (ix2 k l)).trans (cst_at k l))
  refine congrArg (V m c main_cst) (funext fun a => Fin.ext ?_)
  blk_simp [e]
  fin_cases a
  · show 0 * 256 + k.val = k.val; omega
  · show 0 * 128 + l.val = l.val; omega

variable (hg : ∀ i, IsReal ((m ((c.tc : Thread nD τ).loc main_arg1)) i)) (hw : ∀ i, IsReal ((m ((c.tc : Thread nD τ).loc main_arg2)) i))

include hg hw in
/-- A point's result block at an entry. -/
theorem point_out (r : Fin 1024) (n : Fin 2560) (a : Fin 8) (p : Fin 4096) (hR : 4096 * a.val + p.val = 1024 * (grid0.coords t 0).val + r.val) :
    outsAt0 m c t (ix2 r n) = packOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) cosines sines a p n := by
  have ha := a.isLt
  have hp := p.isLt
  have hp' : p.val = 1024 * ((grid0.coords t 0).val % 4) + r.val := by omega
  have h0 : ∀ k, b0 m c t (ix2 r k) = _ := fun k => b0_at m c t r k a p hR
  have cov := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) (b6 m c t) (b7 m c t) (ix2 r n)
  have run := run_pieces' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) (b6 m c t) (b7 m c t)
  rw [run] at cov
  have hc : ∀ l : Fin 128, b5 m c t (ix2 r l) = cosines (ix2 p ⟨l.val % 32, by omega⟩) := fun l => by
    rw [b5_at m c t r l p hp', twoHeads_apply]
    split <;> rfl
  have hs : ∀ l : Fin 128, b6 m c t (ix2 r l) = if l.val % 64 < 32 then -(sines (ix2 p ⟨l.val % 32, by omega⟩)) else sines (ix2 p ⟨l.val % 32, by omega⟩) := fun l => by
    rw [b6_at m c t r l p hp', twoHeads_apply]
    rfl
  have read := pieces_read (b0 m c t) (b1 m c t) (b2 m c t) (b3 m c t) (b4 m c t) (b5 m c t) (b6 m c t) (b7 m c t)
    (fun e => (m ((c.tc : Thread nD τ).loc main_arg3)) (ix1 e)) (fun e => (m ((c.tc : Thread nD τ).loc main_arg4)) (ix1 e)) (fun j => cosines (ix2 p j)) (fun j => sines (ix2 p j)) r
    (fun k => by rw [b1_at]; exact hg _) (fun k j => by rw [b2_at]; exact hw _)
    (b7_at m c t) hc hs (b3_at m c t) (b4_at m c t) n cov
  have e0 : rowX (b0 m c t) r = fun k => (m ((c.tc : Thread nD τ).loc main_arg0)) (ix3 a p k) := funext h0
  have e1 : rowG (b1 m c t) = fun k => (m ((c.tc : Thread nD τ).loc main_arg1)) (ix1 k) := funext (b1_at m c t)
  have e2 : matW (b2 m c t) = fun k j => (m ((c.tc : Thread nD τ).loc main_arg2)) (ix2 k j) := funext fun k => funext fun j => b2_at m c t k j
  unfold rowOut at read
  rw [e0, e1, e2] at read
  refine Eq.trans ?_ read
  unfold outsAt0 out0_A_8
  refine (congrFun (View.read_writes_junk_eq_canon VO0_8 _) (ix2 r n)).trans ?_
  exact congrArg (fun L => View.canon L (ix2 r n)) run

include hg hw in
/-- The same at any index of the block. -/
theorem point_out' (y : S1024x2560.Idx) (n : Fin 2560) (a : Fin 8) (p : Fin 4096) (hR : 4096 * a.val + p.val = 1024 * (grid0.coords t 0).val + (y 0).val) (hn : n.val = (y 1).val) :
    outsAt0 m c t y = packOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) cosines sines a p n := by
  obtain ⟨r, k, rfl⟩ : ∃ (r : Fin 1024) (k : Fin 2560), y = ix2 r k := ⟨y 0, y 1, funext fun a => by fin_cases a <;> rfl⟩
  have e : n = k := Fin.ext hn
  subst e
  exact point_out m c t hg hw r n a p hR

include hg hw in
/-- The result array at the end. -/
theorem array_out : (dats m 0 c).arrAt 8 cfg0.N = fun i : S32768x2560.Idx =>
    packOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) cosines sines ⟨(i 0).val / 4096, by have h : (i 0).val < 32768 := (i 0).isLt; omega⟩ ⟨(i 0).val % 4096, by omega⟩ (i 1) := by
  refine (dats m 0 c).arrAt_eq_of_covers 8 _ (by decide +kernel) fun t hf y => ?_
  blk_simp
  have e := idx8 t
  refine (congrFun (after0_8 m c t) y).trans ?_
  refine point_out' m c t hg hw y _ _ _ ?_ ?_
  · blk_simp [e]
    show 4096 * (((grid0.coords t 0).val * 1024 + (y 0).val) / 4096) + ((grid0.coords t 0).val * 1024 + (y 0).val) % 4096 = 1024 * (grid0.coords t 0).val + (y 0).val
    omega
  · blk_simp [e]

end Launch

end Cert.InprojIdeal.Hand

end
-- ==== Proof.Rows.InprojRef.lean ====
module

public import proofs.«01_k».proof.Proof.Rows.InprojCommon
public import proofs.«01_k».proof.Proof.Gen.InprojRefIdeal.Read
public import Idealize.ShloMosaic.Lib.IdealHost

@[expose] public section

set_option maxRecDepth 65536

noncomputable section

namespace Cert.InprojRefIdeal.Hand

open Cert.InprojRefIdeal Cert.InprojRefIdeal.Gen Cert.InprojRefIdeal.Read Cert.Rows
open Idealize.ShloMosaic Idealize.ShloMosaic.TcCoe Idealize.ShloMosaic.ValueIdx

/-! The first call's plain formula is what its reference computes. -/

variable (x : (⟨S8x4096x1024, .f32⟩ : BufTy).Contents (Elt Ideal)) (g : (⟨S1024, .f32⟩ : BufTy).Contents (Elt Ideal)) (w : (⟨S1024x2304, .f32⟩ : BufTy).Contents (Elt Ideal))
  (gq gk : (⟨S64, .f32⟩ : BufTy).Contents (Elt Ideal)) (a : Fin 8) (p : Fin 4096)

/-- A token's row. -/
abbrev rowX (k : Fin 1024) : EReal := x (ix3 a p k)

/-- The gain's entries. -/
abbrev rowG (k : Fin 1024) : EReal := g (ix1 k)

/-- The weights' entries. -/
abbrev matW (k : Fin 1024) (j : Fin 2304) : EReal := w (ix2 k j)

/-- The cosines of a position. -/
abbrev cosAt (j : Fin 32) : EReal := val_main_v17 (F := Ideal) (ix2 p j)

/-- The sines of a position. -/
abbrev sinAt (j : Fin 32) : EReal := val_main_v18 (F := Ideal) (ix2 p j)

/-- The reference's normalised row. -/
theorem norm_at (k : Fin 1024) : val_main_v31 (F := Ideal) x g (ix3 a p k) = normRow (rowX x a p) (rowG g) k := by
  have e1 : val_main_v20 (F := Ideal) x (ix2 a p) = ∑ j : Fin 1024, x (ix3 a p j) * x (ix3 a p j) := by
    refine (val_main_v20_apply x (ix2 a p)).trans ?_
    refine (congrArg₂ (· + ·) (Ideal.ofBits_zero_f32 : val_main_cst_4 (F := Ideal) (Shape.Idx.first h_S_) = 0) (Finset.sum_congr rfl fun j _ => ?_)).trans (zero_add _)
    have ei : idx_main_v20 (ix2 a p) j = ix3 a p j := funext fun a => by fin_cases a <;> rfl
    exact (congrArg (val_main_v19 (F := Ideal) x) ei).trans rfl
  have e2 : val_main_v21 (F := Ideal) x (ix3 a p (0 : Fin 1)) = ∑ j : Fin 1024, x (ix3 a p j) * x (ix3 a p j) := by
    refine (val_main_v21_apply (F := Ideal) x _).trans (Eq.trans (congrArg (val_main_v20 (F := Ideal) x) ?_) e1)
    exact funext fun a => by fin_cases a <;> rfl
  have e8 : val_main_v27 (F := Ideal) x (ix3 a p k) = Ideal.rsqrt (Ideal.div (∑ j, x (ix3 a p j) * x (ix3 a p j)) (Ideal.ofBits .f32 0x44800000#32) + Ideal.ofBits .f32 0x358637BD#32) := by
    refine (val_main_v27_apply (F := Ideal) x _).trans ?_
    refine (congrArg (val_main_v26 (F := Ideal) x) (funext fun a => by fin_cases a <;> rfl : idx_main_v27 (ix3 a p k) = ix3 a p (0 : Fin 1))).trans ?_
    rw [← e2]
    refine (val_main_v26_apply (F := Ideal) x _).trans (congrArg Ideal.rsqrt ?_)
    refine (val_main_v25_apply (F := Ideal) x _).trans (congrArg₂ (· + ·) ?_ ?_)
    · refine (val_main_v23_apply (F := Ideal) x _).trans (congrArg (Ideal.div _) ?_)
      exact (val_main_v22_apply (F := Ideal) _).trans rfl
    · exact (val_main_v24_apply (F := Ideal) _).trans rfl
  have e11 : val_main_v30 (F := Ideal) g (ix3 a p k) = g (ix1 k) := by
    refine (val_main_v30_apply (F := Ideal) g _).trans ((val_main_v29_apply (F := Ideal) g _).trans (congrArg g ?_))
    exact funext fun a => by fin_cases a; rfl
  refine (val_main_v31_apply (F := Ideal) x g _).trans (congrArg₂ (· * ·) ?_ e11)
  exact (val_main_v28_apply (F := Ideal) x _).trans (congrArg (x (ix3 a p k) * ·) e8)

/-- The reference's projection. -/
theorem proj_at (j : Fin 2304) : val_main_v32 (F := Ideal) x g w (ix3 a p j) = projRow (rowX x a p) (rowG g) (fun k => matW w k j) := by
  refine (val_main_v32_apply x g w _).trans (Finset.sum_congr rfl fun k _ => congrArg₂ (· * ·) ?_ (congrArg w ?_))
  · exact (congrArg (val_main_v31 (F := Ideal) x g) (funext fun a => by fin_cases a <;> rfl : lidx_main_v32 (ix3 a p j) k = ix3 a p k)).trans (norm_at x g a p k)
  · exact funext fun a => by fin_cases a <;> rfl

/-- Three coordinates that are those of an index. -/
theorem eq_ix3 {A B C : ℕ} (i : (⟨3, ![A, B, C]⟩ : Shape).Idx) (a : Fin A) (b : Fin B) (c : Fin C) (ha : (i 0).val = a.val) (hb : (i 1).val = b.val) (hc : (i 2).val = c.val) : i = ix3 a b c :=
  funext fun k => by
    fin_cases k
    · exact Fin.ext ha
    · exact Fin.ext hb
    · exact Fin.ext hc

/-- Four coordinates that are those of an index. -/
theorem eq_ix4 {A B C D : ℕ} (i : (⟨4, ![A, B, C, D]⟩ : Shape).Idx) (a : Fin A) (b : Fin B) (c : Fin C) (d : Fin D)
    (ha : (i 0).val = a.val) (hb : (i 1).val = b.val) (hc : (i 2).val = c.val) (hd : (i 3).val = d.val) : i = ix4 a b c d :=
  funext fun k => by
    fin_cases k
    · exact Fin.ext ha
    · exact Fin.ext hb
    · exact Fin.ext hc
    · exact Fin.ext hd

/-- A head's columns in the reference. -/
theorem q_cols (h : Fin 8) (d : Fin 64) : val_main_v39 (F := Ideal) x g w (ix4 a p h d) = headCols (rowX x a p) (rowG g) (matW w) (1536 + 64 * h.val) (by omega) d := by
  have ha := a.isLt
  have hp := p.isLt
  have hh := h.isLt
  have hd := d.isLt
  refine (val_main_v39_apply (F := Ideal) x g w _).trans ?_
  refine (congrArg (val_main_v36 (F := Ideal) x g w) (eq_ix3 _ a p (⟨64 * h.val + d.val, by omega⟩ : Fin 512) ?_ ?_ ?_)).trans ?_
  · show (((a.val * 4096 + p.val) * 8 + h.val) * 64 + d.val) / 2097152 = a.val; omega
  · show (((a.val * 4096 + p.val) * 8 + h.val) * 64 + d.val) / 512 % 4096 = p.val; omega
  · show (((a.val * 4096 + p.val) * 8 + h.val) * 64 + d.val) % 512 = 64 * h.val + d.val; omega
  refine (val_main_v36_apply (F := Ideal) x g w _).trans ?_
  refine (congrArg (val_main_v32 (F := Ideal) x g w) (eq_ix3 _ a p (⟨1536 + 64 * h.val + d.val, by omega⟩ : Fin 2304) ?_ ?_ ?_)).trans (proj_at x g w a p _)
  · rfl
  · rfl
  · show 1536 + (64 * h.val + d.val) = 1536 + 64 * h.val + d.val; omega

/-- A head's normalisation in the reference. -/
theorem q_norm (h : Fin 8) (d : Fin 64) : val_main_v52 (F := Ideal) x g w gq (ix4 a p h d)
    = headRow (headCols (rowX x a p) (rowG g) (matW w) (1536 + 64 * h.val) (by omega)) (fun e => gq (ix1 e)) d := by
  have hy := q_cols x g w a p h
  have e1 : val_main_v41 (F := Ideal) x g w (ix3 a p h) = ∑ e : Fin 64, headCols (rowX x a p) (rowG g) (matW w) (1536 + 64 * h.val) (by omega) e * headCols (rowX x a p) (rowG g) (matW w) (1536 + 64 * h.val) (by omega) e := by
    refine (val_main_v41_apply x g w _).trans ?_
    refine (congrArg₂ (· + ·) (Ideal.ofBits_zero_f32 : val_main_cst_7 (F := Ideal) (Shape.Idx.first h_S_) = 0) (Finset.sum_congr rfl fun e _ => ?_)).trans (zero_add _)
    have ei : idx_main_v41 (ix3 a p h) e = ix4 a p h e := funext fun a => by fin_cases a <;> rfl
    exact (congrArg (val_main_v40 (F := Ideal) x g w) ei).trans ((val_main_v40_apply (F := Ideal) x g w _).trans (congrArg₂ (· * ·) (hy e) (hy e)))
  have e2 : val_main_v42 (F := Ideal) x g w (ix4 a p h (0 : Fin 1)) = _ :=
    (val_main_v42_apply (F := Ideal) x g w _).trans (Eq.trans (congrArg (val_main_v41 (F := Ideal) x g w) (funext fun a => by fin_cases a <;> rfl : idx_main_v42 (ix4 a p h (0 : Fin 1)) = ix3 a p h)) e1)
  have e8 : val_main_v48 (F := Ideal) x g w (ix4 a p h d) = Ideal.rsqrt (Ideal.div (∑ e : Fin 64, headCols (rowX x a p) (rowG g) (matW w) (1536 + 64 * h.val) (by omega) e * headCols (rowX x a p) (rowG g) (matW w) (1536 + 64 * h.val) (by omega) e) (Ideal.ofBits .f32 0x42800000#32) + Ideal.ofBits .f32 0x358637BD#32) := by
    refine (val_main_v48_apply (F := Ideal) x g w _).trans ?_
    refine (congrArg (val_main_v47 (F := Ideal) x g w) (funext fun a => by fin_cases a <;> rfl : idx_main_v48 (ix4 a p h d) = ix4 a p h (0 : Fin 1))).trans ?_
    rw [← e2]
    refine (val_main_v47_apply (F := Ideal) x g w _).trans (congrArg Ideal.rsqrt ?_)
    refine (val_main_v46_apply (F := Ideal) x g w _).trans (congrArg₂ (· + ·) ?_ ?_)
    · refine (val_main_v44_apply (F := Ideal) x g w _).trans (congrArg (Ideal.div _) ?_)
      exact (val_main_v43_apply (F := Ideal) _).trans rfl
    · exact (val_main_v45_apply (F := Ideal) _).trans rfl
  have e11 : val_main_v51 (F := Ideal) gq (ix4 a p h d) = gq (ix1 d) := by
    refine (val_main_v51_apply (F := Ideal) gq _).trans ((val_main_v50_apply (F := Ideal) gq _).trans (congrArg gq ?_))
    exact funext fun a => by fin_cases a; rfl
  unfold headRow
  refine (val_main_v52_apply (F := Ideal) x g w gq _).trans (congrArg₂ (· * ·) ?_ e11)
  exact (val_main_v49_apply (F := Ideal) x g w _).trans (congrArg₂ (· * ·) (hy d) e8)

/-- A head's rotation in the reference. -/
theorem q_rope (h : Fin 8) (d : Fin 64) : val_main_v67 (F := Ideal) x g w gq (ix4 a p h d)
    = ropeRow (headRow (headCols (rowX x a p) (rowG g) (matW w) (1536 + 64 * h.val) (by omega)) (fun e => gq (ix1 e))) (cosAt p) (sinAt p) d := by
  have hd := d.isLt
  have hn := q_norm x g w gq a p h
  generalize hN : headRow (headCols (rowX x a p) (rowG g) (matW w) (1536 + 64 * h.val) (by omega)) (fun e => gq (ix1 e)) = N at hn ⊢
  have x1 : ∀ j : Fin 32, val_main_v55 (F := Ideal) x g w gq (ix4 a p h j) = N ⟨j.val, by omega⟩ := fun j =>
    (val_main_v55_apply (F := Ideal) x g w gq _).trans ((congrArg (val_main_v52 (F := Ideal) x g w gq) (eq_ix4 _ a p h (⟨j.val, by omega⟩ : Fin 64) rfl rfl rfl (by first | rfl | exact Nat.zero_add _))).trans (hn _))
  have x2 : ∀ j : Fin 32, val_main_v56 (F := Ideal) x g w gq (ix4 a p h j) = N ⟨32 + j.val, by omega⟩ := fun j =>
    (val_main_v56_apply (F := Ideal) x g w gq _).trans ((congrArg (val_main_v52 (F := Ideal) x g w gq) (eq_ix4 _ a p h (⟨32 + j.val, by omega⟩ : Fin 64) rfl rfl rfl rfl)).trans (hn _))
  have c1 : ∀ j : Fin 32, val_main_v57 (F := Ideal) (ix4 a p h j) = cosAt p j := fun j =>
    (val_main_v57_apply (F := Ideal) _).trans ((val_main_v53_apply (F := Ideal) _).trans (congrArg (val_main_v17 (F := Ideal)) (funext fun a => by fin_cases a <;> rfl)))
  have c2 : ∀ j : Fin 32, val_main_v62 (F := Ideal) (ix4 a p h j) = cosAt p j := fun j =>
    (val_main_v62_apply (F := Ideal) _).trans ((val_main_v53_apply (F := Ideal) _).trans (congrArg (val_main_v17 (F := Ideal)) (funext fun a => by fin_cases a <;> rfl)))
  have s1 : ∀ j : Fin 32, val_main_v59 (F := Ideal) (ix4 a p h j) = sinAt p j := fun j =>
    (val_main_v59_apply (F := Ideal) _).trans ((val_main_v54_apply (F := Ideal) _).trans (congrArg (val_main_v18 (F := Ideal)) (funext fun a => by fin_cases a <;> rfl)))
  have s2 : ∀ j : Fin 32, val_main_v64 (F := Ideal) (ix4 a p h j) = sinAt p j := fun j =>
    (val_main_v64_apply (F := Ideal) _).trans ((val_main_v54_apply (F := Ideal) _).trans (congrArg (val_main_v18 (F := Ideal)) (funext fun a => by fin_cases a <;> rfl)))
  have ed : (⟨d.val % 32, by omega⟩ : Fin 32) = turn d := rfl
  unfold val_main_v67 ropeRow
  by_cases hlt : d.val < 32
  · rw [if_pos hlt]
    refine (concatenate_pair_apply_left (3 : Fin S8x4096x8x64.rank) _ _ concatenates_S8x4096x8x32_S8x4096x8x32_S8x4096x8x64_d3 _ rfl (ix4 a p h (turn d)) ?_).trans ?_
    · intro k
      fin_cases k
      · rfl
      · rfl
      · rfl
      · show d.val % 32 = d.val; omega
    refine (val_main_v61_apply (F := Ideal) x g w gq _).trans ((sub_eq_add_neg _ _).trans (congrArg₂ (· + ·) ?_ (congrArg (- ·) ?_)))
    · refine (val_main_v58_apply (F := Ideal) x g w gq _).trans (congrArg₂ (· * ·) ((x1 _).trans (congrArg N (Fin.ext ?_))) (c1 _))
      show d.val % 32 = d.val; omega
    · refine (val_main_v60_apply (F := Ideal) x g w gq _).trans (congrArg₂ (· * ·) ((x2 _).trans (congrArg N (Fin.ext ?_))) (s1 _))
      show 32 + d.val % 32 = (d.val + 32) % 64; omega
  · rw [if_neg hlt]
    refine (concatenate_pair_apply_right (3 : Fin S8x4096x8x64.rank) _ _ concatenates_S8x4096x8x32_S8x4096x8x32_S8x4096x8x64_d3 _ rfl rfl (ix4 a p h (turn d)) ?_ ?_).trans ?_
    · intro k hk
      fin_cases k
      · rfl
      · rfl
      · rfl
      · exact absurd rfl hk
    · show d.val % 32 + 32 = d.val; omega
    refine (val_main_v66_apply (F := Ideal) x g w gq _).trans (congrArg₂ (· + ·) ?_ ?_)
    · refine (val_main_v63_apply (F := Ideal) x g w gq _).trans (congrArg₂ (· * ·) ((x2 _).trans (congrArg N (Fin.ext ?_))) (c2 _))
      show 32 + d.val % 32 = d.val; omega
    · refine (val_main_v65_apply (F := Ideal) x g w gq _).trans (congrArg₂ (· * ·) ((x1 _).trans (congrArg N (Fin.ext ?_))) (s2 _))
      show d.val % 32 = (d.val + 32) % 64; omega

/-- A head's columns in the reference. -/
theorem k_cols (h : Fin 2) (d : Fin 64) : val_main_v68 (F := Ideal) x g w (ix4 a p h d) = headCols (rowX x a p) (rowG g) (matW w) (2048 + 64 * h.val) (by omega) d := by
  have ha := a.isLt
  have hp := p.isLt
  have hh := h.isLt
  have hd := d.isLt
  refine (val_main_v68_apply (F := Ideal) x g w _).trans ?_
  refine (congrArg (val_main_v37 (F := Ideal) x g w) (eq_ix3 _ a p (⟨64 * h.val + d.val, by omega⟩ : Fin 128) ?_ ?_ ?_)).trans ?_
  · show (((a.val * 4096 + p.val) * 2 + h.val) * 64 + d.val) / 524288 = a.val; omega
  · show (((a.val * 4096 + p.val) * 2 + h.val) * 64 + d.val) / 128 % 4096 = p.val; omega
  · show (((a.val * 4096 + p.val) * 2 + h.val) * 64 + d.val) % 128 = 64 * h.val + d.val; omega
  refine (val_main_v37_apply (F := Ideal) x g w _).trans ?_
  refine (congrArg (val_main_v32 (F := Ideal) x g w) (eq_ix3 _ a p (⟨2048 + 64 * h.val + d.val, by omega⟩ : Fin 2304) ?_ ?_ ?_)).trans (proj_at x g w a p _)
  · rfl
  · rfl
  · show 2048 + (64 * h.val + d.val) = 2048 + 64 * h.val + d.val; omega

/-- A head's normalisation in the reference. -/
theorem k_norm (h : Fin 2) (d : Fin 64) : val_main_v81 (F := Ideal) x g w gk (ix4 a p h d)
    = headRow (headCols (rowX x a p) (rowG g) (matW w) (2048 + 64 * h.val) (by omega)) (fun e => gk (ix1 e)) d := by
  have hy := k_cols x g w a p h
  have e1 : val_main_v70 (F := Ideal) x g w (ix3 a p h) = ∑ e : Fin 64, headCols (rowX x a p) (rowG g) (matW w) (2048 + 64 * h.val) (by omega) e * headCols (rowX x a p) (rowG g) (matW w) (2048 + 64 * h.val) (by omega) e := by
    refine (val_main_v70_apply x g w _).trans ?_
    refine (congrArg₂ (· + ·) (Ideal.ofBits_zero_f32 : val_main_cst_10 (F := Ideal) (Shape.Idx.first h_S_) = 0) (Finset.sum_congr rfl fun e _ => ?_)).trans (zero_add _)
    have ei : idx_main_v70 (ix3 a p h) e = ix4 a p h e := funext fun a => by fin_cases a <;> rfl
    exact (congrArg (val_main_v69 (F := Ideal) x g w) ei).trans ((val_main_v69_apply (F := Ideal) x g w _).trans (congrArg₂ (· * ·) (hy e) (hy e)))
  have e2 : val_main_v71 (F := Ideal) x g w (ix4 a p h (0 : Fin 1)) = _ :=
    (val_main_v71_apply (F := Ideal) x g w _).trans (Eq.trans (congrArg (val_main_v70 (F := Ideal) x g w) (funext fun a => by fin_cases a <;> rfl : idx_main_v71 (ix4 a p h (0 : Fin 1)) = ix3 a p h)) e1)
  have e8 : val_main_v77 (F := Ideal) x g w (ix4 a p h d) = Ideal.rsqrt (Ideal.div (∑ e : Fin 64, headCols (rowX x a p) (rowG g) (matW w) (2048 + 64 * h.val) (by omega) e * headCols (rowX x a p) (rowG g) (matW w) (2048 + 64 * h.val) (by omega) e) (Ideal.ofBits .f32 0x42800000#32) + Ideal.ofBits .f32 0x358637BD#32) := by
    refine (val_main_v77_apply (F := Ideal) x g w _).trans ?_
    refine (congrArg (val_main_v76 (F := Ideal) x g w) (funext fun a => by fin_cases a <;> rfl : idx_main_v77 (ix4 a p h d) = ix4 a p h (0 : Fin 1))).trans ?_
    rw [← e2]
    refine (val_main_v76_apply (F := Ideal) x g w _).trans (congrArg Ideal.rsqrt ?_)
    refine (val_main_v75_apply (F := Ideal) x g w _).trans (congrArg₂ (· + ·) ?_ ?_)
    · refine (val_main_v73_apply (F := Ideal) x g w _).trans (congrArg (Ideal.div _) ?_)
      exact (val_main_v72_apply (F := Ideal) _).trans rfl
    · exact (val_main_v74_apply (F := Ideal) _).trans rfl
  have e11 : val_main_v80 (F := Ideal) gk (ix4 a p h d) = gk (ix1 d) := by
    refine (val_main_v80_apply (F := Ideal) gk _).trans ((val_main_v79_apply (F := Ideal) gk _).trans (congrArg gk ?_))
    exact funext fun a => by fin_cases a; rfl
  unfold headRow
  refine (val_main_v81_apply (F := Ideal) x g w gk _).trans (congrArg₂ (· * ·) ?_ e11)
  exact (val_main_v78_apply (F := Ideal) x g w _).trans (congrArg₂ (· * ·) (hy d) e8)

/-- A head's rotation in the reference. -/
theorem k_rope (h : Fin 2) (d : Fin 64) : val_main_v96 (F := Ideal) x g w gk (ix4 a p h d)
    = ropeRow (headRow (headCols (rowX x a p) (rowG g) (matW w) (2048 + 64 * h.val) (by omega)) (fun e => gk (ix1 e))) (cosAt p) (sinAt p) d := by
  have hd := d.isLt
  have hn := k_norm x g w gk a p h
  generalize hN : headRow (headCols (rowX x a p) (rowG g) (matW w) (2048 + 64 * h.val) (by omega)) (fun e => gk (ix1 e)) = N at hn ⊢
  have x1 : ∀ j : Fin 32, val_main_v84 (F := Ideal) x g w gk (ix4 a p h j) = N ⟨j.val, by omega⟩ := fun j =>
    (val_main_v84_apply (F := Ideal) x g w gk _).trans ((congrArg (val_main_v81 (F := Ideal) x g w gk) (eq_ix4 _ a p h (⟨j.val, by omega⟩ : Fin 64) rfl rfl rfl (by first | rfl | exact Nat.zero_add _))).trans (hn _))
  have x2 : ∀ j : Fin 32, val_main_v85 (F := Ideal) x g w gk (ix4 a p h j) = N ⟨32 + j.val, by omega⟩ := fun j =>
    (val_main_v85_apply (F := Ideal) x g w gk _).trans ((congrArg (val_main_v81 (F := Ideal) x g w gk) (eq_ix4 _ a p h (⟨32 + j.val, by omega⟩ : Fin 64) rfl rfl rfl rfl)).trans (hn _))
  have c1 : ∀ j : Fin 32, val_main_v86 (F := Ideal) (ix4 a p h j) = cosAt p j := fun j =>
    (val_main_v86_apply (F := Ideal) _).trans ((val_main_v82_apply (F := Ideal) _).trans (congrArg (val_main_v17 (F := Ideal)) (funext fun a => by fin_cases a <;> rfl)))
  have c2 : ∀ j : Fin 32, val_main_v91 (F := Ideal) (ix4 a p h j) = cosAt p j := fun j =>
    (val_main_v91_apply (F := Ideal) _).trans ((val_main_v82_apply (F := Ideal) _).trans (congrArg (val_main_v17 (F := Ideal)) (funext fun a => by fin_cases a <;> rfl)))
  have s1 : ∀ j : Fin 32, val_main_v88 (F := Ideal) (ix4 a p h j) = sinAt p j := fun j =>
    (val_main_v88_apply (F := Ideal) _).trans ((val_main_v83_apply (F := Ideal) _).trans (congrArg (val_main_v18 (F := Ideal)) (funext fun a => by fin_cases a <;> rfl)))
  have s2 : ∀ j : Fin 32, val_main_v93 (F := Ideal) (ix4 a p h j) = sinAt p j := fun j =>
    (val_main_v93_apply (F := Ideal) _).trans ((val_main_v83_apply (F := Ideal) _).trans (congrArg (val_main_v18 (F := Ideal)) (funext fun a => by fin_cases a <;> rfl)))
  have ed : (⟨d.val % 32, by omega⟩ : Fin 32) = turn d := rfl
  unfold val_main_v96 ropeRow
  by_cases hlt : d.val < 32
  · rw [if_pos hlt]
    refine (concatenate_pair_apply_left (3 : Fin S8x4096x2x64.rank) _ _ concatenates_S8x4096x2x32_S8x4096x2x32_S8x4096x2x64_d3 _ rfl (ix4 a p h (turn d)) ?_).trans ?_
    · intro k
      fin_cases k
      · rfl
      · rfl
      · rfl
      · show d.val % 32 = d.val; omega
    refine (val_main_v90_apply (F := Ideal) x g w gk _).trans ((sub_eq_add_neg _ _).trans (congrArg₂ (· + ·) ?_ (congrArg (- ·) ?_)))
    · refine (val_main_v87_apply (F := Ideal) x g w gk _).trans (congrArg₂ (· * ·) ((x1 _).trans (congrArg N (Fin.ext ?_))) (c1 _))
      show d.val % 32 = d.val; omega
    · refine (val_main_v89_apply (F := Ideal) x g w gk _).trans (congrArg₂ (· * ·) ((x2 _).trans (congrArg N (Fin.ext ?_))) (s1 _))
      show 32 + d.val % 32 = (d.val + 32) % 64; omega
  · rw [if_neg hlt]
    refine (concatenate_pair_apply_right (3 : Fin S8x4096x2x64.rank) _ _ concatenates_S8x4096x2x32_S8x4096x2x32_S8x4096x2x64_d3 _ rfl rfl (ix4 a p h (turn d)) ?_ ?_).trans ?_
    · intro k hk
      fin_cases k
      · rfl
      · rfl
      · rfl
      · exact absurd rfl hk
    · show d.val % 32 + 32 = d.val; omega
    refine (val_main_v95_apply (F := Ideal) x g w gk _).trans (congrArg₂ (· + ·) ?_ ?_)
    · refine (val_main_v92_apply (F := Ideal) x g w gk _).trans (congrArg₂ (· * ·) ((x2 _).trans (congrArg N (Fin.ext ?_))) (c2 _))
      show 32 + d.val % 32 = d.val; omega
    · refine (val_main_v94_apply (F := Ideal) x g w gk _).trans (congrArg₂ (· * ·) ((x1 _).trans (congrArg N (Fin.ext ?_))) (s2 _))
      show d.val % 32 = (d.val + 32) % 64; omega

/-- The first mixer's queries in the reference. -/
theorem sbq_at (l : Fin 512) : val_main_v33 (F := Ideal) x g w (ix3 a p l) = projRow (rowX x a p) (rowG g) (fun k => matW w k ⟨0 + l.val, by omega⟩) :=
  (val_main_v33_apply (F := Ideal) x g w _).trans ((congrArg (val_main_v32 (F := Ideal) x g w) (eq_ix3 _ a p (⟨0 + l.val, by omega⟩ : Fin 2304) rfl rfl (by first | rfl | exact (Nat.zero_add _).symm))).trans (proj_at x g w a p _))

/-- The first mixer's keys in the reference. -/
theorem sbk_at (l : Fin 512) : val_main_v34 (F := Ideal) x g w (ix3 a p l) = projRow (rowX x a p) (rowG g) (fun k => matW w k ⟨512 + l.val, by omega⟩) :=
  (val_main_v34_apply (F := Ideal) x g w _).trans ((congrArg (val_main_v32 (F := Ideal) x g w) (eq_ix3 _ a p (⟨512 + l.val, by omega⟩ : Fin 2304) rfl rfl (by first | rfl | exact (Nat.zero_add _).symm))).trans (proj_at x g w a p _))

/-- The first mixer's values in the reference. -/
theorem sbv_at (l : Fin 512) : val_main_v35 (F := Ideal) x g w (ix3 a p l) = projRow (rowX x a p) (rowG g) (fun k => matW w k ⟨1024 + l.val, by omega⟩) :=
  (val_main_v35_apply (F := Ideal) x g w _).trans ((congrArg (val_main_v32 (F := Ideal) x g w) (eq_ix3 _ a p (⟨1024 + l.val, by omega⟩ : Fin 2304) rfl rfl (by first | rfl | exact (Nat.zero_add _).symm))).trans (proj_at x g w a p _))

/-- The second mixer's values in the reference. -/
theorem swv_at (l : Fin 128) : val_main_v38 (F := Ideal) x g w (ix3 a p l) = projRow (rowX x a p) (rowG g) (fun k => matW w k ⟨2176 + l.val, by omega⟩) :=
  (val_main_v38_apply (F := Ideal) x g w _).trans ((congrArg (val_main_v32 (F := Ideal) x g w) (eq_ix3 _ a p (⟨2176 + l.val, by omega⟩ : Fin 2304) rfl rfl (by first | rfl | exact (Nat.zero_add _).symm))).trans (proj_at x g w a p _))

/-- A key head twice. -/
theorem k_twice (h b : Fin 2) (d : Fin 64) : val_main_v105 (F := Ideal) x g w gk (ix3 a p (⟨128 * h.val + 64 * b.val + d.val, by omega⟩ : Fin 256)) = val_main_v96 (F := Ideal) x g w gk (ix4 a p h d) := by
  have ha := a.isLt
  have hp := p.isLt
  have hh := h.isLt
  have hb := b.isLt
  have hd := d.isLt
  refine (val_main_v105_apply (F := Ideal) x g w gk _).trans ((val_main_v104_apply (F := Ideal) x g w gk _).trans ((val_main_v103_apply (F := Ideal) x g w gk _).trans
    (congrArg (val_main_v96 (F := Ideal) x g w gk) (eq_ix4 _ a p h d ?_ ?_ ?_ ?_))))
  · show ((a.val * 4096 + p.val) * 256 + (128 * h.val + 64 * b.val + d.val)) / 1048576 = a.val; omega
  · show ((a.val * 4096 + p.val) * 256 + (128 * h.val + 64 * b.val + d.val)) / 256 % 4096 = p.val; omega
  · show ((a.val * 4096 + p.val) * 256 + (128 * h.val + 64 * b.val + d.val)) / 128 % 2 = h.val; omega
  · show ((a.val * 4096 + p.val) * 256 + (128 * h.val + 64 * b.val + d.val)) % 64 = d.val; omega

/-- A value head twice. -/
theorem v_twice (h b : Fin 2) (d : Fin 64) : val_main_v108 (F := Ideal) x g w (ix3 a p (⟨128 * h.val + 64 * b.val + d.val, by omega⟩ : Fin 256)) = val_main_v97 (F := Ideal) x g w (ix4 a p h d) := by
  have ha := a.isLt
  have hp := p.isLt
  have hh := h.isLt
  have hb := b.isLt
  have hd := d.isLt
  refine (val_main_v108_apply (F := Ideal) x g w _).trans ((val_main_v107_apply (F := Ideal) x g w _).trans ((val_main_v106_apply (F := Ideal) x g w _).trans
    (congrArg (val_main_v97 (F := Ideal) x g w) (eq_ix4 _ a p h d ?_ ?_ ?_ ?_))))
  · show ((a.val * 4096 + p.val) * 256 + (128 * h.val + 64 * b.val + d.val)) / 1048576 = a.val; omega
  · show ((a.val * 4096 + p.val) * 256 + (128 * h.val + 64 * b.val + d.val)) / 256 % 4096 = p.val; omega
  · show ((a.val * 4096 + p.val) * 256 + (128 * h.val + 64 * b.val + d.val)) / 128 % 2 = h.val; omega
  · show ((a.val * 4096 + p.val) * 256 + (128 * h.val + 64 * b.val + d.val)) % 64 = d.val; omega

/-- A value head in the reference. -/
theorem v_head (h : Fin 2) (d : Fin 64) : val_main_v97 (F := Ideal) x g w (ix4 a p h d) = projRow (rowX x a p) (rowG g) fun k => matW w k ⟨2176 + 64 * h.val + d.val, by omega⟩ := by
  have ha := a.isLt
  have hp := p.isLt
  have hh := h.isLt
  have hd := d.isLt
  refine (val_main_v97_apply (F := Ideal) x g w _).trans ((congrArg (val_main_v38 (F := Ideal) x g w) (eq_ix3 _ a p (⟨64 * h.val + d.val, by omega⟩ : Fin 128) ?_ ?_ ?_)).trans
    ((swv_at x g w a p _).trans (congrArg (projRow (rowX x a p) (rowG g)) (funext fun k => congrArg (matW w k) (Fin.ext ?_)))))
  · show (((a.val * 4096 + p.val) * 2 + h.val) * 64 + d.val) / 524288 = a.val; omega
  · show (((a.val * 4096 + p.val) * 2 + h.val) * 64 + d.val) / 128 % 4096 = p.val; omega
  · show (((a.val * 4096 + p.val) * 2 + h.val) * 64 + d.val) % 128 = 64 * h.val + d.val; omega
  · show 2176 + (64 * h.val + d.val) = 2176 + 64 * h.val + d.val; omega

/-- The second mixer's queries in the reference. -/
theorem swq_at (h : Fin 8) (d : Fin 64) : val_main_v102 (F := Ideal) x g w gq (ix3 a p (⟨64 * h.val + d.val, by omega⟩ : Fin 512))
    = ropeRow (headRow (headCols (rowX x a p) (rowG g) (matW w) (1536 + 64 * h.val) (by omega)) (fun e => gq (ix1 e))) (cosAt p) (sinAt p) d * Ideal.ofBits .f32 0x3E000000#32 := by
  have ha := a.isLt
  have hp := p.isLt
  have hh := h.isLt
  have hd := d.isLt
  refine (val_main_v102_apply (F := Ideal) x g w gq _).trans (congrArg₂ (· * ·) ?_ ((val_main_v101_apply (F := Ideal) _).trans rfl))
  refine (val_main_v100_apply (F := Ideal) x g w gq _).trans ((congrArg (val_main_v67 (F := Ideal) x g w gq) (eq_ix4 _ a p h d ?_ ?_ ?_ ?_)).trans (q_rope x g w gq a p h d))
  · show ((a.val * 4096 + p.val) * 512 + (64 * h.val + d.val)) / 2097152 = a.val; omega
  · show ((a.val * 4096 + p.val) * 512 + (64 * h.val + d.val)) / 512 % 4096 = p.val; omega
  · show ((a.val * 4096 + p.val) * 512 + (64 * h.val + d.val)) / 64 % 8 = h.val; omega
  · show ((a.val * 4096 + p.val) * 512 + (64 * h.val + d.val)) % 64 = d.val; omega

/-- A piece of the reference's row. -/
theorem piece_at (q : ℕ) (hq : q < 6) (pre W : ℕ) (y : (⟨3, ![8, 4096, W]⟩ : Shape).Idx → EReal) (l : Fin W) (hl : pre + l.val < 2560)
    (hy : ([⟨S8x4096x512, val_main_v99 (F := Ideal) x g w⟩, ⟨S8x4096x512, val_main_v34 (F := Ideal) x g w⟩, ⟨S8x4096x512, val_main_v35 (F := Ideal) x g w⟩,
      ⟨S8x4096x512, val_main_v102 (F := Ideal) x g w gq⟩, ⟨S8x4096x256, val_main_v105 (F := Ideal) x g w gk⟩, ⟨S8x4096x256, val_main_v108 (F := Ideal) x g w⟩] : List ((s : Shape) × (s.Idx → EReal)))[q] = ⟨⟨3, ![8, 4096, W]⟩, y⟩)
    (hpre : pre = 512 * min q 4 + 256 * (q - 4)) : val_main_v109 (F := Ideal) x g w gq gk (ix3 a p ⟨pre + l.val, hl⟩) = y (ix3 a p l) := by
  unfold val_main_v109
  refine concatenate_apply_piece (2 : Fin S8x4096x2560.rank) _ _ _ q (by exact hq) ⟨3, ![8, 4096, W]⟩ y hy rfl pre ?_ (ix3 a p l) ?_ rfl
  · subst hpre
    interval_cases q <;> rfl
  · intro b hb
    fin_cases b
    · rfl
    · rfl
    · exact absurd rfl hb

/-- The reference's row. -/
theorem row_at (n : Fin 2560) : val_main_v109 (F := Ideal) x g w gq gk (ix3 a p n)
    = packOf x g w gq gk (val_main_v17 (F := Ideal)) (val_main_v18 (F := Ideal)) a p n := by
  have hn := n.isLt
  unfold packOf
  by_cases h0 : n.val < 512
  · have e1 := piece_at x g w gq gk a p 0 (by omega) 0 512 (val_main_v99 (F := Ideal) x g w) ⟨n.val, h0⟩ (by show 0 + n.val < 2560; omega) rfl rfl
    have e2 := packRow_sb (rowX x a p) (rowG g) (matW w) (fun e => gq (ix1 e)) (fun e => gk (ix1 e)) (cosAt p) (sinAt p) ⟨n.val, h0⟩
    refine (congrArg (fun n => val_main_v109 (F := Ideal) x g w gq gk (ix3 a p n)) (Fin.ext (by show n.val = 0 + n.val; omega))).trans (e1.trans (Eq.trans ?_ e2.symm))
    refine (val_main_v99_apply (F := Ideal) x g w _).trans (congrArg₂ (· * ·) ((sbq_at x g w a p _).trans (congrArg (projRow (rowX x a p) (rowG g)) (funext fun k => congrArg (matW w k) (Fin.ext ?_)))) ((val_main_v98_apply (F := Ideal) _).trans rfl))
    show 0 + n.val = n.val; omega
  by_cases h1 : n.val < 1536
  · have e2 := packRow_kv (rowX x a p) (rowG g) (matW w) (fun e => gq (ix1 e)) (fun e => gk (ix1 e)) (cosAt p) (sinAt p) ⟨n.val - 512, by omega⟩
    have en : n = ⟨512 + (n.val - 512), by omega⟩ := Fin.ext (by show n.val = 512 + (n.val - 512); omega)
    refine Eq.trans ?_ (e2.symm.trans (congrArg _ en.symm))
    by_cases h2 : n.val < 1024
    · have e1 := piece_at x g w gq gk a p 1 (by omega) 512 512 (val_main_v34 (F := Ideal) x g w) ⟨n.val - 512, by omega⟩ (by show 512 + (n.val - 512) < 2560; omega) rfl rfl
      exact (congrArg (fun n => val_main_v109 (F := Ideal) x g w gq gk (ix3 a p n)) en).trans (e1.trans (sbk_at x g w a p _))
    · have e1 := piece_at x g w gq gk a p 2 (by omega) 1024 512 (val_main_v35 (F := Ideal) x g w) ⟨n.val - 1024, by omega⟩ (by show 1024 + (n.val - 1024) < 2560; omega) rfl rfl
      refine (congrArg (fun n => val_main_v109 (F := Ideal) x g w gq gk (ix3 a p n)) (Fin.ext (by show n.val = 1024 + (n.val - 1024); omega))).trans
        (e1.trans ((sbv_at x g w a p _).trans (congrArg (projRow (rowX x a p) (rowG g)) (funext fun k => congrArg (matW w k) (Fin.ext ?_)))))
      show 1024 + (n.val - 1024) = 512 + (n.val - 512); omega
  by_cases h2 : n.val < 2048
  · have e1 := piece_at x g w gq gk a p 3 (by omega) 1536 512 (val_main_v102 (F := Ideal) x g w gq) ⟨64 * ((n.val - 1536) / 64) + n.val % 64, by omega⟩ (by show 1536 + (64 * ((n.val - 1536) / 64) + n.val % 64) < 2560; omega) rfl rfl
    have e2 := packRow_q (rowX x a p) (rowG g) (matW w) (fun e => gq (ix1 e)) (fun e => gk (ix1 e)) (cosAt p) (sinAt p) ⟨(n.val - 1536) / 64, by omega⟩ ⟨n.val % 64, by omega⟩
    refine (congrArg (fun n => val_main_v109 (F := Ideal) x g w gq gk (ix3 a p n)) (Fin.ext (by show n.val = 1536 + (64 * ((n.val - 1536) / 64) + n.val % 64); omega))).trans
      (e1.trans ((swq_at x g w gq a p ⟨(n.val - 1536) / 64, by omega⟩ ⟨n.val % 64, by omega⟩).trans (e2.symm.trans (congrArg _ (Fin.ext ?_)))))
    show 1536 + 64 * ((n.val - 1536) / 64) + n.val % 64 = n.val; omega
  by_cases h3 : n.val < 2304
  · have e1 := piece_at x g w gq gk a p 4 (by omega) 2048 256 (val_main_v105 (F := Ideal) x g w gk) ⟨128 * ((n.val - 2048) / 128) + 64 * (n.val / 64 % 2) + n.val % 64, by omega⟩
      (by show 2048 + (128 * ((n.val - 2048) / 128) + 64 * (n.val / 64 % 2) + n.val % 64) < 2560; omega) rfl rfl
    have e2 := packRow_k (rowX x a p) (rowG g) (matW w) (fun e => gq (ix1 e)) (fun e => gk (ix1 e)) (cosAt p) (sinAt p) ⟨(n.val - 2048) / 128, by omega⟩ ⟨n.val / 64 % 2, by omega⟩ ⟨n.val % 64, by omega⟩
    refine (congrArg (fun n => val_main_v109 (F := Ideal) x g w gq gk (ix3 a p n)) (Fin.ext (by show n.val = 2048 + (128 * ((n.val - 2048) / 128) + 64 * (n.val / 64 % 2) + n.val % 64); omega))).trans
      (e1.trans ((k_twice x g w gk a p ⟨(n.val - 2048) / 128, by omega⟩ ⟨n.val / 64 % 2, by omega⟩ ⟨n.val % 64, by omega⟩).trans ((k_rope x g w gk a p _ _).trans (e2.symm.trans (congrArg _ (Fin.ext ?_))))))
    show 2048 + 128 * ((n.val - 2048) / 128) + 64 * (n.val / 64 % 2) + n.val % 64 = n.val; omega
  · have e1 := piece_at x g w gq gk a p 5 (by omega) 2304 256 (val_main_v108 (F := Ideal) x g w) ⟨128 * ((n.val - 2304) / 128) + 64 * (n.val / 64 % 2) + n.val % 64, by omega⟩
      (by show 2304 + (128 * ((n.val - 2304) / 128) + 64 * (n.val / 64 % 2) + n.val % 64) < 2560; omega) rfl rfl
    have e2 := packRow_v (rowX x a p) (rowG g) (matW w) (fun e => gq (ix1 e)) (fun e => gk (ix1 e)) (cosAt p) (sinAt p) ⟨(n.val - 2304) / 128, by omega⟩ ⟨n.val / 64 % 2, by omega⟩ ⟨n.val % 64, by omega⟩
    refine (congrArg (fun n => val_main_v109 (F := Ideal) x g w gq gk (ix3 a p n)) (Fin.ext (by show n.val = 2304 + (128 * ((n.val - 2304) / 128) + 64 * (n.val / 64 % 2) + n.val % 64); omega))).trans
      (e1.trans ((v_twice x g w a p ⟨(n.val - 2304) / 128, by omega⟩ ⟨n.val / 64 % 2, by omega⟩ ⟨n.val % 64, by omega⟩).trans ((v_head x g w a p _ _).trans (e2.symm.trans (congrArg _ (Fin.ext ?_))))))
    show 2304 + 128 * ((n.val - 2304) / 128) + 64 * (n.val / 64 % 2) + n.val % 64 = n.val; omega

/-- The reference's result. -/
theorem ref_all : val_main_v111 (F := Ideal) x g w gq gk = fun i : S32768x2560.Idx =>
    packOf x g w gq gk (val_main_v17 (F := Ideal)) (val_main_v18 (F := Ideal)) ⟨(i 0).val / 4096, by have h : (i 0).val < 32768 := (i 0).isLt; omega⟩ ⟨(i 0).val % 4096, by omega⟩ (i 1) := by
  funext i
  have h0 : (i 0).val < 32768 := (i 0).isLt
  have h1 : (i 1).val < 2560 := (i 1).isLt
  refine (val_main_v111_apply (F := Ideal) x g w gq gk i).trans ((val_main_v110_apply (F := Ideal) x g w gq gk _).trans
    ((congrArg (val_main_v109 (F := Ideal) x g w gq gk) (eq_ix3 _ ⟨(i 0).val / 4096, by omega⟩ ⟨(i 0).val % 4096, by omega⟩ (i 1) ?_ ?_ ?_)).trans (row_at x g w gq gk _ _ _)))
  · show ((i 0).val * 2560 + (i 1).val) / 10485760 = (i 0).val / 4096; omega
  · show ((i 0).val * 2560 + (i 1).val) / 2560 % 4096 = (i 0).val % 4096; omega
  · show ((i 0).val * 2560 + (i 1).val) % 2560 = (i 1).val; omega

end Cert.InprojRefIdeal.Hand

end
-- ==== Proof.FiniteWeights.lean ====
/- What the first call's precondition says of its arguments: the norm's gain and the projection's weights are real
   numbers. -/
module

public import proofs.«01_k».proof.Proof.Gen.Pre_finite_weights
public import proofs.«01_k».proof.Proof.Rows.InprojCommon
public import proofs.«01_k».proof.Proof.Finite
public import Idealize.ShloMosaic.Lib.ReduceAll
public import Idealize.ShloMosaic.Lib.KernelVsHost

@[expose] public section

noncomputable section

namespace Cert.Pre_finite_weights.Hand

open Idealize.ShloMosaic Cert.Pre_finite_weights Cert.Pre_finite_weights.Gen Cert.Rows Cert.Pre_finite_scores.Hand

/-- There is one index of no axes. -/
instance : Subsingleton S_.Idx := ⟨fun a b => funext fun i => i.elim0⟩

/-- The precondition, read back. -/
theorem real_args (x : FVec Ideal S8x4096x1024 .f32) (g : FVec Ideal S1024 .f32) (w : FVec Ideal S1024x2304 .f32) (gq gk : FVec Ideal S64 .f32)
    (e : fn (F := Ideal) x g w gq gk = fun _ => 1#1) : (∀ i, IsReal (g i)) ∧ ∀ i, IsReal (w i) := by
  have j : S_.Idx := fun i => i.elim0
  have h := congrFun e j
  unfold fn at h
  have a1 := IntOp.andi_eq_one.1 h
  exact ⟨fun i => IsReal.of _ (finite _ (Host.reduce_andi_all _ _ _ _ j a1.1 i)), fun i => IsReal.of _ (finite _ (Host.reduce_andi_all _ _ _ _ j a1.2 i))⟩

end Cert.Pre_finite_weights.Hand

end
-- ==== Proof.lean ====
/- The proof of the claim of `proof/Defs.lean`. The frames come from the launch (`Proof/K/Launch.lean`,
   `Proof/KI/Launch.lean`): every run ends, the argument arrays end as they began and every semaphore reads zero.
   The named constants are kept by what they name. That the kernel's two results are the reference's is read off one formula
   for each: `sbOf` for the stick-breaking output and `swOf` for the sliding-window output, which the kernel's arrays equal
   (`Proof/KI/Result.lean`) and the reference's values equal (`Proof/RefSb.lean`, `Proof/RefSw.lean`). The network's call and the
   merge's have each one result and one formula for a row of it, in `Proof/Rows/Common.lean`; so has the first call, in
   `Proof/Rows/InprojCommon.lean`. -/
module

public import proofs.«01_k».proof.Defs
public import proofs.«01_k».proof.Proof.Gen.ReferenceIdeal.Run
public import proofs.«01_k».proof.Proof.Finite
public import proofs.«01_k».proof.Proof.RefSw
public import proofs.«01_k».proof.Proof.Rows.Mlp
public import proofs.«01_k».proof.Proof.Rows.MlpRef
public import proofs.«01_k».proof.Proof.Rows.Merge
public import proofs.«01_k».proof.Proof.Rows.MergeRef
public import proofs.«01_k».proof.Proof.Rows.Inproj
public import proofs.«01_k».proof.Proof.Rows.InprojRef
public import proofs.«01_k».proof.Proof.FiniteWeights
public import proofs.«01_k».proof.Proof.Gen.MlpRefIdeal.Run
public import proofs.«01_k».proof.Proof.Gen.MergeRefIdeal.Run
public import proofs.«01_k».proof.Proof.Gen.Inproj.Frame
public import proofs.«01_k».proof.Proof.Gen.InprojIdeal.Frame
public import proofs.«01_k».proof.Proof.Gen.InprojRefIdeal.Run
public import proofs.«01_k».proof.Proof.Gen.Mlp.Frame
public import proofs.«01_k».proof.Proof.Gen.MlpIdeal.Frame
public import proofs.«01_k».proof.Proof.Gen.Merge.Frame
public import proofs.«01_k».proof.Proof.Gen.MergeIdeal.Frame
public import proofs.«01_k».proof.Proof.K.Frames
public import proofs.«01_k».proof.Proof.KI.Frames

@[expose] public section

noncomputable section

namespace Cert.Proof

open Idealize.ShloMosaic Idealize.SL.Sem

/-- The kernel's program, at bits: it ends, its arguments as they began, every semaphore at zero. -/
theorem frame_Kernel : Cert.quiescent_Kernel (hKernel := Cert.Kernel.Gen.facts) := fun m g _ =>
  (θ_run _ _ _).mono (fun _ h => ⟨fun c => Cert.Kernel.Hand.args_kept m h.1 c, h.2⟩) (Cert.Kernel.Hand.run_main m g)

/-- The kernel's program, idealized: the same. -/
theorem frame_KernelIdeal : Cert.quiescent_KernelIdeal (hKernelIdeal := Cert.KernelIdeal.Gen.facts) := fun m g _ =>
  (θ_run _ _ _).mono (fun _ h => ⟨fun c => Cert.KernelIdeal.Hand.args_kept m h.1 c, h.2⟩)
    (Cert.KernelIdeal.Hand.run_main m g)

/-- The reference, idealized: the same; it has no semaphore. -/
theorem frame_ReferenceIdeal : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run m g)

/-- Each named constant keeps the constant of the kernel it stands for. -/
theorem preserved : Cert.preserves_Kernel_KernelIdeal :=
  ⟨IdealRules.named_const.statement Cert.KernelIdeal.κ "masked" .f32 0x7149F2CA#32 _ rfl,
    IdealRules.named_const.statement Cert.KernelIdeal.κ "neg_log2e" .f32 0xBFB8AA3B#32 _ rfl,
    IdealRules.named_const.statement Cert.KernelIdeal.κ "skip" .f32 0xC2F00000#32 _ rfl⟩

/-- The kernel's two results are the reference's, whenever queries and keys are real numbers and no sink is plus infinity. -/
theorem equal_results : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hargs
  refine ⟨fun c => (Cert.KernelIdeal.Hand.dats m 0 c).arrAt 10 (Cert.KernelIdeal.cfg0 (F := Ideal)).N,
    fun c => (Cert.KernelIdeal.Hand.dats m 0 c).arrAt 11 (Cert.KernelIdeal.cfg0 (F := Ideal)).N, ?_, ?_⟩
  · exact (θ_run _ _ _).mono (fun _ h c => ⟨Pipeline.FramePost.out_eq h.1 c 10, Pipeline.FramePost.out_eq h.1 c 11,
      Cert.KernelIdeal.Hand.args_kept m h.1 c⟩) (Cert.KernelIdeal.Hand.run_main m g)
  · refine (θ_run _ _ _).mono (fun r h c => ?_) (Cert.ReferenceIdeal.Value.run m' g')
    obtain ⟨f0, f1, f3, f4, f6⟩ := Cert.Pre_finite_scores.Hand.finite_args _ _ _ _ _ _ _ (hpre c)
    obtain ⟨a0, a1, a2, a3, a4, a5, a6⟩ := hargs c
    have k0 := Cert.KernelIdeal.Hand.array_sb m c _ _ _ _ _ _ rfl rfl rfl rfl rfl rfl f0 f1
    have k1 := Cert.KernelIdeal.Hand.array_sw m c _ _ _ _ _ _ _ rfl rfl rfl rfl rfl rfl rfl f3 f4 f6
    have r0 := Cert.ReferenceIdeal.Read.val_main_v64_eq m' c
    rw [a0, a1, a2] at r0
    have r1 := Cert.ReferenceIdeal.Read.val_main_v65_eq m' c
    rw [a3, a4, a5, a6] at r1
    exact ⟨(h c).1.trans (r0.trans ((Cert.ReferenceIdeal.Hand.refSb_all _ _ _ f0 f1).trans k0.symm)),
      (h c).2.1.trans (r1.trans ((Cert.ReferenceIdeal.Hand.refSw_all _ _ _ _ f3 f4 f6).trans k1.symm)), (h c).2.2⟩

/-- The network's program, at bits: it ends, its arguments as they began, every semaphore at zero. -/
theorem frame_Mlp : Cert.quiescent_Mlp (hMlp := Cert.Mlp.Gen.facts) := fun m g _ => Cert.Mlp.Gen.frame m g

/-- The network's program, idealized: the same. -/
theorem frame_MlpIdeal : Cert.quiescent_MlpIdeal (hMlpIdeal := Cert.MlpIdeal.Gen.facts) := fun m g _ => Cert.MlpIdeal.Gen.frame m g

/-- The network's reference, idealized: the same; it has no semaphore. -/
theorem frame_MlpRefIdeal : Cert.quiescent_MlpRefIdeal (hMlpRefIdeal := Cert.MlpRefIdeal.Gen.facts) := fun m g _ =>
  (θ_run _ _ _).mono (fun r h => ⟨fun c => (h c).2, sem_eq_zero_of_no_sems (by decide) r.2⟩)
    (Cert.MlpRefIdeal.Value.run m g)

/-- The network's result is its reference's, whatever the arguments. -/
theorem equal_Mlp : Cert.algebraic_MlpIdeal_MlpRefIdeal (hMlpIdeal := Cert.MlpIdeal.Gen.facts) (hMlpRefIdeal := Cert.MlpRefIdeal.Gen.facts) := by
  intro m g m' g' _ hargs
  refine ⟨fun c => (Cert.MlpIdeal.Gen.dats m 0 c).arrAt 4 Cert.MlpIdeal.cfg0.N, Cert.MlpIdeal.Value.run_blocks m g, ?_⟩
  refine (θ_run _ _ _).mono (fun r h c => ?_) (Cert.MlpRefIdeal.Value.run m' g')
  obtain ⟨a0, a1, a2, a3⟩ := hargs c
  have r0 := Cert.MlpRefIdeal.Read.val_main_v17_eq (F := Ideal) (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3))
  have r1 := (h c).1.trans r0
  rw [a0, a1, a2, a3] at r1
  exact ⟨r1.trans ((Cert.MlpRefIdeal.Hand.ref_all _ _ _ _).trans (Cert.MlpIdeal.Hand.array_out m c).symm), (h c).2⟩

/-- The merge's program, at bits: it ends, its arguments as they began, every semaphore at zero. -/
theorem frame_Merge : Cert.quiescent_Merge (hMerge := Cert.Merge.Gen.facts) := fun m g _ => Cert.Merge.Gen.frame m g

/-- The merge's program, idealized: the same. -/
theorem frame_MergeIdeal : Cert.quiescent_MergeIdeal (hMergeIdeal := Cert.MergeIdeal.Gen.facts) := fun m g _ => Cert.MergeIdeal.Gen.frame m g

/-- The merge's reference, idealized: the same; it has no semaphore. -/
theorem frame_MergeRefIdeal : Cert.quiescent_MergeRefIdeal (hMergeRefIdeal := Cert.MergeRefIdeal.Gen.facts) := fun m g _ =>
  (θ_run _ _ _).mono (fun r h => ⟨fun c => (h c).2, sem_eq_zero_of_no_sems (by decide) r.2⟩)
    (Cert.MergeRefIdeal.Value.run m g)

/-- The merge's result is its reference's, whatever the arguments. -/
theorem equal_Merge : Cert.algebraic_MergeIdeal_MergeRefIdeal (hMergeIdeal := Cert.MergeIdeal.Gen.facts) (hMergeRefIdeal := Cert.MergeRefIdeal.Gen.facts) := by
  intro m g m' g' _ hargs
  refine ⟨fun c => (Cert.MergeIdeal.Gen.dats m 0 c).arrAt 8 Cert.MergeIdeal.cfg0.N, Cert.MergeIdeal.Value.run_blocks m g, ?_⟩
  refine (θ_run _ _ _).mono (fun r h c => ?_) (Cert.MergeRefIdeal.Value.run m' g')
  obtain ⟨a0, a1, a2, a3, a4, a5, a6, a7⟩ := hargs c
  have r0 := Cert.MergeRefIdeal.Read.val_main_v31_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7))
  have r1 := (h c).1.trans r0
  rw [a0, a1, a2, a3, a4, a5, a6, a7] at r1
  exact ⟨r1.trans ((Cert.MergeRefIdeal.Hand.ref_all _ _ _ _ _ _ _ _).trans (Cert.MergeIdeal.Hand.array_out m c).symm), (h c).2⟩

/-- The first call's program, at bits: it ends, its arguments as they began, every semaphore at zero. -/
theorem frame_Inproj : Cert.quiescent_Inproj (hInproj := Cert.Inproj.Gen.facts) := fun m g _ => Cert.Inproj.Gen.frame m g

/-- The first call's program, idealized: the same. -/
theorem frame_InprojIdeal : Cert.quiescent_InprojIdeal (hInprojIdeal := Cert.InprojIdeal.Gen.facts) := fun m g _ => Cert.InprojIdeal.Gen.frame m g

/-- The first call's reference, idealized: the same; it has no semaphore. -/
theorem frame_InprojRefIdeal : Cert.quiescent_InprojRefIdeal (hInprojRefIdeal := Cert.InprojRefIdeal.Gen.facts) := fun m g _ =>
  (θ_run _ _ _).mono (fun r h => ⟨fun c => (h c).2, sem_eq_zero_of_no_sems (by decide) r.2⟩)
    (Cert.InprojRefIdeal.Value.run m g)

/-- The first call's result is its reference's, whenever the norm's gain and the projection's weights are real numbers. -/
theorem equal_Inproj : Cert.algebraic_InprojIdeal_InprojRefIdeal_pre_finite_weights (hInprojIdeal := Cert.InprojIdeal.Gen.facts)
    (hInprojRefIdeal := Cert.InprojRefIdeal.Gen.facts) (hPre_finite_weights := Cert.Pre_finite_weights.Gen.facts) := by
  intro m g m' g' hpre hargs
  refine ⟨fun c => (Cert.InprojIdeal.Gen.dats m 0 c).arrAt 8 Cert.InprojIdeal.cfg0.N, Cert.InprojIdeal.Value.run_blocks m g, ?_⟩
  refine (θ_run _ _ _).mono (fun r h c => ?_) (Cert.InprojRefIdeal.Value.run m' g')
  obtain ⟨fg, fw⟩ := Cert.Pre_finite_weights.Hand.real_args _ _ _ _ _ (hpre c)
  obtain ⟨a0, a1, a2, a3, a4⟩ := hargs c
  have r1 := (h c).1.trans (Cert.InprojRefIdeal.Read.val_main_v111_eq m' c)
  rw [a0, a1, a2, a3, a4] at r1
  exact ⟨r1.trans ((Cert.InprojRefIdeal.Hand.ref_all _ _ _ _ _).trans (Cert.InprojIdeal.Hand.array_out m c fg fw).symm), (h c).2⟩

/-- Everything claimed. -/
theorem claim : Cert.Claim :=
  ⟨Cert.Kernel.Gen.facts, Cert.KernelIdeal.Gen.facts, Cert.ReferenceIdeal.Gen.facts, Cert.Mlp.Gen.facts, Cert.MlpIdeal.Gen.facts, Cert.MlpRefIdeal.Gen.facts,
    Cert.Merge.Gen.facts, Cert.MergeIdeal.Gen.facts, Cert.MergeRefIdeal.Gen.facts, Cert.Inproj.Gen.facts, Cert.InprojIdeal.Gen.facts, Cert.InprojRefIdeal.Gen.facts,
    Cert.Pre_finite_scores.Gen.facts, Cert.Pre_finite_weights.Gen.facts,
    frame_Kernel, frame_KernelIdeal, fun m g _ => frame_KernelIdeal m g trivial, frame_ReferenceIdeal,
    fun m g _ => frame_ReferenceIdeal m g trivial, frame_Mlp, frame_MlpIdeal, frame_MlpRefIdeal, frame_Merge, frame_MergeIdeal, frame_MergeRefIdeal,
    frame_Inproj, frame_InprojIdeal, fun m g _ => frame_InprojIdeal m g trivial, frame_InprojRefIdeal, fun m g _ => frame_InprojRefIdeal m g trivial,
    preserved, equal_results, trivial, equal_Mlp, trivial, equal_Merge, trivial, equal_Inproj⟩

end Cert.Proof

end
